-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleKernelIdeal_finite_steps [hPre_finite_steps : Cert.Pre_finite_steps.Facts] (m : (ℓ : Loc Cert.SampleKernelIdeal.nD Cert.SampleKernelIdeal.τ Cert.SampleKernelIdeal.sig) → Buf (Elt Ideal) ℓ) : Prop :=
  ∀ c : Dev Cert.SampleKernelIdeal.nD,
    (Cert.Pre_finite_steps.fn (F := Ideal) (m ((c.tc : Thread Cert.SampleKernelIdeal.nD Cert.SampleKernelIdeal.τ).loc Cert.SampleKernelIdeal.main_arg0)) (m ((c.tc : Thread Cert.SampleKernelIdeal.nD Cert.SampleKernelIdeal.τ).loc Cert.SampleKernelIdeal.main_arg1)) (m ((c.tc : Thread Cert.SampleKernelIdeal.nD Cert.SampleKernelIdeal.τ).loc Cert.SampleKernelIdeal.main_arg2)) (m ((c.tc : Thread Cert.SampleKernelIdeal.nD Cert.SampleKernelIdeal.τ).loc Cert.SampleKernelIdeal.main_arg3)) (m ((c.tc : Thread Cert.SampleKernelIdeal.nD Cert.SampleKernelIdeal.τ).loc Cert.SampleKernelIdeal.main_arg4)) (m ((c.tc : Thread Cert.SampleKernelIdeal.nD Cert.SampleKernelIdeal.τ).loc Cert.SampleKernelIdeal.main_arg5)) (m ((c.tc : Thread Cert.SampleKernelIdeal.nD Cert.SampleKernelIdeal.τ).loc Cert.SampleKernelIdeal.main_arg6)) (m ((c.tc : Thread Cert.SampleKernelIdeal.nD Cert.SampleKernelIdeal.τ).loc Cert.SampleKernelIdeal.main_arg7)) (m ((c.tc : Thread Cert.SampleKernelIdeal.nD Cert.SampleKernelIdeal.τ).loc Cert.SampleKernelIdeal.main_arg8)) (m ((c.tc : Thread Cert.SampleKernelIdeal.nD Cert.SampleKernelIdeal.τ).loc Cert.SampleKernelIdeal.main_arg9)) (m ((c.tc : Thread Cert.SampleKernelIdeal.nD Cert.SampleKernelIdeal.τ).loc Cert.SampleKernelIdeal.main_arg10))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_finite_steps [hPre_finite_steps : Cert.Pre_finite_steps.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_finite_steps.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9)) (m ((c.tc : Thread Cert.SampleReferenceIdeal.nD Cert.SampleReferenceIdeal.τ).loc Cert.SampleReferenceIdeal.main_arg10))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_XbcKernel (m : (ℓ : Loc Cert.XbcKernel.nD Cert.XbcKernel.τ Cert.XbcKernel.sig) → Buf (Elt Bits) ℓ) : Prop :=
  True

def Pre_XbcKernelIdeal (m : (ℓ : Loc Cert.XbcKernelIdeal.nD Cert.XbcKernelIdeal.τ Cert.XbcKernelIdeal.sig) → Buf (Elt Ideal) ℓ) : Prop :=
  True

def Pre_XbcReferenceIdeal (m : (ℓ : Loc Cert.XbcReferenceIdeal.nD Cert.XbcReferenceIdeal.τ Cert.XbcReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_GateZKernel (m : (ℓ : Loc Cert.GateZKernel.nD Cert.GateZKernel.τ Cert.GateZKernel.sig) → Buf (Elt Bits) ℓ) : Prop :=
  True

def Pre_GateZKernelIdeal (m : (ℓ : Loc Cert.GateZKernelIdeal.nD Cert.GateZKernelIdeal.τ Cert.GateZKernelIdeal.sig) → Buf (Elt Ideal) ℓ) : Prop :=
  True

def Pre_GateZReferenceIdeal (m : (ℓ : Loc Cert.GateZReferenceIdeal.nD Cert.GateZReferenceIdeal.τ Cert.GateZReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4)
      ∧ r.2.mem ((c.tc : Thread Cert.SampleKernel.nD Cert.SampleKernel.τ).loc Cert.SampleKernel.main_arg5) = m ((c.tc : Thread Cert.SampleKernel.nD Cert.SampleKernel.τ).loc Cert.SampleKernel.main_arg5)
      ∧ r.2.mem ((c.tc : Thread Cert.SampleKernel.nD Cert.SampleKernel.τ).loc Cert.SampleKernel.main_arg6) = m ((c.tc : Thread Cert.SampleKernel.nD Cert.SampleKernel.τ).loc Cert.SampleKernel.main_arg6)
      ∧ r.2.mem ((c.tc : Thread Cert.SampleKernel.nD Cert.SampleKernel.τ).loc Cert.SampleKernel.main_arg7) = m ((c.tc : Thread Cert.SampleKernel.nD Cert.SampleKernel.τ).loc Cert.SampleKernel.main_arg7)
      ∧ r.2.mem ((c.tc : Thread Cert.SampleKernel.nD Cert.SampleKernel.τ).loc Cert.SampleKernel.main_arg8) = m ((c.tc : Thread Cert.SampleKernel.nD Cert.SampleKernel.τ).loc Cert.SampleKernel.main_arg8)
      ∧ r.2.mem ((c.tc : Thread Cert.SampleKernel.nD Cert.SampleKernel.τ).loc Cert.SampleKernel.main_arg9) = m ((c.tc : Thread Cert.SampleKernel.nD Cert.SampleKernel.τ).loc Cert.SampleKernel.main_arg9)
      ∧ r.2.mem ((c.tc : Thread Cert.SampleKernel.nD Cert.SampleKernel.τ).loc Cert.SampleKernel.main_arg10) = m ((c.tc : Thread Cert.SampleKernel.nD Cert.SampleKernel.τ).loc Cert.SampleKernel.main_arg10))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
      ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
      ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
      ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9)
      ∧ r.2.mem ((c.tc : Thread Cert.SampleKernelIdeal.nD Cert.SampleKernelIdeal.τ).loc Cert.SampleKernelIdeal.main_arg10) = m ((c.tc : Thread Cert.SampleKernelIdeal.nD Cert.SampleKernelIdeal.τ).loc Cert.SampleKernelIdeal.main_arg10))
      ∧ r.2.sem = fun _ => 0)

def quiescent_SampleKernelIdeal_pre_finite_steps [hSampleKernelIdeal : Cert.SampleKernelIdeal.Facts] [hPre_finite_steps : Cert.Pre_finite_steps.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal_finite_steps m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
      ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
      ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
      ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9)
      ∧ r.2.mem ((c.tc : Thread Cert.SampleKernelIdeal.nD Cert.SampleKernelIdeal.τ).loc Cert.SampleKernelIdeal.main_arg10) = m ((c.tc : Thread Cert.SampleKernelIdeal.nD Cert.SampleKernelIdeal.τ).loc Cert.SampleKernelIdeal.main_arg10))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10))
      ∧ r.2.sem = fun _ => 0)

def quiescent_SampleReferenceIdeal_pre_finite_steps [hSampleReferenceIdeal : Cert.SampleReferenceIdeal.Facts] [hPre_finite_steps : Cert.Pre_finite_steps.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_finite_steps m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_XbcKernel [hXbcKernel : Cert.XbcKernel.Facts] : Prop :=
  ∀ (m : (ℓ : Loc Cert.XbcKernel.nD Cert.XbcKernel.τ Cert.XbcKernel.sig) → Buf (Elt Bits) ℓ) (g : Dev Cert.XbcKernel.nD → PrngReg), Pre_XbcKernel m →
    θ_run (Cert.XbcKernel.defs (F := Bits)) (onTc (τ := Cert.XbcKernel.τ) (Cert.XbcKernel.main (F := Bits))) ⟨m, fun _ => 0, g⟩ (fun r => (∀ c : Dev Cert.XbcKernel.nD,
      r.2.mem ((c.tc : Thread Cert.XbcKernel.nD Cert.XbcKernel.τ).loc Cert.XbcKernel.main_arg0) = m ((c.tc : Thread Cert.XbcKernel.nD Cert.XbcKernel.τ).loc Cert.XbcKernel.main_arg0)
      ∧ r.2.mem ((c.tc : Thread Cert.XbcKernel.nD Cert.XbcKernel.τ).loc Cert.XbcKernel.main_arg1) = m ((c.tc : Thread Cert.XbcKernel.nD Cert.XbcKernel.τ).loc Cert.XbcKernel.main_arg1)
      ∧ r.2.mem ((c.tc : Thread Cert.XbcKernel.nD Cert.XbcKernel.τ).loc Cert.XbcKernel.main_arg2) = m ((c.tc : Thread Cert.XbcKernel.nD Cert.XbcKernel.τ).loc Cert.XbcKernel.main_arg2)
      ∧ r.2.mem ((c.tc : Thread Cert.XbcKernel.nD Cert.XbcKernel.τ).loc Cert.XbcKernel.main_arg3) = m ((c.tc : Thread Cert.XbcKernel.nD Cert.XbcKernel.τ).loc Cert.XbcKernel.main_arg3))
      ∧ r.2.sem = fun _ => 0)

def quiescent_XbcKernelIdeal [hXbcKernelIdeal : Cert.XbcKernelIdeal.Facts] : Prop :=
  ∀ (m : (ℓ : Loc Cert.XbcKernelIdeal.nD Cert.XbcKernelIdeal.τ Cert.XbcKernelIdeal.sig) → Buf (Elt Ideal) ℓ) (g : Dev Cert.XbcKernelIdeal.nD → PrngReg), Pre_XbcKernelIdeal m →
    θ_run (Cert.XbcKernelIdeal.defs (F := Ideal)) (onTc (τ := Cert.XbcKernelIdeal.τ) (Cert.XbcKernelIdeal.main (F := Ideal))) ⟨m, fun _ => 0, g⟩ (fun r => (∀ c : Dev Cert.XbcKernelIdeal.nD,
      r.2.mem ((c.tc : Thread Cert.XbcKernelIdeal.nD Cert.XbcKernelIdeal.τ).loc Cert.XbcKernelIdeal.main_arg0) = m ((c.tc : Thread Cert.XbcKernelIdeal.nD Cert.XbcKernelIdeal.τ).loc Cert.XbcKernelIdeal.main_arg0)
      ∧ r.2.mem ((c.tc : Thread Cert.XbcKernelIdeal.nD Cert.XbcKernelIdeal.τ).loc Cert.XbcKernelIdeal.main_arg1) = m ((c.tc : Thread Cert.XbcKernelIdeal.nD Cert.XbcKernelIdeal.τ).loc Cert.XbcKernelIdeal.main_arg1)
      ∧ r.2.mem ((c.tc : Thread Cert.XbcKernelIdeal.nD Cert.XbcKernelIdeal.τ).loc Cert.XbcKernelIdeal.main_arg2) = m ((c.tc : Thread Cert.XbcKernelIdeal.nD Cert.XbcKernelIdeal.τ).loc Cert.XbcKernelIdeal.main_arg2)
      ∧ r.2.mem ((c.tc : Thread Cert.XbcKernelIdeal.nD Cert.XbcKernelIdeal.τ).loc Cert.XbcKernelIdeal.main_arg3) = m ((c.tc : Thread Cert.XbcKernelIdeal.nD Cert.XbcKernelIdeal.τ).loc Cert.XbcKernelIdeal.main_arg3))
      ∧ r.2.sem = fun _ => 0)

def quiescent_XbcReferenceIdeal [hXbcReferenceIdeal : Cert.XbcReferenceIdeal.Facts] : Prop :=
  ∀ (m : (ℓ : Loc Cert.XbcReferenceIdeal.nD Cert.XbcReferenceIdeal.τ Cert.XbcReferenceIdeal.sig) → Buf (Elt Ideal) ℓ) (g : Dev Cert.XbcReferenceIdeal.nD → PrngReg), Pre_XbcReferenceIdeal m →
    θ_run (Cert.XbcReferenceIdeal.defs (F := Ideal)) (onTc (τ := Cert.XbcReferenceIdeal.τ) (Cert.XbcReferenceIdeal.main (F := Ideal))) ⟨m, fun _ => 0, g⟩ (fun r => (∀ c : Dev Cert.XbcReferenceIdeal.nD,
      r.2.mem ((c.tc : Thread Cert.XbcReferenceIdeal.nD Cert.XbcReferenceIdeal.τ).loc Cert.XbcReferenceIdeal.main_arg0) = m ((c.tc : Thread Cert.XbcReferenceIdeal.nD Cert.XbcReferenceIdeal.τ).loc Cert.XbcReferenceIdeal.main_arg0)
      ∧ r.2.mem ((c.tc : Thread Cert.XbcReferenceIdeal.nD Cert.XbcReferenceIdeal.τ).loc Cert.XbcReferenceIdeal.main_arg1) = m ((c.tc : Thread Cert.XbcReferenceIdeal.nD Cert.XbcReferenceIdeal.τ).loc Cert.XbcReferenceIdeal.main_arg1)
      ∧ r.2.mem ((c.tc : Thread Cert.XbcReferenceIdeal.nD Cert.XbcReferenceIdeal.τ).loc Cert.XbcReferenceIdeal.main_arg2) = m ((c.tc : Thread Cert.XbcReferenceIdeal.nD Cert.XbcReferenceIdeal.τ).loc Cert.XbcReferenceIdeal.main_arg2)
      ∧ r.2.mem ((c.tc : Thread Cert.XbcReferenceIdeal.nD Cert.XbcReferenceIdeal.τ).loc Cert.XbcReferenceIdeal.main_arg3) = m ((c.tc : Thread Cert.XbcReferenceIdeal.nD Cert.XbcReferenceIdeal.τ).loc Cert.XbcReferenceIdeal.main_arg3))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_GateZKernel [hGateZKernel : Cert.GateZKernel.Facts] : Prop :=
  ∀ (m : (ℓ : Loc Cert.GateZKernel.nD Cert.GateZKernel.τ Cert.GateZKernel.sig) → Buf (Elt Bits) ℓ) (g : Dev Cert.GateZKernel.nD → PrngReg), Pre_GateZKernel m →
    θ_run (Cert.GateZKernel.defs (F := Bits)) (onTc (τ := Cert.GateZKernel.τ) (Cert.GateZKernel.main (F := Bits))) ⟨m, fun _ => 0, g⟩ (fun r => (∀ c : Dev Cert.GateZKernel.nD,
      r.2.mem ((c.tc : Thread Cert.GateZKernel.nD Cert.GateZKernel.τ).loc Cert.GateZKernel.main_arg0) = m ((c.tc : Thread Cert.GateZKernel.nD Cert.GateZKernel.τ).loc Cert.GateZKernel.main_arg0)
      ∧ r.2.mem ((c.tc : Thread Cert.GateZKernel.nD Cert.GateZKernel.τ).loc Cert.GateZKernel.main_arg1) = m ((c.tc : Thread Cert.GateZKernel.nD Cert.GateZKernel.τ).loc Cert.GateZKernel.main_arg1)
      ∧ r.2.mem ((c.tc : Thread Cert.GateZKernel.nD Cert.GateZKernel.τ).loc Cert.GateZKernel.main_arg2) = m ((c.tc : Thread Cert.GateZKernel.nD Cert.GateZKernel.τ).loc Cert.GateZKernel.main_arg2))
      ∧ r.2.sem = fun _ => 0)

def quiescent_GateZKernelIdeal [hGateZKernelIdeal : Cert.GateZKernelIdeal.Facts] : Prop :=
  ∀ (m : (ℓ : Loc Cert.GateZKernelIdeal.nD Cert.GateZKernelIdeal.τ Cert.GateZKernelIdeal.sig) → Buf (Elt Ideal) ℓ) (g : Dev Cert.GateZKernelIdeal.nD → PrngReg), Pre_GateZKernelIdeal m →
    θ_run (Cert.GateZKernelIdeal.defs (F := Ideal)) (onTc (τ := Cert.GateZKernelIdeal.τ) (Cert.GateZKernelIdeal.main (F := Ideal))) ⟨m, fun _ => 0, g⟩ (fun r => (∀ c : Dev Cert.GateZKernelIdeal.nD,
      r.2.mem ((c.tc : Thread Cert.GateZKernelIdeal.nD Cert.GateZKernelIdeal.τ).loc Cert.GateZKernelIdeal.main_arg0) = m ((c.tc : Thread Cert.GateZKernelIdeal.nD Cert.GateZKernelIdeal.τ).loc Cert.GateZKernelIdeal.main_arg0)
      ∧ r.2.mem ((c.tc : Thread Cert.GateZKernelIdeal.nD Cert.GateZKernelIdeal.τ).loc Cert.GateZKernelIdeal.main_arg1) = m ((c.tc : Thread Cert.GateZKernelIdeal.nD Cert.GateZKernelIdeal.τ).loc Cert.GateZKernelIdeal.main_arg1)
      ∧ r.2.mem ((c.tc : Thread Cert.GateZKernelIdeal.nD Cert.GateZKernelIdeal.τ).loc Cert.GateZKernelIdeal.main_arg2) = m ((c.tc : Thread Cert.GateZKernelIdeal.nD Cert.GateZKernelIdeal.τ).loc Cert.GateZKernelIdeal.main_arg2))
      ∧ r.2.sem = fun _ => 0)

def quiescent_GateZReferenceIdeal [hGateZReferenceIdeal : Cert.GateZReferenceIdeal.Facts] : Prop :=
  ∀ (m : (ℓ : Loc Cert.GateZReferenceIdeal.nD Cert.GateZReferenceIdeal.τ Cert.GateZReferenceIdeal.sig) → Buf (Elt Ideal) ℓ) (g : Dev Cert.GateZReferenceIdeal.nD → PrngReg), Pre_GateZReferenceIdeal m →
    θ_run (Cert.GateZReferenceIdeal.defs (F := Ideal)) (onTc (τ := Cert.GateZReferenceIdeal.τ) (Cert.GateZReferenceIdeal.main (F := Ideal))) ⟨m, fun _ => 0, g⟩ (fun r => (∀ c : Dev Cert.GateZReferenceIdeal.nD,
      r.2.mem ((c.tc : Thread Cert.GateZReferenceIdeal.nD Cert.GateZReferenceIdeal.τ).loc Cert.GateZReferenceIdeal.main_arg0) = m ((c.tc : Thread Cert.GateZReferenceIdeal.nD Cert.GateZReferenceIdeal.τ).loc Cert.GateZReferenceIdeal.main_arg0)
      ∧ r.2.mem ((c.tc : Thread Cert.GateZReferenceIdeal.nD Cert.GateZReferenceIdeal.τ).loc Cert.GateZReferenceIdeal.main_arg1) = m ((c.tc : Thread Cert.GateZReferenceIdeal.nD Cert.GateZReferenceIdeal.τ).loc Cert.GateZReferenceIdeal.main_arg1)
      ∧ r.2.mem ((c.tc : Thread Cert.GateZReferenceIdeal.nD Cert.GateZReferenceIdeal.τ).loc Cert.GateZReferenceIdeal.main_arg2) = m ((c.tc : Thread Cert.GateZReferenceIdeal.nD Cert.GateZReferenceIdeal.τ).loc Cert.GateZReferenceIdeal.main_arg2))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1)
      ∧ r.2.mem ((c.tc : Thread Cert.GatesKernel.nD Cert.GatesKernel.τ).loc Cert.GatesKernel.main_arg2) = m ((c.tc : Thread Cert.GatesKernel.nD Cert.GatesKernel.τ).loc Cert.GatesKernel.main_arg2))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2)
      ∧ r.2.mem ((c.tc : Thread Cert.FinalKernel.nD Cert.FinalKernel.τ).loc Cert.FinalKernel.main_arg3) = m ((c.tc : Thread Cert.FinalKernel.nD Cert.FinalKernel.τ).loc Cert.FinalKernel.main_arg3)
      ∧ r.2.mem ((c.tc : Thread Cert.FinalKernel.nD Cert.FinalKernel.τ).loc Cert.FinalKernel.main_arg4) = m ((c.tc : Thread Cert.FinalKernel.nD Cert.FinalKernel.τ).loc Cert.FinalKernel.main_arg4)
      ∧ r.2.mem ((c.tc : Thread Cert.FinalKernel.nD Cert.FinalKernel.τ).loc Cert.FinalKernel.main_arg5) = m ((c.tc : Thread Cert.FinalKernel.nD Cert.FinalKernel.τ).loc Cert.FinalKernel.main_arg5)
      ∧ r.2.mem ((c.tc : Thread Cert.FinalKernel.nD Cert.FinalKernel.τ).loc Cert.FinalKernel.main_arg6) = m ((c.tc : Thread Cert.FinalKernel.nD Cert.FinalKernel.τ).loc Cert.FinalKernel.main_arg6)
      ∧ r.2.mem ((c.tc : Thread Cert.FinalKernel.nD Cert.FinalKernel.τ).loc Cert.FinalKernel.main_arg7) = m ((c.tc : Thread Cert.FinalKernel.nD Cert.FinalKernel.τ).loc Cert.FinalKernel.main_arg7))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
      ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4)
      ∧ r.2.mem ((c.tc : Thread Cert.FinalKernelIdeal.nD Cert.FinalKernelIdeal.τ).loc Cert.FinalKernelIdeal.main_arg5) = m ((c.tc : Thread Cert.FinalKernelIdeal.nD Cert.FinalKernelIdeal.τ).loc Cert.FinalKernelIdeal.main_arg5)
      ∧ r.2.mem ((c.tc : Thread Cert.FinalKernelIdeal.nD Cert.FinalKernelIdeal.τ).loc Cert.FinalKernelIdeal.main_arg6) = m ((c.tc : Thread Cert.FinalKernelIdeal.nD Cert.FinalKernelIdeal.τ).loc Cert.FinalKernelIdeal.main_arg6)
      ∧ r.2.mem ((c.tc : Thread Cert.FinalKernelIdeal.nD Cert.FinalKernelIdeal.τ).loc Cert.FinalKernelIdeal.main_arg7) = m ((c.tc : Thread Cert.FinalKernelIdeal.nD Cert.FinalKernelIdeal.τ).loc Cert.FinalKernelIdeal.main_arg7))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_SampleKernel_SampleKernelIdeal : Prop :=
  True

def algebraic_SampleKernelIdeal_SampleReferenceIdeal_pre_finite_steps [hSampleKernelIdeal : Cert.SampleKernelIdeal.Facts] [hSampleReferenceIdeal : Cert.SampleReferenceIdeal.Facts] [hPre_finite_steps : Cert.Pre_finite_steps.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal_finite_steps m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)
      ∧ m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5)
      ∧ m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)
      ∧ m' ((c.tc : Thread Cert.SampleReferenceIdeal.nD Cert.SampleReferenceIdeal.τ).loc Cert.SampleReferenceIdeal.main_arg7) = m ((c.tc : Thread Cert.SampleKernelIdeal.nD Cert.SampleKernelIdeal.τ).loc Cert.SampleKernelIdeal.main_arg7)
      ∧ m' ((c.tc : Thread Cert.SampleReferenceIdeal.nD Cert.SampleReferenceIdeal.τ).loc Cert.SampleReferenceIdeal.main_arg8) = m ((c.tc : Thread Cert.SampleKernelIdeal.nD Cert.SampleKernelIdeal.τ).loc Cert.SampleKernelIdeal.main_arg8)
      ∧ m' ((c.tc : Thread Cert.SampleReferenceIdeal.nD Cert.SampleReferenceIdeal.τ).loc Cert.SampleReferenceIdeal.main_arg9) = m ((c.tc : Thread Cert.SampleKernelIdeal.nD Cert.SampleKernelIdeal.τ).loc Cert.SampleKernelIdeal.main_arg9)
      ∧ m' ((c.tc : Thread Cert.SampleReferenceIdeal.nD Cert.SampleReferenceIdeal.τ).loc Cert.SampleReferenceIdeal.main_arg10) = m ((c.tc : Thread Cert.SampleKernelIdeal.nD Cert.SampleKernelIdeal.τ).loc Cert.SampleKernelIdeal.main_arg10)) →
    ∃ (v0 : (c : Dev Cert.SampleKernelIdeal.nD) → Buf (Elt Ideal) ((c.tc : Thread Cert.SampleKernelIdeal.nD Cert.SampleKernelIdeal.τ).loc Cert.SampleKernelIdeal.main_v15_1)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v15_1) = v0 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
          ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
          ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
          ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
          ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
          ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9)
          ∧ r.2.mem ((c.tc : Thread Cert.SampleKernelIdeal.nD Cert.SampleKernelIdeal.τ).loc Cert.SampleKernelIdeal.main_arg10) = m ((c.tc : Thread Cert.SampleKernelIdeal.nD Cert.SampleKernelIdeal.τ).loc Cert.SampleKernelIdeal.main_arg10))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v83) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v6)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v6) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v16) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_XbcKernel_XbcKernelIdeal : Prop :=
  True

def algebraic_XbcKernelIdeal_XbcReferenceIdeal [hXbcKernelIdeal : Cert.XbcKernelIdeal.Facts] [hXbcReferenceIdeal : Cert.XbcReferenceIdeal.Facts] : Prop :=
  ∀ (m : (ℓ : Loc Cert.XbcKernelIdeal.nD Cert.XbcKernelIdeal.τ Cert.XbcKernelIdeal.sig) → Buf (Elt Ideal) ℓ) (g : Dev Cert.XbcKernelIdeal.nD → PrngReg)
    (m' : (ℓ : Loc Cert.XbcReferenceIdeal.nD Cert.XbcReferenceIdeal.τ Cert.XbcReferenceIdeal.sig) → Buf (Elt Ideal) ℓ) (g' : Dev Cert.XbcReferenceIdeal.nD → PrngReg), Pre_XbcKernelIdeal m →
    (∀ c : Dev Cert.XbcKernelIdeal.nD,
      m' ((c.tc : Thread Cert.XbcReferenceIdeal.nD Cert.XbcReferenceIdeal.τ).loc Cert.XbcReferenceIdeal.main_arg0) = m ((c.tc : Thread Cert.XbcKernelIdeal.nD Cert.XbcKernelIdeal.τ).loc Cert.XbcKernelIdeal.main_arg0)
      ∧ m' ((c.tc : Thread Cert.XbcReferenceIdeal.nD Cert.XbcReferenceIdeal.τ).loc Cert.XbcReferenceIdeal.main_arg1) = m ((c.tc : Thread Cert.XbcKernelIdeal.nD Cert.XbcKernelIdeal.τ).loc Cert.XbcKernelIdeal.main_arg1)
      ∧ m' ((c.tc : Thread Cert.XbcReferenceIdeal.nD Cert.XbcReferenceIdeal.τ).loc Cert.XbcReferenceIdeal.main_arg2) = m ((c.tc : Thread Cert.XbcKernelIdeal.nD Cert.XbcKernelIdeal.τ).loc Cert.XbcKernelIdeal.main_arg2)
      ∧ m' ((c.tc : Thread Cert.XbcReferenceIdeal.nD Cert.XbcReferenceIdeal.τ).loc Cert.XbcReferenceIdeal.main_arg3) = m ((c.tc : Thread Cert.XbcKernelIdeal.nD Cert.XbcKernelIdeal.τ).loc Cert.XbcKernelIdeal.main_arg3)) →
    ∃ (v0 : (c : Dev Cert.XbcKernelIdeal.nD) → Buf (Elt Ideal) ((c.tc : Thread Cert.XbcKernelIdeal.nD Cert.XbcKernelIdeal.τ).loc Cert.XbcKernelIdeal.main_v6)) (v1 : (c : Dev Cert.XbcKernelIdeal.nD) → Buf (Elt Ideal) ((c.tc : Thread Cert.XbcKernelIdeal.nD Cert.XbcKernelIdeal.τ).loc Cert.XbcKernelIdeal.main_v25)) (v2 : (c : Dev Cert.XbcKernelIdeal.nD) → Buf (Elt Ideal) ((c.tc : Thread Cert.XbcKernelIdeal.nD Cert.XbcKernelIdeal.τ).loc Cert.XbcKernelIdeal.main_v29)),
      θ_run (Cert.XbcKernelIdeal.defs (F := Ideal)) (onTc (τ := Cert.XbcKernelIdeal.τ) (Cert.XbcKernelIdeal.main (F := Ideal))) ⟨m, fun _ => 0, g⟩ (fun r => ∀ c : Dev Cert.XbcKernelIdeal.nD,
          r.2.mem ((c.tc : Thread Cert.XbcKernelIdeal.nD Cert.XbcKernelIdeal.τ).loc Cert.XbcKernelIdeal.main_v6) = v0 c
          ∧ r.2.mem ((c.tc : Thread Cert.XbcKernelIdeal.nD Cert.XbcKernelIdeal.τ).loc Cert.XbcKernelIdeal.main_v25) = v1 c
          ∧ r.2.mem ((c.tc : Thread Cert.XbcKernelIdeal.nD Cert.XbcKernelIdeal.τ).loc Cert.XbcKernelIdeal.main_v29) = v2 c
          ∧ r.2.mem ((c.tc : Thread Cert.XbcKernelIdeal.nD Cert.XbcKernelIdeal.τ).loc Cert.XbcKernelIdeal.main_arg0) = m ((c.tc : Thread Cert.XbcKernelIdeal.nD Cert.XbcKernelIdeal.τ).loc Cert.XbcKernelIdeal.main_arg0)
          ∧ r.2.mem ((c.tc : Thread Cert.XbcKernelIdeal.nD Cert.XbcKernelIdeal.τ).loc Cert.XbcKernelIdeal.main_arg1) = m ((c.tc : Thread Cert.XbcKernelIdeal.nD Cert.XbcKernelIdeal.τ).loc Cert.XbcKernelIdeal.main_arg1)
          ∧ r.2.mem ((c.tc : Thread Cert.XbcKernelIdeal.nD Cert.XbcKernelIdeal.τ).loc Cert.XbcKernelIdeal.main_arg2) = m ((c.tc : Thread Cert.XbcKernelIdeal.nD Cert.XbcKernelIdeal.τ).loc Cert.XbcKernelIdeal.main_arg2)
          ∧ r.2.mem ((c.tc : Thread Cert.XbcKernelIdeal.nD Cert.XbcKernelIdeal.τ).loc Cert.XbcKernelIdeal.main_arg3) = m ((c.tc : Thread Cert.XbcKernelIdeal.nD Cert.XbcKernelIdeal.τ).loc Cert.XbcKernelIdeal.main_arg3))
      ∧ θ_run (Cert.XbcReferenceIdeal.defs (F := Ideal)) (onTc (τ := Cert.XbcReferenceIdeal.τ) (Cert.XbcReferenceIdeal.main (F := Ideal))) ⟨m', fun _ => 0, g'⟩ (fun r => ∀ c : Dev Cert.XbcReferenceIdeal.nD,
          r.2.mem ((c.tc : Thread Cert.XbcReferenceIdeal.nD Cert.XbcReferenceIdeal.τ).loc Cert.XbcReferenceIdeal.main_v27) = v0 c
          ∧ r.2.mem ((c.tc : Thread Cert.XbcReferenceIdeal.nD Cert.XbcReferenceIdeal.τ).loc Cert.XbcReferenceIdeal.main_v19) = v1 c
          ∧ r.2.mem ((c.tc : Thread Cert.XbcReferenceIdeal.nD Cert.XbcReferenceIdeal.τ).loc Cert.XbcReferenceIdeal.main_v23) = v2 c
          ∧ r.2.mem ((c.tc : Thread Cert.XbcReferenceIdeal.nD Cert.XbcReferenceIdeal.τ).loc Cert.XbcReferenceIdeal.main_arg0) = m' ((c.tc : Thread Cert.XbcReferenceIdeal.nD Cert.XbcReferenceIdeal.τ).loc Cert.XbcReferenceIdeal.main_arg0)
          ∧ r.2.mem ((c.tc : Thread Cert.XbcReferenceIdeal.nD Cert.XbcReferenceIdeal.τ).loc Cert.XbcReferenceIdeal.main_arg1) = m' ((c.tc : Thread Cert.XbcReferenceIdeal.nD Cert.XbcReferenceIdeal.τ).loc Cert.XbcReferenceIdeal.main_arg1)
          ∧ r.2.mem ((c.tc : Thread Cert.XbcReferenceIdeal.nD Cert.XbcReferenceIdeal.τ).loc Cert.XbcReferenceIdeal.main_arg2) = m' ((c.tc : Thread Cert.XbcReferenceIdeal.nD Cert.XbcReferenceIdeal.τ).loc Cert.XbcReferenceIdeal.main_arg2)
          ∧ r.2.mem ((c.tc : Thread Cert.XbcReferenceIdeal.nD Cert.XbcReferenceIdeal.τ).loc Cert.XbcReferenceIdeal.main_arg3) = m' ((c.tc : Thread Cert.XbcReferenceIdeal.nD Cert.XbcReferenceIdeal.τ).loc Cert.XbcReferenceIdeal.main_arg3))

def preserves_PoolKernel_PoolKernelIdeal : Prop :=
  True

def algebraic_PoolKernelIdeal_PoolReferenceIdeal [hPoolKernelIdeal : Cert.PoolKernelIdeal.Facts] [hPoolReferenceIdeal : Cert.PoolReferenceIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v6)) (v1 : (c : Dev Cert.PoolKernelIdeal.nD) → Buf (Elt Ideal) ((c.tc : Thread Cert.PoolKernelIdeal.nD Cert.PoolKernelIdeal.τ).loc Cert.PoolKernelIdeal.main_v25)) (v2 : (c : Dev Cert.PoolKernelIdeal.nD) → Buf (Elt Ideal) ((c.tc : Thread Cert.PoolKernelIdeal.nD Cert.PoolKernelIdeal.τ).loc Cert.PoolKernelIdeal.main_v29)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v6) = v0 c
          ∧ r.2.mem ((c.tc : Thread Cert.PoolKernelIdeal.nD Cert.PoolKernelIdeal.τ).loc Cert.PoolKernelIdeal.main_v25) = v1 c
          ∧ r.2.mem ((c.tc : Thread Cert.PoolKernelIdeal.nD Cert.PoolKernelIdeal.τ).loc Cert.PoolKernelIdeal.main_v29) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v27) = v0 c
          ∧ r.2.mem ((c.tc : Thread Cert.PoolReferenceIdeal.nD Cert.PoolReferenceIdeal.τ).loc Cert.PoolReferenceIdeal.main_v19) = v1 c
          ∧ r.2.mem ((c.tc : Thread Cert.PoolReferenceIdeal.nD Cert.PoolReferenceIdeal.τ).loc Cert.PoolReferenceIdeal.main_v23) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_GateZKernel_GateZKernelIdeal : Prop :=
  True

def algebraic_GateZKernelIdeal_GateZReferenceIdeal [hGateZKernelIdeal : Cert.GateZKernelIdeal.Facts] [hGateZReferenceIdeal : Cert.GateZReferenceIdeal.Facts] : Prop :=
  ∀ (m : (ℓ : Loc Cert.GateZKernelIdeal.nD Cert.GateZKernelIdeal.τ Cert.GateZKernelIdeal.sig) → Buf (Elt Ideal) ℓ) (g : Dev Cert.GateZKernelIdeal.nD → PrngReg)
    (m' : (ℓ : Loc Cert.GateZReferenceIdeal.nD Cert.GateZReferenceIdeal.τ Cert.GateZReferenceIdeal.sig) → Buf (Elt Ideal) ℓ) (g' : Dev Cert.GateZReferenceIdeal.nD → PrngReg), Pre_GateZKernelIdeal m →
    (∀ c : Dev Cert.GateZKernelIdeal.nD,
      m' ((c.tc : Thread Cert.GateZReferenceIdeal.nD Cert.GateZReferenceIdeal.τ).loc Cert.GateZReferenceIdeal.main_arg0) = m ((c.tc : Thread Cert.GateZKernelIdeal.nD Cert.GateZKernelIdeal.τ).loc Cert.GateZKernelIdeal.main_arg0)
      ∧ m' ((c.tc : Thread Cert.GateZReferenceIdeal.nD Cert.GateZReferenceIdeal.τ).loc Cert.GateZReferenceIdeal.main_arg1) = m ((c.tc : Thread Cert.GateZKernelIdeal.nD Cert.GateZKernelIdeal.τ).loc Cert.GateZKernelIdeal.main_arg1)
      ∧ m' ((c.tc : Thread Cert.GateZReferenceIdeal.nD Cert.GateZReferenceIdeal.τ).loc Cert.GateZReferenceIdeal.main_arg2) = m ((c.tc : Thread Cert.GateZKernelIdeal.nD Cert.GateZKernelIdeal.τ).loc Cert.GateZKernelIdeal.main_arg2)) →
    ∃ (v0 : (c : Dev Cert.GateZKernelIdeal.nD) → Buf (Elt Ideal) ((c.tc : Thread Cert.GateZKernelIdeal.nD Cert.GateZKernelIdeal.τ).loc Cert.GateZKernelIdeal.main_v6)),
      θ_run (Cert.GateZKernelIdeal.defs (F := Ideal)) (onTc (τ := Cert.GateZKernelIdeal.τ) (Cert.GateZKernelIdeal.main (F := Ideal))) ⟨m, fun _ => 0, g⟩ (fun r => ∀ c : Dev Cert.GateZKernelIdeal.nD,
          r.2.mem ((c.tc : Thread Cert.GateZKernelIdeal.nD Cert.GateZKernelIdeal.τ).loc Cert.GateZKernelIdeal.main_v6) = v0 c
          ∧ r.2.mem ((c.tc : Thread Cert.GateZKernelIdeal.nD Cert.GateZKernelIdeal.τ).loc Cert.GateZKernelIdeal.main_arg0) = m ((c.tc : Thread Cert.GateZKernelIdeal.nD Cert.GateZKernelIdeal.τ).loc Cert.GateZKernelIdeal.main_arg0)
          ∧ r.2.mem ((c.tc : Thread Cert.GateZKernelIdeal.nD Cert.GateZKernelIdeal.τ).loc Cert.GateZKernelIdeal.main_arg1) = m ((c.tc : Thread Cert.GateZKernelIdeal.nD Cert.GateZKernelIdeal.τ).loc Cert.GateZKernelIdeal.main_arg1)
          ∧ r.2.mem ((c.tc : Thread Cert.GateZKernelIdeal.nD Cert.GateZKernelIdeal.τ).loc Cert.GateZKernelIdeal.main_arg2) = m ((c.tc : Thread Cert.GateZKernelIdeal.nD Cert.GateZKernelIdeal.τ).loc Cert.GateZKernelIdeal.main_arg2))
      ∧ θ_run (Cert.GateZReferenceIdeal.defs (F := Ideal)) (onTc (τ := Cert.GateZReferenceIdeal.τ) (Cert.GateZReferenceIdeal.main (F := Ideal))) ⟨m', fun _ => 0, g'⟩ (fun r => ∀ c : Dev Cert.GateZReferenceIdeal.nD,
          r.2.mem ((c.tc : Thread Cert.GateZReferenceIdeal.nD Cert.GateZReferenceIdeal.τ).loc Cert.GateZReferenceIdeal.main_v20) = v0 c
          ∧ r.2.mem ((c.tc : Thread Cert.GateZReferenceIdeal.nD Cert.GateZReferenceIdeal.τ).loc Cert.GateZReferenceIdeal.main_arg0) = m' ((c.tc : Thread Cert.GateZReferenceIdeal.nD Cert.GateZReferenceIdeal.τ).loc Cert.GateZReferenceIdeal.main_arg0)
          ∧ r.2.mem ((c.tc : Thread Cert.GateZReferenceIdeal.nD Cert.GateZReferenceIdeal.τ).loc Cert.GateZReferenceIdeal.main_arg1) = m' ((c.tc : Thread Cert.GateZReferenceIdeal.nD Cert.GateZReferenceIdeal.τ).loc Cert.GateZReferenceIdeal.main_arg1)
          ∧ r.2.mem ((c.tc : Thread Cert.GateZReferenceIdeal.nD Cert.GateZReferenceIdeal.τ).loc Cert.GateZReferenceIdeal.main_arg2) = m' ((c.tc : Thread Cert.GateZReferenceIdeal.nD Cert.GateZReferenceIdeal.τ).loc Cert.GateZReferenceIdeal.main_arg2))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)
      ∧ m' ((c.tc : Thread Cert.GatesReferenceIdeal.nD Cert.GatesReferenceIdeal.τ).loc Cert.GatesReferenceIdeal.main_arg2) = m ((c.tc : Thread Cert.GatesKernelIdeal.nD Cert.GatesKernelIdeal.τ).loc Cert.GatesKernelIdeal.main_arg2)) →
    ∃ (v0 : (c : Dev Cert.GatesKernelIdeal.nD) → Buf (Elt Ideal) ((c.tc : Thread Cert.GatesKernelIdeal.nD Cert.GatesKernelIdeal.τ).loc Cert.GatesKernelIdeal.main_v7)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v7) = v0 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
          ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v22) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v20)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v20) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v42) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)
      ∧ m' ((c.tc : Thread Cert.FinalReferenceIdeal.nD Cert.FinalReferenceIdeal.τ).loc Cert.FinalReferenceIdeal.main_arg3) = m ((c.tc : Thread Cert.FinalKernelIdeal.nD Cert.FinalKernelIdeal.τ).loc Cert.FinalKernelIdeal.main_arg3)
      ∧ m' ((c.tc : Thread Cert.FinalReferenceIdeal.nD Cert.FinalReferenceIdeal.τ).loc Cert.FinalReferenceIdeal.main_arg4) = m ((c.tc : Thread Cert.FinalKernelIdeal.nD Cert.FinalKernelIdeal.τ).loc Cert.FinalKernelIdeal.main_arg4)
      ∧ m' ((c.tc : Thread Cert.FinalReferenceIdeal.nD Cert.FinalReferenceIdeal.τ).loc Cert.FinalReferenceIdeal.main_arg5) = m ((c.tc : Thread Cert.FinalKernelIdeal.nD Cert.FinalKernelIdeal.τ).loc Cert.FinalKernelIdeal.main_arg5)
      ∧ m' ((c.tc : Thread Cert.FinalReferenceIdeal.nD Cert.FinalReferenceIdeal.τ).loc Cert.FinalReferenceIdeal.main_arg6) = m ((c.tc : Thread Cert.FinalKernelIdeal.nD Cert.FinalKernelIdeal.τ).loc Cert.FinalKernelIdeal.main_arg6)
      ∧ m' ((c.tc : Thread Cert.FinalReferenceIdeal.nD Cert.FinalReferenceIdeal.τ).loc Cert.FinalReferenceIdeal.main_arg7) = m ((c.tc : Thread Cert.FinalKernelIdeal.nD Cert.FinalKernelIdeal.τ).loc Cert.FinalKernelIdeal.main_arg7)) →
    ∃ (v0 : (c : Dev Cert.FinalKernelIdeal.nD) → Buf (Elt Ideal) ((c.tc : Thread Cert.FinalKernelIdeal.nD Cert.FinalKernelIdeal.τ).loc Cert.FinalKernelIdeal.main_v11)) (v1 : (c : Dev Cert.FinalKernelIdeal.nD) → Buf (Elt Ideal) ((c.tc : Thread Cert.FinalKernelIdeal.nD Cert.FinalKernelIdeal.τ).loc Cert.FinalKernelIdeal.main_v13)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v11) = v0 c
          ∧ r.2.mem ((c.tc : Thread Cert.FinalKernelIdeal.nD Cert.FinalKernelIdeal.τ).loc Cert.FinalKernelIdeal.main_v13) = v1 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
          ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3)
          ∧ r.2.mem ((c.tc : Thread Cert.FinalKernelIdeal.nD Cert.FinalKernelIdeal.τ).loc Cert.FinalKernelIdeal.main_arg4) = m ((c.tc : Thread Cert.FinalKernelIdeal.nD Cert.FinalKernelIdeal.τ).loc Cert.FinalKernelIdeal.main_arg4)
          ∧ r.2.mem ((c.tc : Thread Cert.FinalKernelIdeal.nD Cert.FinalKernelIdeal.τ).loc Cert.FinalKernelIdeal.main_arg5) = m ((c.tc : Thread Cert.FinalKernelIdeal.nD Cert.FinalKernelIdeal.τ).loc Cert.FinalKernelIdeal.main_arg5)
          ∧ r.2.mem ((c.tc : Thread Cert.FinalKernelIdeal.nD Cert.FinalKernelIdeal.τ).loc Cert.FinalKernelIdeal.main_arg6) = m ((c.tc : Thread Cert.FinalKernelIdeal.nD Cert.FinalKernelIdeal.τ).loc Cert.FinalKernelIdeal.main_arg6)
          ∧ r.2.mem ((c.tc : Thread Cert.FinalKernelIdeal.nD Cert.FinalKernelIdeal.τ).loc Cert.FinalKernelIdeal.main_arg7) = m ((c.tc : Thread Cert.FinalKernelIdeal.nD Cert.FinalKernelIdeal.τ).loc Cert.FinalKernelIdeal.main_arg7))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v29) = v0 c
          ∧ r.2.mem ((c.tc : Thread Cert.FinalReferenceIdeal.nD Cert.FinalReferenceIdeal.τ).loc Cert.FinalReferenceIdeal.main_v59) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6)
          ∧ r.2.mem ((c.tc : Thread Cert.FinalReferenceIdeal.nD Cert.FinalReferenceIdeal.τ).loc Cert.FinalReferenceIdeal.main_arg7) = m' ((c.tc : Thread Cert.FinalReferenceIdeal.nD Cert.FinalReferenceIdeal.τ).loc Cert.FinalReferenceIdeal.main_arg7))

def Claim : Prop :=
  ∃ (hKernel : Cert.Kernel.Facts) (hKernelIdeal : Cert.KernelIdeal.Facts) (hReferenceIdeal : Cert.ReferenceIdeal.Facts) (hSampleKernel : Cert.SampleKernel.Facts) (hSampleKernelIdeal : Cert.SampleKernelIdeal.Facts) (hSampleReferenceIdeal : Cert.SampleReferenceIdeal.Facts) (hUpKernel : Cert.UpKernel.Facts) (hUpKernelIdeal : Cert.UpKernelIdeal.Facts) (hUpReferenceIdeal : Cert.UpReferenceIdeal.Facts) (hXbcKernel : Cert.XbcKernel.Facts) (hXbcKernelIdeal : Cert.XbcKernelIdeal.Facts) (hXbcReferenceIdeal : Cert.XbcReferenceIdeal.Facts) (hPoolKernel : Cert.PoolKernel.Facts) (hPoolKernelIdeal : Cert.PoolKernelIdeal.Facts) (hPoolReferenceIdeal : Cert.PoolReferenceIdeal.Facts) (hGateZKernel : Cert.GateZKernel.Facts) (hGateZKernelIdeal : Cert.GateZKernelIdeal.Facts) (hGateZReferenceIdeal : Cert.GateZReferenceIdeal.Facts) (hGatesKernel : Cert.GatesKernel.Facts) (hGatesKernelIdeal : Cert.GatesKernelIdeal.Facts) (hGatesReferenceIdeal : Cert.GatesReferenceIdeal.Facts) (hMergeKernel : Cert.MergeKernel.Facts) (hMergeKernelIdeal : Cert.MergeKernelIdeal.Facts) (hMergeReferenceIdeal : Cert.MergeReferenceIdeal.Facts) (hFinalKernel : Cert.FinalKernel.Facts) (hFinalKernelIdeal : Cert.FinalKernelIdeal.Facts) (hFinalReferenceIdeal : Cert.FinalReferenceIdeal.Facts) (hPre_finite_steps : Cert.Pre_finite_steps.Facts),
    quiescent_Kernel (hKernel := hKernel)
    ∧ quiescent_KernelIdeal (hKernelIdeal := hKernelIdeal)
    ∧ quiescent_ReferenceIdeal (hReferenceIdeal := hReferenceIdeal)
    ∧ quiescent_SampleKernel (hSampleKernel := hSampleKernel)
    ∧ quiescent_SampleKernelIdeal (hSampleKernelIdeal := hSampleKernelIdeal)
    ∧ quiescent_SampleKernelIdeal_pre_finite_steps (hSampleKernelIdeal := hSampleKernelIdeal) (hPre_finite_steps := hPre_finite_steps)
    ∧ quiescent_SampleReferenceIdeal (hSampleReferenceIdeal := hSampleReferenceIdeal)
    ∧ quiescent_SampleReferenceIdeal_pre_finite_steps (hSampleReferenceIdeal := hSampleReferenceIdeal) (hPre_finite_steps := hPre_finite_steps)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_XbcKernel (hXbcKernel := hXbcKernel)
    ∧ quiescent_XbcKernelIdeal (hXbcKernelIdeal := hXbcKernelIdeal)
    ∧ quiescent_XbcReferenceIdeal (hXbcReferenceIdeal := hXbcReferenceIdeal)
    ∧ quiescent_PoolKernel (hPoolKernel := hPoolKernel)
    ∧ quiescent_PoolKernelIdeal (hPoolKernelIdeal := hPoolKernelIdeal)
    ∧ quiescent_PoolReferenceIdeal (hPoolReferenceIdeal := hPoolReferenceIdeal)
    ∧ quiescent_GateZKernel (hGateZKernel := hGateZKernel)
    ∧ quiescent_GateZKernelIdeal (hGateZKernelIdeal := hGateZKernelIdeal)
    ∧ quiescent_GateZReferenceIdeal (hGateZReferenceIdeal := hGateZReferenceIdeal)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ preserves_Kernel_KernelIdeal
    ∧ algebraic_KernelIdeal_ReferenceIdeal (hKernelIdeal := hKernelIdeal) (hReferenceIdeal := hReferenceIdeal)
    ∧ preserves_SampleKernel_SampleKernelIdeal
    ∧ algebraic_SampleKernelIdeal_SampleReferenceIdeal_pre_finite_steps (hSampleKernelIdeal := hSampleKernelIdeal) (hSampleReferenceIdeal := hSampleReferenceIdeal) (hPre_finite_steps := hPre_finite_steps)
    ∧ preserves_UpKernel_UpKernelIdeal
    ∧ algebraic_UpKernelIdeal_UpReferenceIdeal (hUpKernelIdeal := hUpKernelIdeal) (hUpReferenceIdeal := hUpReferenceIdeal)
    ∧ preserves_XbcKernel_XbcKernelIdeal
    ∧ algebraic_XbcKernelIdeal_XbcReferenceIdeal (hXbcKernelIdeal := hXbcKernelIdeal) (hXbcReferenceIdeal := hXbcReferenceIdeal)
    ∧ preserves_PoolKernel_PoolKernelIdeal
    ∧ algebraic_PoolKernelIdeal_PoolReferenceIdeal (hPoolKernelIdeal := hPoolKernelIdeal) (hPoolReferenceIdeal := hPoolReferenceIdeal)
    ∧ preserves_GateZKernel_GateZKernelIdeal
    ∧ algebraic_GateZKernelIdeal_GateZReferenceIdeal (hGateZKernelIdeal := hGateZKernelIdeal) (hGateZReferenceIdeal := hGateZReferenceIdeal)
    ∧ preserves_GatesKernel_GatesKernelIdeal
    ∧ algebraic_GatesKernelIdeal_GatesReferenceIdeal (hGatesKernelIdeal := hGatesKernelIdeal) (hGatesReferenceIdeal := hGatesReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_FinalKernel_FinalKernelIdeal
    ∧ algebraic_FinalKernelIdeal_FinalReferenceIdeal (hFinalKernelIdeal := hFinalKernelIdeal) (hFinalReferenceIdeal := hFinalReferenceIdeal)
-- ==== Pre_finite_steps.lean ====
abbrev S128x4x6144 : Shape := ⟨3, ![128, 4, 6144]⟩
abbrev S128x4x4096 : Shape := ⟨3, ![128, 4, 4096]⟩
abbrev S128x4x64 : Shape := ⟨3, ![128, 4, 64]⟩
abbrev S1x128x64x64x128 : Shape := ⟨5, ![1, 128, 64, 64, 128]⟩
abbrev S1x128x3x6144 : Shape := ⟨4, ![1, 128, 3, 6144]⟩
abbrev S1x4x6144 : Shape := ⟨3, ![1, 4, 6144]⟩
abbrev S1x6144 : Shape := ⟨2, ![1, 6144]⟩
abbrev S1x64 : Shape := ⟨2, ![1, 64]⟩
abbrev S1x4096 : Shape := ⟨2, ![1, 4096]⟩
abbrev S1x1x64 : Shape := ⟨3, ![1, 1, 64]⟩
abbrev S_ : Shape := ⟨0, ![]⟩

class Facts : Prop where
  bcast_S1x64_S1x1x64_1_2 : S1x64.BroadcastsInDim S1x1x64 (![1, 2] : Fin 2 → Fin S1x1x64.rank)
  bcast_S1x1x64_S128x4x64_0_1_2 : S1x1x64.BroadcastsInDim S128x4x64 (![0, 1, 2] : Fin 3 → Fin S128x4x64.rank)
  bcast_S_S128x4x64 : S_.BroadcastsInDim S128x4x64 (![] : Fin 0 → Fin S128x4x64.rank)

variable [Facts]

def fn {F : FTy → Type} [FloatOps F] (main_arg0 : FVec F S128x4x6144 .f32) (main_arg1 : FVec F S128x4x4096 .f32) (main_arg2 : FVec F S128x4x64 .f32) (main_arg3 : FVec F S1x128x64x64x128 .f32) (main_arg4 : FVec F S1x128x3x6144 .f32) (main_arg5 : FVec F S1x4x6144 .f32) (main_arg6 : FVec F S1x6144 .f32) (main_arg7 : FVec F S1x64 .f32) (main_arg8 : FVec F S1x64 .f32) (main_arg9 : FVec F S1x64 .f32) (main_arg10 : FVec F S1x4096 .f32) : IVec S128x4x64 1 :=
  let main_v0 : FVec F S1x1x64 .f32 := broadcastInDim S1x1x64 ![1, 2] bcast_S1x64_S1x1x64_1_2 main_arg7
  let main_v1 : FVec F S128x4x64 .f32 := broadcastInDim S128x4x64 ![0, 1, 2] bcast_S1x1x64_S128x4x64_0_1_2 main_v0
  let main_v2 : FVec F S128x4x64 .f32 := addf main_arg2 main_v1
  let main_cst : FVec F S_ .f32 := constant S_ .f32 0x7F800000#32
  let main_v3 : FVec F S128x4x64 .f32 := broadcastInDim S128x4x64 ![] bcast_S_S128x4x64 main_cst
  let main_v4 : IVec S128x4x64 1 := cmpf .olt main_v2 main_v3
  main_v4
-- ==== Kernel.lean ====
abbrev S4x2048x6144 : Shape := ⟨3, ![4, 2048, 6144]⟩
abbrev S128x4x6144 : Shape := ⟨3, ![128, 4, 6144]⟩
abbrev S4x2048x4096 : Shape := ⟨3, ![4, 2048, 4096]⟩
abbrev S128x4x4096 : Shape := ⟨3, ![128, 4, 4096]⟩
abbrev S4x2048x64 : Shape := ⟨3, ![4, 2048, 64]⟩
abbrev S1x4x6144 : Shape := ⟨3, ![1, 4, 6144]⟩
abbrev S1x6144 : Shape := ⟨2, ![1, 6144]⟩
abbrev S1x64 : Shape := ⟨2, ![1, 64]⟩
abbrev S1x4096 : Shape := ⟨2, ![1, 4096]⟩
abbrev S8192x6144 : Shape := ⟨2, ![8192, 6144]⟩
abbrev S4x128x6144 : Shape := ⟨3, ![4, 128, 6144]⟩
abbrev S512x6144 : Shape := ⟨2, ![512, 6144]⟩
abbrev S8704x6144 : Shape := ⟨2, ![8704, 6144]⟩
abbrev S8192x4096 : Shape := ⟨2, ![8192, 4096]⟩
abbrev S4x128x4096 : Shape := ⟨3, ![4, 128, 4096]⟩
abbrev S512x4096 : Shape := ⟨2, ![512, 4096]⟩
abbrev S8704x4096 : Shape := ⟨2, ![8704, 4096]⟩
abbrev S64 : Shape := ⟨1, ![64]⟩
abbrev S64x64 : Shape := ⟨2, ![64, 64]⟩
abbrev S4096 : Shape := ⟨1, ![4096]⟩
abbrev S8192x64 : Shape := ⟨2, ![8192, 64]⟩
abbrev S64x8192 : Shape := ⟨2, ![64, 8192]⟩
abbrev S64x1 : Shape := ⟨2, ![64, 1]⟩
abbrev S4x6144 : Shape := ⟨2, ![4, 6144]⟩
abbrev S4x32x128x128 : Shape := ⟨4, ![4, 32, 128, 128]⟩
abbrev S128x6144 : Shape := ⟨2, ![128, 6144]⟩
abbrev S8x6144 : Shape := ⟨2, ![8, 6144]⟩
abbrev S128x4096 : Shape := ⟨2, ![128, 4096]⟩
abbrev S64x128 : Shape := ⟨2, ![64, 128]⟩
abbrev S1x32x128x128 : Shape := ⟨4, ![1, 32, 128, 128]⟩
abbrev S8x128x512 : Shape := ⟨3, ![8, 128, 512]⟩
abbrev S136x6144 : Shape := ⟨2, ![136, 6144]⟩
abbrev S1x512 : Shape := ⟨2, ![1, 512]⟩
abbrev S128x512 : Shape := ⟨2, ![128, 512]⟩
abbrev S128x128 : Shape := ⟨2, ![128, 128]⟩
abbrev S1x128x512 : Shape := ⟨3, ![1, 128, 512]⟩
abbrev S1x128 : Shape := ⟨2, ![1, 128]⟩
abbrev S1x1 : Shape := ⟨2, ![1, 1]⟩
abbrev S256x128 : Shape := ⟨2, ![256, 128]⟩
abbrev S128x256 : Shape := ⟨2, ![128, 256]⟩
abbrev S256x256 : Shape := ⟨2, ![256, 256]⟩
abbrev S128 : Shape := ⟨1, ![128]⟩
abbrev S128x1 : Shape := ⟨2, ![128, 1]⟩
abbrev S1x128x128 : Shape := ⟨3, ![1, 128, 128]⟩
abbrev S1x1x128x128 : Shape := ⟨4, ![1, 1, 128, 128]⟩

abbrev nBuf : Space → Nat
  | .hbm => 31
  | .vmem => 21
  | .smem => 0
  | _ => 0

abbrev bufTy : (tb : Table) → Fin (tcTables nBuf tb) → BufTy
  | .hbm, ⟨0, _⟩ => ⟨S4x2048x6144, .f32⟩
  | .hbm, ⟨1, _⟩ => ⟨S128x4x6144, .f32⟩
  | .hbm, ⟨2, _⟩ => ⟨S4x2048x4096, .f32⟩
  | .hbm, ⟨3, _⟩ => ⟨S128x4x4096, .f32⟩
  | .hbm, ⟨4, _⟩ => ⟨S4x2048x64, .f32⟩
  | .hbm, ⟨5, _⟩ => ⟨S1x4x6144, .f32⟩
  | .hbm, ⟨6, _⟩ => ⟨S1x6144, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x4096, .f32⟩
  | .hbm, ⟨11, _⟩ => ⟨S8192x6144, .f32⟩
  | .hbm, ⟨12, _⟩ => ⟨S4x128x6144, .f32⟩
  | .hbm, ⟨13, _⟩ => ⟨S512x6144, .f32⟩
  | .hbm, ⟨14, _⟩ => ⟨S8704x6144, .f32⟩
  | .hbm, ⟨15, _⟩ => ⟨S8192x4096, .f32⟩
  | .hbm, ⟨16, _⟩ => ⟨S4x128x4096, .f32⟩
  | .hbm, ⟨17, _⟩ => ⟨S512x4096, .f32⟩
  | .hbm, ⟨18, _⟩ => ⟨S8704x4096, .f32⟩
  | .hbm, ⟨19, _⟩ => ⟨S8704x4096, .bf16⟩
  | .hbm, ⟨20, _⟩ => ⟨S64, .f32⟩
  | .hbm, ⟨21, _⟩ => ⟨S64x64, .f32⟩
  | .hbm, ⟨22, _⟩ => ⟨S4096, .f32⟩
  | .hbm, ⟨23, _⟩ => ⟨S1x4096, .f32⟩
  | .hbm, ⟨24, _⟩ => ⟨S8192x64, .f32⟩
  | .hbm, ⟨25, _⟩ => ⟨S64x8192, .f32⟩
  | .hbm, ⟨26, _⟩ => ⟨S64x1, .f32⟩
  | .hbm, ⟨27, _⟩ => ⟨S64x1, .f32⟩
  | .hbm, ⟨28, _⟩ => ⟨S4x6144, .f32⟩
  | .hbm, ⟨29, _⟩ => ⟨S8192x4096, .bf16⟩
  | .hbm, ⟨30, _⟩ => ⟨S4x32x128x128, .f32⟩
  | .local _ .vmem, ⟨0, _⟩ => ⟨S128x6144, .f32⟩
  | .local _ .vmem, ⟨1, _⟩ => ⟨S128x6144, .f32⟩
  | .local _ .vmem, ⟨2, _⟩ => ⟨S8x6144, .f32⟩
  | .local _ .vmem, ⟨3, _⟩ => ⟨S8x6144, .f32⟩
  | .local _ .vmem, ⟨4, _⟩ => ⟨S128x4096, .bf16⟩
  | .local _ .vmem, ⟨5, _⟩ => ⟨S128x4096, .bf16⟩
  | .local _ .vmem, ⟨6, _⟩ => ⟨S64x128, .f32⟩
  | .local _ .vmem, ⟨7, _⟩ => ⟨S64x128, .f32⟩
  | .local _ .vmem, ⟨8, _⟩ => ⟨S64x1, .f32⟩
  | .local _ .vmem, ⟨9, _⟩ => ⟨S64x1, .f32⟩
  | .local _ .vmem, ⟨10, _⟩ => ⟨S4x6144, .f32⟩
  | .local _ .vmem, ⟨11, _⟩ => ⟨S1x6144, .f32⟩
  | .local _ .vmem, ⟨12, _⟩ => ⟨S1x4096, .f32⟩
  | .local _ .vmem, ⟨13, _⟩ => ⟨S1x4096, .f32⟩
  | .local _ .vmem, ⟨14, _⟩ => ⟨S128x4096, .bf16⟩
  | .local _ .vmem, ⟨15, _⟩ => ⟨S128x4096, .bf16⟩
  | .local _ .vmem, ⟨16, _⟩ => ⟨S1x32x128x128, .f32⟩
  | .local _ .vmem, ⟨17, _⟩ => ⟨S1x32x128x128, .f32⟩
  | .local _ .vmem, ⟨18, _⟩ => ⟨S8x128x512, .f32⟩
  | .local _ .vmem, ⟨19, _⟩ => ⟨S136x6144, .f32⟩
  | .local _ .vmem, ⟨20, _⟩ => ⟨S128x6144, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v2911 : BitVec 1 := Scalar.cmpi .eq arg1 c15_i32
  let v2912 : BitVec 32 := Scalar.extui v2911
  let c0_i32_601 : BitVec 32 := 0#32
  let v2913 : BitVec 1 := Scalar.cmpi .ne v2912 c0_i32_601
  v2913

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x2048x6144 : Shape := ⟨3, ![4, 2048, 6144]⟩
abbrev S128x4x6144 : Shape := ⟨3, ![128, 4, 6144]⟩
abbrev S4x2048x4096 : Shape := ⟨3, ![4, 2048, 4096]⟩
abbrev S128x4x4096 : Shape := ⟨3, ![128, 4, 4096]⟩
abbrev S4x2048x64 : Shape := ⟨3, ![4, 2048, 64]⟩
abbrev S1x4x6144 : Shape := ⟨3, ![1, 4, 6144]⟩
abbrev S1x6144 : Shape := ⟨2, ![1, 6144]⟩
abbrev S1x64 : Shape := ⟨2, ![1, 64]⟩
abbrev S1x4096 : Shape := ⟨2, ![1, 4096]⟩
abbrev S_ : Shape := ⟨0, ![]⟩
abbrev S4x3x6144 : Shape := ⟨3, ![4, 3, 6144]⟩
abbrev S4x64x64x128 : Shape := ⟨4, ![4, 64, 64, 128]⟩
abbrev S4x6144 : Shape := ⟨2, ![4, 6144]⟩
abbrev S6144 : Shape := ⟨1, ![6144]⟩
abbrev S4x2051x6144 : Shape := ⟨3, ![4, 2051, 6144]⟩
abbrev S1x1x6144 : Shape := ⟨3, ![1, 1, 6144]⟩
abbrev S4x2048x1024 : Shape := ⟨3, ![4, 2048, 1024]⟩
abbrev S4x2048x64x64 : Shape := ⟨4, ![4, 2048, 64, 64]⟩
abbrev S4x2048x8x128 : Shape := ⟨4, ![4, 2048, 8, 128]⟩
abbrev S64 : Shape := ⟨1, ![64]⟩
abbrev S1x1x64 : Shape := ⟨3, ![1, 1, 64]⟩
abbrev S4x16x128x8x8x64 : Shape := ⟨6, ![4, 16, 128, 8, 8, 64]⟩
abbrev S4x16x128x8x8 : Shape := ⟨5, ![4, 16, 128, 8, 8]⟩
abbrev S8x8 : Shape := ⟨2, ![8, 8]⟩
abbrev S1x1x1x8x8 : Shape := ⟨5, ![1, 1, 1, 8, 8]⟩
abbrev S4x16x128x8x128 : Shape := ⟨5, ![4, 16, 128, 8, 128]⟩
abbrev S16x4x128x8x8x64 : Shape := ⟨6, ![16, 4, 128, 8, 8, 64]⟩
abbrev S16x4x128x8x8 : Shape := ⟨5, ![16, 4, 128, 8, 8]⟩
abbrev S16x4x128x8x128 : Shape := ⟨5, ![16, 4, 128, 8, 128]⟩
abbrev S4x8x8x64x128 : Shape := ⟨5, ![4, 8, 8, 64, 128]⟩
abbrev S1x4x128x8x8x64 : Shape := ⟨6, ![1, 4, 128, 8, 8, 64]⟩
abbrev S4x128x8x8x64 : Shape := ⟨5, ![4, 128, 8, 8, 64]⟩
abbrev S1x4x128x8x8 : Shape := ⟨5, ![1, 4, 128, 8, 8]⟩
abbrev S4x128x8x8 : Shape := ⟨4, ![4, 128, 8, 8]⟩
abbrev S1x4x128x8x128 : Shape := ⟨5, ![1, 4, 128, 8, 128]⟩
abbrev S4x128x8x128 : Shape := ⟨4, ![4, 128, 8, 128]⟩
abbrev S4x1x8x8 : Shape := ⟨4, ![4, 1, 8, 8]⟩
abbrev S4x8x8 : Shape := ⟨3, ![4, 8, 8]⟩
abbrev S4x8x8x1x1 : Shape := ⟨5, ![4, 8, 8, 1, 1]⟩
abbrev S4x128x8x8x1 : Shape := ⟨5, ![4, 128, 8, 8, 1]⟩
abbrev S4x32x128x128 : Shape := ⟨4, ![4, 32, 128, 128]⟩

abbrev nBuf : Space → Nat
  | .hbm => 152
  | .vmem => 0
  | .smem => 0
  | _ => 0

abbrev hbmTy0_0 (i : Nat) : BufTy := match i % 128 with
  | 0 => ⟨S4x2048x6144, .f32⟩
  | 1 => ⟨S128x4x6144, .f32⟩
  | 2 => ⟨S4x2048x4096, .f32⟩
  | 3 => ⟨S128x4x4096, .f32⟩
  | 4 => ⟨S4x2048x64, .f32⟩
  | 5 => ⟨S1x4x6144, .f32⟩
  | 6 => ⟨S1x6144, .f32⟩
  | 7 => ⟨S1x64, .f32⟩
  | 8 => ⟨S1x64, .f32⟩
  | 9 => ⟨S1x64, .f32⟩
  | 10 => ⟨S1x4096, .f32⟩
  | 11 => ⟨S_, .f32⟩
  | 12 => ⟨S4x3x6144, .f32⟩
  | 13 => ⟨S_, .f32⟩
  | 14 => ⟨S4x64x64x128, .f32⟩
  | 15 => ⟨S4x6144, .f32⟩
  | 16 => ⟨S6144, .f32⟩
  | 17 => ⟨S4x2051x6144, .f32⟩
  | 18 => ⟨S4x2048x6144, .f32⟩
  | 19 => ⟨S1x6144, .f32⟩
  | 20 => ⟨S6144, .f32⟩
  | 21 => ⟨S1x1x6144, .f32⟩
  | 22 => ⟨S4x2048x6144, .f32⟩
  | 23 => ⟨S4x2048x6144, .f32⟩
  | 24 => ⟨S1x1x6144, .f32⟩
  | 25 => ⟨S4x2048x6144, .f32⟩
  | 26 => ⟨S4x2048x6144, .f32⟩
  | 27 => ⟨S4x2048x6144, .f32⟩
  | 28 => ⟨S1x6144, .f32⟩
  | 29 => ⟨S6144, .f32⟩
  | 30 => ⟨S1x1x6144, .f32⟩
  | 31 => ⟨S4x2048x6144, .f32⟩
  | 32 => ⟨S4x2048x6144, .f32⟩
  | 33 => ⟨S4x2048x6144, .f32⟩
  | 34 => ⟨S4x2048x6144, .f32⟩
  | 35 => ⟨S1x6144, .f32⟩
  | 36 => ⟨S6144, .f32⟩
  | 37 => ⟨S1x1x6144, .f32⟩
  | 38 => ⟨S4x2048x6144, .f32⟩
  | 39 => ⟨S4x2048x6144, .f32⟩
  | 40 => ⟨S4x2048x6144, .f32⟩
  | 41 => ⟨S4x2048x6144, .f32⟩
  | 42 => ⟨S1x6144, .f32⟩
  | 43 => ⟨S6144, .f32⟩
  | 44 => ⟨S1x1x6144, .f32⟩
  | 45 => ⟨S4x2048x6144, .f32⟩
  | 46 => ⟨S4x2048x6144, .f32⟩
  | 47 => ⟨S4x2048x6144, .f32⟩
  | 48 => ⟨S4x2048x6144, .f32⟩
  | 49 => ⟨S4x2048x6144, .f32⟩
  | 50 => ⟨S_, .f32⟩
  | 51 => ⟨S4x2048x6144, .f32⟩
  | 52 => ⟨S4x2048x6144, .f32⟩
  | 53 => ⟨S_, .f32⟩
  | 54 => ⟨S4x2048x6144, .f32⟩
  | 55 => ⟨S4x2048x6144, .f32⟩
  | 56 => ⟨S4x2048x6144, .f32⟩
  | 57 => ⟨S4x2048x4096, .f32⟩
  | 58 => ⟨S4x2048x1024, .f32⟩
  | 59 => ⟨S4x2048x1024, .f32⟩
  | 60 => ⟨S4x2048x64x64, .f32⟩
  | 61 => ⟨S4x2048x8x128, .f32⟩
  | 62 => ⟨S64, .f32⟩
  | 63 => ⟨S1x1x64, .f32⟩
  | 64 => ⟨S4x2048x64, .f32⟩
  | 65 => ⟨S4x2048x64, .f32⟩
  | 66 => ⟨S_, .f32⟩
  | 67 => ⟨S4x2048x64, .f32⟩
  | 68 => ⟨S4x2048x64, .f32⟩
  | 69 => ⟨S4x2048x64, .f32⟩
  | 70 => ⟨S4x2048x64, .f32⟩
  | 71 => ⟨S4x2048x64, .i1⟩
  | 72 => ⟨S4x2048x64, .f32⟩
  | 73 => ⟨S4x2048x64, .f32⟩
  | 74 => ⟨S4x2048x64, .f32⟩
  | 75 => ⟨S4x2048x64, .f32⟩
  | 76 => ⟨S4x2048x64, .f32⟩
  | 77 => ⟨S4x2048x64, .f32⟩
  | 78 => ⟨S4x2048x64, .f32⟩
  | 79 => ⟨S4x2048x64, .f32⟩
  | 80 => ⟨S64, .f32⟩
  | 81 => ⟨S64, .f32⟩
  | 82 => ⟨S64, .f32⟩
  | 83 => ⟨S4x16x128x8x8x64, .f32⟩
  | 84 => ⟨S4x16x128x8x8, .f32⟩
  | 85 => ⟨S8x8, .f32⟩
  | 86 => ⟨S1x1x1x8x8, .f32⟩
  | 87 => ⟨S4x16x128x8x8, .f32⟩
  | 88 => ⟨S4x16x128x8x8, .f32⟩
  | 89 => ⟨S4x16x128x8x128, .f32⟩
  | 90 => ⟨S16x4x128x8x8x64, .f32⟩
  | 91 => ⟨S16x4x128x8x8, .f32⟩
  | 92 => ⟨S16x4x128x8x8, .f32⟩
  | 93 => ⟨S16x4x128x8x128, .f32⟩
  | 94 => ⟨S4x8x8x64x128, .f32⟩
  | 95 => ⟨S_, .i32⟩
  | 96 => ⟨S16x4x128x8x8x64, .f32⟩
  | 97 => ⟨S16x4x128x8x8, .f32⟩
  | 98 => ⟨S16x4x128x8x8, .f32⟩
  | 99 => ⟨S16x4x128x8x128, .f32⟩
  | 100 => ⟨S_, .i32⟩
  | 101 => ⟨S4x8x8x64x128, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x4x128x8x8x64, .f32⟩
  | 110 => ⟨S4x128x8x8x64, .f32⟩
  | 111 => ⟨S_, .i32⟩
  | 112 => ⟨S_, .i32⟩
  | 113 => ⟨S_, .i32⟩
  | 114 => ⟨S_, .i32⟩
  | 115 => ⟨S1x4x128x8x8, .f32⟩
  | 116 => ⟨S4x128x8x8, .f32⟩
  | 117 => ⟨S_, .i32⟩
  | 118 => ⟨S_, .i32⟩
  | 119 => ⟨S_, .i32⟩
  | 120 => ⟨S_, .i32⟩
  | 121 => ⟨S1x4x128x8x8, .f32⟩
  | 122 => ⟨S4x128x8x8, .f32⟩
  | 123 => ⟨S_, .i32⟩
  | 124 => ⟨S_, .i32⟩
  | 125 => ⟨S_, .i32⟩
  | 126 => ⟨S_, .i32⟩
  | 127 => ⟨S1x4x128x8x128, .f32⟩
  | _ => ⟨S4x2048x6144, .f32⟩

abbrev hbmTy0_1 (i : Nat) : BufTy := match i % 128 with
  | 0 => ⟨S4x128x8x128, .f32⟩
  | 1 => ⟨S_, .f32⟩
  | 2 => ⟨S_, .f32⟩
  | 3 => ⟨S4x128x8x8, .f32⟩
  | 4 => ⟨S4x1x8x8, .f32⟩
  | 5 => ⟨S4x128x8x8, .f32⟩
  | 6 => ⟨S4x128x8x8, .f32⟩
  | 7 => ⟨S4x128x8x8, .f32⟩
  | 8 => ⟨S4x128x8x8, .f32⟩
  | 9 => ⟨S4x1x8x8, .f32⟩
  | 10 => ⟨S4x8x8, .f32⟩
  | 11 => ⟨S4x8x8, .f32⟩
  | 12 => ⟨S4x8x8x1x1, .f32⟩
  | 13 => ⟨S4x8x8x64x128, .f32⟩
  | 14 => ⟨S4x8x8x64x128, .f32⟩
  | 15 => ⟨S4x128x8x8x1, .f32⟩
  | 16 => ⟨S4x128x8x8x64, .f32⟩
  | 17 => ⟨S4x128x8x8x64, .f32⟩
  | 18 => ⟨S4x8x8x64x128, .f32⟩
  | 19 => ⟨S4x8x8x64x128, .f32⟩
  | 20 => ⟨S_, .i32⟩
  | 21 => ⟨S_, .i32⟩
  | 22 => ⟨S4x64x64x128, .f32⟩
  | 23 => ⟨S4x32x128x128, .f32⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c : Ref sig .tc := ⟨.hbm, 95, rfl⟩
abbrev main_v61_0 : Ref sig .tc := ⟨.hbm, 96, rfl⟩
abbrev main_v61_1 : Ref sig .tc := ⟨.hbm, 97, rfl⟩
abbrev main_v61_2 : Ref sig .tc := ⟨.hbm, 98, rfl⟩
abbrev main_v61_3 : Ref sig .tc := ⟨.hbm, 99, rfl⟩
abbrev main_v61_4 : Ref sig .tc := ⟨.hbm, 100, rfl⟩
abbrev main_v61_5 : Ref sig .tc := ⟨.hbm, 101, rfl⟩
abbrev main_while0c_c_6 : Ref sig .tc := ⟨.hbm, 102, rfl⟩
abbrev main_while0c_v64 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_c_3 : Ref sig .tc := ⟨.hbm, 108, rfl⟩
abbrev main_while0b_call2_v0 : Ref sig .tc := ⟨.hbm, 109, rfl⟩
abbrev main_while0b_v64 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_v0 : Ref sig .tc := ⟨.hbm, 115, rfl⟩
abbrev main_while0b_v65 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_c_2 : Ref sig .tc := ⟨.hbm, 120, rfl⟩
abbrev main_while0b_call4_v0 : Ref sig .tc := ⟨.hbm, 121, rfl⟩
abbrev main_while0b_v66 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_call5_v0 : Ref sig .tc := ⟨.hbm, 127, rfl⟩
abbrev main_while0b_v67 : Ref sig .tc := ⟨.hbm, 128, rfl⟩
abbrev main_while0b_call6_call0_cst : Ref sig .tc := ⟨.hbm, 129, rfl⟩
abbrev main_while0b_call6_call0_v0 : Ref sig .tc := ⟨.hbm, 130, rfl⟩
abbrev main_while0b_v68 : Ref sig .tc := ⟨.hbm, 131, rfl⟩
abbrev main_while0b_v69 : Ref sig .tc := ⟨.hbm, 132, rfl⟩
abbrev main_while0b_v70 : Ref sig .tc := ⟨.hbm, 133, rfl⟩
abbrev main_while0b_v71 : Ref sig .tc := ⟨.hbm, 134, rfl⟩
abbrev main_while0b_v72 : Ref sig .tc := ⟨.hbm, 135, rfl⟩
abbrev main_while0b_v73 : Ref sig .tc := ⟨.hbm, 136, rfl⟩
abbrev main_while0b_v74 : Ref sig .tc := ⟨.hbm, 137, rfl⟩
abbrev main_while0b_v75 : Ref sig .tc := ⟨.hbm, 138, rfl⟩
abbrev main_while0b_v76 : Ref sig .tc := ⟨.hbm, 139, rfl⟩
abbrev main_while0b_v77 : Ref sig .tc := ⟨.hbm, 140, rfl⟩
abbrev main_while0b_v78 : Ref sig .tc := ⟨.hbm, 141, rfl⟩
abbrev main_while0b_v79 : Ref sig .tc := ⟨.hbm, 142, rfl⟩
abbrev main_while0b_v80 : Ref sig .tc := ⟨.hbm, 143, rfl⟩
abbrev main_while0b_v81 : Ref sig .tc := ⟨.hbm, 144, rfl⟩
abbrev main_while0b_v82 : Ref sig .tc := ⟨.hbm, 145, rfl⟩
abbrev main_while0b_v83 : Ref sig .tc := ⟨.hbm, 146, rfl⟩
abbrev main_while0b_v84 : Ref sig .tc := ⟨.hbm, 147, rfl⟩
abbrev main_while0b_c_6 : Ref sig .tc := ⟨.hbm, 148, rfl⟩
abbrev main_while0b_v85 : Ref sig .tc := ⟨.hbm, 149, rfl⟩
abbrev main_v62 : Ref sig .tc := ⟨.hbm, 150, rfl⟩
abbrev main_v63 : Ref sig .tc := ⟨.hbm, 151, rfl⟩

abbrev nD : Nat := 1
abbrev τ : Topo := Topo.v7x

variable {F : FTy → Type} [FloatOps F]

abbrev main_while0_count : Scf.Loop 32 := ⟨0#32, 16#32, 1#32⟩
-- ==== SampleKernel.lean ====
abbrev S128x4x6144 : Shape := ⟨3, ![128, 4, 6144]⟩
abbrev S128x4x4096 : Shape := ⟨3, ![128, 4, 4096]⟩
abbrev S128x4x64 : Shape := ⟨3, ![128, 4, 64]⟩
abbrev S1x128x64x64x128 : Shape := ⟨5, ![1, 128, 64, 64, 128]⟩
abbrev S1x128x3x6144 : Shape := ⟨4, ![1, 128, 3, 6144]⟩
abbrev S1x4x6144 : Shape := ⟨3, ![1, 4, 6144]⟩
abbrev S1x6144 : Shape := ⟨2, ![1, 6144]⟩
abbrev S1x64 : Shape := ⟨2, ![1, 64]⟩
abbrev S1x4096 : Shape := ⟨2, ![1, 4096]⟩
abbrev S64 : Shape := ⟨1, ![64]⟩
abbrev S64x64 : Shape := ⟨2, ![64, 64]⟩
abbrev S4096 : Shape := ⟨1, ![4096]⟩
abbrev S4x128x6144 : Shape := ⟨3, ![4, 128, 6144]⟩
abbrev S128x3x6144 : Shape := ⟨3, ![128, 3, 6144]⟩
abbrev S3x128x6144 : Shape := ⟨3, ![3, 128, 6144]⟩
abbrev S4x128x4096 : Shape := ⟨3, ![4, 128, 4096]⟩
abbrev S4x128x64 : Shape := ⟨3, ![4, 128, 64]⟩
abbrev S_ : Shape := ⟨0, ![]⟩
abbrev S4x128x128 : Shape := ⟨3, ![4, 128, 128]⟩
abbrev S1x128 : Shape := ⟨2, ![1, 128]⟩
abbrev S4x6144 : Shape := ⟨2, ![4, 6144]⟩
abbrev S128x8x512x128 : Shape := ⟨4, ![128, 8, 512, 128]⟩
abbrev S4x32x512 : Shape := ⟨3, ![4, 32, 512]⟩
abbrev S3x32x512 : Shape := ⟨3, ![3, 32, 512]⟩
abbrev S4x32x128 : Shape := ⟨3, ![4, 32, 128]⟩
abbrev S3x32x128 : Shape := ⟨3, ![3, 32, 128]⟩
abbrev S4x512 : Shape := ⟨2, ![4, 512]⟩
abbrev S1x512 : Shape := ⟨2, ![1, 512]⟩
abbrev S4x128 : Shape := ⟨2, ![4, 128]⟩
abbrev S32x1x512x128 : Shape := ⟨4, ![32, 1, 512, 128]⟩
abbrev S1x32x512 : Shape := ⟨3, ![1, 32, 512]⟩
abbrev S32x512 : Shape := ⟨2, ![32, 512]⟩
abbrev S1x32x128 : Shape := ⟨3, ![1, 32, 128]⟩
abbrev S32x128 : Shape := ⟨2, ![32, 128]⟩
abbrev S128x512 : Shape := ⟨2, ![128, 512]⟩
abbrev S128x128 : Shape := ⟨2, ![128, 128]⟩
abbrev S512x128 : Shape := ⟨2, ![512, 128]⟩
abbrev S128x1 : Shape := ⟨2, ![128, 1]⟩
abbrev S1x1x512x128 : Shape := ⟨4, ![1, 1, 512, 128]⟩
abbrev S512x1 : Shape := ⟨2, ![512, 1]⟩
abbrev S32 : Shape := ⟨1, ![32]⟩
abbrev S32x1 : Shape := ⟨2, ![32, 1]⟩

abbrev nBuf : Space → Nat
  | .hbm => 34
  | .vmem => 40
  | .smem => 0
  | _ => 0

abbrev bufTy : (tb : Table) → Fin (tcTables nBuf tb) → BufTy
  | .hbm, ⟨0, _⟩ => ⟨S128x4x6144, .f32⟩
  | .hbm, ⟨1, _⟩ => ⟨S128x4x4096, .f32⟩
  | .hbm, ⟨2, _⟩ => ⟨S128x4x64, .f32⟩
  | .hbm, ⟨3, _⟩ => ⟨S1x128x64x64x128, .f32⟩
  | .hbm, ⟨4, _⟩ => ⟨S1x128x3x6144, .f32⟩
  | .hbm, ⟨5, _⟩ => ⟨S1x4x6144, .f32⟩
  | .hbm, ⟨6, _⟩ => ⟨S1x6144, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x4096, .f32⟩
  | .hbm, ⟨11, _⟩ => ⟨S64, .f32⟩
  | .hbm, ⟨12, _⟩ => ⟨S64x64, .f32⟩
  | .hbm, ⟨13, _⟩ => ⟨S4096, .f32⟩
  | .hbm, ⟨14, _⟩ => ⟨S1x4096, .f32⟩
  | .hbm, ⟨15, _⟩ => ⟨S4x128x6144, .f32⟩
  | .hbm, ⟨16, _⟩ => ⟨S128x3x6144, .f32⟩
  | .hbm, ⟨17, _⟩ => ⟨S3x128x6144, .f32⟩
  | .hbm, ⟨18, _⟩ => ⟨S128x4x4096, .bf16⟩
  | .hbm, ⟨19, _⟩ => ⟨S4x128x4096, .bf16⟩
  | .hbm, ⟨20, _⟩ => ⟨S4x128x64, .f32⟩
  | .hbm, ⟨21, _⟩ => ⟨S_, .i32⟩
  | .hbm, ⟨22, _⟩ => ⟨S_, .f32⟩
  | .hbm, ⟨23, _⟩ => ⟨S4x128x128, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S4x6144, .f32⟩
  | .hbm, ⟨31, _⟩ => ⟨S128x8x512x128, .f32⟩
  | .hbm, ⟨32, _⟩ => ⟨S4x128x4096, .bf16⟩
  | .hbm, ⟨33, _⟩ => ⟨S128x8x512x128, .f32⟩
  | .local _ .vmem, ⟨0, _⟩ => ⟨S4x32x512, .f32⟩
  | .local _ .vmem, ⟨1, _⟩ => ⟨S4x32x512, .f32⟩
  | .local _ .vmem, ⟨2, _⟩ => ⟨S3x32x512, .f32⟩
  | .local _ .vmem, ⟨3, _⟩ => ⟨S3x32x512, .f32⟩
  | .local _ .vmem, ⟨4, _⟩ => ⟨S4x32x128, .f32⟩
  | .local _ .vmem, ⟨5, _⟩ => ⟨S4x32x128, .f32⟩
  | .local _ .vmem, ⟨6, _⟩ => ⟨S3x32x128, .f32⟩
  | .local _ .vmem, ⟨7, _⟩ => ⟨S3x32x128, .f32⟩
  | .local _ .vmem, ⟨8, _⟩ => ⟨S4x32x128, .f32⟩
  | .local _ .vmem, ⟨9, _⟩ => ⟨S4x32x128, .f32⟩
  | .local _ .vmem, ⟨10, _⟩ => ⟨S3x32x128, .f32⟩
  | .local _ .vmem, ⟨11, _⟩ => ⟨S3x32x128, .f32⟩
  | .local _ .vmem, ⟨12, _⟩ => ⟨S4x32x512, .bf16⟩
  | .local _ .vmem, ⟨13, _⟩ => ⟨S4x32x512, .bf16⟩
  | .local _ .vmem, ⟨14, _⟩ => ⟨S4x32x128, .f32⟩
  | .local _ .vmem, ⟨15, _⟩ => ⟨S4x32x128, .f32⟩
  | .local _ .vmem, ⟨16, _⟩ => ⟨S1x128, .f32⟩
  | .local _ .vmem, ⟨17, _⟩ => ⟨S1x128, .f32⟩
  | .local _ .vmem, ⟨18, _⟩ => ⟨S4x512, .f32⟩
  | .local _ .vmem, ⟨19, _⟩ => ⟨S4x512, .f32⟩
  | .local _ .vmem, ⟨20, _⟩ => ⟨S1x512, .f32⟩
  | .local _ .vmem, ⟨21, _⟩ => ⟨S1x512, .f32⟩
  | .local _ .vmem, ⟨22, _⟩ => ⟨S4x128, .f32⟩
  | .local _ .vmem, ⟨23, _⟩ => ⟨S4x128, .f32⟩
  | .local _ .vmem, ⟨24, _⟩ => ⟨S1x128, .f32⟩
  | .local _ .vmem, ⟨25, _⟩ => ⟨S1x128, .f32⟩
  | .local _ .vmem, ⟨26, _⟩ => ⟨S4x128, .f32⟩
  | .local _ .vmem, ⟨27, _⟩ => ⟨S4x128, .f32⟩
  | .local _ .vmem, ⟨28, _⟩ => ⟨S1x128, .f32⟩
  | .local _ .vmem, ⟨29, _⟩ => ⟨S1x128, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S32x1x512x128, .f32⟩
  | .local _ .vmem, ⟨35, _⟩ => ⟨S32x1x512x128, .f32⟩
  | .local _ .vmem, ⟨36, _⟩ => ⟨S4x32x512, .bf16⟩
  | .local _ .vmem, ⟨37, _⟩ => ⟨S4x32x512, .bf16⟩
  | .local _ .vmem, ⟨38, _⟩ => ⟨S32x1x512x128, .f32⟩
  | .local _ .vmem, ⟨39, _⟩ => ⟨S32x1x512x128, .f32⟩
  | _, _ => ⟨S128x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_c_1 : Ref sig .tc := ⟨.hbm, 27, rfl⟩
abbrev main_call2_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, arg0.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, arg0.toNat, v0.toNat]

def cc0_transform_4 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, arg0.toNat, v0.toNat]

def cc0_transform_5 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S32x1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4x32x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S32x1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== SampleReferenceIdeal.lean ====
abbrev S128x4x6144 : Shape := ⟨3, ![128, 4, 6144]⟩
abbrev S128x4x4096 : Shape := ⟨3, ![128, 4, 4096]⟩
abbrev S128x4x64 : Shape := ⟨3, ![128, 4, 64]⟩
abbrev S1x128x64x64x128 : Shape := ⟨5, ![1, 128, 64, 64, 128]⟩
abbrev S1x128x3x6144 : Shape := ⟨4, ![1, 128, 3, 6144]⟩
abbrev S1x4x6144 : Shape := ⟨3, ![1, 4, 6144]⟩
abbrev S1x6144 : Shape := ⟨2, ![1, 6144]⟩
abbrev S1x64 : Shape := ⟨2, ![1, 64]⟩
abbrev S1x4096 : Shape := ⟨2, ![1, 4096]⟩
abbrev S128x3x6144 : Shape := ⟨3, ![128, 3, 6144]⟩
abbrev S128x64x64x128 : Shape := ⟨4, ![128, 64, 64, 128]⟩
abbrev S4x6144 : Shape := ⟨2, ![4, 6144]⟩
abbrev S6144 : Shape := ⟨1, ![6144]⟩
abbrev S128x7x6144 : Shape := ⟨3, ![128, 7, 6144]⟩
abbrev S1x1x6144 : Shape := ⟨3, ![1, 1, 6144]⟩
abbrev S_ : Shape := ⟨0, ![]⟩
abbrev S128x4x1024 : Shape := ⟨3, ![128, 4, 1024]⟩
abbrev S128x4x64x64 : Shape := ⟨4, ![128, 4, 64, 64]⟩
abbrev S128x4x8x128 : Shape := ⟨4, ![128, 4, 8, 128]⟩
abbrev S64 : Shape := ⟨1, ![64]⟩
abbrev S1x1x64 : Shape := ⟨3, ![1, 1, 64]⟩
abbrev S128x1x4x8x8x64 : Shape := ⟨6, ![128, 1, 4, 8, 8, 64]⟩
abbrev S128x1x4x8x8 : Shape := ⟨5, ![128, 1, 4, 8, 8]⟩
abbrev S8x8 : Shape := ⟨2, ![8, 8]⟩
abbrev S1x1x1x8x8 : Shape := ⟨5, ![1, 1, 1, 8, 8]⟩
abbrev S128x1x4x8x128 : Shape := ⟨5, ![128, 1, 4, 8, 128]⟩
abbrev S1x128x4x8x8x64 : Shape := ⟨6, ![1, 128, 4, 8, 8, 64]⟩
abbrev S1x128x4x8x8 : Shape := ⟨5, ![1, 128, 4, 8, 8]⟩
abbrev S1x128x4x8x128 : Shape := ⟨5, ![1, 128, 4, 8, 128]⟩
abbrev S128x8x8x64x128 : Shape := ⟨5, ![128, 8, 8, 64, 128]⟩
abbrev S128x4x8x8x64 : Shape := ⟨5, ![128, 4, 8, 8, 64]⟩
abbrev S128x4x8x8 : Shape := ⟨4, ![128, 4, 8, 8]⟩
abbrev S128x1x8x8 : Shape := ⟨4, ![128, 1, 8, 8]⟩
abbrev S128x8x8 : Shape := ⟨3, ![128, 8, 8]⟩
abbrev S128x8x8x1x1 : Shape := ⟨5, ![128, 8, 8, 1, 1]⟩
abbrev S128x4x8x8x1 : Shape := ⟨5, ![128, 4, 8, 8, 1]⟩
abbrev S128x8x512x128 : Shape := ⟨4, ![128, 8, 512, 128]⟩

abbrev nBuf : Space → Nat
  | .hbm => 118
  | .vmem => 0
  | .smem => 0
  | _ => 0

abbrev bufTy : (tb : Table) → Fin (tcTables nBuf tb) → BufTy
  | .hbm, ⟨0, _⟩ => ⟨S128x4x6144, .f32⟩
  | .hbm, ⟨1, _⟩ => ⟨S128x4x4096, .f32⟩
  | .hbm, ⟨2, _⟩ => ⟨S128x4x64, .f32⟩
  | .hbm, ⟨3, _⟩ => ⟨S1x128x64x64x128, .f32⟩
  | .hbm, ⟨4, _⟩ => ⟨S1x128x3x6144, .f32⟩
  | .hbm, ⟨5, _⟩ => ⟨S1x4x6144, .f32⟩
  | .hbm, ⟨6, _⟩ => ⟨S1x6144, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x4096, .f32⟩
  | .hbm, ⟨11, _⟩ => ⟨S128x3x6144, .f32⟩
  | .hbm, ⟨12, _⟩ => ⟨S128x64x64x128, .f32⟩
  | .hbm, ⟨13, _⟩ => ⟨S4x6144, .f32⟩
  | .hbm, ⟨14, _⟩ => ⟨S6144, .f32⟩
  | .hbm, ⟨15, _⟩ => ⟨S128x7x6144, .f32⟩
  | .hbm, ⟨16, _⟩ => ⟨S128x4x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S128x4x6144, .f32⟩
  | .hbm, ⟨21, _⟩ => ⟨S128x4x6144, .f32⟩
  | .hbm, ⟨22, _⟩ => ⟨S1x1x6144, .f32⟩
  | .hbm, ⟨23, _⟩ => ⟨S128x4x6144, .f32⟩
  | .hbm, ⟨24, _⟩ => ⟨S128x4x6144, .f32⟩
  | .hbm, ⟨25, _⟩ => ⟨S128x4x6144, .f32⟩
  | .hbm, ⟨26, _⟩ => ⟨S1x6144, .f32⟩
  | .hbm, ⟨27, _⟩ => ⟨S6144, .f32⟩
  | .hbm, ⟨28, _⟩ => ⟨S1x1x6144, .f32⟩
  | .hbm, ⟨29, _⟩ => ⟨S128x4x6144, .f32⟩
  | .hbm, ⟨30, _⟩ => ⟨S128x4x6144, .f32⟩
  | .hbm, ⟨31, _⟩ => ⟨S128x4x6144, .f32⟩
  | .hbm, ⟨32, _⟩ => ⟨S128x4x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S128x4x6144, .f32⟩
  | .hbm, ⟨37, _⟩ => ⟨S128x4x6144, .f32⟩
  | .hbm, ⟨38, _⟩ => ⟨S128x4x6144, .f32⟩
  | .hbm, ⟨39, _⟩ => ⟨S128x4x6144, .f32⟩
  | .hbm, ⟨40, _⟩ => ⟨S1x6144, .f32⟩
  | .hbm, ⟨41, _⟩ => ⟨S6144, .f32⟩
  | .hbm, ⟨42, _⟩ => ⟨S1x1x6144, .f32⟩
  | .hbm, ⟨43, _⟩ => ⟨S128x4x6144, .f32⟩
  | .hbm, ⟨44, _⟩ => ⟨S128x4x6144, .f32⟩
  | .hbm, ⟨45, _⟩ => ⟨S128x4x6144, .f32⟩
  | .hbm, ⟨46, _⟩ => ⟨S128x4x6144, .f32⟩
  | .hbm, ⟨47, _⟩ => ⟨S128x4x6144, .f32⟩
  | .hbm, ⟨48, _⟩ => ⟨S_, .f32⟩
  | .hbm, ⟨49, _⟩ => ⟨S128x4x6144, .f32⟩
  | .hbm, ⟨50, _⟩ => ⟨S128x4x6144, .f32⟩
  | .hbm, ⟨51, _⟩ => ⟨S_, .f32⟩
  | .hbm, ⟨52, _⟩ => ⟨S128x4x6144, .f32⟩
  | .hbm, ⟨53, _⟩ => ⟨S128x4x6144, .f32⟩
  | .hbm, ⟨54, _⟩ => ⟨S128x4x6144, .f32⟩
  | .hbm, ⟨55, _⟩ => ⟨S128x4x4096, .f32⟩
  | .hbm, ⟨56, _⟩ => ⟨S128x4x1024, .f32⟩
  | .hbm, ⟨57, _⟩ => ⟨S128x4x1024, .f32⟩
  | .hbm, ⟨58, _⟩ => ⟨S128x4x64x64, .f32⟩
  | .hbm, ⟨59, _⟩ => ⟨S128x4x8x128, .f32⟩
  | .hbm, ⟨60, _⟩ => ⟨S64, .f32⟩
  | .hbm, ⟨61, _⟩ => ⟨S1x1x64, .f32⟩
  | .hbm, ⟨62, _⟩ => ⟨S128x4x64, .f32⟩
  | .hbm, ⟨63, _⟩ => ⟨S128x4x64, .f32⟩
  | .hbm, ⟨64, _⟩ => ⟨S_, .f32⟩
  | .hbm, ⟨65, _⟩ => ⟨S128x4x64, .f32⟩
  | .hbm, ⟨66, _⟩ => ⟨S128x4x64, .f32⟩
  | .hbm, ⟨67, _⟩ => ⟨S128x4x64, .f32⟩
  | .hbm, ⟨68, _⟩ => ⟨S128x4x64, .f32⟩
  | .hbm, ⟨69, _⟩ => ⟨S128x4x64, .i1⟩
  | .hbm, ⟨70, _⟩ => ⟨S128x4x64, .f32⟩
  | .hbm, ⟨71, _⟩ => ⟨S128x4x64, .f32⟩
  | .hbm, ⟨72, _⟩ => ⟨S128x4x64, .f32⟩
  | .hbm, ⟨73, _⟩ => ⟨S128x4x64, .f32⟩
  | .hbm, ⟨74, _⟩ => ⟨S128x4x64, .f32⟩
  | .hbm, ⟨75, _⟩ => ⟨S128x4x64, .f32⟩
  | .hbm, ⟨76, _⟩ => ⟨S128x4x64, .f32⟩
  | .hbm, ⟨77, _⟩ => ⟨S128x4x64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S128x1x4x8x8x64, .f32⟩
  | .hbm, ⟨82, _⟩ => ⟨S128x1x4x8x8, .f32⟩
  | .hbm, ⟨83, _⟩ => ⟨S8x8, .f32⟩
  | .hbm, ⟨84, _⟩ => ⟨S1x1x1x8x8, .f32⟩
  | .hbm, ⟨85, _⟩ => ⟨S128x1x4x8x8, .f32⟩
  | .hbm, ⟨86, _⟩ => ⟨S128x1x4x8x8, .f32⟩
  | .hbm, ⟨87, _⟩ => ⟨S128x1x4x8x128, .f32⟩
  | .hbm, ⟨88, _⟩ => ⟨S1x128x4x8x8x64, .f32⟩
  | .hbm, ⟨89, _⟩ => ⟨S1x128x4x8x8, .f32⟩
  | .hbm, ⟨90, _⟩ => ⟨S1x128x4x8x8, .f32⟩
  | .hbm, ⟨91, _⟩ => ⟨S1x128x4x8x128, .f32⟩
  | .hbm, ⟨92, _⟩ => ⟨S128x8x8x64x128, .f32⟩
  | .hbm, ⟨93, _⟩ => ⟨S128x4x8x8x64, .f32⟩
  | .hbm, ⟨94, _⟩ => ⟨S128x4x8x8, .f32⟩
  | .hbm, ⟨95, _⟩ => ⟨S128x4x8x8, .f32⟩
  | .hbm, ⟨96, _⟩ => ⟨S128x4x8x128, .f32⟩
  | .hbm, ⟨97, _⟩ => ⟨S_, .f32⟩
  | .hbm, ⟨98, _⟩ => ⟨S_, .f32⟩
  | .hbm, ⟨99, _⟩ => ⟨S128x4x8x8, .f32⟩
  | .hbm, ⟨100, _⟩ => ⟨S128x1x8x8, .f32⟩
  | .hbm, ⟨101, _⟩ => ⟨S128x4x8x8, .f32⟩
  | .hbm, ⟨102, _⟩ => ⟨S128x4x8x8, .f32⟩
  | .hbm, ⟨103, _⟩ => ⟨S128x4x8x8, .f32⟩
  | .hbm, ⟨104, _⟩ => ⟨S128x4x8x8, .f32⟩
  | .hbm, ⟨105, _⟩ => ⟨S128x1x8x8, .f32⟩
  | .hbm, ⟨106, _⟩ => ⟨S128x8x8, .f32⟩
  | .hbm, ⟨107, _⟩ => ⟨S128x8x8, .f32⟩
  | .hbm, ⟨108, _⟩ => ⟨S128x8x8x1x1, .f32⟩
  | .hbm, ⟨109, _⟩ => ⟨S128x8x8x64x128, .f32⟩
  | .hbm, ⟨110, _⟩ => ⟨S128x8x8x64x128, .f32⟩
  | .hbm, ⟨111, _⟩ => ⟨S128x4x8x8x1, .f32⟩
  | .hbm, ⟨112, _⟩ => ⟨S128x4x8x8x64, .f32⟩
  | .hbm, ⟨113, _⟩ => ⟨S128x4x8x8x64, .f32⟩
  | .hbm, ⟨114, _⟩ => ⟨S128x8x8x64x128, .f32⟩
  | .hbm, ⟨115, _⟩ => ⟨S128x8x8x64x128, .f32⟩
  | .hbm, ⟨116, _⟩ => ⟨S128x64x64x128, .f32⟩
  | .hbm, ⟨117, _⟩ => ⟨S128x8x512x128, .f32⟩
  | _, _ => ⟨S128x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_call0_cst : Ref sig .tc := ⟨.hbm, 97, rfl⟩
abbrev main_call2_call0_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== UpKernel.lean ====
abbrev S4x2048x2048 : Shape := ⟨3, ![4, 2048, 2048]⟩
abbrev S128x4x2048 : Shape := ⟨3, ![128, 4, 2048]⟩
abbrev S1x2048x11264 : Shape := ⟨3, ![1, 2048, 11264]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S2048x11264 : Shape := ⟨2, ![2048, 11264]⟩
abbrev S8704x5632 : Shape := ⟨2, ![8704, 5632]⟩
abbrev S2048x512 : Shape := ⟨2, ![2048, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x11264, .f32⟩
  | .hbm, ⟨3, _⟩ => ⟨S8192x2048, .f32⟩
  | .hbm, ⟨4, _⟩ => ⟨S4x128x2048, .f32⟩
  | .hbm, ⟨5, _⟩ => ⟨S512x2048, .f32⟩
  | .hbm, ⟨6, _⟩ => ⟨S8704x2048, .f32⟩
  | .hbm, ⟨7, _⟩ => ⟨S8704x2048, .bf16⟩
  | .hbm, ⟨8, _⟩ => ⟨S2048x11264, .f32⟩
  | .hbm, ⟨9, _⟩ => ⟨S8704x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S4x2048x2048 : Shape := ⟨3, ![4, 2048, 2048]⟩
abbrev S128x4x2048 : Shape := ⟨3, ![128, 4, 2048]⟩
abbrev S1x2048x11264 : Shape := ⟨3, ![1, 2048, 11264]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S_ : Shape := ⟨0, ![]⟩
abbrev S8192x5632 : Shape := ⟨2, ![8192, 5632]⟩
abbrev S128x4x11264 : Shape := ⟨3, ![128, 4, 11264]⟩
abbrev S128x4x5632 : Shape := ⟨3, ![128, 4, 5632]⟩
abbrev S4x128x5632 : Shape := ⟨3, ![4, 128, 5632]⟩
abbrev S512x5632 : Shape := ⟨2, ![512, 5632]⟩
abbrev S8704x5632 : Shape := ⟨2, ![8704, 5632]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x11264, .f32⟩
  | .hbm, ⟨3, _⟩ => ⟨S2048x11264, .f32⟩
  | .hbm, ⟨4, _⟩ => ⟨S4x2048x11264, .f32⟩
  | .hbm, ⟨5, _⟩ => ⟨S4x2048x5632, .f32⟩
  | .hbm, ⟨6, _⟩ => ⟨S4x2048x5632, .f32⟩
  | .hbm, ⟨7, _⟩ => ⟨S4x2048x5632, .f32⟩
  | .hbm, ⟨8, _⟩ => ⟨S4x2048x5632, .f32⟩
  | .hbm, ⟨9, _⟩ => ⟨S_, .f32⟩
  | .hbm, ⟨10, _⟩ => ⟨S4x2048x5632, .f32⟩
  | .hbm, ⟨11, _⟩ => ⟨S4x2048x5632, .f32⟩
  | .hbm, ⟨12, _⟩ => ⟨S_, .f32⟩
  | .hbm, ⟨13, _⟩ => ⟨S4x2048x5632, .f32⟩
  | .hbm, ⟨14, _⟩ => ⟨S4x2048x5632, .f32⟩
  | .hbm, ⟨15, _⟩ => ⟨S4x2048x5632, .f32⟩
  | .hbm, ⟨16, _⟩ => ⟨S4x2048x5632, .f32⟩
  | .hbm, ⟨17, _⟩ => ⟨S8192x5632, .f32⟩
  | .hbm, ⟨18, _⟩ => ⟨S2048x11264, .f32⟩
  | .hbm, ⟨19, _⟩ => ⟨S128x4x11264, .f32⟩
  | .hbm, ⟨20, _⟩ => ⟨S128x4x5632, .f32⟩
  | .hbm, ⟨21, _⟩ => ⟨S128x4x5632, .f32⟩
  | .hbm, ⟨22, _⟩ => ⟨S128x4x5632, .f32⟩
  | .hbm, ⟨23, _⟩ => ⟨S128x4x5632, .f32⟩
  | .hbm, ⟨24, _⟩ => ⟨S_, .f32⟩
  | .hbm, ⟨25, _⟩ => ⟨S128x4x5632, .f32⟩
  | .hbm, ⟨26, _⟩ => ⟨S128x4x5632, .f32⟩
  | .hbm, ⟨27, _⟩ => ⟨S_, .f32⟩
  | .hbm, ⟨28, _⟩ => ⟨S128x4x5632, .f32⟩
  | .hbm, ⟨29, _⟩ => ⟨S128x4x5632, .f32⟩
  | .hbm, ⟨30, _⟩ => ⟨S128x4x5632, .f32⟩
  | .hbm, ⟨31, _⟩ => ⟨S128x4x5632, .f32⟩
  | .hbm, ⟨32, _⟩ => ⟨S4x128x5632, .f32⟩
  | .hbm, ⟨33, _⟩ => ⟨S512x5632, .f32⟩
  | .hbm, ⟨34, _⟩ => ⟨S8704x5632, .f32⟩
  | .hbm, ⟨35, _⟩ => ⟨S8704x5632, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== XbcKernel.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S1x128x3x6144 : Shape := ⟨4, ![1, 128, 3, 6144]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S2048x16448 : Shape := ⟨2, ![2048, 16448]⟩
abbrev S8704x6144 : Shape := ⟨2, ![8704, 6144]⟩
abbrev S2048x1024 : Shape := ⟨2, ![2048, 1024]⟩
abbrev S512x1024 : Shape := ⟨2, ![512, 1024]⟩
abbrev S128x3x6144 : Shape := ⟨3, ![128, 3, 6144]⟩
abbrev S512x6144 : Shape := ⟨2, ![512, 6144]⟩
abbrev S4x128x6144 : Shape := ⟨3, ![4, 128, 6144]⟩
abbrev S4 : Shape := ⟨1, ![4]⟩
abbrev S_ : Shape := ⟨0, ![]⟩
abbrev S4x1 : Shape := ⟨2, ![4, 1]⟩
abbrev S3 : Shape := ⟨1, ![3]⟩
abbrev S1x3 : Shape := ⟨2, ![1, 3]⟩
abbrev S4x3 : Shape := ⟨2, ![4, 3]⟩
abbrev S12 : Shape := ⟨1, ![12]⟩
abbrev S12x1 : Shape := ⟨2, ![12, 1]⟩
abbrev S1 : Shape := ⟨1, ![1]⟩
abbrev S1x1 : Shape := ⟨2, ![1, 1]⟩
abbrev S12x6144 : Shape := ⟨2, ![12, 6144]⟩
abbrev S1x4x3x6144 : Shape := ⟨4, ![1, 4, 3, 6144]⟩
abbrev S128x4x6144 : Shape := ⟨3, ![128, 4, 6144]⟩
abbrev S128x7x6144 : Shape := ⟨3, ![128, 7, 6144]⟩

abbrev nBuf : Space → Nat
  | .hbm => 59
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S1x128x3x6144, .f32⟩
  | .hbm, ⟨4, _⟩ => ⟨S8192x2048, .f32⟩
  | .hbm, ⟨5, _⟩ => ⟨S4x128x2048, .f32⟩
  | .hbm, ⟨6, _⟩ => ⟨S512x2048, .f32⟩
  | .hbm, ⟨7, _⟩ => ⟨S8704x2048, .f32⟩
  | .hbm, ⟨8, _⟩ => ⟨S8704x2048, .bf16⟩
  | .hbm, ⟨9, _⟩ => ⟨S2048x16448, .f32⟩
  | .hbm, ⟨10, _⟩ => ⟨S8704x6144, .f32⟩
  | .hbm, ⟨11, _⟩ => ⟨S128x3x6144, .f32⟩
  | .hbm, ⟨12, _⟩ => ⟨S512x6144, .f32⟩
  | .hbm, ⟨13, _⟩ => ⟨S4x128x6144, .f32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S_, .i32⟩
  | .hbm, ⟨23, _⟩ => ⟨S4x1, .i32⟩
  | .hbm, ⟨24, _⟩ => ⟨S4x1, .i32⟩
  | .hbm, ⟨25, _⟩ => ⟨S3, .i32⟩
  | .hbm, ⟨26, _⟩ => ⟨S1x3, .i32⟩
  | .hbm, ⟨27, _⟩ => ⟨S4x3, .i32⟩
  | .hbm, ⟨28, _⟩ => ⟨S4x3, .i32⟩
  | .hbm, ⟨29, _⟩ => ⟨S4x3, .i32⟩
  | .hbm, ⟨30, _⟩ => ⟨S12, .i32⟩
  | .hbm, ⟨31, _⟩ => ⟨S_, .i32⟩
  | .hbm, ⟨32, _⟩ => ⟨S12, .i32⟩
  | .hbm, ⟨33, _⟩ => ⟨S12, .i1⟩
  | .hbm, ⟨34, _⟩ => ⟨S_, .i32⟩
  | .hbm, ⟨35, _⟩ => ⟨S12, .i32⟩
  | .hbm, ⟨36, _⟩ => ⟨S12, .i32⟩
  | .hbm, ⟨37, _⟩ => ⟨S12, .i32⟩
  | .hbm, ⟨38, _⟩ => ⟨S12x1, .i32⟩
  | .hbm, ⟨39, _⟩ => ⟨S1, .i32⟩
  | .hbm, ⟨40, _⟩ => ⟨S_, .i32⟩
  | .hbm, ⟨41, _⟩ => ⟨S12x1, .i32⟩
  | .hbm, ⟨42, _⟩ => ⟨S12x1, .i1⟩
  | .hbm, ⟨43, _⟩ => ⟨S1x1, .i32⟩
  | .hbm, ⟨44, _⟩ => ⟨S12x1, .i32⟩
  | .hbm, ⟨45, _⟩ => ⟨S12x1, .i1⟩
  | .hbm, ⟨46, _⟩ => ⟨S12x1, .i1⟩
  | .hbm, ⟨47, _⟩ => ⟨S_, .i1⟩
  | .hbm, ⟨48, _⟩ => ⟨S12, .i1⟩
  | .hbm, ⟨49, _⟩ => ⟨S12x6144, .f32⟩
  | .hbm, ⟨50, _⟩ => ⟨S12x6144, .i1⟩
  | .hbm, ⟨51, _⟩ => ⟨S_, .f32⟩
  | .hbm, ⟨52, _⟩ => ⟨S12x6144, .f32⟩
  | .hbm, ⟨53, _⟩ => ⟨S12x6144, .f32⟩
  | .hbm, ⟨54, _⟩ => ⟨S1x4x3x6144, .f32⟩
  | .hbm, ⟨55, _⟩ => ⟨S128x4x6144, .f32⟩
  | .hbm, ⟨56, _⟩ => ⟨S128x7x6144, .f32⟩
  | .hbm, ⟨57, _⟩ => ⟨S128x3x6144, .f32⟩
  | .hbm, ⟨58, _⟩ => ⟨S1x128x3x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcReferenceIdeal.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S1x128x3x6144 : Shape := ⟨4, ![1, 128, 3, 6144]⟩
abbrev S_ : Shape := ⟨0, ![]⟩
abbrev S4x3x6144 : Shape := ⟨3, ![4, 3, 6144]⟩
abbrev S2048x16448 : Shape := ⟨2, ![2048, 16448]⟩
abbrev S4x2048x16448 : Shape := ⟨3, ![4, 2048, 16448]⟩
abbrev S4x2048x4096 : Shape := ⟨3, ![4, 2048, 4096]⟩
abbrev S4x2048x6144 : Shape := ⟨3, ![4, 2048, 6144]⟩
abbrev S4x2048x64 : Shape := ⟨3, ![4, 2048, 64]⟩
abbrev S128x4x16448 : Shape := ⟨3, ![128, 4, 16448]⟩
abbrev S128x4x4096 : Shape := ⟨3, ![128, 4, 4096]⟩
abbrev S128x4x6144 : Shape := ⟨3, ![128, 4, 6144]⟩
abbrev S128x4x64 : Shape := ⟨3, ![128, 4, 64]⟩
abbrev S4x2051x6144 : Shape := ⟨3, ![4, 2051, 6144]⟩
abbrev S1x4x3x6144 : Shape := ⟨4, ![1, 4, 3, 6144]⟩
abbrev S128x3x6144 : Shape := ⟨3, ![128, 3, 6144]⟩
abbrev S128x7x6144 : Shape := ⟨3, ![128, 7, 6144]⟩
abbrev S8192x6144 : Shape := ⟨2, ![8192, 6144]⟩
abbrev S4x128x6144 : Shape := ⟨3, ![4, 128, 6144]⟩
abbrev S512x6144 : Shape := ⟨2, ![512, 6144]⟩
abbrev S8704x6144 : Shape := ⟨2, ![8704, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S1x128x3x6144, .f32⟩
  | .hbm, ⟨4, _⟩ => ⟨S_, .f32⟩
  | .hbm, ⟨5, _⟩ => ⟨S4x3x6144, .f32⟩
  | .hbm, ⟨6, _⟩ => ⟨S2048x16448, .f32⟩
  | .hbm, ⟨7, _⟩ => ⟨S4x2048x16448, .f32⟩
  | .hbm, ⟨8, _⟩ => ⟨S4x2048x2048, .f32⟩
  | .hbm, ⟨9, _⟩ => ⟨S4x2048x4096, .f32⟩
  | .hbm, ⟨10, _⟩ => ⟨S4x2048x6144, .f32⟩
  | .hbm, ⟨11, _⟩ => ⟨S4x2048x64, .f32⟩
  | .hbm, ⟨12, _⟩ => ⟨S4x2048x2048, .f32⟩
  | .hbm, ⟨13, _⟩ => ⟨S4x2048x2048, .f32⟩
  | .hbm, ⟨14, _⟩ => ⟨S2048x16448, .f32⟩
  | .hbm, ⟨15, _⟩ => ⟨S128x4x16448, .f32⟩
  | .hbm, ⟨16, _⟩ => ⟨S128x4x2048, .f32⟩
  | .hbm, ⟨17, _⟩ => ⟨S128x4x4096, .f32⟩
  | .hbm, ⟨18, _⟩ => ⟨S128x4x6144, .f32⟩
  | .hbm, ⟨19, _⟩ => ⟨S128x4x64, .f32⟩
  | .hbm, ⟨20, _⟩ => ⟨S128x4x2048, .f32⟩
  | .hbm, ⟨21, _⟩ => ⟨S128x4x2048, .f32⟩
  | .hbm, ⟨22, _⟩ => ⟨S4x2051x6144, .f32⟩
  | .hbm, ⟨23, _⟩ => ⟨S4x3x6144, .f32⟩
  | .hbm, ⟨24, _⟩ => ⟨S1x4x3x6144, .f32⟩
  | .hbm, ⟨25, _⟩ => ⟨S128x3x6144, .f32⟩
  | .hbm, ⟨26, _⟩ => ⟨S128x7x6144, .f32⟩
  | .hbm, ⟨27, _⟩ => ⟨S128x3x6144, .f32⟩
  | .hbm, ⟨28, _⟩ => ⟨S1x128x3x6144, .f32⟩
  | .hbm, ⟨29, _⟩ => ⟨S8192x6144, .f32⟩
  | .hbm, ⟨30, _⟩ => ⟨S4x128x6144, .f32⟩
  | .hbm, ⟨31, _⟩ => ⟨S512x6144, .f32⟩
  | .hbm, ⟨32, _⟩ => ⟨S8704x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== PoolKernel.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S1x128x15x2048 : Shape := ⟨4, ![1, 128, 15, 2048]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S2048x16448 : Shape := ⟨2, ![2048, 16448]⟩
abbrev S2048x1024 : Shape := ⟨2, ![2048, 1024]⟩
abbrev S512x1024 : Shape := ⟨2, ![512, 1024]⟩
abbrev S128x15x2048 : Shape := ⟨3, ![128, 15, 2048]⟩
abbrev S4 : Shape := ⟨1, ![4]⟩
abbrev S_ : Shape := ⟨0, ![]⟩
abbrev S4x1 : Shape := ⟨2, ![4, 1]⟩
abbrev S15 : Shape := ⟨1, ![15]⟩
abbrev S1x15 : Shape := ⟨2, ![1, 15]⟩
abbrev S4x15 : Shape := ⟨2, ![4, 15]⟩
abbrev S60 : Shape := ⟨1, ![60]⟩
abbrev S60x1 : Shape := ⟨2, ![60, 1]⟩
abbrev S1 : Shape := ⟨1, ![1]⟩
abbrev S1x1 : Shape := ⟨2, ![1, 1]⟩
abbrev S60x2048 : Shape := ⟨2, ![60, 2048]⟩
abbrev S1x4x15x2048 : Shape := ⟨4, ![1, 4, 15, 2048]⟩
abbrev S128x19x2048 : Shape := ⟨3, ![128, 19, 2048]⟩

abbrev nBuf : Space → Nat
  | .hbm => 59
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S1x128x15x2048, .f32⟩
  | .hbm, ⟨4, _⟩ => ⟨S8192x2048, .f32⟩
  | .hbm, ⟨5, _⟩ => ⟨S4x128x2048, .f32⟩
  | .hbm, ⟨6, _⟩ => ⟨S512x2048, .f32⟩
  | .hbm, ⟨7, _⟩ => ⟨S8704x2048, .f32⟩
  | .hbm, ⟨8, _⟩ => ⟨S8704x2048, .bf16⟩
  | .hbm, ⟨9, _⟩ => ⟨S2048x16448, .f32⟩
  | .hbm, ⟨10, _⟩ => ⟨S8704x2048, .f32⟩
  | .hbm, ⟨11, _⟩ => ⟨S512x2048, .f32⟩
  | .hbm, ⟨12, _⟩ => ⟨S4x128x2048, .f32⟩
  | .hbm, ⟨13, _⟩ => ⟨S128x15x2048, .f32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S_, .i32⟩
  | .hbm, ⟨23, _⟩ => ⟨S4x1, .i32⟩
  | .hbm, ⟨24, _⟩ => ⟨S4x1, .i32⟩
  | .hbm, ⟨25, _⟩ => ⟨S15, .i32⟩
  | .hbm, ⟨26, _⟩ => ⟨S1x15, .i32⟩
  | .hbm, ⟨27, _⟩ => ⟨S4x15, .i32⟩
  | .hbm, ⟨28, _⟩ => ⟨S4x15, .i32⟩
  | .hbm, ⟨29, _⟩ => ⟨S4x15, .i32⟩
  | .hbm, ⟨30, _⟩ => ⟨S60, .i32⟩
  | .hbm, ⟨31, _⟩ => ⟨S_, .i32⟩
  | .hbm, ⟨32, _⟩ => ⟨S60, .i32⟩
  | .hbm, ⟨33, _⟩ => ⟨S60, .i1⟩
  | .hbm, ⟨34, _⟩ => ⟨S_, .i32⟩
  | .hbm, ⟨35, _⟩ => ⟨S60, .i32⟩
  | .hbm, ⟨36, _⟩ => ⟨S60, .i32⟩
  | .hbm, ⟨37, _⟩ => ⟨S60, .i32⟩
  | .hbm, ⟨38, _⟩ => ⟨S60x1, .i32⟩
  | .hbm, ⟨39, _⟩ => ⟨S1, .i32⟩
  | .hbm, ⟨40, _⟩ => ⟨S_, .i32⟩
  | .hbm, ⟨41, _⟩ => ⟨S60x1, .i32⟩
  | .hbm, ⟨42, _⟩ => ⟨S60x1, .i1⟩
  | .hbm, ⟨43, _⟩ => ⟨S1x1, .i32⟩
  | .hbm, ⟨44, _⟩ => ⟨S60x1, .i32⟩
  | .hbm, ⟨45, _⟩ => ⟨S60x1, .i1⟩
  | .hbm, ⟨46, _⟩ => ⟨S60x1, .i1⟩
  | .hbm, ⟨47, _⟩ => ⟨S_, .i1⟩
  | .hbm, ⟨48, _⟩ => ⟨S60, .i1⟩
  | .hbm, ⟨49, _⟩ => ⟨S60x2048, .f32⟩
  | .hbm, ⟨50, _⟩ => ⟨S60x2048, .i1⟩
  | .hbm, ⟨51, _⟩ => ⟨S_, .f32⟩
  | .hbm, ⟨52, _⟩ => ⟨S60x2048, .f32⟩
  | .hbm, ⟨53, _⟩ => ⟨S60x2048, .f32⟩
  | .hbm, ⟨54, _⟩ => ⟨S1x4x15x2048, .f32⟩
  | .hbm, ⟨55, _⟩ => ⟨S128x4x2048, .f32⟩
  | .hbm, ⟨56, _⟩ => ⟨S128x19x2048, .f32⟩
  | .hbm, ⟨57, _⟩ => ⟨S128x15x2048, .f32⟩
  | .hbm, ⟨58, _⟩ => ⟨S1x128x15x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolReferenceIdeal.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S1x128x15x2048 : Shape := ⟨4, ![1, 128, 15, 2048]⟩
abbrev S_ : Shape := ⟨0, ![]⟩
abbrev S4x15x2048 : Shape := ⟨3, ![4, 15, 2048]⟩
abbrev S2048x16448 : Shape := ⟨2, ![2048, 16448]⟩
abbrev S4x2048x16448 : Shape := ⟨3, ![4, 2048, 16448]⟩
abbrev S4x2048x4096 : Shape := ⟨3, ![4, 2048, 4096]⟩
abbrev S4x2048x6144 : Shape := ⟨3, ![4, 2048, 6144]⟩
abbrev S4x2048x64 : Shape := ⟨3, ![4, 2048, 64]⟩
abbrev S128x4x16448 : Shape := ⟨3, ![128, 4, 16448]⟩
abbrev S128x4x4096 : Shape := ⟨3, ![128, 4, 4096]⟩
abbrev S128x4x6144 : Shape := ⟨3, ![128, 4, 6144]⟩
abbrev S128x4x64 : Shape := ⟨3, ![128, 4, 64]⟩
abbrev S4x2063x2048 : Shape := ⟨3, ![4, 2063, 2048]⟩
abbrev S1x4x15x2048 : Shape := ⟨4, ![1, 4, 15, 2048]⟩
abbrev S128x15x2048 : Shape := ⟨3, ![128, 15, 2048]⟩
abbrev S128x19x2048 : Shape := ⟨3, ![128, 19, 2048]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S1x128x15x2048, .f32⟩
  | .hbm, ⟨4, _⟩ => ⟨S_, .f32⟩
  | .hbm, ⟨5, _⟩ => ⟨S4x15x2048, .f32⟩
  | .hbm, ⟨6, _⟩ => ⟨S2048x16448, .f32⟩
  | .hbm, ⟨7, _⟩ => ⟨S4x2048x16448, .f32⟩
  | .hbm, ⟨8, _⟩ => ⟨S4x2048x2048, .f32⟩
  | .hbm, ⟨9, _⟩ => ⟨S4x2048x4096, .f32⟩
  | .hbm, ⟨10, _⟩ => ⟨S4x2048x6144, .f32⟩
  | .hbm, ⟨11, _⟩ => ⟨S4x2048x64, .f32⟩
  | .hbm, ⟨12, _⟩ => ⟨S4x2048x2048, .f32⟩
  | .hbm, ⟨13, _⟩ => ⟨S4x2048x2048, .f32⟩
  | .hbm, ⟨14, _⟩ => ⟨S2048x16448, .f32⟩
  | .hbm, ⟨15, _⟩ => ⟨S128x4x16448, .f32⟩
  | .hbm, ⟨16, _⟩ => ⟨S128x4x2048, .f32⟩
  | .hbm, ⟨17, _⟩ => ⟨S128x4x4096, .f32⟩
  | .hbm, ⟨18, _⟩ => ⟨S128x4x6144, .f32⟩
  | .hbm, ⟨19, _⟩ => ⟨S128x4x64, .f32⟩
  | .hbm, ⟨20, _⟩ => ⟨S128x4x2048, .f32⟩
  | .hbm, ⟨21, _⟩ => ⟨S128x4x2048, .f32⟩
  | .hbm, ⟨22, _⟩ => ⟨S4x2063x2048, .f32⟩
  | .hbm, ⟨23, _⟩ => ⟨S4x15x2048, .f32⟩
  | .hbm, ⟨24, _⟩ => ⟨S1x4x15x2048, .f32⟩
  | .hbm, ⟨25, _⟩ => ⟨S128x15x2048, .f32⟩
  | .hbm, ⟨26, _⟩ => ⟨S128x19x2048, .f32⟩
  | .hbm, ⟨27, _⟩ => ⟨S128x15x2048, .f32⟩
  | .hbm, ⟨28, _⟩ => ⟨S1x128x15x2048, .f32⟩
  | .hbm, ⟨29, _⟩ => ⟨S8192x2048, .f32⟩
  | .hbm, ⟨30, _⟩ => ⟨S4x128x2048, .f32⟩
  | .hbm, ⟨31, _⟩ => ⟨S512x2048, .f32⟩
  | .hbm, ⟨32, _⟩ => ⟨S8704x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== GateZKernel.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S2048x16448 : Shape := ⟨2, ![2048, 16448]⟩
abbrev S8704x4096 : Shape := ⟨2, ![8704, 4096]⟩
abbrev S2048x1024 : Shape := ⟨2, ![2048, 1024]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S8192x2048, .f32⟩
  | .hbm, ⟨4, _⟩ => ⟨S4x128x2048, .f32⟩
  | .hbm, ⟨5, _⟩ => ⟨S512x2048, .f32⟩
  | .hbm, ⟨6, _⟩ => ⟨S8704x2048, .f32⟩
  | .hbm, ⟨7, _⟩ => ⟨S8704x2048, .bf16⟩
  | .hbm, ⟨8, _⟩ => ⟨S2048x16448, .f32⟩
  | .hbm, ⟨9, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateZReferenceIdeal.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S2048x16448 : Shape := ⟨2, ![2048, 16448]⟩
abbrev S4x2048x16448 : Shape := ⟨3, ![4, 2048, 16448]⟩
abbrev S4x2048x4096 : Shape := ⟨3, ![4, 2048, 4096]⟩
abbrev S4x2048x6144 : Shape := ⟨3, ![4, 2048, 6144]⟩
abbrev S4x2048x64 : Shape := ⟨3, ![4, 2048, 64]⟩
abbrev S128x4x16448 : Shape := ⟨3, ![128, 4, 16448]⟩
abbrev S128x4x4096 : Shape := ⟨3, ![128, 4, 4096]⟩
abbrev S128x4x6144 : Shape := ⟨3, ![128, 4, 6144]⟩
abbrev S128x4x64 : Shape := ⟨3, ![128, 4, 64]⟩
abbrev S8192x4096 : Shape := ⟨2, ![8192, 4096]⟩
abbrev S4x128x4096 : Shape := ⟨3, ![4, 128, 4096]⟩
abbrev S512x4096 : Shape := ⟨2, ![512, 4096]⟩
abbrev S8704x4096 : Shape := ⟨2, ![8704, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S2048x16448, .f32⟩
  | .hbm, ⟨4, _⟩ => ⟨S4x2048x16448, .f32⟩
  | .hbm, ⟨5, _⟩ => ⟨S4x2048x2048, .f32⟩
  | .hbm, ⟨6, _⟩ => ⟨S4x2048x4096, .f32⟩
  | .hbm, ⟨7, _⟩ => ⟨S4x2048x6144, .f32⟩
  | .hbm, ⟨8, _⟩ => ⟨S4x2048x64, .f32⟩
  | .hbm, ⟨9, _⟩ => ⟨S4x2048x2048, .f32⟩
  | .hbm, ⟨10, _⟩ => ⟨S4x2048x2048, .f32⟩
  | .hbm, ⟨11, _⟩ => ⟨S2048x16448, .f32⟩
  | .hbm, ⟨12, _⟩ => ⟨S128x4x16448, .f32⟩
  | .hbm, ⟨13, _⟩ => ⟨S128x4x2048, .f32⟩
  | .hbm, ⟨14, _⟩ => ⟨S128x4x4096, .f32⟩
  | .hbm, ⟨15, _⟩ => ⟨S128x4x6144, .f32⟩
  | .hbm, ⟨16, _⟩ => ⟨S128x4x64, .f32⟩
  | .hbm, ⟨17, _⟩ => ⟨S128x4x2048, .f32⟩
  | .hbm, ⟨18, _⟩ => ⟨S128x4x2048, .f32⟩
  | .hbm, ⟨19, _⟩ => ⟨S8192x4096, .f32⟩
  | .hbm, ⟨20, _⟩ => ⟨S4x128x4096, .f32⟩
  | .hbm, ⟨21, _⟩ => ⟨S512x4096, .f32⟩
  | .hbm, ⟨22, _⟩ => ⟨S8704x4096, .f32⟩
  | .hbm, ⟨23, _⟩ => ⟨S8704x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== GatesKernel.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S2048x16448 : Shape := ⟨2, ![2048, 16448]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S2048x4096 : Shape := ⟨2, ![2048, 4096]⟩
abbrev S8704x4096 : Shape := ⟨2, ![8704, 4096]⟩
abbrev S2048x1024 : Shape := ⟨2, ![2048, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S2048x16448, .f32⟩
  | .hbm, ⟨4, _⟩ => ⟨S8192x2048, .f32⟩
  | .hbm, ⟨5, _⟩ => ⟨S4x128x2048, .f32⟩
  | .hbm, ⟨6, _⟩ => ⟨S512x2048, .f32⟩
  | .hbm, ⟨7, _⟩ => ⟨S8704x2048, .f32⟩
  | .hbm, ⟨8, _⟩ => ⟨S8704x2048, .bf16⟩
  | .hbm, ⟨9, _⟩ => ⟨S2048x4096, .f32⟩
  | .hbm, ⟨10, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S4x2048x2048 : Shape := ⟨3, ![4, 2048, 2048]⟩
abbrev S128x4x2048 : Shape := ⟨3, ![128, 4, 2048]⟩
abbrev S1x2048x16448 : Shape := ⟨3, ![1, 2048, 16448]⟩
abbrev S2048x16448 : Shape := ⟨2, ![2048, 16448]⟩
abbrev S4x2048x16448 : Shape := ⟨3, ![4, 2048, 16448]⟩
abbrev S4x2048x4096 : Shape := ⟨3, ![4, 2048, 4096]⟩
abbrev S4x2048x6144 : Shape := ⟨3, ![4, 2048, 6144]⟩
abbrev S4x2048x64 : Shape := ⟨3, ![4, 2048, 64]⟩
abbrev S128x4x16448 : Shape := ⟨3, ![128, 4, 16448]⟩
abbrev S128x4x4096 : Shape := ⟨3, ![128, 4, 4096]⟩
abbrev S128x4x6144 : Shape := ⟨3, ![128, 4, 6144]⟩
abbrev S128x4x64 : Shape := ⟨3, ![128, 4, 64]⟩
abbrev S8192x4096 : Shape := ⟨2, ![8192, 4096]⟩
abbrev S4x128x4096 : Shape := ⟨3, ![4, 128, 4096]⟩
abbrev S512x4096 : Shape := ⟨2, ![512, 4096]⟩
abbrev S8704x4096 : Shape := ⟨2, ![8704, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S1x2048x16448, .f32⟩
  | .hbm, ⟨3, _⟩ => ⟨S2048x16448, .f32⟩
  | .hbm, ⟨4, _⟩ => ⟨S4x2048x16448, .f32⟩
  | .hbm, ⟨5, _⟩ => ⟨S4x2048x2048, .f32⟩
  | .hbm, ⟨6, _⟩ => ⟨S4x2048x4096, .f32⟩
  | .hbm, ⟨7, _⟩ => ⟨S4x2048x6144, .f32⟩
  | .hbm, ⟨8, _⟩ => ⟨S4x2048x64, .f32⟩
  | .hbm, ⟨9, _⟩ => ⟨S4x2048x2048, .f32⟩
  | .hbm, ⟨10, _⟩ => ⟨S4x2048x2048, .f32⟩
  | .hbm, ⟨11, _⟩ => ⟨S4x2048x4096, .f32⟩
  | .hbm, ⟨12, _⟩ => ⟨S2048x16448, .f32⟩
  | .hbm, ⟨13, _⟩ => ⟨S128x4x16448, .f32⟩
  | .hbm, ⟨14, _⟩ => ⟨S128x4x2048, .f32⟩
  | .hbm, ⟨15, _⟩ => ⟨S128x4x4096, .f32⟩
  | .hbm, ⟨16, _⟩ => ⟨S128x4x6144, .f32⟩
  | .hbm, ⟨17, _⟩ => ⟨S128x4x64, .f32⟩
  | .hbm, ⟨18, _⟩ => ⟨S128x4x2048, .f32⟩
  | .hbm, ⟨19, _⟩ => ⟨S128x4x2048, .f32⟩
  | .hbm, ⟨20, _⟩ => ⟨S128x4x4096, .f32⟩
  | .hbm, ⟨21, _⟩ => ⟨S8192x4096, .f32⟩
  | .hbm, ⟨22, _⟩ => ⟨S4x128x4096, .f32⟩
  | .hbm, ⟨23, _⟩ => ⟨S512x4096, .f32⟩
  | .hbm, ⟨24, _⟩ => ⟨S8704x4096, .f32⟩
  | .hbm, ⟨25, _⟩ => ⟨S8704x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== MergeKernel.lean ====
abbrev S4x2048x2048 : Shape := ⟨3, ![4, 2048, 2048]⟩
abbrev S128x4x2048 : Shape := ⟨3, ![128, 4, 2048]⟩
abbrev S4x2048x4096 : Shape := ⟨3, ![4, 2048, 4096]⟩
abbrev S128x4x4096 : Shape := ⟨3, ![128, 4, 4096]⟩
abbrev S1x2048x2048 : Shape := ⟨3, ![1, 2048, 2048]⟩
abbrev S1x4096x2048 : Shape := ⟨3, ![1, 4096, 2048]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S8704x4096 : Shape := ⟨2, ![8704, 4096]⟩
abbrev S8192x4096 : Shape := ⟨2, ![8192, 4096]⟩
abbrev S4x128x4096 : Shape := ⟨3, ![4, 128, 4096]⟩
abbrev S512x4096 : Shape := ⟨2, ![512, 4096]⟩
abbrev S256x2048 : Shape := ⟨2, ![256, 2048]⟩
abbrev S256x4096 : Shape := ⟨2, ![256, 4096]⟩
abbrev S2048x2048 : Shape := ⟨2, ![2048, 2048]⟩
abbrev S4096x2048 : Shape := ⟨2, ![4096, 2048]⟩
abbrev S2x256x2048 : Shape := ⟨3, ![2, 256, 2048]⟩
abbrev S2 : Shape := ⟨1, ![2]⟩
abbrev S1 : Shape := ⟨1, ![1]⟩
abbrev S_ : Shape := ⟨0, ![]⟩
abbrev S1x256x2048 : Shape := ⟨3, ![1, 256, 2048]⟩

abbrev nBuf : Space → Nat
  | .hbm => 31
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048x4096, .f32⟩
  | .hbm, ⟨3, _⟩ => ⟨S128x4x4096, .f32⟩
  | .hbm, ⟨4, _⟩ => ⟨S4x2048x2048, .f32⟩
  | .hbm, ⟨5, _⟩ => ⟨S128x4x2048, .f32⟩
  | .hbm, ⟨6, _⟩ => ⟨S4x2048x2048, .f32⟩
  | .hbm, ⟨7, _⟩ => ⟨S128x4x2048, .f32⟩
  | .hbm, ⟨8, _⟩ => ⟨S1x2048x2048, .f32⟩
  | .hbm, ⟨9, _⟩ => ⟨S1x4096x2048, .f32⟩
  | .hbm, ⟨10, _⟩ => ⟨S8192x2048, .f32⟩
  | .hbm, ⟨11, _⟩ => ⟨S4x128x2048, .f32⟩
  | .hbm, ⟨12, _⟩ => ⟨S512x2048, .f32⟩
  | .hbm, ⟨13, _⟩ => ⟨S8704x2048, .f32⟩
  | .hbm, ⟨14, _⟩ => ⟨S8192x2048, .f32⟩
  | .hbm, ⟨15, _⟩ => ⟨S4x128x2048, .f32⟩
  | .hbm, ⟨16, _⟩ => ⟨S512x2048, .f32⟩
  | .hbm, ⟨17, _⟩ => ⟨S8704x2048, .f32⟩
  | .hbm, ⟨18, _⟩ => ⟨S8704x4096, .f32⟩
  | .hbm, ⟨19, _⟩ => ⟨S8704x4096, .bf16⟩
  | .hbm, ⟨20, _⟩ => ⟨S8192x2048, .f32⟩
  | .hbm, ⟨21, _⟩ => ⟨S8192x2048, .bf16⟩
  | .hbm, ⟨22, _⟩ => ⟨S4x128x2048, .f32⟩
  | .hbm, ⟨23, _⟩ => ⟨S512x2048, .f32⟩
  | .hbm, ⟨24, _⟩ => ⟨S512x2048, .bf16⟩
  | .hbm, ⟨25, _⟩ => ⟨S8192x4096, .f32⟩
  | .hbm, ⟨26, _⟩ => ⟨S8192x4096, .bf16⟩
  | .hbm, ⟨27, _⟩ => ⟨S4x128x4096, .f32⟩
  | .hbm, ⟨28, _⟩ => ⟨S512x4096, .f32⟩
  | .hbm, ⟨29, _⟩ => ⟨S512x4096, .bf16⟩
  | .hbm, ⟨30, _⟩ => ⟨S8704x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S2048x2048, .bf16⟩
  | .local _ .vmem, ⟨15, _⟩ => ⟨S4096x2048, .bf16⟩
  | .local _ .vmem, ⟨16, _⟩ => ⟨S2x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S4x2048x2048 : Shape := ⟨3, ![4, 2048, 2048]⟩
abbrev S128x4x2048 : Shape := ⟨3, ![128, 4, 2048]⟩
abbrev S4x2048x4096 : Shape := ⟨3, ![4, 2048, 4096]⟩
abbrev S128x4x4096 : Shape := ⟨3, ![128, 4, 4096]⟩
abbrev S1x2048x2048 : Shape := ⟨3, ![1, 2048, 2048]⟩
abbrev S1x4096x2048 : Shape := ⟨3, ![1, 4096, 2048]⟩
abbrev S_ : Shape := ⟨0, ![]⟩
abbrev S2048x2048 : Shape := ⟨2, ![2048, 2048]⟩
abbrev S4096x2048 : Shape := ⟨2, ![4096, 2048]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048x4096, .f32⟩
  | .hbm, ⟨3, _⟩ => ⟨S128x4x4096, .f32⟩
  | .hbm, ⟨4, _⟩ => ⟨S4x2048x2048, .f32⟩
  | .hbm, ⟨5, _⟩ => ⟨S128x4x2048, .f32⟩
  | .hbm, ⟨6, _⟩ => ⟨S4x2048x2048, .f32⟩
  | .hbm, ⟨7, _⟩ => ⟨S128x4x2048, .f32⟩
  | .hbm, ⟨8, _⟩ => ⟨S1x2048x2048, .f32⟩
  | .hbm, ⟨9, _⟩ => ⟨S1x4096x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4096x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S128x4x2048, .f32⟩
  | .hbm, ⟨34, _⟩ => ⟨S128x4x2048, .f32⟩
  | .hbm, ⟨35, _⟩ => ⟨S_, .f32⟩
  | .hbm, ⟨36, _⟩ => ⟨S128x4x2048, .f32⟩
  | .hbm, ⟨37, _⟩ => ⟨S128x4x2048, .f32⟩
  | .hbm, ⟨38, _⟩ => ⟨S_, .f32⟩
  | .hbm, ⟨39, _⟩ => ⟨S128x4x2048, .f32⟩
  | .hbm, ⟨40, _⟩ => ⟨S128x4x2048, .f32⟩
  | .hbm, ⟨41, _⟩ => ⟨S2048x2048, .f32⟩
  | .hbm, ⟨42, _⟩ => ⟨S128x4x2048, .f32⟩
  | .hbm, ⟨43, _⟩ => ⟨S128x4x2048, .f32⟩
  | .hbm, ⟨44, _⟩ => ⟨S128x4x2048, .f32⟩
  | .hbm, ⟨45, _⟩ => ⟨S128x4x2048, .f32⟩
  | .hbm, ⟨46, _⟩ => ⟨S_, .f32⟩
  | .hbm, ⟨47, _⟩ => ⟨S128x4x2048, .f32⟩
  | .hbm, ⟨48, _⟩ => ⟨S128x4x2048, .f32⟩
  | .hbm, ⟨49, _⟩ => ⟨S_, .f32⟩
  | .hbm, ⟨50, _⟩ => ⟨S128x4x2048, .f32⟩
  | .hbm, ⟨51, _⟩ => ⟨S128x4x2048, .f32⟩
  | .hbm, ⟨52, _⟩ => ⟨S4096x2048, .f32⟩
  | .hbm, ⟨53, _⟩ => ⟨S128x4x2048, .f32⟩
  | .hbm, ⟨54, _⟩ => ⟨S128x4x2048, .f32⟩
  | .hbm, ⟨55, _⟩ => ⟨S128x4x2048, .f32⟩
  | .hbm, ⟨56, _⟩ => ⟨S8192x2048, .f32⟩
  | .hbm, ⟨57, _⟩ => ⟨S4x128x2048, .f32⟩
  | .hbm, ⟨58, _⟩ => ⟨S512x2048, .f32⟩
  | .hbm, ⟨59, _⟩ => ⟨S8704x2048, .f32⟩
  | .hbm, ⟨60, _⟩ => ⟨S8704x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== FinalKernel.lean ====
abbrev S4x2048x5632 : Shape := ⟨3, ![4, 2048, 5632]⟩
abbrev S128x4x5632 : Shape := ⟨3, ![128, 4, 5632]⟩
abbrev S4x2048x2048 : Shape := ⟨3, ![4, 2048, 2048]⟩
abbrev S128x4x2048 : Shape := ⟨3, ![128, 4, 2048]⟩
abbrev S4x18432 : Shape := ⟨2, ![4, 18432]⟩
abbrev S128x18432 : Shape := ⟨2, ![128, 18432]⟩
abbrev S1x5632x2048 : Shape := ⟨3, ![1, 5632, 2048]⟩
abbrev S2048 : Shape := ⟨1, ![2048]⟩
abbrev S8192x5632 : Shape := ⟨2, ![8192, 5632]⟩
abbrev S4x128x5632 : Shape := ⟨3, ![4, 128, 5632]⟩
abbrev S512x5632 : Shape := ⟨2, ![512, 5632]⟩
abbrev S8704x5632 : Shape := ⟨2, ![8704, 5632]⟩
abbrev S8192x2048 : Shape := ⟨2, ![8192, 2048]⟩
abbrev S4x128x2048 : Shape := ⟨3, ![4, 128, 2048]⟩
abbrev S512x2048 : Shape := ⟨2, ![512, 2048]⟩
abbrev S8704x2048 : Shape := ⟨2, ![8704, 2048]⟩
abbrev S1x2048 : Shape := ⟨2, ![1, 2048]⟩
abbrev S256x5632 : Shape := ⟨2, ![256, 5632]⟩
abbrev S256x2048 : Shape := ⟨2, ![256, 2048]⟩
abbrev S4x2048 : Shape := ⟨2, ![4, 2048]⟩
abbrev S128x2048 : Shape := ⟨2, ![128, 2048]⟩
abbrev S5632x2048 : Shape := ⟨2, ![5632, 2048]⟩
abbrev S2x176x2048 : Shape := ⟨3, ![2, 176, 2048]⟩
abbrev S2 : Shape := ⟨1, ![2]⟩
abbrev S1 : Shape := ⟨1, ![1]⟩
abbrev S_ : Shape := ⟨0, ![]⟩
abbrev S1x176x2048 : Shape := ⟨3, ![1, 176, 2048]⟩
abbrev S176x2048 : Shape := ⟨2, ![176, 2048]⟩
abbrev S256 : Shape := ⟨1, ![256]⟩
abbrev S256x1 : Shape := ⟨2, ![256, 1]⟩

abbrev nBuf : Space → Nat
  | .hbm => 23
  | .vmem => 13
  | .smem => 0
  | _ => 0

abbrev bufTy : (tb : Table) → Fin (tcTables nBuf tb) → BufTy
  | .hbm, ⟨0, _⟩ => ⟨S4x2048x5632, .f32⟩
  | .hbm, ⟨1, _⟩ => ⟨S128x4x5632, .f32⟩
  | .hbm, ⟨2, _⟩ => ⟨S4x2048x2048, .f32⟩
  | .hbm, ⟨3, _⟩ => ⟨S128x4x2048, .f32⟩
  | .hbm, ⟨4, _⟩ => ⟨S4x18432, .f32⟩
  | .hbm, ⟨5, _⟩ => ⟨S128x18432, .f32⟩
  | .hbm, ⟨6, _⟩ => ⟨S1x5632x2048, .f32⟩
  | .hbm, ⟨7, _⟩ => ⟨S2048, .f32⟩
  | .hbm, ⟨8, _⟩ => ⟨S8192x5632, .f32⟩
  | .hbm, ⟨9, _⟩ => ⟨S4x128x5632, .f32⟩
  | .hbm, ⟨10, _⟩ => ⟨S512x5632, .f32⟩
  | .hbm, ⟨11, _⟩ => ⟨S8704x5632, .f32⟩
  | .hbm, ⟨12, _⟩ => ⟨S8704x5632, .bf16⟩
  | .hbm, ⟨13, _⟩ => ⟨S8192x2048, .f32⟩
  | .hbm, ⟨14, _⟩ => ⟨S4x128x2048, .f32⟩
  | .hbm, ⟨15, _⟩ => ⟨S512x2048, .f32⟩
  | .hbm, ⟨16, _⟩ => ⟨S8704x2048, .f32⟩
  | .hbm, ⟨17, _⟩ => ⟨S1x2048, .f32⟩
  | .hbm, ⟨18, _⟩ => ⟨S8192x2048, .f32⟩
  | .hbm, ⟨19, _⟩ => ⟨S512x2048, .f32⟩
  | .hbm, ⟨20, _⟩ => ⟨S4x2048x2048, .f32⟩
  | .hbm, ⟨21, _⟩ => ⟨S4x128x2048, .f32⟩
  | .hbm, ⟨22, _⟩ => ⟨S128x4x2048, .f32⟩
  | .local _ .vmem, ⟨0, _⟩ => ⟨S256x5632, .bf16⟩
  | .local _ .vmem, ⟨1, _⟩ => ⟨S256x5632, .bf16⟩
  | .local _ .vmem, ⟨2, _⟩ => ⟨S256x2048, .f32⟩
  | .local _ .vmem, ⟨3, _⟩ => ⟨S256x2048, .f32⟩
  | .local _ .vmem, ⟨4, _⟩ => ⟨S4x2048, .f32⟩
  | .local _ .vmem, ⟨5, _⟩ => ⟨S128x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S5632x2048, .bf16⟩
  | .local _ .vmem, ⟨12, _⟩ => ⟨S2x176x2048, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def k0_off1 (i : grid0.Coords) : Fin 2 → Nat :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c8_i32 : BitVec 32 := 8#32
  let c0_i32_4 : BitVec 32 := 0#32
  let v11 : BitVec 1 := Scalar.cmpi .sgt c8_i32 c0_i32_4
  let v12 : BitVec 32 := Scalar.extui v11
  let c0_i32_5 : BitVec 32 := 0#32
  let v13 : BitVec 1 := Scalar.cmpi .slt c8_i32 c0_i32_5
  let v14 : BitVec 32 := Scalar.extui v13
  let v15 : BitVec 32 := Scalar.subi v12 v14
  let v16 : BitVec 1 := Scalar.cmpi .ne v10 v15
  let v17 : BitVec 32 := Scalar.remsi arg0 c8_i32
  let c0_i32_6 : BitVec 32 := 0#32
  let v18 : BitVec 1 := Scalar.cmpi .ne v17 c0_i32_6
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let c3_i32 : BitVec 32 := 3#32
  let v22 : BitVec 32 := Scalar.minsi v21 c3_i32
  let v26 : Index := Scalar.indexCast v22
  let c0_9 : Index := 0#32
  ![v26.toNat, 0]
def k0_cond2 (i : grid0.Coords) : BitVec 1 :=
  let arg0 : BitVec 32 := BitVec.ofNat 32 (i 0).val
  let c32_i32_20 : BitVec 32 := 32#32
  let v53 : BitVec 1 := Scalar.cmpi .slt arg0 c32_i32_20
  let v54 : BitVec 32 := Scalar.extui v53
  let c0_i32_21 : BitVec 32 := 0#32
  let v55 : BitVec 1 := Scalar.cmpi .ne v54 c0_i32_21
  v55

def k0_cond3 (i : grid0.Coords) : BitVec 1 :=
  let arg0 : BitVec 32 := BitVec.ofNat 32 (i 0).val
  let c32_i32_22 : BitVec 32 := 32#32
  let v56 : BitVec 1 := Scalar.cmpi .sge arg0 c32_i32_22
  let v57 : BitVec 32 := Scalar.extui v56
  let c0_i32_23 : BitVec 32 := 0#32
  let v58 : BitVec 1 := Scalar.cmpi .ne v57 c0_i32_23
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinalReferenceIdeal.lean ====
abbrev S4x2048x5632 : Shape := ⟨3, ![4, 2048, 5632]⟩
abbrev S128x4x5632 : Shape := ⟨3, ![128, 4, 5632]⟩
abbrev S4x2048x2048 : Shape := ⟨3, ![4, 2048, 2048]⟩
abbrev S128x4x2048 : Shape := ⟨3, ![128, 4, 2048]⟩
abbrev S4x18432 : Shape := ⟨2, ![4, 18432]⟩
abbrev S128x18432 : Shape := ⟨2, ![128, 18432]⟩
abbrev S1x5632x2048 : Shape := ⟨3, ![1, 5632, 2048]⟩
abbrev S2048 : Shape := ⟨1, ![2048]⟩
abbrev S4x2048 : Shape := ⟨2, ![4, 2048]⟩
abbrev S4x1x2048 : Shape := ⟨3, ![4, 1, 2048]⟩
abbrev S_ : Shape := ⟨0, ![]⟩
abbrev S5632x2048 : Shape := ⟨2, ![5632, 2048]⟩
abbrev S4x2048x1 : Shape := ⟨3, ![4, 2048, 1]⟩
abbrev S1x1x2048 : Shape := ⟨3, ![1, 1, 2048]⟩
abbrev S128x2048 : Shape := ⟨2, ![128, 2048]⟩
abbrev S128x1x2048 : Shape := ⟨3, ![128, 1, 2048]⟩
abbrev S128x4 : Shape := ⟨2, ![128, 4]⟩
abbrev S128x4x1 : Shape := ⟨3, ![128, 4, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S128x4x5632, .f32⟩
  | .hbm, ⟨2, _⟩ => ⟨S4x2048x2048, .f32⟩
  | .hbm, ⟨3, _⟩ => ⟨S128x4x2048, .f32⟩
  | .hbm, ⟨4, _⟩ => ⟨S4x18432, .f32⟩
  | .hbm, ⟨5, _⟩ => ⟨S128x18432, .f32⟩
  | .hbm, ⟨6, _⟩ => ⟨S1x5632x2048, .f32⟩
  | .hbm, ⟨7, _⟩ => ⟨S2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x1x2048, .f32⟩
  | .hbm, ⟨18, _⟩ => ⟨S_, .f32⟩
  | .hbm, ⟨19, _⟩ => ⟨S4x1x2048, .f32⟩
  | .hbm, ⟨20, _⟩ => ⟨S4x1x2048, .f32⟩
  | .hbm, ⟨21, _⟩ => ⟨S5632x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S128x2048, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S128x2048, .f32⟩
  | .hbm, ⟨51, _⟩ => ⟨S128x1x2048, .f32⟩
  | .hbm, ⟨52, _⟩ => ⟨S_, .f32⟩
  | .hbm, ⟨53, _⟩ => ⟨S128x1x2048, .f32⟩
  | .hbm, ⟨54, _⟩ => ⟨S128x1x2048, .f32⟩
  | .hbm, ⟨55, _⟩ => ⟨S5632x2048, .f32⟩
  | .hbm, ⟨56, _⟩ => ⟨S128x4x2048, .f32⟩
  | .hbm, ⟨57, _⟩ => ⟨S128x4x2048, .f32⟩
  | .hbm, ⟨58, _⟩ => ⟨S128x4x2048, .f32⟩
  | .hbm, ⟨59, _⟩ => ⟨S128x4x2048, .f32⟩
  | .hbm, ⟨60, _⟩ => ⟨S128x4x2048, .f32⟩
  | .hbm, ⟨61, _⟩ => ⟨S_, .f32⟩
  | .hbm, ⟨62, _⟩ => ⟨S128x4, .f32⟩
  | .hbm, ⟨63, _⟩ => ⟨S128x4x1, .f32⟩
  | .hbm, ⟨64, _⟩ => ⟨S_, .f32⟩
  | .hbm, ⟨65, _⟩ => ⟨S128x4x1, .f32⟩
  | .hbm, ⟨66, _⟩ => ⟨S128x4x1, .f32⟩
  | .hbm, ⟨67, _⟩ => ⟨S_, .f32⟩
  | .hbm, ⟨68, _⟩ => ⟨S128x4x1, .f32⟩
  | .hbm, ⟨69, _⟩ => ⟨S128x4x1, .f32⟩
  | .hbm, ⟨70, _⟩ => ⟨S128x4x1, .f32⟩
  | .hbm, ⟨71, _⟩ => ⟨S128x4x2048, .f32⟩
  | .hbm, ⟨72, _⟩ => ⟨S128x4x2048, .f32⟩
  | .hbm, ⟨73, _⟩ => ⟨S1x1x2048, .f32⟩
  | .hbm, ⟨74, _⟩ => ⟨S128x4x2048, .f32⟩
  | .hbm, ⟨75, _⟩ => ⟨S128x4x2048, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Proof.Ssd.lean ====
/- The scalars of the state-space recurrence over the extended reals: the gated convolution, the softplus of a time
   step, and how large they can be. -/
module

public import Idealize.ShloMosaic.PureOps
public import Idealize.ShloMosaic.Lib.IdealHost

@[expose] public section

noncomputable section

namespace Cert.Ssd

open Idealize.ShloMosaic

/-- A depthwise convolution of width four with a bias, then `a ↦ a / (1 + e⁻ᵃ)`. -/
def conv (f w : Fin 4 → EReal) (b : EReal) : EReal :=
  let a := b + f 0 * w 0 + f 1 * w 1 + f 2 * w 2 + f 3 * w 3
  a * Ideal.logistic a

/-- `log (1 + eᵛ)`, written so that the exponential does not overflow. -/
def softplus (v : EReal) : EReal := max v 0 + Ideal.log1p (Ideal.exp (0 - max v (-v)))

/-- The remainder of `v` after `v`, and after that remainder, add nothing, unless `v` is `+∞`. -/
theorem add_remainders {v : EReal} (h : v < ⊤) : v + (v - v) + (v - v - (v - v)) = v := by
  induction v with
  | bot => rfl
  | top => exact absurd h (lt_irrefl _)
  | coe r =>
    have z : (r : EReal) - r = 0 := by rw [← EReal.coe_sub, _root_.sub_self]; rfl
    rw [z]
    simp

theorem log1p_coe {r : ℝ} (h : 0 ≤ r) : Ideal.log1p (r : EReal) = ((Real.log (1 + r) : ℝ) : EReal) := by
  show Ideal.log (1 + (r : EReal)) = _
  rw [show (1 : EReal) + (r : EReal) = ((1 + r : ℝ) : EReal) from (EReal.coe_add 1 _).symm]
  exact if_neg (by linarith)

/-- A step is a nonnegative real, unless its argument is `+∞`. -/
theorem softplus_real {v : EReal} (h : v < ⊤) : ∃ r : ℝ, 0 ≤ r ∧ softplus v = r := by
  unfold softplus
  induction v with
  | bot =>
    refine ⟨0, le_refl _, ?_⟩
    have e : Ideal.exp (0 - max ⊥ (-⊥)) = ((0 : ℝ) : EReal) := by
      rw [show (0 : EReal) - max ⊥ (-⊥) = ⊥ by simp]
      rfl
    rw [e, log1p_coe (le_refl _)]
    simp
  | top => exact absurd h (lt_irrefl _)
  | coe v =>
    have e : (0 : EReal) - max (v : EReal) (-(v : EReal)) = ((0 - max v (-v) : ℝ) : EReal) := by
      rw [EReal.coe_sub, EReal.coe_strictMono.monotone.map_max, EReal.coe_neg]
      rfl
    have p := Real.exp_pos (0 - max v (-v))
    refine ⟨max v 0 + Real.log (1 + Real.exp (0 - max v (-v))),
      add_nonneg (le_max_right _ _) (Real.log_nonneg (by linarith)), ?_⟩
    rw [e]
    show max (v : EReal) 0 + Ideal.log1p ((Real.exp (0 - max v (-v)) : ℝ) : EReal) = _
    rw [log1p_coe p.le, EReal.coe_add, EReal.coe_strictMono.monotone.map_max]
    rfl

/-- The decay over a step is not positive. -/
theorem decay_nonpos {r : ℝ} (h : 0 ≤ r) (a : EReal) : (r : EReal) * (0 - Ideal.exp a) ≤ 0 := by
  have e : 0 ≤ Ideal.exp a := by
    induction a with
    | bot => exact le_refl _
    | top => exact le_top
    | coe a => exact EReal.coe_nonneg.mpr (Real.exp_pos a).le
  rw [zero_sub, mul_neg, EReal.neg_le, neg_zero]
  exact mul_nonneg (EReal.coe_nonneg.mpr h) e

end Cert.Ssd

end
-- ==== Proof.Sample.lean ====
/- The samples' state-space kernel: what a grid point stores. -/
module

public import proofs.«01_k».proof.Proof.Gen.SampleKernelIdeal.Value
public import proofs.«01_k».proof.Proof.Ssd
public import Idealize.ShloMosaic.Lib.Pointwise
public import Idealize.ShloMosaic.Lib.Tactic.CleanTypes
public import Idealize.ShloMosaic.Lib.Pipeline.ReadBack
public import Idealize.ShloMosaic.Lib.Pipeline.ValueKit.Geometry

@[expose] public section

set_option maxRecDepth 16384

noncomputable section

namespace Cert.Sample

open Idealize.ShloMosaic Cert.SampleKernelIdeal Cert.SampleKernelIdeal.Gen Cert.Ssd

variable (i : grid0.Coords) (x0 : Vec Ideal S4x32x512 .f32) (x1 : Vec Ideal S3x32x512 .f32) (x2 : Vec Ideal S4x32x128 .f32)
  (x3 : Vec Ideal S3x32x128 .f32) (x4 : Vec Ideal S4x32x128 .f32) (x5 : Vec Ideal S3x32x128 .f32) (x6 : Vec Ideal S4x32x512 .bf16)
  (x7 : Vec Ideal S4x32x128 .f32) (x8 : Vec Ideal S1x128 .f32) (x9 : Vec Ideal S1x128 .f32) (x10 : Vec Ideal S4x512 .f32)
  (x11 : Vec Ideal S1x512 .f32) (x12 : Vec Ideal S4x128 .f32) (x13 : Vec Ideal S1x128 .f32) (x14 : Vec Ideal S4x128 .f32)
  (x15 : Vec Ideal S1x128 .f32) (x16 : Vec Ideal S1x512 .f32) (x17 : Vec Ideal S1x512 .f32) (x18 : Vec Ideal S32x1x512x128 .f32)

theorem x0_apply (b : Fin 32) (l : Fin 512) :
    k0_pay244 i x0 x1 x2 x3 x4 x5 x6 x7 x8 x9 x10 x11 x12 x13 x14 x15 x16 x17 x18 (ix2 b l)
      = conv ![x1 (ix3 0 b l), x1 (ix3 1 b l), x1 (ix3 2 b l), x0 (ix3 0 b l)] (fun k => x10 (ix2 k l)) (x11 (ix2 0 l)) := by
  unfold k0_pay244 k0_pay240 k0_pay241
  pointwise [k0_pay10, k0_pay3, k0_pay4, k0_pay8, k0_pay9, k0_pay2]
  rfl

theorem x1_apply (b : Fin 32) (l : Fin 512) :
    k0_pay245 i x0 x1 x2 x3 x4 x5 x6 x7 x8 x9 x10 x11 x12 x13 x14 x15 x16 x17 x18 (ix2 b l)
      = conv ![x1 (ix3 1 b l), x1 (ix3 2 b l), x0 (ix3 0 b l), x0 (ix3 1 b l)] (fun k => x10 (ix2 k l)) (x11 (ix2 0 l)) := by
  unfold k0_pay245 k0_pay240 k0_pay241 k0_pay242
  pointwise [k0_pay11, k0_pay2, k0_pay3, k0_pay4, k0_pay5]
  rfl

theorem x2_apply (b : Fin 32) (l : Fin 512) :
    k0_pay246 i x0 x1 x2 x3 x4 x5 x6 x7 x8 x9 x10 x11 x12 x13 x14 x15 x16 x17 x18 (ix2 b l)
      = conv ![x1 (ix3 2 b l), x0 (ix3 0 b l), x0 (ix3 1 b l), x0 (ix3 2 b l)] (fun k => x10 (ix2 k l)) (x11 (ix2 0 l)) := by
  unfold k0_pay246 k0_pay240 k0_pay241 k0_pay242 k0_pay243
  pointwise [k0_pay14, k0_pay12, k0_pay13, k0_pay3, k0_pay4, k0_pay5, k0_pay6]
  rfl

theorem x3_apply (b : Fin 32) (l : Fin 512) :
    k0_pay247 i x0 x1 x2 x3 x4 x5 x6 x7 x8 x9 x10 x11 x12 x13 x14 x15 x16 x17 x18 (ix2 b l)
      = conv ![x0 (ix3 0 b l), x0 (ix3 1 b l), x0 (ix3 2 b l), x0 (ix3 3 b l)] (fun k => x10 (ix2 k l)) (x11 (ix2 0 l)) := by
  unfold k0_pay247 k0_pay241 k0_pay242 k0_pay243
  pointwise [k0_pay15, k0_pay4, k0_pay5, k0_pay6, k0_pay7]
  rfl

theorem b0_apply (b : Fin 32) (n : Fin 128) :
    k0_pay252 i x0 x1 x2 x3 x4 x5 x6 x7 x8 x9 x10 x11 x12 x13 x14 x15 x16 x17 x18 (ix2 b n)
      = conv ![x3 (ix3 0 b n), x3 (ix3 1 b n), x3 (ix3 2 b n), x2 (ix3 0 b n)] (fun k => x12 (ix2 k n)) (x13 (ix2 0 n)) := by
  unfold k0_pay252
  pointwise [k0_pay24, k0_pay23, k0_pay16, k0_pay17, k0_pay18, k0_pay19]
  rfl

theorem b1_apply (b : Fin 32) (n : Fin 128) :
    k0_pay253 i x0 x1 x2 x3 x4 x5 x6 x7 x8 x9 x10 x11 x12 x13 x14 x15 x16 x17 x18 (ix2 b n)
      = conv ![x3 (ix3 1 b n), x3 (ix3 2 b n), x2 (ix3 0 b n), x2 (ix3 1 b n)] (fun k => x12 (ix2 k n)) (x13 (ix2 0 n)) := by
  unfold k0_pay253 k0_pay248 k0_pay249 k0_pay250
  pointwise [k0_pay25, k0_pay17, k0_pay18, k0_pay19, k0_pay20]
  rfl

theorem b2_apply (b : Fin 32) (n : Fin 128) :
    k0_pay254 i x0 x1 x2 x3 x4 x5 x6 x7 x8 x9 x10 x11 x12 x13 x14 x15 x16 x17 x18 (ix2 b n)
      = conv ![x3 (ix3 2 b n), x2 (ix3 0 b n), x2 (ix3 1 b n), x2 (ix3 2 b n)] (fun k => x12 (ix2 k n)) (x13 (ix2 0 n)) := by
  unfold k0_pay254 k0_pay248 k0_pay249 k0_pay250 k0_pay251
  pointwise [k0_pay28, k0_pay26, k0_pay27, k0_pay18, k0_pay19, k0_pay20, k0_pay21]
  rfl

theorem b3_apply (b : Fin 32) (n : Fin 128) :
    k0_pay255 i x0 x1 x2 x3 x4 x5 x6 x7 x8 x9 x10 x11 x12 x13 x14 x15 x16 x17 x18 (ix2 b n)
      = conv ![x2 (ix3 0 b n), x2 (ix3 1 b n), x2 (ix3 2 b n), x2 (ix3 3 b n)] (fun k => x12 (ix2 k n)) (x13 (ix2 0 n)) := by
  unfold k0_pay255 k0_pay249 k0_pay250 k0_pay251
  pointwise [k0_pay29, k0_pay19, k0_pay20, k0_pay21, k0_pay22]
  rfl

/-- The time step of token `t` of sequence `b` at head `h`. -/
def step (x7 : Vec Ideal S4x32x128 .f32) (x8 : Vec Ideal S1x128 .f32) (t : Fin 4) (b : Fin 32) (h : Fin 128) : EReal :=
  softplus (x7 (ix3 t b h) + x8 (ix2 0 h))

/-- The rate of decay of head `h`. -/
def rate (x9 : Vec Ideal S1x128 .f32) (h : Fin 128) : EReal := 0 - Ideal.exp (x9 (ix2 0 h))

/-- The decay exponents summed over the tokens up to `t`. -/
def total (x7 : Vec Ideal S4x32x128 .f32) (x8 x9 : Vec Ideal S1x128 .f32) (t : Fin 4) (b : Fin 32) (h : Fin 128) : EReal :=
  let d := fun t => step x7 x8 t b h * rate x9 h
  ![d 0, d 0 + d 1, d 0 + d 1 + d 2, d 0 + d 1 + d 2 + d 3] t

theorem d0_apply (b : Fin 32) (h : Fin 128) :
    k0_pay266 i x0 x1 x2 x3 x4 x5 x6 x7 x8 x9 x10 x11 x12 x13 x14 x15 x16 x17 x18 (ix2 b h) = step x7 x8 0 b h := by
  unfold k0_pay266
  pointwise [k0_pay49, k0_pay45, k0_pay46, k0_pay47, k0_pay48]
  exact if_neg (not_not_intro rfl)

theorem d1_apply (b : Fin 32) (h : Fin 128) :
    k0_pay267 i x0 x1 x2 x3 x4 x5 x6 x7 x8 x9 x10 x11 x12 x13 x14 x15 x16 x17 x18 (ix2 b h) = step x7 x8 1 b h := by
  unfold k0_pay267
  pointwise [k0_pay50]
  exact if_neg (not_not_intro rfl)

theorem d2_apply (b : Fin 32) (h : Fin 128) :
    k0_pay57 (k0_pay268 i x0 x1 x2 x3 x4 x5 x6 x7 x8 x9 x10 x11 x12 x13 x14 x15 x16 x17 x18) (k0_pay269 i x0 x1 x2 x3 x4 x5 x6 x7 x8 x9 x10 x11 x12 x13 x14 x15 x16 x17 x18)
      (k0_pay270 i x0 x1 x2 x3 x4 x5 x6 x7 x8 x9 x10 x11 x12 x13 x14 x15 x16 x17 x18) (k0_pay271 i x0 x1 x2 x3 x4 x5 x6 x7 x8 x9 x10 x11 x12 x13 x14 x15 x16 x17 x18) (ix2 b h) = step x7 x8 2 b h := by
  unfold k0_pay268 k0_pay269 k0_pay270 k0_pay271
  pointwise [k0_pay57, k0_pay51, k0_pay52, k0_pay53, k0_pay54, k0_pay55, k0_pay56]
  exact if_neg (not_not_intro rfl)

theorem d3_apply (b : Fin 32) (h : Fin 128) :
    k0_pay58 (View.ld x7 r0_18) (View.ld x8 r0_19) (ix2 b h) = step x7 x8 3 b h := by
  pointwise [k0_pay58]
  exact if_neg (not_not_intro rfl)

theorem a_apply (h : Fin 128) : k0_pay265 i x0 x1 x2 x3 x4 x5 x6 x7 x8 x9 x10 x11 x12 x13 x14 x15 x16 x17 x18 (ix2 0 h) = rate x9 h := by
  unfold k0_pay265
  pointwise [k0_pay44]
  rfl

theorem s0_apply (b : Fin 32) (h : Fin 128) : k0_pay274 i x0 x1 x2 x3 x4 x5 x6 x7 x8 x9 x10 x11 x12 x13 x14 x15 x16 x17 x18 (ix2 b h) = total x7 x8 x9 0 b h := by
  unfold k0_pay274
  pointwise [k0_pay59]
  rw [d0_apply, a_apply]
  rfl

theorem s1_apply (b : Fin 32) (h : Fin 128) : k0_pay275 i x0 x1 x2 x3 x4 x5 x6 x7 x8 x9 x10 x11 x12 x13 x14 x15 x16 x17 x18 (ix2 b h) = total x7 x8 x9 1 b h := by
  unfold k0_pay275
  pointwise [k0_pay59, k0_pay60]
  rw [d0_apply, d1_apply, a_apply]
  rfl

theorem s2_apply (b : Fin 32) (h : Fin 128) : k0_pay276 i x0 x1 x2 x3 x4 x5 x6 x7 x8 x9 x10 x11 x12 x13 x14 x15 x16 x17 x18 (ix2 b h) = total x7 x8 x9 2 b h := by
  have e := d2_apply i x0 x1 x2 x3 x4 x5 x6 x7 x8 x9 x10 x11 x12 x13 x14 x15 x16 x17 x18 b h
  unfold k0_pay276
  pointwise [k0_pay59, k0_pay60, k0_pay61]
  rw [d0_apply, d1_apply, e, a_apply]
  rfl

theorem s3_apply (b : Fin 32) (h : Fin 128) : k0_pay277 i x0 x1 x2 x3 x4 x5 x6 x7 x8 x9 x10 x11 x12 x13 x14 x15 x16 x17 x18 (ix2 b h) = total x7 x8 x9 3 b h := by
  have e := d2_apply i x0 x1 x2 x3 x4 x5 x6 x7 x8 x9 x10 x11 x12 x13 x14 x15 x16 x17 x18 b h
  have e' := d3_apply x7 x8 b h
  unfold k0_pay277
  pointwise [k0_pay59, k0_pay60, k0_pay61, k0_pay62]
  rw [d0_apply, d1_apply, e, e', a_apply]
  rfl

/-- The head of the eight of a group that lane `l` of a row belongs to, as the kernel computes it. -/
theorem head_word (l : Fin 512) :
    Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32) = BitVec.ofNat 32 (l.val / 64) := by
  revert l
  decide +kernel

/-- The head that lane `l` of a row of group `i 1` belongs to. -/
def head (i : grid0.Coords) (l : Fin 512) : Fin 128 :=
  ⟨8 * (i 1).val + l.val / 64, by have := (i 1).isLt; have : (i 1).val < 8 := this; omega⟩

theorem sel_apply (r : Fin 128) (l : Fin 512) :
    k0_pay280 (F := Ideal) i x0 x1 x2 x3 x4 x5 x6 x7 x8 x9 x10 x11 x12 x13 x14 x15 x16 x17 x18 (ix2 r l) = if r = head i l then 1 else 0 := by
  unfold k0_pay280
  pointwise [k0_pay65, k0_pay272, k0_pay273, k0_pay278, k0_pay279, k0_pay63, k0_pay64]
  rw [head_word]
  have hi : (i 1).val < 8 := (i 1).isLt
  generalize hg : (i 1).val = g at hi
  have hh : (r = head i l) = (r.val = 8 * g + l.val / 64) := by
    rw [Fin.ext_iff, ← hg]; rfl
  simp only [hh]
  have hw : (BitVec.ofNat 32 r.val = Scalar.muli (BitVec.ofNat 32 g) 8#32 + BitVec.ofNat 32 (l.val / 64))
      = (r.val = 8 * g + l.val / 64) := by
    rw [← BitVec.toNat_inj]
    simp only [Scalar.muli, IntOp.muli, BitVec.toNat_add, BitVec.toNat_mul, BitVec.toNat_ofNat]
    have := r.isLt; have := l.isLt
    apply propext
    omega
  rw [IntOp.addi, WordCmp.cmpi_eq_eq, decide_eq_decide.mpr (iff_of_eq hw)]
  by_cases h : r.val = 8 * g + l.val / 64
  · rw [if_pos h, decide_eq_true h]
    rfl
  · rw [if_neg h, decide_eq_false h]
    rfl

theorem row_apply (r : Fin 128) :
    k0_pay298 (F := Ideal) i x0 x1 x2 x3 x4 x5 x6 x7 x8 x9 x10 x11 x12 x13 x14 x15 x16 x17 x18 (ix2 r 0) = BitVec.ofNat 32 (r.val % 32) := by
  unfold k0_pay298
  pointwise [k0_pay295, k0_pay296, k0_pay297, k0_pay87, k0_pay88, k0_pay89, k0_pay90]
  revert r
  decide +kernel

/-- A product of `v` with the indicator of `h`, taken in three parts, `v` and its remainders, is `v h`. -/
theorem expand {M : ℕ} (v e : Fin M → EReal) (h : Fin M) (he : ∀ k, e k = if k = h then 1 else 0) (hv : v h < ⊤) :
    0 + (∑ k, v k * e k) + (∑ k, (v k - v k) * e k) + (∑ k, (v k - v k - (v k - v k)) * e k) = v h := by
  have z : ∀ f : Fin M → EReal, (∑ k, f k * e k) = f h := fun f => by
    simp only [he, mul_ite, mul_one, mul_zero, Finset.sum_ite_eq', Finset.mem_univ, if_true]
  rw [z, z, z, zero_add]
  exact add_remainders hv

/-- The row of token `t` of sequence `b` in a block whose rows are the tokens' rows one after another. -/
def row (t : Fin 4) (b : Fin 32) : Fin 128 := finProdFinEquiv (t, b)

theorem token_cases (t : Fin 4) : t = 0 ∨ t = 1 ∨ t = 2 ∨ t = 3 := by
  revert t
  decide

/-- Choosing the block of a row by its number finds the token, and the row within the block is the sequence. -/
theorem ladder {α : Type} (f0 f1 f2 f3 : Fin 32 → α) (t : Fin 4) (b : Fin 32) (hb : (row t b).val - 32 - 32 - 32 < 32) :
    (if h : (row t b).val < 32 then f0 ⟨(row t b).val, h⟩
      else if h : (row t b).val - 32 < 32 then f1 ⟨(row t b).val - 32, h⟩
      else if h : (row t b).val - 32 - 32 < 32 then f2 ⟨(row t b).val - 32 - 32, h⟩
      else f3 ⟨(row t b).val - 32 - 32 - 32, hb⟩) = ![f0, f1, f2, f3] t b := by
  have h4 := b.isLt
  rcases token_cases t with rfl | rfl | rfl | rfl
  · have e : (row 0 b).val = b.val := rfl
    rw [dif_pos (by omega)]
    exact congrArg f0 (Fin.ext e)
  · have e : (row 1 b).val = b.val + 32 := rfl
    rw [dif_neg (by omega), dif_pos (by omega)]
    exact congrArg f1 (Fin.ext (by show (row 1 b).val - 32 = b.val; omega))
  · have e : (row 2 b).val = b.val + 64 := rfl
    rw [dif_neg (by omega), dif_neg (by omega), dif_pos (by omega)]
    exact congrArg f2 (Fin.ext (by show (row 2 b).val - 32 - 32 = b.val; omega))
  · have e : (row 3 b).val = b.val + 96 := rfl
    rw [dif_neg (by omega), dif_neg (by omega), dif_neg (by omega)]
    exact congrArg f3 (Fin.ext (by show (row 3 b).val - 32 - 32 - 32 = b.val; omega))

theorem row_last (t : Fin 4) (b : Fin 32) : (row t b).val - 32 - 32 - 32 < 32 := by
  have := (row t b).isLt
  omega

theorem heads_apply (f0 f1 f2 f3 : FVec Ideal S32x128 .f32) (t : Fin 4) (b : Fin 32) (h : Fin 128) :
    k0_pay67 f0 f1 f2 f3 (ix2 (row t b) h) = ![fun b => f0 (ix2 b h), fun b => f1 (ix2 b h), fun b => f2 (ix2 b h), fun b => f3 (ix2 b h)] t b := by
  pointwise [k0_pay67]
  exact ladder (fun b => f0 (ix2 b h)) (fun b => f1 (ix2 b h)) (fun b => f2 (ix2 b h)) (fun b => f3 (ix2 b h)) t b
    (row_last t b)

theorem parts (V : FVec Ideal S128x128 .f32) (E : FVec Ideal S128x512 .bf16) (r : Fin 128) (l : Fin 512) (h : Fin 128)
    (hE : ∀ k, E (ix2 k l) = if k = h then 1 else 0) (hv : V (ix2 r h) < ⊤) :
    addf (addf (addf (broadcast S128x512 (Scalar.ofBits (F := Ideal) .f32 0x00000000#32))
        (matmul (F := Ideal) dot_S128x128_S128x512_S128x512_1_0_0_1_n_n none (truncf .bf16 V bitsLt_bf16_f32) E
          (constant (F := Ideal) S128x512 .f32 0x00000000#32)))
        (matmul (F := Ideal) dot_S128x128_S128x512_S128x512_1_0_0_1_n_n none
          (truncf .bf16 (subf V (extf .f32 (truncf (F := Ideal) .bf16 V bitsLt_bf16_f32) bitsLt_bf16_f32)) bitsLt_bf16_f32) E
          (constant (F := Ideal) S128x512 .f32 0x00000000#32)))
        (matmul (F := Ideal) dot_S128x128_S128x512_S128x512_1_0_0_1_n_n none
          (truncf .bf16 (subf (subf V (extf .f32 (truncf (F := Ideal) .bf16 V bitsLt_bf16_f32) bitsLt_bf16_f32))
            (extf .f32 (truncf (F := Ideal) .bf16 (subf V (extf .f32 (truncf (F := Ideal) .bf16 V bitsLt_bf16_f32)
              bitsLt_bf16_f32)) bitsLt_bf16_f32) bitsLt_bf16_f32)) bitsLt_bf16_f32) E
          (constant (F := Ideal) S128x512 .f32 0x00000000#32)) (ix2 r l) = V (ix2 r h) := by
  refine Eq.trans ?_ (expand (fun k => V (ix2 r k)) (fun k => E (ix2 k l)) h hE hv)
  pointwise []

theorem dt_apply (t : Fin 4) (b : Fin 32) (l : Fin 512) (hd : step x7 x8 t b (head i l) < ⊤) :
    k0_pay281 i x0 x1 x2 x3 x4 x5 x6 x7 x8 x9 x10 x11 x12 x13 x14 x15 x16 x17 x18 (ix2 (row t b) l) = step x7 x8 t b (head i l) := by
  have e : k0_pay67 (k0_pay266 i x0 x1 x2 x3 x4 x5 x6 x7 x8 x9 x10 x11 x12 x13 x14 x15 x16 x17 x18) (k0_pay267 i x0 x1 x2 x3 x4 x5 x6 x7 x8 x9 x10 x11 x12 x13 x14 x15 x16 x17 x18)
      (k0_pay57 (k0_pay268 i x0 x1 x2 x3 x4 x5 x6 x7 x8 x9 x10 x11 x12 x13 x14 x15 x16 x17 x18) (k0_pay269 i x0 x1 x2 x3 x4 x5 x6 x7 x8 x9 x10 x11 x12 x13 x14 x15 x16 x17 x18)
        (k0_pay270 i x0 x1 x2 x3 x4 x5 x6 x7 x8 x9 x10 x11 x12 x13 x14 x15 x16 x17 x18) (k0_pay271 i x0 x1 x2 x3 x4 x5 x6 x7 x8 x9 x10 x11 x12 x13 x14 x15 x16 x17 x18))
      (k0_pay58 (View.ld x7 r0_18) (View.ld x8 r0_19)) (ix2 (row t b) (head i l)) = step x7 x8 t b (head i l) := by
    rw [heads_apply]
    rcases token_cases t with rfl | rfl | rfl | rfl
    · exact d0_apply i x0 x1 x2 x3 x4 x5 x6 x7 x8 x9 x10 x11 x12 x13 x14 x15 x16 x17 x18 _ _
    · exact d1_apply i x0 x1 x2 x3 x4 x5 x6 x7 x8 x9 x10 x11 x12 x13 x14 x15 x16 x17 x18 _ _
    · exact d2_apply i x0 x1 x2 x3 x4 x5 x6 x7 x8 x9 x10 x11 x12 x13 x14 x15 x16 x17 x18 _ _
    · exact d3_apply ..
  refine Eq.trans ?_ e
  refine parts _ _ _ _ _ (fun k => sel_apply i x0 x1 x2 x3 x4 x5 x6 x7 x8 x9 x10 x11 x12 x13 x14 x15 x16 x17 x18 k l) ?_
  rw [← e] at hd
  exact hd

theorem total_apply (t : Fin 4) (b : Fin 32) (l : Fin 512) (hd : total x7 x8 x9 t b (head i l) < ⊤) :
    k0_pay74 (k0_pay280 i x0 x1 x2 x3 x4 x5 x6 x7 x8 x9 x10 x11 x12 x13 x14 x15 x16 x17 x18) (k0_pay282 i x0 x1 x2 x3 x4 x5 x6 x7 x8 x9 x10 x11 x12 x13 x14 x15 x16 x17 x18)
      (k0_pay283 i x0 x1 x2 x3 x4 x5 x6 x7 x8 x9 x10 x11 x12 x13 x14 x15 x16 x17 x18) (k0_pay284 i x0 x1 x2 x3 x4 x5 x6 x7 x8 x9 x10 x11 x12 x13 x14 x15 x16 x17 x18) (ix2 (row t b) l)
      = total x7 x8 x9 t b (head i l) := by
  have e : k0_pay67 (k0_pay274 i x0 x1 x2 x3 x4 x5 x6 x7 x8 x9 x10 x11 x12 x13 x14 x15 x16 x17 x18) (k0_pay275 i x0 x1 x2 x3 x4 x5 x6 x7 x8 x9 x10 x11 x12 x13 x14 x15 x16 x17 x18)
      (k0_pay276 i x0 x1 x2 x3 x4 x5 x6 x7 x8 x9 x10 x11 x12 x13 x14 x15 x16 x17 x18) (k0_pay277 i x0 x1 x2 x3 x4 x5 x6 x7 x8 x9 x10 x11 x12 x13 x14 x15 x16 x17 x18) (ix2 (row t b) (head i l))
      = total x7 x8 x9 t b (head i l) := by
    rw [heads_apply]
    rcases token_cases t with rfl | rfl | rfl | rfl
    · exact s0_apply i x0 x1 x2 x3 x4 x5 x6 x7 x8 x9 x10 x11 x12 x13 x14 x15 x16 x17 x18 _ _
    · exact s1_apply i x0 x1 x2 x3 x4 x5 x6 x7 x8 x9 x10 x11 x12 x13 x14 x15 x16 x17 x18 _ _
    · exact s2_apply i x0 x1 x2 x3 x4 x5 x6 x7 x8 x9 x10 x11 x12 x13 x14 x15 x16 x17 x18 _ _
    · exact s3_apply i x0 x1 x2 x3 x4 x5 x6 x7 x8 x9 x10 x11 x12 x13 x14 x15 x16 x17 x18 _ _
  refine Eq.trans ?_ e
  refine parts _ _ _ _ _ (fun k => sel_apply i x0 x1 x2 x3 x4 x5 x6 x7 x8 x9 x10 x11 x12 x13 x14 x15 x16 x17 x18 k l) ?_
  rw [← e] at hd
  exact hd

/-- The gated convolution of token `t` of a row whose three preceding tokens are the state `s`. -/
def convAt (x : Fin 4 → EReal) (s : Fin 3 → EReal) (w : Fin 4 → EReal) (c : EReal) (t : Fin 4) : EReal :=
  ![conv ![s 0, s 1, s 2, x 0] w c, conv ![s 1, s 2, x 0, x 1] w c, conv ![s 2, x 0, x 1, x 2] w c,
    conv ![x 0, x 1, x 2, x 3] w c] t

/-- The convolution's part in the input of the recurrence, at lane `l`. -/
def xAt (x0 : Vec Ideal S4x32x512 .f32) (x1 : Vec Ideal S3x32x512 .f32) (x10 : Vec Ideal S4x512 .f32)
    (x11 : Vec Ideal S1x512 .f32) (t : Fin 4) (b : Fin 32) (l : Fin 512) : EReal :=
  convAt (fun t => x0 (ix3 t b l)) (fun t => x1 (ix3 t b l)) (fun k => x10 (ix2 k l)) (x11 (ix2 0 l)) t

/-- The convolution's part that multiplies the input into the state, at column `n`. -/
def bAt (x2 : Vec Ideal S4x32x128 .f32) (x3 : Vec Ideal S3x32x128 .f32) (x12 : Vec Ideal S4x128 .f32)
    (x13 : Vec Ideal S1x128 .f32) (t : Fin 4) (b : Fin 32) (n : Fin 128) : EReal :=
  convAt (fun t => x2 (ix3 t b n)) (fun t => x3 (ix3 t b n)) (fun k => x12 (ix2 k n)) (x13 (ix2 0 n)) t

theorem b_apply (t : Fin 4) (b : Fin 32) (n : Fin 128) :
    k0_pay292 i x0 x1 x2 x3 x4 x5 x6 x7 x8 x9 x10 x11 x12 x13 x14 x15 x16 x17 x18 (ix2 (row t b) n) = bAt x2 x3 x12 x13 t b n := by
  refine (heads_apply _ _ _ _ t b n).trans ?_
  rcases token_cases t with rfl | rfl | rfl | rfl
  · exact b0_apply i x0 x1 x2 x3 x4 x5 x6 x7 x8 x9 x10 x11 x12 x13 x14 x15 x16 x17 x18 _ _
  · exact b1_apply i x0 x1 x2 x3 x4 x5 x6 x7 x8 x9 x10 x11 x12 x13 x14 x15 x16 x17 x18 _ _
  · exact b2_apply i x0 x1 x2 x3 x4 x5 x6 x7 x8 x9 x10 x11 x12 x13 x14 x15 x16 x17 x18 _ _
  · exact b3_apply i x0 x1 x2 x3 x4 x5 x6 x7 x8 x9 x10 x11 x12 x13 x14 x15 x16 x17 x18 _ _

theorem xw_apply (t : Fin 4) (b : Fin 32) (l : Fin 512) (hd : ∀ t, step x7 x8 t b (head i l) < ⊤)
    (hs : ∀ t, total x7 x8 x9 t b (head i l) < ⊤) :
    k0_pay293 i x0 x1 x2 x3 x4 x5 x6 x7 x8 x9 x10 x11 x12 x13 x14 x15 x16 x17 x18 (ix2 l (row t b))
      = xAt x0 x1 x10 x11 t b l * step x7 x8 t b (head i l)
          * Ideal.exp (total x7 x8 x9 3 b (head i l) - total x7 x8 x9 t b (head i l)) := by
  have e := fun t => total_apply i x0 x1 x2 x3 x4 x5 x6 x7 x8 x9 x10 x11 x12 x13 x14 x15 x16 x17 x18 t b l (hs t)
  have d := fun t => dt_apply i x0 x1 x2 x3 x4 x5 x6 x7 x8 x9 x10 x11 x12 x13 x14 x15 x16 x17 x18 t b l (hd t)
  unfold k0_pay293
  generalize k0_pay281 i x0 x1 x2 x3 x4 x5 x6 x7 x8 x9 x10 x11 x12 x13 x14 x15 x16 x17 x18 = D at d ⊢
  generalize k0_pay280 i x0 x1 x2 x3 x4 x5 x6 x7 x8 x9 x10 x11 x12 x13 x14 x15 x16 x17 x18 = E at e ⊢
  generalize k0_pay282 i x0 x1 x2 x3 x4 x5 x6 x7 x8 x9 x10 x11 x12 x13 x14 x15 x16 x17 x18 = E' at e ⊢
  generalize k0_pay283 i x0 x1 x2 x3 x4 x5 x6 x7 x8 x9 x10 x11 x12 x13 x14 x15 x16 x17 x18 = G at e ⊢
  generalize k0_pay284 i x0 x1 x2 x3 x4 x5 x6 x7 x8 x9 x10 x11 x12 x13 x14 x15 x16 x17 x18 = G' at e ⊢
  pointwise [k0_pay85, k0_pay75, k0_pay76, k0_pay77, k0_pay78, k0_pay79, k0_pay80, k0_pay81, k0_pay82]
  generalize k0_pay74 E E' G G' = S at e ⊢
  refine (ladder (fun b => k0_pay244 i x0 x1 x2 x3 x4 x5 x6 x7 x8 x9 x10 x11 x12 x13 x14 x15 x16 x17 x18 (ix2 b l)
        * D (ix2 ⟨b.val, by omega⟩ l) * Ideal.exp (S (ix2 ⟨96 + b.val, by omega⟩ l) - S (ix2 ⟨b.val, by omega⟩ l)))
    (fun b => k0_pay245 i x0 x1 x2 x3 x4 x5 x6 x7 x8 x9 x10 x11 x12 x13 x14 x15 x16 x17 x18 (ix2 b l)
        * D (ix2 ⟨32 + b.val, by omega⟩ l) * Ideal.exp (S (ix2 ⟨96 + b.val, by omega⟩ l) - S (ix2 ⟨32 + b.val, by omega⟩ l)))
    (fun b => k0_pay246 i x0 x1 x2 x3 x4 x5 x6 x7 x8 x9 x10 x11 x12 x13 x14 x15 x16 x17 x18 (ix2 b l)
        * D (ix2 ⟨64 + b.val, by omega⟩ l) * Ideal.exp (S (ix2 ⟨96 + b.val, by omega⟩ l) - S (ix2 ⟨64 + b.val, by omega⟩ l)))
    (fun b => k0_pay247 i x0 x1 x2 x3 x4 x5 x6 x7 x8 x9 x10 x11 x12 x13 x14 x15 x16 x17 x18 (ix2 b l)
        * D (ix2 ⟨96 + b.val, by omega⟩ l) * Ideal.exp (S (ix2 ⟨96 + b.val, by omega⟩ l) - S (ix2 ⟨96 + b.val, by omega⟩ l)))
    t b (row_last t b)).trans ?_
  have r0 : (⟨b.val, by omega⟩ : Fin 128) = row 0 b := rfl
  have r1 : (⟨32 + b.val, by omega⟩ : Fin 128) = row 1 b := Fin.ext (Nat.add_comm ..)
  have r2 : (⟨64 + b.val, by omega⟩ : Fin 128) = row 2 b := Fin.ext (Nat.add_comm ..)
  have r3 : (⟨96 + b.val, by omega⟩ : Fin 128) = row 3 b := Fin.ext (Nat.add_comm ..)
  rcases token_cases t with rfl | rfl | rfl | rfl
  · dsimp only [Matrix.cons_val]
    rw [r0, r3, d, e, e, x0_apply]
    rfl
  · dsimp only [Matrix.cons_val]
    rw [r1, r3, d, e, e, x1_apply]
    rfl
  · dsimp only [Matrix.cons_val]
    rw [r2, r3, d, e, e, x2_apply]
    rfl
  · dsimp only [Matrix.cons_val]
    rw [r3, d, e, x3_apply]
    rfl

theorem dec_apply (b : Fin 32) (l : Fin 512) (hs : total x7 x8 x9 3 b (head i l) < ⊤) :
    k0_pay294 i x0 x1 x2 x3 x4 x5 x6 x7 x8 x9 x10 x11 x12 x13 x14 x15 x16 x17 x18 (ix2 l (row 0 b))
      = Ideal.exp (total x7 x8 x9 3 b (head i l)) := by
  have e := total_apply i x0 x1 x2 x3 x4 x5 x6 x7 x8 x9 x10 x11 x12 x13 x14 x15 x16 x17 x18 3 b l hs
  unfold k0_pay294
  generalize k0_pay280 i x0 x1 x2 x3 x4 x5 x6 x7 x8 x9 x10 x11 x12 x13 x14 x15 x16 x17 x18 = E at e ⊢
  generalize k0_pay282 i x0 x1 x2 x3 x4 x5 x6 x7 x8 x9 x10 x11 x12 x13 x14 x15 x16 x17 x18 = E' at e ⊢
  generalize k0_pay283 i x0 x1 x2 x3 x4 x5 x6 x7 x8 x9 x10 x11 x12 x13 x14 x15 x16 x17 x18 = G at e ⊢
  generalize k0_pay284 i x0 x1 x2 x3 x4 x5 x6 x7 x8 x9 x10 x11 x12 x13 x14 x15 x16 x17 x18 = G' at e ⊢
  pointwise [k0_pay86, k0_pay82]
  rw [dif_pos (show (row 0 b).val < 32 from b.isLt), ← e]
  exact congrArg (fun r => Ideal.exp (k0_pay74 E E' G G' (ix2 r l))) (Fin.ext (Nat.add_comm 96 b.val))

theorem slices_column {o : ℕ} (ho : o < 32) : S512x128.Slices ![0, o] S512x1 :=
  ⟨rfl, fun a => by
    fin_cases a
    · exact Nat.le_refl 512
    · show o + 1 ≤ 128
      omega⟩

/-- The state the kernel stores for the sequence numbered `o`: the stored state decayed, plus the product of the
    inputs' columns with the rows of that sequence. -/
def stateOf (B : FVec Ideal S128x128 .f32) (X : FVec Ideal S512x128 .bf16) (D : FVec Ideal S512x128 .f32)
    (R : IVec S128x1 32) (o : ℕ) (ho : o < 32) (H : Vec Ideal S1x1x512x128 .f32) : FVec Ideal S1x1x512x128 .f32 :=
  shapeCast S1x1x512x128
    (addf
      (mulf (shapeCast S512x128 H shapeCasts_S1x1x512x128_S512x128)
        (broadcastTo S512x128
          (shapeCast S512x1 (extractStridedSlice S512x1 ![0, o] D (slices_column ho)) shapeCasts_S512x1_S512x1)
          broadcasts_S512x1_S512x128))
      (matmul (F := Ideal) dot_S512x128_S128x128_S512x128_1_0_0_1_n_n none X
        (truncf (F := Ideal) .bf16
          (select (broadcastTo S128x128 (shapeCast S128x1 (cmpi .eq R (broadcast S128x1 (BitVec.ofNat 32 o)))
              shapeCasts_S128x1_S128x1) broadcasts_S128x1_S128x128)
            B (broadcast S128x128 (Scalar.ofBits (F := Ideal) .f32 0x00000000#32)))
          bitsLt_bf16_f32)
        (constant (F := Ideal) S512x128 .f32 0x00000000#32)))
    shapeCasts_S512x128_S1x1x512x128

/-- A sum over the rows of a block that keeps the rows of sequence `b` is a sum over its tokens. -/
theorem sum_rows (f : Fin 128 → EReal) (g : Fin 128 → EReal) (b : Fin 32) :
    (∑ r, f r * (if r.val % 32 = b.val then g r else 0)) = ∑ t, f (row t b) * g (row t b) := by
  rw [← (finProdFinEquiv (m := 4) (n := 32)).sum_comp, Fintype.sum_prod_type]
  refine Finset.sum_congr rfl fun t _ => ?_
  rw [Finset.sum_eq_single b]
  · rw [if_pos]
    · rfl
    · show (b.val + 32 * t.val) % 32 = b.val
      have := b.isLt
      omega
  · intro b' _ hne
    rw [if_neg, mul_zero]
    intro h
    apply hne
    have h' : (b'.val + 32 * t.val) % 32 = b.val := h
    have := b'.isLt
    exact Fin.ext (by omega)
  · exact fun h => absurd (Finset.mem_univ b) h

theorem stateOf_apply (B : FVec Ideal S128x128 .f32) (X : FVec Ideal S512x128 .bf16) (D : FVec Ideal S512x128 .f32)
    (R : IVec S128x1 32) (hR : ∀ r, R (ix2 r 0) = BitVec.ofNat 32 (r.val % 32)) (b : Fin 32)
    (H : Vec Ideal S1x1x512x128 .f32) (l : Fin 512) (n : Fin 128) :
    stateOf B X D R b.val b.isLt H (ix4 0 0 l n)
      = H (ix4 0 0 l n) * D (ix2 l (row 0 b)) + ∑ t, X (ix2 l (row t b)) * B (ix2 (row t b) n) := by
  rw [← sum_rows (fun r => X (ix2 l r)) (fun r => B (ix2 r n)) b]
  have hw : ∀ r : Fin 128, IntOp.cmpi .eq (R (ix2 r 0)) (BitVec.ofNat 32 b.val)
      = BitVec.ofBool (decide (r.val % 32 = b.val)) := fun r => by
    rw [hR, WordCmp.cmpi_eq_eq]
    have := b.isLt
    refine congrArg _ (decide_eq_decide.mpr ?_)
    rw [← BitVec.toNat_inj]
    simp only [BitVec.toNat_ofNat]
    omega
  pointwise [stateOf]
  refine congrArg₂ (fun a b : EReal => a + b) ?_ (Finset.sum_congr rfl fun r _ => ?_)
  · exact congrArg (fun r => H (ix4 0 0 l n) * D (ix2 l r)) (Fin.ext (Nat.add_zero b.val).symm)
  · rw [hw]
    by_cases h : r.val % 32 = b.val
    · rw [if_pos h, decide_eq_true h]
      rfl
    · rw [if_neg h, decide_eq_false h, mul_zero]
      rfl

/-- The state of sequence `b` after its four tokens, at lane `l` and column `n`. -/
def stateAt (b : Fin 32) (l : Fin 512) (n : Fin 128) : EReal :=
  x18 (ix4 b 0 l n) * Ideal.exp (total x7 x8 x9 3 b (head i l))
    + ∑ t, xAt x0 x1 x10 x11 t b l * step x7 x8 t b (head i l)
        * Ideal.exp (total x7 x8 x9 3 b (head i l) - total x7 x8 x9 t b (head i l)) * bAt x2 x3 x12 x13 t b n

/-- What a grid point stores: each sequence's state after its tokens. -/
def stored : Vec Ideal S32x1x512x128 .f32 := fun y =>
  stateAt i x0 x1 x2 x3 x7 x8 x9 x10 x11 x12 x13 x18 (y 0) (y 2) (y 3)

theorem piece (hd : ∀ t b h, step x7 x8 t b h < ⊤) (hs : ∀ t b h, total x7 x8 x9 t b h < ⊤)
    {o : ℕ} {inb} {p : Vec Ideal S1x1x512x128 .f32} (ho : o < 32)
    (hp : p = stateOf (k0_pay292 i x0 x1 x2 x3 x4 x5 x6 x7 x8 x9 x10 x11 x12 x13 x14 x15 x16 x17 x18) (k0_pay293 i x0 x1 x2 x3 x4 x5 x6 x7 x8 x9 x10 x11 x12 x13 x14 x15 x16 x17 x18)
      (k0_pay294 i x0 x1 x2 x3 x4 x5 x6 x7 x8 x9 x10 x11 x12 x13 x14 x15 x16 x17 x18) (k0_pay298 (F := Ideal) i x0 x1 x2 x3 x4 x5 x6 x7 x8 x9 x10 x11 x12 x13 x14 x15 x16 x17 x18)
      o ho (View.ld x18 (Rect.unit (s := S32x1x512x128) ![o, 0, 0, 0] S1x1x512x128.size inb)))
    (y : S1x1x512x128.Idx) :
    p y = stored i x0 x1 x2 x3 x7 x8 x9 x10 x11 x12 x13 x18
      ((Rect.unit (s := S32x1x512x128) ![o, 0, 0, 0] S1x1x512x128.size inb).emb y) := by
  subst hp
  obtain ⟨l, n, rfl⟩ : ∃ (l : Fin 512) (n : Fin 128), y = ix4 0 0 l n := ⟨y 2, y 3, by
    funext a
    fin_cases a
    · exact Fin.ext (Nat.lt_one_iff.mp (y 0).isLt)
    · exact Fin.ext (Nat.lt_one_iff.mp (y 1).isLt)
    · rfl
    · rfl⟩
  have hemb : (Rect.unit (s := S32x1x512x128) ![o, 0, 0, 0] S1x1x512x128.size inb).emb (ix4 0 0 l n)
      = ix4 ⟨o, ho⟩ 0 l n := by
    funext a
    apply Fin.ext
    refine (ValueKit.rect_emb_unit_val _ _ inb (ix4 0 0 l n) a).trans ?_
    fin_cases a
    · rfl
    · rfl
    · exact Nat.zero_add l.val
    · exact Nat.zero_add n.val
  refine (stateOf_apply _ _ _ _ (row_apply i x0 x1 x2 x3 x4 x5 x6 x7 x8 x9 x10 x11 x12 x13 x14 x15 x16 x17 x18) ⟨o, ho⟩ _ l n).trans ?_
  rw [hemb, dec_apply i x0 x1 x2 x3 x4 x5 x6 x7 x8 x9 x10 x11 x12 x13 x14 x15 x16 x17 x18 _ _ (hs 3 _ _)]
  refine congrArg₂ (fun a b : EReal => a + b) ?_ (Finset.sum_congr rfl fun t _ => ?_)
  · exact congrArg (fun v => x18 v * Ideal.exp (total x7 x8 x9 3 ⟨o, ho⟩ (head i l))) hemb
  · rw [xw_apply i x0 x1 x2 x3 x4 x5 x6 x7 x8 x9 x10 x11 x12 x13 x14 x15 x16 x17 x18 t _ _ (fun t => hd t _ _) (fun t => hs t _ _), b_apply]
    rfl

theorem out_eq (hd : ∀ t b h, step x7 x8 t b h < ⊤) (hs : ∀ t b h, total x7 x8 x9 t b h < ⊤) :
    out0_20 i x0 x1 x2 x3 x4 x5 x6 x7 x8 x9 x10 x11 x12 x13 x14 x15 x16 x17 x18 = stored i x0 x1 x2 x3 x7 x8 x9 x10 x11 x12 x13 x18 := by
  funext y
  unfold out0_20
  refine (congrArg (fun L => View.canon L y) (List.append_nil _).symm).trans
    (View.canon_append_of_piecesOf (stored i x0 x1 x2 x3 x7 x8 x9 x10 x11 x12 x13 x18) [] _ ?_ y (cover0_20 ..))
  repeat first
    | exact True.intro
    | refine ⟨piece i x0 x1 x2 x3 x4 x5 x6 x7 x8 x9 x10 x11 x12 x13 x14 x15 x16 x17 x18 hd hs (by decide) rfl, ?_⟩

end Cert.Sample

end
-- ==== Proof.SampleState.lean ====
/- The samples' state after their tokens, as a function of the arguments. -/
module

public import proofs.«01_k».proof.Proof.Sample

@[expose] public section

set_option maxRecDepth 16384

noncomputable section

namespace Cert.Sample

open Idealize.ShloMosaic Cert.SampleKernelIdeal Cert.Ssd

/-- The sums of a row of four up to each place. -/
def sums (d : Fin 4 → EReal) (t : Fin 4) : EReal := ![d 0, d 0 + d 1, d 0 + d 1 + d 2, d 0 + d 1 + d 2 + d 3] t

/-- One entry of the state after four tokens: `h` before them, with steps `d`, rate of decay `r`, inputs `x` and
input weights `b`. -/
def after (h : EReal) (d x b : Fin 4 → EReal) (r : EReal) : EReal :=
  h * Ideal.exp (sums (fun t => d t * r) 3)
    + ∑ t, x t * d t * Ideal.exp (sums (fun t => d t * r) 3 - sums (fun t => d t * r) t) * b t

variable (a0 : Vec Ideal S128x4x6144 .f32) (a2 : Vec Ideal S128x4x64 .f32) (a3 : Vec Ideal S1x128x64x64x128 .f32)
  (a4 : Vec Ideal S1x128x3x6144 .f32) (a5 : Vec Ideal S1x4x6144 .f32) (a6 : Vec Ideal S1x6144 .f32)
  (a7 a8 : Vec Ideal S1x64 .f32)

/-- The argument of the step of token `t` of sequence `b` for head `h`. -/
def stepArg (b : Fin 128) (t : Fin 4) (h : Fin 64) : EReal := a2 (ix3 b t h) + a7 (ix2 0 h)

/-- The step of token `t` of sequence `b` for head `h`. -/
def stepOf (b : Fin 128) (h : Fin 64) (t : Fin 4) : EReal := softplus (stepArg a2 a7 b t h)

/-- The gated convolution of token `t` of sequence `b` in channel `l`. -/
def channel (b : Fin 128) (l : Fin 6144) (t : Fin 4) : EReal :=
  convAt (fun t => a0 (ix3 b t l)) (fun t => a4 (ix4 0 b t l)) (fun k => a5 (ix3 0 k l)) (a6 (ix2 0 l)) t

/-- The entry of the new state for sequence `b`, lane `l` of group `g` (the group's eight heads in a row) and column `n`. -/
def entry (b : Fin 128) (g : Fin 8) (l : Fin 512) (n : Fin 128) : EReal :=
  let h : Fin 64 := ⟨g.val * 8 + l.val / 64, by omega⟩
  after (a3 (ix5 0 b h (⟨l.val % 64, by omega⟩ : Fin 64) n)) (stepOf a2 a7 b h)
    (channel a0 a4 a5 a6 b ⟨g.val * 512 + l.val, by omega⟩)
    (channel a0 a4 a5 a6 b ⟨(32 + g.val) * 128 + n.val, by omega⟩) (0 - Ideal.exp (a8 (ix2 0 h)))

/-- The state of all sequences after their tokens. -/
def result : Vec Ideal S128x8x512x128 .f32 := fun y => entry a0 a2 a3 a4 a5 a6 a7 a8 (y 0) (y 1) (y 2) (y 3)

end Cert.Sample

end
-- ==== Proof.SampleBlk.lean ====
/- The blocks that a grid point of the samples' state-space kernel reads, as entries of the arguments. -/
module

public import proofs.«01_k».proof.Proof.SampleState
public import Idealize.ShloMosaic.Lib.Claim
public import Idealize.ShloMosaic.Lib.KernelVsHost
public import Idealize.ShloMosaic.Lib.StableHlo.ReadAt
public import Idealize.ShloMosaic.Lib.Pipeline.ValueKit.Point

@[expose] public section

set_option maxRecDepth 16384

noncomputable section

namespace Cert.Sample

open Idealize.ShloMosaic Idealize.ShloMosaic.TcCoe Cert.SampleKernelIdeal Cert.SampleKernelIdeal.Gen Cert.Ssd

variable (m : (ℓ : Loc nD τ sig) → Buf (Elt Ideal) ℓ) (c : Dev nD) (t : Fin cfg0.N)

/-- The sequence numbered `b` in the block of sequences of a grid point. -/
def seq (i : grid0.Coords) (b : Fin 32) : Fin 128 :=
  ⟨(i 0).val * 32 + b.val, by have := (i 0).isLt; have : (i 0).val < 4 := this; omega⟩

/-- The channel of the convolution that lane `l` of a grid point's group is. -/
def lane (i : grid0.Coords) (l : Fin 512) : Fin 6144 :=
  ⟨(i 1).val * 512 + l.val, by have := (i 1).isLt; have : (i 1).val < 8 := this; omega⟩

/-- The channel of the convolution that column `n` of a grid point's group is. -/
def column (i : grid0.Coords) (n : Fin 128) : Fin 6144 :=
  ⟨(32 + (i 1).val) * 128 + n.val, by have := (i 1).isLt; have : (i 1).val < 8 := this; omega⟩

/-- A row of 64 heads followed by zeros. -/
def padded (f : Fin 64 → EReal) (h : Fin 128) : EReal := if hh : h.val < 64 then f ⟨h.val, hh⟩ else 0

theorem arr0 (s : Fin 4) (b : Fin 128) (l : Fin 6144) :
    V m c main_v4 (ix3 s b l) = m ((c : Thread nD τ).loc main_arg0) (ix3 b s l) := by
  unfold V
  after_reads_at

theorem arr1 (s : Fin 3) (b : Fin 128) (l : Fin 6144) :
    V m c main_v6 (ix3 s b l) = m ((c : Thread nD τ).loc main_arg4) (ix4 0 b s l) := by
  unfold V
  after_reads_at

theorem arr7 (s : Fin 4) (b : Fin 128) (h : Fin 128) :
    V m c main_v10 (ix3 s b h) = padded (fun h => m ((c : Thread nD τ).loc main_arg2) (ix3 b s h)) h := by
  unfold V
  after_reads_at
  unfold padded
  rw [show (FloatOps.sitofp .f32 0#32 : Ideal .f32) = 0 from sitofp_zero]

theorem arr8 (h : Fin 128) :
    V m c main_v11 (ix2 0 h) = padded (fun h => m ((c : Thread nD τ).loc main_arg7) (ix2 0 h)) h := by
  unfold V
  after_reads_at
  unfold padded
  rw [show (FloatOps.sitofp .f32 0#32 : Ideal .f32) = 0 from sitofp_zero]

theorem arr9 (h : Fin 128) :
    V m c main_v12 (ix2 0 h) = padded (fun h => m ((c : Thread nD τ).loc main_arg8) (ix2 0 h)) h := by
  unfold V
  after_reads_at
  unfold padded
  rw [show (FloatOps.sitofp .f32 0#32 : Ideal .f32) = 0 from sitofp_zero]

theorem arr10 (k : Fin 4) (l : Fin 6144) :
    V m c main_v13 (ix2 k l) = m ((c : Thread nD τ).loc main_arg5) (ix3 0 k l) := by
  unfold V
  after_reads_at

theorem arr18 (b : Fin 128) (g : Fin 8) (l : Fin 512) (n : Fin 128) :
    V m c main_v14 (ix4 b g l n)
      = m ((c : Thread nD τ).loc main_arg3) (ix5 0 b (⟨g.val * 8 + l.val / 64, by omega⟩ : Fin 64)
          (⟨l.val % 64, by omega⟩ : Fin 64) n) := by
  unfold V
  after_reads_at

theorem blk0 (s : Fin 4) (b : Fin 32) (l : Fin 512) :
    iblk m c 0 t (ix3 s b l) = m ((c : Thread nD τ).loc main_arg0) (ix3 (seq (grid0.coords t) b) s (lane (grid0.coords t) l)) := by
  have e : ∀ t : Fin grid0.N, win0_0.index t = ![0, (grid0.coords t 0).val, (grid0.coords t 1).val] := by decide +kernel
  refine Eq.trans (congrArg (V m c main_v4) (funext fun a => Fin.ext ?_)) (arr0 m c _ _ _)
  fin_cases a <;> blk_simp [e] <;> rfl

theorem blk1 (s : Fin 3) (b : Fin 32) (l : Fin 512) :
    iblk m c 1 t (ix3 s b l) = m ((c : Thread nD τ).loc main_arg4) (ix4 0 (seq (grid0.coords t) b) s (lane (grid0.coords t) l)) := by
  have e : ∀ t : Fin grid0.N, win0_1.index t = ![0, (grid0.coords t 0).val, (grid0.coords t 1).val] := by decide +kernel
  refine Eq.trans (congrArg (V m c main_v6) (funext fun a => Fin.ext ?_)) (arr1 m c _ _ _)
  fin_cases a <;> blk_simp [e] <;> rfl

theorem blk2 (s : Fin 4) (b : Fin 32) (n : Fin 128) :
    iblk m c 2 t (ix3 s b n) = m ((c : Thread nD τ).loc main_arg0) (ix3 (seq (grid0.coords t) b) s (column (grid0.coords t) n)) := by
  have e : ∀ t : Fin grid0.N, win0_2.index t = ![0, (grid0.coords t 0).val, 32 + (grid0.coords t 1).val] := by decide +kernel
  refine Eq.trans (congrArg (V m c main_v4) (funext fun a => Fin.ext ?_)) (arr0 m c _ _ _)
  fin_cases a <;> blk_simp [e] <;> rfl

theorem blk3 (s : Fin 3) (b : Fin 32) (n : Fin 128) :
    iblk m c 3 t (ix3 s b n) = m ((c : Thread nD τ).loc main_arg4) (ix4 0 (seq (grid0.coords t) b) s (column (grid0.coords t) n)) := by
  have e : ∀ t : Fin grid0.N, win0_3.index t = ![0, (grid0.coords t 0).val, 32 + (grid0.coords t 1).val] := by decide +kernel
  refine Eq.trans (congrArg (V m c main_v6) (funext fun a => Fin.ext ?_)) (arr1 m c _ _ _)
  fin_cases a <;> blk_simp [e] <;> rfl

theorem blk7 (s : Fin 4) (b : Fin 32) (h : Fin 128) :
    iblk m c 7 t (ix3 s b h) = padded (fun h => m ((c : Thread nD τ).loc main_arg2) (ix3 (seq (grid0.coords t) b) s h)) h := by
  have e : ∀ t : Fin grid0.N, win0_7.index t = ![0, (grid0.coords t 0).val, 0] := by decide +kernel
  refine Eq.trans (congrArg (V m c main_v10) (funext fun a => Fin.ext ?_)) (arr7 m c _ _ _)
  fin_cases a <;> blk_simp [e] <;> rfl

theorem blk8 (h : Fin 128) :
    iblk m c 8 t (ix2 0 h) = padded (fun h => m ((c : Thread nD τ).loc main_arg7) (ix2 0 h)) h := by
  have e : ∀ t : Fin grid0.N, win0_8.index t = ![0, 0] := by decide +kernel
  refine Eq.trans (congrArg (V m c main_v11) (funext fun a => Fin.ext ?_)) (arr8 m c _)
  fin_cases a <;> blk_simp [e] <;> rfl

theorem blk9 (h : Fin 128) :
    iblk m c 9 t (ix2 0 h) = padded (fun h => m ((c : Thread nD τ).loc main_arg8) (ix2 0 h)) h := by
  have e : ∀ t : Fin grid0.N, win0_9.index t = ![0, 0] := by decide +kernel
  refine Eq.trans (congrArg (V m c main_v12) (funext fun a => Fin.ext ?_)) (arr9 m c _)
  fin_cases a <;> blk_simp [e] <;> rfl

theorem blk10 (k : Fin 4) (l : Fin 512) :
    iblk m c 10 t (ix2 k l) = m ((c : Thread nD τ).loc main_arg5) (ix3 0 k (lane (grid0.coords t) l)) := by
  have e : ∀ t : Fin grid0.N, win0_10.index t = ![0, (grid0.coords t 1).val] := by decide +kernel
  refine Eq.trans (congrArg (V m c main_v13) (funext fun a => Fin.ext ?_)) (arr10 m c _ _)
  fin_cases a <;> blk_simp [e] <;> rfl

theorem blk11 (l : Fin 512) :
    iblk m c 11 t (ix2 0 l) = m ((c : Thread nD τ).loc main_arg6) (ix2 0 (lane (grid0.coords t) l)) := by
  have e : ∀ t : Fin grid0.N, win0_11.index t = ![0, (grid0.coords t 1).val] := by decide +kernel
  refine Eq.trans (congrArg (V m c main_arg6) (funext fun a => Fin.ext ?_)) (congrFun (V_main_arg6 m c) _)
  fin_cases a <;> blk_simp [e] <;> rfl

theorem blk12 (k : Fin 4) (n : Fin 128) :
    iblk m c 12 t (ix2 k n) = m ((c : Thread nD τ).loc main_arg5) (ix3 0 k (column (grid0.coords t) n)) := by
  have e : ∀ t : Fin grid0.N, win0_12.index t = ![0, 32 + (grid0.coords t 1).val] := by decide +kernel
  refine Eq.trans (congrArg (V m c main_v13) (funext fun a => Fin.ext ?_)) (arr10 m c _ _)
  fin_cases a <;> blk_simp [e] <;> rfl

theorem blk13 (n : Fin 128) :
    iblk m c 13 t (ix2 0 n) = m ((c : Thread nD τ).loc main_arg6) (ix2 0 (column (grid0.coords t) n)) := by
  have e : ∀ t : Fin grid0.N, win0_13.index t = ![0, 32 + (grid0.coords t 1).val] := by decide +kernel
  refine Eq.trans (congrArg (V m c main_arg6) (funext fun a => Fin.ext ?_)) (congrFun (V_main_arg6 m c) _)
  fin_cases a <;> blk_simp [e] <;> rfl

theorem blk18 (b : Fin 32) (l : Fin 512) (n : Fin 128) :
    iblk m c 18 t (ix4 b 0 l n) = V m c main_v14 (ix4 (seq (grid0.coords t) b) (grid0.coords t 1) l n) := by
  have e : ∀ t : Fin grid0.N, win0_18.index t = ![(grid0.coords t 0).val, (grid0.coords t 1).val, 0, 0] := by decide +kernel
  refine congrArg (V m c main_v14) (funext fun a => Fin.ext ?_)
  fin_cases a <;> blk_simp [e] <;> rfl

end Cert.Sample

end
-- ==== Proof.SampleArr.lean ====
/- The array of states that the samples' state-space kernel leaves. -/
module

public import proofs.«01_k».proof.Proof.SampleBlk
public import proofs.«01_k».proof.Proof.Gen.SampleKernelIdeal.Value

@[expose] public section

set_option maxRecDepth 16384

noncomputable section

namespace Cert.Sample

open Idealize.ShloMosaic Idealize.ShloMosaic.TcCoe Cert.SampleKernelIdeal Cert.SampleKernelIdeal.Gen Cert.Ssd

variable (m : (ℓ : Loc nD τ sig) → Buf (Elt Ideal) ℓ) (c : Dev nD) (t : Fin cfg0.N)

theorem padded_add (f f' : Fin 64 → EReal) (hf : ∀ h, f h + f' h < ⊤) (h : Fin 128) : padded f h + padded f' h < ⊤ := by
  unfold padded
  split
  · exact hf _
  · rw [add_zero]
    exact EReal.zero_lt_top

theorem padded_head (f : Fin 64 → EReal) (i : grid0.Coords) (l : Fin 512) (h : Fin 64) (e : h.val = (i 1).val * 8 + l.val / 64) :
    padded f (head i l) = f h := by
  have e' : (head i l).val = h.val := by rw [e]; show 8 * (i 1).val + l.val / 64 = _; omega
  unfold padded
  rw [dif_pos (by rw [e']; exact h.isLt)]
  exact congrArg f (Fin.ext e')

/-- The arguments, whole, as the kernel's launch memory holds them. -/
def stateOfArgs : Vec Ideal S128x8x512x128 .f32 :=
  result (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

theorem step_eq (s : Fin 4) (b : Fin 32) (l : Fin 512) (h : Fin 64) (e : h.val = (grid0.coords t 1).val * 8 + l.val / 64) :
    step (iblk m c 7 t) (iblk m c 8 t) s b (head (grid0.coords t) l)
      = stepOf (m ((c : Thread nD τ).loc main_arg2)) (m ((c : Thread nD τ).loc main_arg7)) (seq (grid0.coords t) b) h s := by
  unfold step
  rw [blk7, blk8, padded_head _ _ _ h e, padded_head _ _ _ h e]
  rfl

theorem rate_eq (l : Fin 512) (h : Fin 64) (e : h.val = (grid0.coords t 1).val * 8 + l.val / 64) :
    rate (iblk m c 9 t) (head (grid0.coords t) l) = 0 - Ideal.exp (m ((c : Thread nD τ).loc main_arg8) (ix2 0 h)) := by
  unfold rate
  rw [blk9, padded_head _ _ _ h e]

theorem total_eq (s : Fin 4) (b : Fin 32) (l : Fin 512) (h : Fin 64) (e : h.val = (grid0.coords t 1).val * 8 + l.val / 64) :
    total (iblk m c 7 t) (iblk m c 8 t) (iblk m c 9 t) s b (head (grid0.coords t) l)
      = sums (fun s => stepOf (m ((c : Thread nD τ).loc main_arg2)) (m ((c : Thread nD τ).loc main_arg7)) (seq (grid0.coords t) b) h s
          * (0 - Ideal.exp (m ((c : Thread nD τ).loc main_arg8) (ix2 0 h)))) s := by
  unfold total sums
  simp only [step_eq m c t _ b l h e, rate_eq m c t l h e]

theorem x_eq (s : Fin 4) (b : Fin 32) (l : Fin 512) :
    xAt (iblk m c 0 t) (iblk m c 1 t) (iblk m c 10 t) (iblk m c 11 t) s b l
      = channel (m ((c : Thread nD τ).loc main_arg0)) (m ((c : Thread nD τ).loc main_arg4)) (m ((c : Thread nD τ).loc main_arg5))
          (m ((c : Thread nD τ).loc main_arg6)) (seq (grid0.coords t) b) (lane (grid0.coords t) l) s := by
  unfold xAt channel
  simp only [blk0, blk1, blk10, blk11]

theorem b_eq (s : Fin 4) (b : Fin 32) (n : Fin 128) :
    bAt (iblk m c 2 t) (iblk m c 3 t) (iblk m c 12 t) (iblk m c 13 t) s b n
      = channel (m ((c : Thread nD τ).loc main_arg0)) (m ((c : Thread nD τ).loc main_arg4)) (m ((c : Thread nD τ).loc main_arg5))
          (m ((c : Thread nD τ).loc main_arg6)) (seq (grid0.coords t) b) (column (grid0.coords t) n) s := by
  unfold bAt channel
  simp only [blk2, blk3, blk12, blk13]

/-- What a grid point stores is its part of the state of all sequences. -/
theorem stateAt_eq (b : Fin 32) (l : Fin 512) (n : Fin 128) :
    stateAt (grid0.coords t) (iblk m c 0 t) (iblk m c 1 t) (iblk m c 2 t) (iblk m c 3 t) (iblk m c 7 t) (iblk m c 8 t) (iblk m c 9 t)
        (iblk m c 10 t) (iblk m c 11 t) (iblk m c 12 t) (iblk m c 13 t) (iblk m c 18 t) b l n
      = stateOfArgs m c (ix4 (seq (grid0.coords t) b) (grid0.coords t 1) l n) := by
  have hg : (grid0.coords t 1).val < 8 := (grid0.coords t 1).isLt
  have e : (⟨(grid0.coords t 1).val * 8 + l.val / 64, by omega⟩ : Fin 64).val = (grid0.coords t 1).val * 8 + l.val / 64 := rfl
  unfold stateAt
  simp only [step_eq m c t _ b l _ e, total_eq m c t _ b l _ e, x_eq, b_eq]
  exact congrArg (fun v : EReal => v * _ + _)
    ((blk18 m c t b l n).trans (arr18 m c (seq (grid0.coords t) b) (grid0.coords t 1) l n))

/-- The array of states after the run. -/
theorem array (h : ∀ b s k, stepArg (m ((c : Thread nD τ).loc main_arg2)) (m ((c : Thread nD τ).loc main_arg7)) b s k < ⊤) :
    (dats m 0 c).arrAt 20 cfg0.N = stateOfArgs m c := by
  have hr : ∀ t s b k, ∃ r : ℝ, 0 ≤ r ∧ step (iblk m c 7 t) (iblk m c 8 t) s b k = r := fun t s b k => by
    unfold step
    rw [blk7, blk8]
    exact softplus_real (padded_add _ _ (fun k => h _ _ k) k)
  have hd : ∀ t s b k, step (iblk m c 7 t) (iblk m c 8 t) s b k < ⊤ := fun t s b k => by
    obtain ⟨r, -, e⟩ := hr t s b k
    rw [e]
    exact EReal.coe_lt_top r
  have hs : ∀ t s b k, total (iblk m c 7 t) (iblk m c 8 t) (iblk m c 9 t) s b k < ⊤ := fun t s b k => by
    have d : ∀ s, step (iblk m c 7 t) (iblk m c 8 t) s b k * rate (iblk m c 9 t) k ≤ 0 := fun s => by
      obtain ⟨r, p, e⟩ := hr t s b k
      rw [e]
      exact decay_nonpos p _
    refine lt_of_le_of_lt ?_ EReal.zero_lt_top
    unfold total
    rcases token_cases s with rfl | rfl | rfl | rfl
    · exact d 0
    · exact add_nonpos (d 0) (d 1)
    · exact add_nonpos (add_nonpos (d 0) (d 1)) (d 2)
    · exact add_nonpos (add_nonpos (add_nonpos (d 0) (d 1)) (d 2)) (d 3)
  have e : ∀ t : Fin grid0.N, win0_20.index t = ![(grid0.coords t 0).val, (grid0.coords t 1).val, 0, 0] := by decide +kernel
  refine (dats m 0 c).arrAt_eq_of_covers 20 _ (by decide +kernel) fun t hf y => ?_
  rw [after0_20, out_eq _ _ _ _ _ _ _ _ _ _ _ _ _ _ _ _ _ _ _ _ (hd t) (hs t)]
  refine (stateAt_eq m c t (y 0) (y 2) (y 3)).trans (congrArg (stateOfArgs m c) (funext fun a => Fin.ext ?_))
  fin_cases a <;> blk_simp [e] <;> rfl

end Cert.Sample

end
-- ==== Proof.SampleRef.lean ====
/- The samples' state by the reference, at an index; what the precondition says of the steps; the claim of equal states. -/
module

public import proofs.«01_k».proof.Defs
public import proofs.«01_k».proof.Proof.SampleArr
public import proofs.«01_k».proof.Proof.Gen.SampleReferenceIdeal.Read
public import proofs.«01_k».proof.Proof.Gen.SampleReferenceIdeal.Run
public import proofs.«01_k».proof.Proof.Gen.SampleKernelIdeal.Frame
public import proofs.«01_k».proof.Proof.Gen.Pre_finite_steps
public import Idealize.ShloMosaic.Lib.Pointwise

@[expose] public section

set_option maxRecDepth 16384

noncomputable section

namespace Cert.Sample.Ref

open Idealize.ShloMosaic Cert.SampleReferenceIdeal Cert.SampleReferenceIdeal.Gen Cert.SampleReferenceIdeal.Read Cert.Ssd

/-- The positions of a window of four tokens, in order. -/
abbrev Window : Shape := ⟨4, ![1, 4, 1, 1]⟩

theorem window_index (n : Fin Window.numel) (a : Fin 4) : (Window.rowMajor.symm n a).val = ![0, n.val, 0, 0] a := by
  revert n a
  decide +kernel

/-- The running sum over the tokens, written as sums over windows padded with zeros in front. -/
theorem running (x : FVec Ideal S128x4x8x8 .f32) (init : FVec Ideal S_ .f32) (hi : ∀ y, init y = 0)
    (h : S128x4x8x8.ReduceWindows ![1, 4, 1, 1] ![1, 1, 1, 1] ![0, 3, 0, 0] ![0, 0, 0, 0] S128x4x8x8) (hu : 0 < S_.numel)
    (b : Fin 128) (t : Fin 4) (g r : Fin 8) :
    Host.reduceWindowAdd ![1, 4, 1, 1] ![1, 1, 1, 1] ![0, 3, 0, 0] ![0, 0, 0, 0] x init h hu (ix4 b t g r)
      = sums (fun t => x (ix4 b t g r)) t := by
  let val : ℕ → EReal := fun k => if hk : 3 ≤ t.val + k ∧ t.val + k - 3 < 4 then x (ix4 b ⟨t.val + k - 3, hk.2⟩ g r) else 0
  have e : Host.reduceWindowAdd ![1, 4, 1, 1] ![1, 1, 1, 1] ![0, 3, 0, 0] ![0, 0, 0, 0] x init h hu (ix4 b t g r)
      = (List.finRange Window.numel).foldl (fun s n => s + val n.val) 0 := by
    show Host.reduceWindow (u := ⟨0, ![]⟩) (fun a b : EReal => a + b) _ _ _ _ x (fun _ => init (Shape.Idx.first hu)) h (by decide) (ix4 b t g r) = _
    unfold Host.reduceWindow
    dsimp only
    rw [hi]
    refine congrArg (fun f => List.foldl f (0 : EReal) (List.finRange Window.numel)) (funext fun s => funext fun n => congrArg (s + ·) ?_)
    have w0 : (Window.rowMajor.symm n 0).val = 0 := window_index n 0
    have w1 : (Window.rowMajor.symm n 1).val = n.val := window_index n 1
    have w2 : (Window.rowMajor.symm n 2).val = 0 := window_index n 2
    have w3 : (Window.rowMajor.symm n 3).val = 0 := window_index n 3
    by_cases hk : 3 ≤ t.val + n.val ∧ t.val + n.val - 3 < 4
    · have v : val n.val = x (ix4 b ⟨t.val + n.val - 3, hk.2⟩ g r) := dif_pos hk
      refine Eq.trans (dif_pos fun a => ?_) (Eq.trans (congrArg x (funext fun a => Fin.ext ?_)) v.symm)
      · match a with
        | ⟨0, _⟩ => show 0 ≤ b.val * 1 + (Window.rowMajor.symm n 0).val ∧ b.val * 1 + (Window.rowMajor.symm n 0).val - 0 < 128; rw [w0]; omega
        | ⟨1, _⟩ => show 3 ≤ t.val * 1 + (Window.rowMajor.symm n 1).val ∧ t.val * 1 + (Window.rowMajor.symm n 1).val - 3 < 4; rw [w1]; omega
        | ⟨2, _⟩ => show 0 ≤ g.val * 1 + (Window.rowMajor.symm n 2).val ∧ g.val * 1 + (Window.rowMajor.symm n 2).val - 0 < 8; rw [w2]; omega
        | ⟨3, _⟩ => show 0 ≤ r.val * 1 + (Window.rowMajor.symm n 3).val ∧ r.val * 1 + (Window.rowMajor.symm n 3).val - 0 < 8; rw [w3]; omega
      · match a with
        | ⟨0, _⟩ => show b.val * 1 + (Window.rowMajor.symm n 0).val - 0 = b.val; rw [w0]; omega
        | ⟨1, _⟩ => show t.val * 1 + (Window.rowMajor.symm n 1).val - 3 = t.val + n.val - 3; rw [w1]; omega
        | ⟨2, _⟩ => show g.val * 1 + (Window.rowMajor.symm n 2).val - 0 = g.val; rw [w2]; omega
        | ⟨3, _⟩ => show r.val * 1 + (Window.rowMajor.symm n 3).val - 0 = r.val; rw [w3]; omega
    · have v : val n.val = 0 := dif_neg hk
      refine Eq.trans (dif_neg fun hin => hk ?_) v.symm
      have := hin 1
      change 3 ≤ t.val * 1 + (Window.rowMajor.symm n 1).val ∧ t.val * 1 + (Window.rowMajor.symm n 1).val - 3 < 4 at this
      rw [w1] at this
      omega
  rw [e]
  rw [show List.finRange Window.numel = [⟨0, by decide⟩, ⟨1, by decide⟩, ⟨2, by decide⟩, ⟨3, by decide⟩] from by decide +kernel]
  show 0 + val 0 + val 1 + val 2 + val 3 = _
  rw [zero_add]
  rcases token_cases t with rfl | rfl | rfl | rfl
  · show 0 + 0 + 0 + x (ix4 b 0 g r) = _
    simp [sums]
  · show 0 + 0 + x (ix4 b 0 g r) + x (ix4 b 1 g r) = _
    simp [sums]
  · show 0 + x (ix4 b 0 g r) + x (ix4 b 1 g r) + x (ix4 b 2 g r) = _
    simp [sums]
  · rfl

variable (a0 : Vec Ideal S128x4x6144 .f32) (a2 : Vec Ideal S128x4x64 .f32) (a3 : Vec Ideal S1x128x64x64x128 .f32)
  (a4 : Vec Ideal S1x128x3x6144 .f32) (a5 : Vec Ideal S1x4x6144 .f32) (a6 : Vec Ideal S1x6144 .f32)
  (a7 a8 : Vec Ideal S1x64 .f32)

/-- The gated convolution of the tokens and the three before them. -/
theorem gate_apply (b : Fin 128) (t : Fin 4) (l : Fin 6144) :
    val_main_v35 (F := Ideal) a0 a4 a5 a6 (ix3 b t l) = channel a0 a4 a5 a6 b l t := by
  have e : val_main_v35 (F := Ideal) a0 a4 a5 a6 (ix3 b t l)
      = val_main_v34 (F := Ideal) a0 a4 a5 a6 (ix3 b t l) * Ideal.logistic (val_main_v34 (F := Ideal) a0 a4 a5 a6 (ix3 b t l)) := by
    unfold val_main_v35
    pointwise [val_main_call0_v5, val_main_call0_v4, val_main_call0_cst_0, val_main_call0_v3, val_main_call0_v2, val_main_call0_v1,
      val_main_call0_v0, val_main_call0_cst]
    rfl
  rw [e]
  unfold val_main_v34
  rcases token_cases t with rfl | rfl | rfl | rfl <;>
  · pointwise [val_main_v33, val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v0]
    rfl

theorem step_apply (b : Fin 128) (t : Fin 4) (h : Fin 64) :
    val_main_v45 (F := Ideal) a2 a7 (ix3 b t h) = stepOf a2 a7 b h t := by
  unfold val_main_v45
  pointwise [val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst,
    val_main_v44, val_main_v43, val_main_v42, val_main_v41]
  rw [if_neg (not_not_intro rfl)]
  unfold stepOf softplus stepArg
  rw [zero_sub]
  rfl

/-- The decay exponents of a head, summed over the tokens. -/
theorem sums_apply (b : Fin 128) (t : Fin 4) (g r : Fin 8) :
    val_main_v65 (F := Ideal) a2 a7 a8 (ix4 b t g r)
      = sums (fun t => stepOf a2 a7 b ⟨g.val * 8 + r.val, by omega⟩ t * (0 - Ideal.exp (a8 (ix2 0 ⟨g.val * 8 + r.val, by omega⟩)))) t := by
  unfold val_main_v65
  refine (running _ _ (fun y => ?_) _ _ b t g r).trans (congrArg (fun d => sums d t) (funext fun t => ?_))
  · exact Ideal.ofBits_zero_f32
  · unfold val_main_v63
    pointwise [val_main_v58, val_main_v54, val_main_v50, val_main_v53, val_main_v52, val_main_v51, val_main_v48, val_main_v47, val_main_v46]
    rw [step_apply, zero_sub]

theorem steps_apply (b : Fin 128) (t : Fin 4) (g r : Fin 8) :
    val_main_v62 (F := Ideal) a2 a7 (ix4 b t g r) = stepOf a2 a7 b ⟨g.val * 8 + r.val, by omega⟩ t := by
  refine Eq.trans ?_ (step_apply a2 a7 b t _)
  unfold val_main_v62
  pointwise [val_main_v57, val_main_v50]

theorem inputs_apply (b : Fin 128) (t : Fin 4) (g r : Fin 8) (p : Fin 64) (l : Fin 6144) (e : l.val = (g.val * 8 + r.val) * 64 + p.val) :
    val_main_v61 (F := Ideal) a0 a4 a5 a6 (ix5 b t g r p) = channel a0 a4 a5 a6 b l t := by
  refine Eq.trans ?_ (gate_apply a0 a4 a5 a6 b t l)
  unfold val_main_v61
  pointwise [val_main_v56, val_main_v49, val_main_v39, val_main_v36]
  exact congrArg _ (congrArg (ix3 b t) (Fin.ext (by rw [e]; show g.val * 512 + r.val * 64 + p.val = _; omega)))

theorem weights_apply (b : Fin 128) (t : Fin 4) (g : Fin 8) (n : Fin 128) (l : Fin 6144) (e : l.val = (32 + g.val) * 128 + n.val) :
    val_main_v64 (F := Ideal) a0 a4 a5 a6 (ix4 b t g n) = channel a0 a4 a5 a6 b l t := by
  refine Eq.trans ?_ (gate_apply a0 a4 a5 a6 b t l)
  unfold val_main_v64
  pointwise [val_main_v59, val_main_v55, val_main_v40, val_main_v37]
  exact congrArg _ (congrArg (ix3 b t) (Fin.ext (by rw [e]; show 4096 + (g.val * 128 + n.val) = _; omega)))

/-- The reference's state of a sequence, by heads. -/
theorem heads_state (b : Fin 128) (g r : Fin 8) (p : Fin 64) (n : Fin 128) (l : Fin 512) (e : l.val = r.val * 64 + p.val) :
    val_main_v81 (F := Ideal) a0 a2 a3 a4 a5 a6 a7 a8 (ix5 b g r p n) = entry a0 a2 a3 a4 a5 a6 a7 a8 b g l n := by
  have eh : (⟨g.val * 8 + l.val / 64, by omega⟩ : Fin 64) = ⟨g.val * 8 + r.val, by omega⟩ := Fin.ext (by show g.val * 8 + l.val / 64 = g.val * 8 + r.val; omega)
  have ep : (⟨l.val % 64, by omega⟩ : Fin 64) = p := Fin.ext (by show l.val % 64 = p.val; omega)
  unfold val_main_v81
  pointwise [val_main_v80, val_main_v79, val_main_v78, val_main_v77, val_main_v76, val_main_v75, val_main_v74, val_main_v73, val_main_v72,
    val_main_v71, val_main_v70, val_main_v69, val_main_v68, val_main_v67, val_main_v66, val_main_v60, val_main_v1]
  simp only [sums_apply, steps_apply, inputs_apply a0 a4 a5 a6 b _ g r p ⟨g.val * 512 + l.val, by omega⟩ (by show g.val * 512 + l.val = _; omega),
    weights_apply a0 a4 a5 a6 b _ g n ⟨(32 + g.val) * 128 + n.val, by omega⟩ rfl]
  unfold entry after
  rw [eh, ep]
  refine congrArg (fun v : EReal => _ + v) (Finset.sum_congr rfl fun t _ => congrArg (fun v : EReal => v * _) ?_)
  rw [mul_comm, mul_comm (Ideal.exp _), ← mul_assoc]

theorem state_eq : val_main_v83 (F := Ideal) a0 a2 a3 a4 a5 a6 a7 a8 = result a0 a2 a3 a4 a5 a6 a7 a8 := by
  funext y
  obtain ⟨b, g, l, n, rfl⟩ : ∃ (b : Fin 128) (g : Fin 8) (l : Fin 512) (n : Fin 128), y = ix4 b g l n := ⟨y 0, y 1, y 2, y 3, eq_ix4 y⟩
  refine Eq.trans ?_ (heads_state a0 a2 a3 a4 a5 a6 a7 a8 b g ⟨l.val / 64, by omega⟩ ⟨l.val % 64, by omega⟩ n l
    (by show l.val = l.val / 64 * 64 + l.val % 64; omega))
  unfold val_main_v83 val_main_v82
  pointwise

end Cert.Sample.Ref

namespace Cert.Sample

open Idealize.ShloMosaic Idealize.ShloMosaic.TcCoe Cert.SampleKernelIdeal Cert.SampleKernelIdeal.Gen Cert.Ssd

/-- The precondition: no step's argument is `+∞`. -/
theorem below (m : (ℓ : Loc nD τ sig) → Buf (Elt Ideal) ℓ) (h : Cert.Pre_SampleKernelIdeal_finite_steps m) (c : Dev nD) (b : Fin 128)
    (t : Fin 4) (k : Fin 64) :
    stepArg (m ((c : Thread nD τ).loc main_arg2)) (m ((c : Thread nD τ).loc main_arg7)) b t k < ⊤ := by
  have top : Ideal.ofBits .f32 0x7F800000#32 = ⊤ := by simp [Ideal.ofBits, Ideal.ieee]
  have e : Ideal.cmp .olt (stepArg (m ((c : Thread nD τ).loc main_arg2)) (m ((c : Thread nD τ).loc main_arg7)) b t k)
      (Ideal.ofBits .f32 0x7F800000#32) = 1#1 := by
    refine Eq.trans ?_ (congrFun (h c) (ix3 b t k))
    pointwise [Cert.Pre_finite_steps.fn]
    rfl
  rw [top] at e
  by_contra n
  simp [Ideal.cmp, n] at e

/-- The kernel's states of the samples are the reference's. -/
theorem algebraic : Cert.algebraic_SampleKernelIdeal_SampleReferenceIdeal_pre_finite_steps := by
  intro m ρ m' ρ' hpre hagree
  refine ⟨fun c => stateOfArgs m c, ?_, ?_⟩
  · refine (θ_run defs _ _).mono (fun r h c => ?_) (Cert.SampleKernelIdeal.Value.run_blocks (F := Ideal) m ρ)
    obtain ⟨-, hv, hk⟩ := h c
    exact ⟨hv.trans (array m c (below m hpre c)), hk⟩
  · refine (θ_run Cert.SampleReferenceIdeal.defs _ _).mono (fun r h c => ?_) (Cert.SampleReferenceIdeal.Value.run m' ρ')
    obtain ⟨e0, e1, e2, e3, e4, e5, e6, e7, e8, e9, e10⟩ := hagree c
    obtain ⟨h0, hk⟩ := h c
    refine ⟨h0.trans ((Cert.SampleReferenceIdeal.Read.val_main_v83_eq m' c).trans ?_), hk⟩
    rw [e0, e2, e3, e4, e5, e6, e7, e8]
    exact Ref.state_eq _ _ _ _ _ _ _ _

end Cert.Sample

end
-- ==== Proof.PromptPiece.lean ====
/- The prompts' recurrence: one entry of the state over one chunk. -/
module

public import proofs.«01_k».proof.Proof.Gen.KernelIdeal.Skeleton
public import proofs.«01_k».proof.Proof.Ssd
public import Idealize.ShloMosaic.Lib.Pointwise

@[expose] public section

noncomputable section

namespace Cert.Prompt

open Idealize.ShloMosaic Cert.KernelIdeal

/-- What one token adds to an entry of the state: the input times its weight until the chunk's end, times the other input. -/
def added (s dt : Fin 128 → EReal) (x b : Fin 128 → EReal) (q : Fin 128) : EReal :=
  b q * (Ideal.exp (s 127 - s q) * dt q) * x q

/-- An entry of the state after a chunk, of the entry before it, the sums of the decays, the steps and the inputs. -/
def advance (s dt : Fin 128 → EReal) (x b : Fin 128 → EReal) (h : EReal) : EReal :=
  h * Ideal.exp (s 127) + ∑ q, added s dt x b q

/-- Two heads lie side by side in a lane block: the products are taken over both heads' rows, one head's half zeroed. -/
theorem pick (l : ℕ) (hl : l < 128) (h E0 E1 : EReal) (A B : Fin 128 → EReal) :
    h * Scalar.select (IntOp.cmpi .slt (BitVec.ofNat 32 l) 64#32) E0 E1
        + (∑ q, Scalar.select (IntOp.cmpi .slt (BitVec.ofNat 32 l) 64#32) (A q) 0
          + ∑ q, Scalar.select (IntOp.cmpi .slt (BitVec.ofNat 32 l) 64#32) 0 (B q))
      = if l < 64 then h * E0 + ∑ q, A q else h * E1 + ∑ q, B q := by
  have e : IntOp.cmpi .slt (BitVec.ofNat 32 l) 64#32 = if l < 64 then 1#1 else 0#1 := by
    revert l
    decide +kernel
  rw [e]
  by_cases c : l < 64
  · simp [c, Scalar.select]
  · simp [c, Scalar.select]

end Cert.Prompt

end
-- ==== Proof.PromptSlabs.lean ====
/- The prompts' recurrence: the kernel's depthwise convolution, a slab of 512 channels at a time. -/
module

public import proofs.«01_k».proof.Proof.PromptPiece

@[expose] public section

set_option maxRecDepth 16384

noncomputable section

namespace Cert.Prompt

open Idealize.ShloMosaic Cert.KernelIdeal Cert.KernelIdeal.Gen

section Terms

variable {F : FTy → Type} [FloatOps F] (v0 v1 v2 v3 : Vec F S128x512 .f32) (w0 w1 w2 w3 b : Vec F S1x512 .f32)

/-- Slab 0 of the gated convolution, of the rows three to none before, the weights and the bias. -/
def slab0 : Vec F S128x512 .f32 :=
  k0_pay43 (k0_pay42 b v0 w0 v1 w1) v2 w2 v3 w3

/-- Slab 1 of the gated convolution, of the rows three to none before, the weights and the bias. -/
def slab1 : Vec F S128x512 .f32 :=
  k0_pay45 (k0_pay44 b v0 w0 v1 w1 v2 w2) v3 w3

/-- Slab 2 of the gated convolution, of the rows three to none before, the weights and the bias. -/
def slab2 : Vec F S128x512 .f32 :=
  k0_pay48 (k0_pay46 b v0 w0 v1 w1 v2 w2 v3 w3) (k0_pay47 b v0 w0 v1 w1 v2 w2 v3 w3)

/-- Slab 3 of the gated convolution, of the rows three to none before, the weights and the bias. -/
def slab3 : Vec F S128x512 .f32 :=
  k0_pay49 b v0 w0 v1 w1 v2 w2 v3 w3

/-- Slab 4 of the gated convolution, of the rows three to none before, the weights and the bias. -/
def slab4 : Vec F S128x512 .f32 :=
  k0_pay50 b v0 w0 v1 w1 v2 w2 v3 w3

/-- Slab 5 of the gated convolution, of the rows three to none before, the weights and the bias. -/
def slab5 : Vec F S128x512 .f32 :=
  k0_pay51 b v0 w0 v1 w1 v2 w2 v3 w3

/-- Slab 6 of the gated convolution, of the rows three to none before, the weights and the bias. -/
def slab6 : Vec F S128x512 .f32 :=
  k0_pay53 (k0_pay52 b v0 w0) v1 w1 v2 w2 v3 w3

/-- Slab 7 of the gated convolution, of the rows three to none before, the weights and the bias. -/
def slab7 : Vec F S128x512 .f32 :=
  k0_pay55 (k0_pay54 b v0 w0 v1 w1) v2 w2 v3 w3

/-- Slab 8 of the gated convolution, of the rows three to none before, the weights and the bias. -/
def slab8 : Vec F S128x512 .f32 :=
  k0_pay58 (k0_pay56 b v0 w0 v1 w1) (k0_pay57 v2 w2) v3 w3

/-- Slab 9 of the gated convolution, of the rows three to none before, the weights and the bias. -/
def slab9 : Vec F S128x512 .f32 :=
  k0_pay61 (k0_pay59 b v0 w0 v1 w1 v2 w2) v3 (k0_pay60 w3)

/-- Slab 10 of the gated convolution, of the rows three to none before, the weights and the bias. -/
def slab10 : Vec F S128x512 .f32 :=
  k0_pay63 (k0_pay62 b v0 w0 v1 w1 v2 w2 v3 w3)

/-- Slab 11 of the gated convolution, of the rows three to none before, the weights and the bias. -/
def slab11 : Vec F S128x512 .f32 :=
  k0_pay64 b v0 w0 v1 w1 v2 w2 v3 w3

end Terms

variable (v0 v1 v2 v3 : Vec Ideal S128x512 .f32) (w0 w1 w2 w3 b : Vec Ideal S1x512 .f32) (l : Fin 128) (n : Fin 512)

theorem slab0_apply : slab0 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab0
  pointwise [k0_pay42, k0_pay43]
  rfl

theorem slab1_apply : slab1 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab1
  pointwise [k0_pay44, k0_pay45]
  rfl

theorem slab2_apply : slab2 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab2
  pointwise [k0_pay46, k0_pay47, k0_pay48]
  rfl

theorem slab3_apply : slab3 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab3
  pointwise [k0_pay49]
  rfl

theorem slab4_apply : slab4 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab4
  pointwise [k0_pay50]
  rfl

theorem slab5_apply : slab5 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab5
  pointwise [k0_pay51]
  rfl

theorem slab6_apply : slab6 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab6
  pointwise [k0_pay52, k0_pay53]
  rfl

theorem slab7_apply : slab7 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab7
  pointwise [k0_pay54, k0_pay55]
  rfl

theorem slab8_apply : slab8 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab8
  pointwise [k0_pay56, k0_pay57, k0_pay58]
  rfl

theorem slab9_apply : slab9 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab9
  pointwise [k0_pay59, k0_pay60, k0_pay61]
  rfl

theorem slab10_apply : slab10 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab10
  pointwise [k0_pay62, k0_pay63]
  rfl

theorem slab11_apply : slab11 v0 v1 v2 v3 w0 w1 w2 w3 b (ix2 l n)
    = Ssd.conv ![v0 (ix2 l n), v1 (ix2 l n), v2 (ix2 l n), v3 (ix2 l n)] ![w0 (ix2 0 n), w1 (ix2 0 n), w2 (ix2 0 n), w3 (ix2 0 n)] (b (ix2 0 n)) := by
  unfold slab11
  pointwise [k0_pay64]
  rfl

end Cert.Prompt

end
-- ==== Proof.PromptGroups0.lean ====
/- The prompts' recurrence: what the kernel leaves in the state of groups 0 and 1 over one chunk. -/
module

public import proofs.«01_k».proof.Proof.PromptPiece

@[expose] public section

set_option maxRecDepth 16384

noncomputable section

namespace Cert.Prompt

open Idealize.ShloMosaic Cert.KernelIdeal Cert.KernelIdeal.Gen

section Terms

variable {F : FTy → Type} [FloatOps F] (dt s : FVec F S64x128 .f32) (x : Vec F S128x512 .f32) (b cm : Vec F S128x128 .f32)
  (h : Vec F S1x128x512 .f32)

/-- The state the kernel stores for group 0, of the steps, the sums of the decays, the inputs and the state before. -/
def new0 : Vec F S1x128x512 .f32 :=
  k0_pay139 dt s k0_pay69 k0_pay70 x (k0_pay72 b cm) (k0_pay73 b) (k0_pay74 h) (k0_pay93 k0_pay70 (k0_pay74 h) (k0_pay80 dt s
  (k0_pay73 b)) (k0_pay81 s) (k0_pay86 dt s (k0_pay73 b)) (k0_pay87 s) (k0_pay88 k0_pay70 x) (k0_pay89 dt s k0_pay69 (k0_pay72 b
  cm))) (k0_pay110 k0_pay70 x (k0_pay74 h) (k0_pay98 dt s k0_pay69 (k0_pay72 b cm)) (k0_pay99 dt s (k0_pay73 b)) (k0_pay100 s)
  (k0_pay103 s) (k0_pay105 dt s k0_pay69 (k0_pay72 b cm)) (k0_pay106 dt s (k0_pay73 b))) (k0_pay126 k0_pay70 x (k0_pay73 b)
  (k0_pay74 h) (k0_pay115 dt s k0_pay69 (k0_pay72 b cm)) (k0_pay116 dt s (k0_pay73 b)) (k0_pay117 s) (k0_pay118 s) (k0_pay120 s)
  (k0_pay121 dt) (k0_pay122 s k0_pay69 (k0_pay72 b cm))) (k0_pay131 dt s k0_pay69 (k0_pay72 b cm)) (k0_pay132 dt s (k0_pay73 b))
  (k0_pay133 s)

/-- The state the kernel stores for group 1, of the steps, the sums of the decays, the inputs and the state before. -/
def new1 : Vec F S1x128x512 .f32 :=
  k0_pay211 dt k0_pay69 k0_pay70 x (k0_pay143 b cm) (k0_pay144 b) (k0_pay145 h) (k0_pay158 (k0_pay145 h) (k0_pay153 dt s k0_pay69
  k0_pay70 x (k0_pay143 b cm) (k0_pay144 b) (k0_pay147 s) (k0_pay148 s)) (k0_pay154 s k0_pay70 (k0_pay148 s))) (k0_pay179 k0_pay70
  (k0_pay145 h) (k0_pay163 dt s k0_pay69 (k0_pay143 b cm)) (k0_pay164 dt s (k0_pay144 b)) (k0_pay165 s) (k0_pay170 dt s k0_pay69
  (k0_pay143 b cm)) (k0_pay171 dt s (k0_pay144 b)) (k0_pay172 s) (k0_pay173 x) (k0_pay174 k0_pay70 x) k0_pay175) (k0_pay196
  k0_pay70 x (k0_pay144 b) (k0_pay145 h) (k0_pay184 dt s k0_pay69 (k0_pay143 b cm)) (k0_pay185 dt s (k0_pay144 b)) (k0_pay186 s)
  (k0_pay189 s) (k0_pay190 dt) (k0_pay191 dt s k0_pay69 (k0_pay143 b cm)) (k0_pay192 s)) (k0_pay201 dt s k0_pay69 (k0_pay143 b
  cm)) (k0_pay202 dt s (k0_pay144 b)) (k0_pay203 s) (k0_pay204 s) (k0_pay206 s) (k0_pay207 s) k0_pay208

end Terms

variable (dt s : FVec Ideal S64x128 .f32) (x : Vec Ideal S128x512 .f32) (b cm : Vec Ideal S128x128 .f32)
  (h : Vec Ideal S1x128x512 .f32) (k : Fin 128) (n : Fin 512) (j : Fin 64)

theorem new0_apply (hj : j.val = 0 + n.val / 64) :
    new0 dt s x b cm h (ix3 0 k n)
      = advance (fun q => s (ix2 j q)) (fun q => dt (ix2 j q)) (fun q => x (ix2 q n)) (fun q => b (ix2 q k)) (h (ix3 0 k n)) := by
  unfold new0
  pointwise [k0_pay69, k0_pay70, k0_pay71, k0_pay72, k0_pay73, k0_pay74, k0_pay76, k0_pay77, k0_pay78, k0_pay79, k0_pay80,
    k0_pay81, k0_pay82, k0_pay83, k0_pay84, k0_pay85, k0_pay86, k0_pay87, k0_pay88, k0_pay89, k0_pay90, k0_pay91, k0_pay93,
    k0_pay94, k0_pay95, k0_pay96, k0_pay97, k0_pay98, k0_pay99, k0_pay100, k0_pay101, k0_pay102, k0_pay103, k0_pay104, k0_pay105,
    k0_pay106, k0_pay107, k0_pay108, k0_pay110, k0_pay111, k0_pay112, k0_pay113, k0_pay114, k0_pay115, k0_pay116, k0_pay117,
    k0_pay118, k0_pay119, k0_pay120, k0_pay121, k0_pay122, k0_pay123, k0_pay124, k0_pay126, k0_pay127, k0_pay128, k0_pay129,
    k0_pay130, k0_pay131, k0_pay132, k0_pay133, k0_pay134, k0_pay135, k0_pay136, k0_pay137, k0_pay138, k0_pay139]
  have hn := n.isLt
  split_ifs with c0 c1 c2 c3 c4 c5
  · refine (pick (n.val) (by omega) _ _ _ _ _).trans ?_
    split_ifs with d
    · obtain rfl : j = 0 := Fin.ext (by show j.val = 0; omega)
      rfl
    · obtain rfl : j = 1 := Fin.ext (by show j.val = 1; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 2 := Fin.ext (by show j.val = 2; omega)
      rfl
    · obtain rfl : j = 3 := Fin.ext (by show j.val = 3; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 4 := Fin.ext (by show j.val = 4; omega)
      rfl
    · obtain rfl : j = 5 := Fin.ext (by show j.val = 5; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 6 := Fin.ext (by show j.val = 6; omega)
      rfl
    · obtain rfl : j = 7 := Fin.ext (by show j.val = 7; omega)
      rfl

theorem new1_apply (hj : j.val = 8 + n.val / 64) :
    new1 dt s x b cm h (ix3 0 k n)
      = advance (fun q => s (ix2 j q)) (fun q => dt (ix2 j q)) (fun q => x (ix2 q n)) (fun q => b (ix2 q k)) (h (ix3 0 k n)) := by
  unfold new1
  pointwise [k0_pay69, k0_pay70, k0_pay142, k0_pay143, k0_pay144, k0_pay145, k0_pay147, k0_pay148, k0_pay149, k0_pay150,
    k0_pay151, k0_pay152, k0_pay153, k0_pay154, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175,
    k0_pay176, k0_pay177, k0_pay179, k0_pay180, k0_pay181, k0_pay182, k0_pay183, k0_pay184, k0_pay185, k0_pay186, k0_pay187,
    k0_pay188, k0_pay189, k0_pay190, k0_pay191, k0_pay192, k0_pay193, k0_pay194, k0_pay196, k0_pay197, k0_pay198, k0_pay199,
    k0_pay200, k0_pay201, k0_pay202, k0_pay203, k0_pay204, k0_pay205, k0_pay206, k0_pay207, k0_pay208, k0_pay209, k0_pay210,
    k0_pay211]
  have hn := n.isLt
  split_ifs with c0 c1 c2 c3 c4 c5
  · refine (pick (n.val) (by omega) _ _ _ _ _).trans ?_
    split_ifs with d
    · obtain rfl : j = 8 := Fin.ext (by show j.val = 8; omega)
      rfl
    · obtain rfl : j = 9 := Fin.ext (by show j.val = 9; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 10 := Fin.ext (by show j.val = 10; omega)
      rfl
    · obtain rfl : j = 11 := Fin.ext (by show j.val = 11; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 12 := Fin.ext (by show j.val = 12; omega)
      rfl
    · obtain rfl : j = 13 := Fin.ext (by show j.val = 13; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 14 := Fin.ext (by show j.val = 14; omega)
      rfl
    · obtain rfl : j = 15 := Fin.ext (by show j.val = 15; omega)
      rfl

end Cert.Prompt

end
-- ==== Proof.PromptGroups1.lean ====
/- The prompts' recurrence: what the kernel leaves in the state of groups 2 and 3 over one chunk. -/
module

public import proofs.«01_k».proof.Proof.PromptPiece

@[expose] public section

set_option maxRecDepth 16384

noncomputable section

namespace Cert.Prompt

open Idealize.ShloMosaic Cert.KernelIdeal Cert.KernelIdeal.Gen

section Terms

variable {F : FTy → Type} [FloatOps F] (dt s : FVec F S64x128 .f32) (x : Vec F S128x512 .f32) (b cm : Vec F S128x128 .f32)
  (h : Vec F S1x128x512 .f32)

/-- The state the kernel stores for group 2, of the steps, the sums of the decays, the inputs and the state before. -/
def new2 : Vec F S1x128x512 .f32 :=
  k0_pay282 k0_pay70 x (k0_pay218 b) (k0_pay219 h) (k0_pay234 (k0_pay232 s k0_pay70 (k0_pay219 h) (k0_pay223 s)) (k0_pay233 dt s
  k0_pay69 k0_pay70 x (k0_pay217 b cm) (k0_pay218 b) (k0_pay221 s) (k0_pay224 s k0_pay69) (k0_pay225 dt))) (k0_pay248 k0_pay70
  (k0_pay219 h) (k0_pay238 s) (k0_pay242 s) (k0_pay243 k0_pay70 x) (k0_pay244 dt s k0_pay69 (k0_pay217 b cm) (k0_pay218 b))
  (constant S256x128 FTy.f32 0#32)) (k0_pay267 k0_pay70 (k0_pay219 h) (k0_pay253 dt s k0_pay69 (k0_pay217 b cm)) (k0_pay254 dt s
  (k0_pay218 b)) (k0_pay255 s) (k0_pay260 dt s k0_pay69 (k0_pay217 b cm)) (k0_pay261 dt s (k0_pay218 b)) (k0_pay262 s) (k0_pay263
  x) (FloatOps.ofBits (F := F) .f32 0#32)) (k0_pay272 dt s k0_pay69 (k0_pay217 b cm)) (k0_pay273 dt s (k0_pay218 b)) (k0_pay274 s)
  (k0_pay275 s) (k0_pay277 s) (k0_pay278 dt) (k0_pay279 dt s k0_pay69 (k0_pay217 b cm))

/-- The state the kernel stores for group 3, of the steps, the sums of the decays, the inputs and the state before. -/
def new3 : Vec F S1x128x512 .f32 :=
  k0_pay350 k0_pay70 x (k0_pay289 h) (k0_pay303 dt s k0_pay69 k0_pay70 x (k0_pay287 b cm) (k0_pay288 b) (k0_pay289 h) (k0_pay293
  s) (k0_pay294 dt) (k0_pay295 dt s k0_pay69 b cm) (k0_pay296 s)) (k0_pay315 (k0_pay311 dt s k0_pay69 k0_pay70 x (k0_pay287 b cm)
  (k0_pay288 b) (k0_pay304 s) (k0_pay307 s) (FloatOps.ofBits (F := F) .f32 4286578688#32)) (k0_pay312 s k0_pay70 (k0_pay306 s))
  (k0_pay314 (k0_pay289 h))) (k0_pay334 k0_pay70 (k0_pay289 h) (k0_pay320 dt s k0_pay69 (k0_pay287 b cm)) (k0_pay321 dt s
  (k0_pay288 b)) (k0_pay322 s) (k0_pay327 dt s k0_pay69 (k0_pay287 b cm)) (k0_pay328 dt s (k0_pay288 b)) (k0_pay329 s) (k0_pay330
  k0_pay70 x)) (k0_pay339 dt s k0_pay69 (k0_pay287 b cm)) (k0_pay340 dt s (k0_pay288 b)) (k0_pay341 s) (k0_pay344 s) (k0_pay346 dt
  s k0_pay69 (k0_pay287 b cm)) (k0_pay347 dt s (k0_pay288 b))

end Terms

variable (dt s : FVec Ideal S64x128 .f32) (x : Vec Ideal S128x512 .f32) (b cm : Vec Ideal S128x128 .f32)
  (h : Vec Ideal S1x128x512 .f32) (k : Fin 128) (n : Fin 512) (j : Fin 64)

theorem new2_apply (hj : j.val = 16 + n.val / 64) :
    new2 dt s x b cm h (ix3 0 k n)
      = advance (fun q => s (ix2 j q)) (fun q => dt (ix2 j q)) (fun q => x (ix2 q n)) (fun q => b (ix2 q k)) (h (ix3 0 k n)) := by
  unfold new2
  pointwise [k0_pay69, k0_pay70, k0_pay216, k0_pay217, k0_pay218, k0_pay219, k0_pay221, k0_pay222, k0_pay223, k0_pay224,
    k0_pay225, k0_pay226, k0_pay227, k0_pay228, k0_pay229, k0_pay230, k0_pay232, k0_pay233, k0_pay234, k0_pay235, k0_pay236,
    k0_pay237, k0_pay238, k0_pay239, k0_pay240, k0_pay241, k0_pay242, k0_pay243, k0_pay244, k0_pay245, k0_pay246, k0_pay248,
    k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay267, k0_pay268, k0_pay269, k0_pay270, k0_pay271,
    k0_pay272, k0_pay273, k0_pay274, k0_pay275, k0_pay276, k0_pay277, k0_pay278, k0_pay279, k0_pay280, k0_pay281, k0_pay282]
  have hn := n.isLt
  split_ifs with c0 c1 c2 c3 c4 c5
  · refine (pick (n.val) (by omega) _ _ _ _ _).trans ?_
    split_ifs with d
    · obtain rfl : j = 16 := Fin.ext (by show j.val = 16; omega)
      rfl
    · obtain rfl : j = 17 := Fin.ext (by show j.val = 17; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 18 := Fin.ext (by show j.val = 18; omega)
      rfl
    · obtain rfl : j = 19 := Fin.ext (by show j.val = 19; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 20 := Fin.ext (by show j.val = 20; omega)
      rfl
    · obtain rfl : j = 21 := Fin.ext (by show j.val = 21; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 22 := Fin.ext (by show j.val = 22; omega)
      rfl
    · obtain rfl : j = 23 := Fin.ext (by show j.val = 23; omega)
      rfl

theorem new3_apply (hj : j.val = 24 + n.val / 64) :
    new3 dt s x b cm h (ix3 0 k n)
      = advance (fun q => s (ix2 j q)) (fun q => dt (ix2 j q)) (fun q => x (ix2 q n)) (fun q => b (ix2 q k)) (h (ix3 0 k n)) := by
  unfold new3
  pointwise [k0_pay69, k0_pay70, k0_pay286, k0_pay287, k0_pay288, k0_pay289, k0_pay291, k0_pay292, k0_pay293, k0_pay294,
    k0_pay295, k0_pay296, k0_pay297, k0_pay298, k0_pay299, k0_pay300, k0_pay301, k0_pay303, k0_pay304, k0_pay305, k0_pay306,
    k0_pay307, k0_pay308, k0_pay309, k0_pay310, k0_pay311, k0_pay312, k0_pay314, k0_pay315, k0_pay316, k0_pay317, k0_pay318,
    k0_pay319, k0_pay320, k0_pay321, k0_pay322, k0_pay323, k0_pay324, k0_pay325, k0_pay326, k0_pay327, k0_pay328, k0_pay329,
    k0_pay330, k0_pay331, k0_pay332, k0_pay334, k0_pay335, k0_pay336, k0_pay337, k0_pay338, k0_pay339, k0_pay340, k0_pay341,
    k0_pay342, k0_pay343, k0_pay344, k0_pay345, k0_pay346, k0_pay347, k0_pay348, k0_pay349, k0_pay350]
  have hn := n.isLt
  split_ifs with c0 c1 c2 c3 c4 c5
  · refine (pick (n.val) (by omega) _ _ _ _ _).trans ?_
    split_ifs with d
    · obtain rfl : j = 24 := Fin.ext (by show j.val = 24; omega)
      rfl
    · obtain rfl : j = 25 := Fin.ext (by show j.val = 25; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 26 := Fin.ext (by show j.val = 26; omega)
      rfl
    · obtain rfl : j = 27 := Fin.ext (by show j.val = 27; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 28 := Fin.ext (by show j.val = 28; omega)
      rfl
    · obtain rfl : j = 29 := Fin.ext (by show j.val = 29; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 30 := Fin.ext (by show j.val = 30; omega)
      rfl
    · obtain rfl : j = 31 := Fin.ext (by show j.val = 31; omega)
      rfl

end Cert.Prompt

end
-- ==== Proof.PromptGroups2.lean ====
/- The prompts' recurrence: what the kernel leaves in the state of groups 4 and 5 over one chunk. -/
module

public import proofs.«01_k».proof.Proof.PromptPiece

@[expose] public section

set_option maxRecDepth 16384

noncomputable section

namespace Cert.Prompt

open Idealize.ShloMosaic Cert.KernelIdeal Cert.KernelIdeal.Gen

section Terms

variable {F : FTy → Type} [FloatOps F] (dt s : FVec F S64x128 .f32) (x : Vec F S128x512 .f32) (b cm : Vec F S128x128 .f32)
  (h : Vec F S1x128x512 .f32)

/-- The state the kernel stores for group 4, of the steps, the sums of the decays, the inputs and the state before. -/
def new4 : Vec F S1x128x512 .f32 :=
  k0_pay416 k0_pay70 (k0_pay358 h) (k0_pay373 dt k0_pay69 k0_pay70 x (k0_pay356 b cm) (k0_pay357 b) (k0_pay358 h) (k0_pay364 dt s
  k0_pay69 b cm) (k0_pay365 dt s b) (k0_pay366 s) (k0_pay367 s)) (k0_pay385 dt s k0_pay69 k0_pay70 x (k0_pay356 b cm) (k0_pay357
  b) (k0_pay358 h) (k0_pay374 s) (k0_pay376 s) (k0_pay377 dt) (k0_pay378 dt s k0_pay69 (k0_pay356 b cm))) (k0_pay397 (k0_pay358 h)
  (k0_pay393 dt s k0_pay69 k0_pay70 x (k0_pay356 b cm) (k0_pay357 b) (k0_pay386 s) (k0_pay387 s)) (k0_pay394 s k0_pay70 (k0_pay387
  s))) (k0_pay402 dt s k0_pay69 (k0_pay356 b cm)) (k0_pay403 dt s (k0_pay357 b)) (k0_pay404 s) (k0_pay409 dt s k0_pay69 (k0_pay356
  b cm)) (k0_pay410 dt s (k0_pay357 b)) (k0_pay411 s) (k0_pay412 x) (k0_pay413 k0_pay70 x) (FloatOps.ofBits (F := F) .f32 0#32)

/-- The state the kernel stores for group 5, of the steps, the sums of the decays, the inputs and the state before. -/
def new5 : Vec F S1x128x512 .f32 :=
  k0_pay476 k0_pay70 (k0_pay422 h) (k0_pay438 dt k0_pay70 x (k0_pay420 b cm) (k0_pay421 b) (k0_pay422 h) (k0_pay428 dt s k0_pay69
  b cm) (k0_pay429 dt s b) (k0_pay430 s) (k0_pay431 s) (k0_pay433 s) (k0_pay434 s k0_pay69)) (k0_pay451 dt s k0_pay69 k0_pay70 x
  (k0_pay420 b cm) (k0_pay421 b) (k0_pay422 h) (k0_pay441 s) (k0_pay443 dt s k0_pay69 (k0_pay420 b cm)) (k0_pay444 dt s))
  (k0_pay463 (k0_pay459 dt s k0_pay69 k0_pay70 x (k0_pay420 b cm) (k0_pay421 b) (k0_pay452 s) (k0_pay455 s k0_pay69)) (k0_pay462 s
  k0_pay70 (k0_pay422 h) (k0_pay454 s))) (k0_pay467 s) (k0_pay471 s) (k0_pay472 k0_pay70 x) (k0_pay473 dt s k0_pay69 (k0_pay420 b
  cm) (k0_pay421 b))

end Terms

variable (dt s : FVec Ideal S64x128 .f32) (x : Vec Ideal S128x512 .f32) (b cm : Vec Ideal S128x128 .f32)
  (h : Vec Ideal S1x128x512 .f32) (k : Fin 128) (n : Fin 512) (j : Fin 64)

theorem new4_apply (hj : j.val = 32 + n.val / 64) :
    new4 dt s x b cm h (ix3 0 k n)
      = advance (fun q => s (ix2 j q)) (fun q => dt (ix2 j q)) (fun q => x (ix2 q n)) (fun q => b (ix2 q k)) (h (ix3 0 k n)) := by
  unfold new4
  pointwise [k0_pay69, k0_pay70, k0_pay355, k0_pay356, k0_pay357, k0_pay358, k0_pay360, k0_pay361, k0_pay362, k0_pay363,
    k0_pay364, k0_pay365, k0_pay366, k0_pay367, k0_pay368, k0_pay369, k0_pay370, k0_pay371, k0_pay373, k0_pay374, k0_pay375,
    k0_pay376, k0_pay377, k0_pay378, k0_pay379, k0_pay380, k0_pay381, k0_pay382, k0_pay383, k0_pay385, k0_pay386, k0_pay387,
    k0_pay388, k0_pay389, k0_pay390, k0_pay391, k0_pay392, k0_pay393, k0_pay394, k0_pay397, k0_pay398, k0_pay399, k0_pay400,
    k0_pay401, k0_pay402, k0_pay403, k0_pay404, k0_pay405, k0_pay406, k0_pay407, k0_pay408, k0_pay409, k0_pay410, k0_pay411,
    k0_pay412, k0_pay413, k0_pay414, k0_pay415, k0_pay416]
  have hn := n.isLt
  split_ifs with c0 c1 c2 c3 c4 c5
  · refine (pick (n.val) (by omega) _ _ _ _ _).trans ?_
    split_ifs with d
    · obtain rfl : j = 32 := Fin.ext (by show j.val = 32; omega)
      rfl
    · obtain rfl : j = 33 := Fin.ext (by show j.val = 33; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 34 := Fin.ext (by show j.val = 34; omega)
      rfl
    · obtain rfl : j = 35 := Fin.ext (by show j.val = 35; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 36 := Fin.ext (by show j.val = 36; omega)
      rfl
    · obtain rfl : j = 37 := Fin.ext (by show j.val = 37; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 38 := Fin.ext (by show j.val = 38; omega)
      rfl
    · obtain rfl : j = 39 := Fin.ext (by show j.val = 39; omega)
      rfl

theorem new5_apply (hj : j.val = 40 + n.val / 64) :
    new5 dt s x b cm h (ix3 0 k n)
      = advance (fun q => s (ix2 j q)) (fun q => dt (ix2 j q)) (fun q => x (ix2 q n)) (fun q => b (ix2 q k)) (h (ix3 0 k n)) := by
  unfold new5
  pointwise [k0_pay69, k0_pay70, k0_pay419, k0_pay420, k0_pay421, k0_pay422, k0_pay424, k0_pay425, k0_pay426, k0_pay427,
    k0_pay428, k0_pay429, k0_pay430, k0_pay431, k0_pay432, k0_pay433, k0_pay434, k0_pay435, k0_pay436, k0_pay438, k0_pay439,
    k0_pay440, k0_pay441, k0_pay442, k0_pay443, k0_pay444, k0_pay445, k0_pay446, k0_pay447, k0_pay448, k0_pay449, k0_pay451,
    k0_pay452, k0_pay453, k0_pay454, k0_pay455, k0_pay456, k0_pay457, k0_pay458, k0_pay459, k0_pay460, k0_pay462, k0_pay463,
    k0_pay464, k0_pay465, k0_pay466, k0_pay467, k0_pay468, k0_pay469, k0_pay470, k0_pay471, k0_pay472, k0_pay473, k0_pay474,
    k0_pay475, k0_pay476]
  have hn := n.isLt
  split_ifs with c0 c1 c2 c3 c4 c5
  · refine (pick (n.val) (by omega) _ _ _ _ _).trans ?_
    split_ifs with d
    · obtain rfl : j = 40 := Fin.ext (by show j.val = 40; omega)
      rfl
    · obtain rfl : j = 41 := Fin.ext (by show j.val = 41; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 42 := Fin.ext (by show j.val = 42; omega)
      rfl
    · obtain rfl : j = 43 := Fin.ext (by show j.val = 43; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 44 := Fin.ext (by show j.val = 44; omega)
      rfl
    · obtain rfl : j = 45 := Fin.ext (by show j.val = 45; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 46 := Fin.ext (by show j.val = 46; omega)
      rfl
    · obtain rfl : j = 47 := Fin.ext (by show j.val = 47; omega)
      rfl

end Cert.Prompt

end
-- ==== Proof.PromptGroups3.lean ====
/- The prompts' recurrence: what the kernel leaves in the state of groups 6 and 7 over one chunk. -/
module

public import proofs.«01_k».proof.Proof.PromptPiece

@[expose] public section

set_option maxRecDepth 16384

noncomputable section

namespace Cert.Prompt

open Idealize.ShloMosaic Cert.KernelIdeal Cert.KernelIdeal.Gen

section Terms

variable {F : FTy → Type} [FloatOps F] (dt s : FVec F S64x128 .f32) (x : Vec F S128x512 .f32) (b cm : Vec F S128x128 .f32)
  (h : Vec F S1x128x512 .f32)

/-- The state the kernel stores for group 6, of the steps, the sums of the decays, the inputs and the state before. -/
def new6 : Vec F S1x128x512 .f32 :=
  k0_pay537 (k0_pay481 h) (k0_pay499 k0_pay70 x (k0_pay480 b) (k0_pay481 h) (k0_pay487 dt s k0_pay69 b cm) (k0_pay488 dt s b)
  (k0_pay489 s) (k0_pay490 s) (k0_pay492 s) (k0_pay493 dt) (k0_pay494 dt s k0_pay69 b cm) (k0_pay495 s)) (k0_pay513 dt k0_pay69
  k0_pay70 x (k0_pay479 b cm) (k0_pay480 b) (k0_pay481 h) (k0_pay504 dt s k0_pay69 (k0_pay479 b cm)) (k0_pay505 dt s (k0_pay480
  b)) (k0_pay506 s) (k0_pay507 s) (k0_pay508 s) (k0_pay509 s)) (k0_pay526 dt s k0_pay69 k0_pay70 x (k0_pay479 b cm) (k0_pay480 b)
  (k0_pay481 h) (k0_pay514 s) (k0_pay516 s) (k0_pay517 dt) (k0_pay518 dt s k0_pay69 (k0_pay479 b cm)) (k0_pay519 s)) (k0_pay534 dt
  s k0_pay69 k0_pay70 x (k0_pay479 b cm) (k0_pay480 b) (k0_pay527 s) (k0_pay530 s)) (k0_pay535 s k0_pay70 (k0_pay529 s))

/-- The state the kernel stores for group 7, of the steps, the sums of the decays, the inputs and the state before. -/
def new7 : Vec F S1x128x512 .f32 :=
  k0_pay1 (k0_pay603 dt s k0_pay69 k0_pay70 x (k0_pay540 b cm) (k0_pay541 b) (k0_pay542 h) (k0_pay560 k0_pay70 x (k0_pay542 h)
  (k0_pay548 dt s k0_pay69 b cm) (k0_pay549 dt s b) (k0_pay550 s) (k0_pay553 s) (k0_pay555 dt s k0_pay69 b cm) (k0_pay556 dt s b))
  (k0_pay576 k0_pay70 x (k0_pay541 b) (k0_pay542 h) (k0_pay565 dt s k0_pay69 (k0_pay540 b cm)) (k0_pay566 dt s (k0_pay541 b))
  (k0_pay567 s) (k0_pay568 s) (k0_pay570 s) (k0_pay571 dt) (k0_pay572 s k0_pay69 (k0_pay540 b cm))) (k0_pay590 dt s k0_pay69
  k0_pay70 x (k0_pay540 b cm) (k0_pay541 b) (k0_pay542 h) (k0_pay581 dt s k0_pay69 (k0_pay540 b cm)) (k0_pay582 dt s (k0_pay541
  b)) (k0_pay583 s)) (k0_pay591 s) (k0_pay593 s) (k0_pay594 dt) (k0_pay595 s k0_pay69 (k0_pay540 b cm)) (k0_pay596 dt))

end Terms

variable (dt s : FVec Ideal S64x128 .f32) (x : Vec Ideal S128x512 .f32) (b cm : Vec Ideal S128x128 .f32)
  (h : Vec Ideal S1x128x512 .f32) (k : Fin 128) (n : Fin 512) (j : Fin 64)

theorem new6_apply (hj : j.val = 48 + n.val / 64) :
    new6 dt s x b cm h (ix3 0 k n)
      = advance (fun q => s (ix2 j q)) (fun q => dt (ix2 j q)) (fun q => x (ix2 q n)) (fun q => b (ix2 q k)) (h (ix3 0 k n)) := by
  unfold new6
  pointwise [k0_pay69, k0_pay70, k0_pay478, k0_pay479, k0_pay480, k0_pay481, k0_pay483, k0_pay484, k0_pay485, k0_pay486,
    k0_pay487, k0_pay488, k0_pay489, k0_pay490, k0_pay491, k0_pay492, k0_pay493, k0_pay494, k0_pay495, k0_pay496, k0_pay497,
    k0_pay499, k0_pay500, k0_pay501, k0_pay502, k0_pay503, k0_pay504, k0_pay505, k0_pay506, k0_pay507, k0_pay508, k0_pay509,
    k0_pay510, k0_pay511, k0_pay513, k0_pay514, k0_pay515, k0_pay516, k0_pay517, k0_pay518, k0_pay519, k0_pay520, k0_pay521,
    k0_pay522, k0_pay523, k0_pay524, k0_pay526, k0_pay527, k0_pay528, k0_pay529, k0_pay530, k0_pay531, k0_pay532, k0_pay533,
    k0_pay534, k0_pay535, k0_pay537]
  have hn := n.isLt
  split_ifs with c0 c1 c2 c3 c4 c5
  · refine (pick (n.val) (by omega) _ _ _ _ _).trans ?_
    split_ifs with d
    · obtain rfl : j = 48 := Fin.ext (by show j.val = 48; omega)
      rfl
    · obtain rfl : j = 49 := Fin.ext (by show j.val = 49; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 50 := Fin.ext (by show j.val = 50; omega)
      rfl
    · obtain rfl : j = 51 := Fin.ext (by show j.val = 51; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 52 := Fin.ext (by show j.val = 52; omega)
      rfl
    · obtain rfl : j = 53 := Fin.ext (by show j.val = 53; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 54 := Fin.ext (by show j.val = 54; omega)
      rfl
    · obtain rfl : j = 55 := Fin.ext (by show j.val = 55; omega)
      rfl

theorem new7_apply (hj : j.val = 56 + n.val / 64) :
    new7 dt s x b cm h (ix3 0 k n)
      = advance (fun q => s (ix2 j q)) (fun q => dt (ix2 j q)) (fun q => x (ix2 q n)) (fun q => b (ix2 q k)) (h (ix3 0 k n)) := by
  unfold new7
  pointwise [k0_pay1, k0_pay69, k0_pay70, k0_pay539, k0_pay540, k0_pay541, k0_pay542, k0_pay544, k0_pay545, k0_pay546,
    k0_pay547, k0_pay548, k0_pay549, k0_pay550, k0_pay551, k0_pay552, k0_pay553, k0_pay554, k0_pay555, k0_pay556, k0_pay557,
    k0_pay558, k0_pay560, k0_pay561, k0_pay562, k0_pay563, k0_pay564, k0_pay565, k0_pay566, k0_pay567, k0_pay568, k0_pay569,
    k0_pay570, k0_pay571, k0_pay572, k0_pay573, k0_pay574, k0_pay576, k0_pay577, k0_pay578, k0_pay579, k0_pay580, k0_pay581,
    k0_pay582, k0_pay583, k0_pay584, k0_pay585, k0_pay586, k0_pay587, k0_pay588, k0_pay590, k0_pay591, k0_pay592, k0_pay593,
    k0_pay594, k0_pay595, k0_pay596, k0_pay597, k0_pay598, k0_pay599, k0_pay600, k0_pay601, k0_pay603]
  have hn := n.isLt
  split_ifs with c0 c1 c2 c3 c4 c5
  · refine (pick (n.val) (by omega) _ _ _ _ _).trans ?_
    split_ifs with d
    · obtain rfl : j = 56 := Fin.ext (by show j.val = 56; omega)
      rfl
    · obtain rfl : j = 57 := Fin.ext (by show j.val = 57; omega)
      rfl
  rotate_left
  · exact absurd rfl c2
  rotate_right
  · refine (pick (n.val - 128) (by omega) _ _ _ _ _).trans ?_
    simp only [show ∀ p, (⟨128 + (n.val - 128), p⟩ : Fin 512) = n from fun p => Fin.ext (by show 128 + (n.val - 128) = n.val; omega)]
    split_ifs with d
    · obtain rfl : j = 58 := Fin.ext (by show j.val = 58; omega)
      rfl
    · obtain rfl : j = 59 := Fin.ext (by show j.val = 59; omega)
      rfl
  rotate_left
  · exact absurd rfl c4
  rotate_right
  · refine (pick (n.val - 128 - 128) (by omega) _ _ _ _ _).trans ?_
    simp only [show ∀ p, (⟨256 + (n.val - 128 - 128), p⟩ : Fin 512) = n from fun p => Fin.ext (by show 256 + (n.val - 128 - 128) = n.val; omega)]
    split_ifs with d
    · obtain rfl : j = 60 := Fin.ext (by show j.val = 60; omega)
      rfl
    · obtain rfl : j = 61 := Fin.ext (by show j.val = 61; omega)
      rfl
  rotate_left
  · exact absurd rfl c5
  rotate_right
  · refine (pick (n.val - 128 - 128 - 128) (by omega) _ _ _ _ _).trans ?_
    simp only [show ∀ p, (⟨384 + (n.val - 128 - 128 - 128), p⟩ : Fin 512) = n from fun p => Fin.ext (by show 384 + (n.val - 128 - 128 - 128) = n.val; omega)]
    split_ifs with d
    · obtain rfl : j = 62 := Fin.ext (by show j.val = 62; omega)
      rfl
    · obtain rfl : j = 63 := Fin.ext (by show j.val = 63; omega)
      rfl

end Cert.Prompt

end
-- ==== Proof.PromptPieces.lean ====
/- The prompts' recurrence: one grid point's stores, as pieces over the blocks it loads. A point stages its rows below the eight
   before them, convolves them slab by slab, and advances the state group by group. -/
module

public import proofs.«01_k».proof.Proof.Gen.KernelIdeal.Frame
public import proofs.«01_k».proof.Proof.PromptSlabs
public import proofs.«01_k».proof.Proof.PromptGroups0
public import proofs.«01_k».proof.Proof.PromptGroups1
public import proofs.«01_k».proof.Proof.PromptGroups2
public import proofs.«01_k».proof.Proof.PromptGroups3
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Prompt

open Cert.KernelIdeal Cert.KernelIdeal.Gen

theorem hz : (![0, 0] : Fin 2 → Nat) = fun _ => 0 := funext fun a => by fin_cases a <;> rfl

section Pieces

variable {F : FTy → Type} [FloatOps F]

/-- The staged rows: the chunk's below the eight before it. -/
def stagePieces (i : grid0.Coords) (x0 : Vec F S128x6144 .f32) (x1 : Vec F S8x6144 .f32) : List (View.Piece (Elt F) S136x6144 .f32) :=
  [⟨Rect.unit ![8, 0] S128x6144.size inb_S136x6144_S128x6144_8_0, k0_pay41 x0⟩,
   ⟨Rect.unit ![0, 0] S8x6144.size inb_S136x6144_S8x6144_0_0, k0_pay40 i x1⟩]

/-- The convolved rows, slab by slab. -/
def slabPieces (st : Vec F S136x6144 .f32) (x6 : Vec F S4x6144 .f32) (x7 : Vec F S1x6144 .f32) : List (View.Piece (Elt F) S128x6144 .f32) :=
  [⟨Rect.unit ![0, 5632] S128x512.size inb_S128x6144_S128x512_0_5632, slab11
      (View.ld st (Rect.unit ![5, 5632] S128x512.size inb_S136x6144_S128x512_5_5632))
      (View.ld st (Rect.unit ![6, 5632] S128x512.size inb_S136x6144_S128x512_6_5632))
      (View.ld st (Rect.unit ![7, 5632] S128x512.size inb_S136x6144_S128x512_7_5632))
      (View.ld st (Rect.unit ![8, 5632] S128x512.size inb_S136x6144_S128x512_8_5632))
      (View.ld x6 (Rect.unit ![0, 5632] S1x512.size inb_S4x6144_S1x512_0_5632))
      (View.ld x6 (Rect.unit ![1, 5632] S1x512.size inb_S4x6144_S1x512_1_5632))
      (View.ld x6 (Rect.unit ![2, 5632] S1x512.size inb_S4x6144_S1x512_2_5632))
      (View.ld x6 (Rect.unit ![3, 5632] S1x512.size inb_S4x6144_S1x512_3_5632))
      (View.ld x7 (Rect.unit ![0, 5632] S1x512.size inb_S1x6144_S1x512_0_5632))⟩,
   ⟨Rect.unit ![0, 5120] S128x512.size inb_S128x6144_S128x512_0_5120, slab10
      (View.ld st (Rect.unit ![5, 5120] S128x512.size inb_S136x6144_S128x512_5_5120))
      (View.ld st (Rect.unit ![6, 5120] S128x512.size inb_S136x6144_S128x512_6_5120))
      (View.ld st (Rect.unit ![7, 5120] S128x512.size inb_S136x6144_S128x512_7_5120))
      (View.ld st (Rect.unit ![8, 5120] S128x512.size inb_S136x6144_S128x512_8_5120))
      (View.ld x6 (Rect.unit ![0, 5120] S1x512.size inb_S4x6144_S1x512_0_5120))
      (View.ld x6 (Rect.unit ![1, 5120] S1x512.size inb_S4x6144_S1x512_1_5120))
      (View.ld x6 (Rect.unit ![2, 5120] S1x512.size inb_S4x6144_S1x512_2_5120))
      (View.ld x6 (Rect.unit ![3, 5120] S1x512.size inb_S4x6144_S1x512_3_5120))
      (View.ld x7 (Rect.unit ![0, 5120] S1x512.size inb_S1x6144_S1x512_0_5120))⟩,
   ⟨Rect.unit ![0, 4608] S128x512.size inb_S128x6144_S128x512_0_4608, slab9
      (View.ld st (Rect.unit ![5, 4608] S128x512.size inb_S136x6144_S128x512_5_4608))
      (View.ld st (Rect.unit ![6, 4608] S128x512.size inb_S136x6144_S128x512_6_4608))
      (View.ld st (Rect.unit ![7, 4608] S128x512.size inb_S136x6144_S128x512_7_4608))
      (View.ld st (Rect.unit ![8, 4608] S128x512.size inb_S136x6144_S128x512_8_4608))
      (View.ld x6 (Rect.unit ![0, 4608] S1x512.size inb_S4x6144_S1x512_0_4608))
      (View.ld x6 (Rect.unit ![1, 4608] S1x512.size inb_S4x6144_S1x512_1_4608))
      (View.ld x6 (Rect.unit ![2, 4608] S1x512.size inb_S4x6144_S1x512_2_4608))
      (View.ld x6 (Rect.unit ![3, 4608] S1x512.size inb_S4x6144_S1x512_3_4608))
      (View.ld x7 (Rect.unit ![0, 4608] S1x512.size inb_S1x6144_S1x512_0_4608))⟩,
   ⟨Rect.unit ![0, 4096] S128x512.size inb_S128x6144_S128x512_0_4096, slab8
      (View.ld st (Rect.unit ![5, 4096] S128x512.size inb_S136x6144_S128x512_5_4096))
      (View.ld st (Rect.unit ![6, 4096] S128x512.size inb_S136x6144_S128x512_6_4096))
      (View.ld st (Rect.unit ![7, 4096] S128x512.size inb_S136x6144_S128x512_7_4096))
      (View.ld st (Rect.unit ![8, 4096] S128x512.size inb_S136x6144_S128x512_8_4096))
      (View.ld x6 (Rect.unit ![0, 4096] S1x512.size inb_S4x6144_S1x512_0_4096))
      (View.ld x6 (Rect.unit ![1, 4096] S1x512.size inb_S4x6144_S1x512_1_4096))
      (View.ld x6 (Rect.unit ![2, 4096] S1x512.size inb_S4x6144_S1x512_2_4096))
      (View.ld x6 (Rect.unit ![3, 4096] S1x512.size inb_S4x6144_S1x512_3_4096))
      (View.ld x7 (Rect.unit ![0, 4096] S1x512.size inb_S1x6144_S1x512_0_4096))⟩,
   ⟨Rect.unit ![0, 3584] S128x512.size inb_S128x6144_S128x512_0_3584, slab7
      (View.ld st (Rect.unit ![5, 3584] S128x512.size inb_S136x6144_S128x512_5_3584))
      (View.ld st (Rect.unit ![6, 3584] S128x512.size inb_S136x6144_S128x512_6_3584))
      (View.ld st (Rect.unit ![7, 3584] S128x512.size inb_S136x6144_S128x512_7_3584))
      (View.ld st (Rect.unit ![8, 3584] S128x512.size inb_S136x6144_S128x512_8_3584))
      (View.ld x6 (Rect.unit ![0, 3584] S1x512.size inb_S4x6144_S1x512_0_3584))
      (View.ld x6 (Rect.unit ![1, 3584] S1x512.size inb_S4x6144_S1x512_1_3584))
      (View.ld x6 (Rect.unit ![2, 3584] S1x512.size inb_S4x6144_S1x512_2_3584))
      (View.ld x6 (Rect.unit ![3, 3584] S1x512.size inb_S4x6144_S1x512_3_3584))
      (View.ld x7 (Rect.unit ![0, 3584] S1x512.size inb_S1x6144_S1x512_0_3584))⟩,
   ⟨Rect.unit ![0, 3072] S128x512.size inb_S128x6144_S128x512_0_3072, slab6
      (View.ld st (Rect.unit ![5, 3072] S128x512.size inb_S136x6144_S128x512_5_3072))
      (View.ld st (Rect.unit ![6, 3072] S128x512.size inb_S136x6144_S128x512_6_3072))
      (View.ld st (Rect.unit ![7, 3072] S128x512.size inb_S136x6144_S128x512_7_3072))
      (View.ld st (Rect.unit ![8, 3072] S128x512.size inb_S136x6144_S128x512_8_3072))
      (View.ld x6 (Rect.unit ![0, 3072] S1x512.size inb_S4x6144_S1x512_0_3072))
      (View.ld x6 (Rect.unit ![1, 3072] S1x512.size inb_S4x6144_S1x512_1_3072))
      (View.ld x6 (Rect.unit ![2, 3072] S1x512.size inb_S4x6144_S1x512_2_3072))
      (View.ld x6 (Rect.unit ![3, 3072] S1x512.size inb_S4x6144_S1x512_3_3072))
      (View.ld x7 (Rect.unit ![0, 3072] S1x512.size inb_S1x6144_S1x512_0_3072))⟩,
   ⟨Rect.unit ![0, 2560] S128x512.size inb_S128x6144_S128x512_0_2560, slab5
      (View.ld st (Rect.unit ![5, 2560] S128x512.size inb_S136x6144_S128x512_5_2560))
      (View.ld st (Rect.unit ![6, 2560] S128x512.size inb_S136x6144_S128x512_6_2560))
      (View.ld st (Rect.unit ![7, 2560] S128x512.size inb_S136x6144_S128x512_7_2560))
      (View.ld st (Rect.unit ![8, 2560] S128x512.size inb_S136x6144_S128x512_8_2560))
      (View.ld x6 (Rect.unit ![0, 2560] S1x512.size inb_S4x6144_S1x512_0_2560))
      (View.ld x6 (Rect.unit ![1, 2560] S1x512.size inb_S4x6144_S1x512_1_2560))
      (View.ld x6 (Rect.unit ![2, 2560] S1x512.size inb_S4x6144_S1x512_2_2560))
      (View.ld x6 (Rect.unit ![3, 2560] S1x512.size inb_S4x6144_S1x512_3_2560))
      (View.ld x7 (Rect.unit ![0, 2560] S1x512.size inb_S1x6144_S1x512_0_2560))⟩,
   ⟨Rect.unit ![0, 2048] S128x512.size inb_S128x6144_S128x512_0_2048, slab4
      (View.ld st (Rect.unit ![5, 2048] S128x512.size inb_S136x6144_S128x512_5_2048))
      (View.ld st (Rect.unit ![6, 2048] S128x512.size inb_S136x6144_S128x512_6_2048))
      (View.ld st (Rect.unit ![7, 2048] S128x512.size inb_S136x6144_S128x512_7_2048))
      (View.ld st (Rect.unit ![8, 2048] S128x512.size inb_S136x6144_S128x512_8_2048))
      (View.ld x6 (Rect.unit ![0, 2048] S1x512.size inb_S4x6144_S1x512_0_2048))
      (View.ld x6 (Rect.unit ![1, 2048] S1x512.size inb_S4x6144_S1x512_1_2048))
      (View.ld x6 (Rect.unit ![2, 2048] S1x512.size inb_S4x6144_S1x512_2_2048))
      (View.ld x6 (Rect.unit ![3, 2048] S1x512.size inb_S4x6144_S1x512_3_2048))
      (View.ld x7 (Rect.unit ![0, 2048] S1x512.size inb_S1x6144_S1x512_0_2048))⟩,
   ⟨Rect.unit ![0, 1536] S128x512.size inb_S128x6144_S128x512_0_1536, slab3
      (View.ld st (Rect.unit ![5, 1536] S128x512.size inb_S136x6144_S128x512_5_1536))
      (View.ld st (Rect.unit ![6, 1536] S128x512.size inb_S136x6144_S128x512_6_1536))
      (View.ld st (Rect.unit ![7, 1536] S128x512.size inb_S136x6144_S128x512_7_1536))
      (View.ld st (Rect.unit ![8, 1536] S128x512.size inb_S136x6144_S128x512_8_1536))
      (View.ld x6 (Rect.unit ![0, 1536] S1x512.size inb_S4x6144_S1x512_0_1536))
      (View.ld x6 (Rect.unit ![1, 1536] S1x512.size inb_S4x6144_S1x512_1_1536))
      (View.ld x6 (Rect.unit ![2, 1536] S1x512.size inb_S4x6144_S1x512_2_1536))
      (View.ld x6 (Rect.unit ![3, 1536] S1x512.size inb_S4x6144_S1x512_3_1536))
      (View.ld x7 (Rect.unit ![0, 1536] S1x512.size inb_S1x6144_S1x512_0_1536))⟩,
   ⟨Rect.unit ![0, 1024] S128x512.size inb_S128x6144_S128x512_0_1024, slab2
      (View.ld st (Rect.unit ![5, 1024] S128x512.size inb_S136x6144_S128x512_5_1024))
      (View.ld st (Rect.unit ![6, 1024] S128x512.size inb_S136x6144_S128x512_6_1024))
      (View.ld st (Rect.unit ![7, 1024] S128x512.size inb_S136x6144_S128x512_7_1024))
      (View.ld st (Rect.unit ![8, 1024] S128x512.size inb_S136x6144_S128x512_8_1024))
      (View.ld x6 (Rect.unit ![0, 1024] S1x512.size inb_S4x6144_S1x512_0_1024))
      (View.ld x6 (Rect.unit ![1, 1024] S1x512.size inb_S4x6144_S1x512_1_1024))
      (View.ld x6 (Rect.unit ![2, 1024] S1x512.size inb_S4x6144_S1x512_2_1024))
      (View.ld x6 (Rect.unit ![3, 1024] S1x512.size inb_S4x6144_S1x512_3_1024))
      (View.ld x7 (Rect.unit ![0, 1024] S1x512.size inb_S1x6144_S1x512_0_1024))⟩,
   ⟨Rect.unit ![0, 512] S128x512.size inb_S128x6144_S128x512_0_512, slab1
      (View.ld st (Rect.unit ![5, 512] S128x512.size inb_S136x6144_S128x512_5_512))
      (View.ld st (Rect.unit ![6, 512] S128x512.size inb_S136x6144_S128x512_6_512))
      (View.ld st (Rect.unit ![7, 512] S128x512.size inb_S136x6144_S128x512_7_512))
      (View.ld st (Rect.unit ![8, 512] S128x512.size inb_S136x6144_S128x512_8_512))
      (View.ld x6 (Rect.unit ![0, 512] S1x512.size inb_S4x6144_S1x512_0_512))
      (View.ld x6 (Rect.unit ![1, 512] S1x512.size inb_S4x6144_S1x512_1_512))
      (View.ld x6 (Rect.unit ![2, 512] S1x512.size inb_S4x6144_S1x512_2_512))
      (View.ld x6 (Rect.unit ![3, 512] S1x512.size inb_S4x6144_S1x512_3_512))
      (View.ld x7 (Rect.unit ![0, 512] S1x512.size inb_S1x6144_S1x512_0_512))⟩,
   ⟨Rect.unit ![0, 0] S128x512.size inb_S128x6144_S128x512_0_0, slab0
      (View.ld st (Rect.unit ![5, 0] S128x512.size inb_S136x6144_S128x512_5_0))
      (View.ld st (Rect.unit ![6, 0] S128x512.size inb_S136x6144_S128x512_6_0))
      (View.ld st (Rect.unit ![7, 0] S128x512.size inb_S136x6144_S128x512_7_0))
      (View.ld st (Rect.unit ![8, 0] S128x512.size inb_S136x6144_S128x512_8_0))
      (View.ld x6 (Rect.unit ![0, 0] S1x512.size inb_S4x6144_S1x512_0_0))
      (View.ld x6 (Rect.unit ![1, 0] S1x512.size inb_S4x6144_S1x512_1_0))
      (View.ld x6 (Rect.unit ![2, 0] S1x512.size inb_S4x6144_S1x512_2_0))
      (View.ld x6 (Rect.unit ![3, 0] S1x512.size inb_S4x6144_S1x512_3_0))
      (View.ld x7 (Rect.unit ![0, 0] S1x512.size inb_S1x6144_S1x512_0_0))⟩]

/-- The advanced state, group by group. -/
def groupPieces (dt s : FVec F S64x128 .f32) (act : Vec F S128x6144 .f32) (h : Vec F S8x128x512 .f32) : List (View.Piece (Elt F) S8x128x512 .f32) :=
  [⟨Rect.unit ![7, 0, 0] S1x128x512.size inb_S8x128x512_S1x128x512_7_0_0, new7 dt s
      (View.ld act (Rect.unit ![0, 3584] S128x512.size inb_S128x6144_S128x512_0_3584))
      (View.ld act (Rect.unit ![0, 4992] S128x128.size inb_S128x6144_S128x128_0_4992))
      (View.ld act (Rect.unit ![0, 6016] S128x128.size inb_S128x6144_S128x128_0_6016))
      (View.ld h (Rect.unit ![7, 0, 0] S1x128x512.size inb_S8x128x512_S1x128x512_7_0_0))⟩,
   ⟨Rect.unit ![6, 0, 0] S1x128x512.size inb_S8x128x512_S1x128x512_6_0_0, new6 dt s
      (View.ld act (Rect.unit ![0, 3072] S128x512.size inb_S128x6144_S128x512_0_3072))
      (View.ld act (Rect.unit ![0, 4864] S128x128.size inb_S128x6144_S128x128_0_4864))
      (View.ld act (Rect.unit ![0, 5888] S128x128.size inb_S128x6144_S128x128_0_5888))
      (View.ld h (Rect.unit ![6, 0, 0] S1x128x512.size inb_S8x128x512_S1x128x512_6_0_0))⟩,
   ⟨Rect.unit ![5, 0, 0] S1x128x512.size inb_S8x128x512_S1x128x512_5_0_0, new5 dt s
      (View.ld act (Rect.unit ![0, 2560] S128x512.size inb_S128x6144_S128x512_0_2560))
      (View.ld act (Rect.unit ![0, 4736] S128x128.size inb_S128x6144_S128x128_0_4736))
      (View.ld act (Rect.unit ![0, 5760] S128x128.size inb_S128x6144_S128x128_0_5760))
      (View.ld h (Rect.unit ![5, 0, 0] S1x128x512.size inb_S8x128x512_S1x128x512_5_0_0))⟩,
   ⟨Rect.unit ![4, 0, 0] S1x128x512.size inb_S8x128x512_S1x128x512_4_0_0, new4 dt s
      (View.ld act (Rect.unit ![0, 2048] S128x512.size inb_S128x6144_S128x512_0_2048))
      (View.ld act (Rect.unit ![0, 4608] S128x128.size inb_S128x6144_S128x128_0_4608))
      (View.ld act (Rect.unit ![0, 5632] S128x128.size inb_S128x6144_S128x128_0_5632))
      (View.ld h (Rect.unit ![4, 0, 0] S1x128x512.size inb_S8x128x512_S1x128x512_4_0_0))⟩,
   ⟨Rect.unit ![3, 0, 0] S1x128x512.size inb_S8x128x512_S1x128x512_3_0_0, new3 dt s
      (View.ld act (Rect.unit ![0, 1536] S128x512.size inb_S128x6144_S128x512_0_1536))
      (View.ld act (Rect.unit ![0, 4480] S128x128.size inb_S128x6144_S128x128_0_4480))
      (View.ld act (Rect.unit ![0, 5504] S128x128.size inb_S128x6144_S128x128_0_5504))
      (View.ld h (Rect.unit ![3, 0, 0] S1x128x512.size inb_S8x128x512_S1x128x512_3_0_0))⟩,
   ⟨Rect.unit ![2, 0, 0] S1x128x512.size inb_S8x128x512_S1x128x512_2_0_0, new2 dt s
      (View.ld act (Rect.unit ![0, 1024] S128x512.size inb_S128x6144_S128x512_0_1024))
      (View.ld act (Rect.unit ![0, 4352] S128x128.size inb_S128x6144_S128x128_0_4352))
      (View.ld act (Rect.unit ![0, 5376] S128x128.size inb_S128x6144_S128x128_0_5376))
      (View.ld h (Rect.unit ![2, 0, 0] S1x128x512.size inb_S8x128x512_S1x128x512_2_0_0))⟩,
   ⟨Rect.unit ![1, 0, 0] S1x128x512.size inb_S8x128x512_S1x128x512_1_0_0, new1 dt s
      (View.ld act (Rect.unit ![0, 512] S128x512.size inb_S128x6144_S128x512_0_512))
      (View.ld act (Rect.unit ![0, 4224] S128x128.size inb_S128x6144_S128x128_0_4224))
      (View.ld act (Rect.unit ![0, 5248] S128x128.size inb_S128x6144_S128x128_0_5248))
      (View.ld h (Rect.unit ![1, 0, 0] S1x128x512.size inb_S8x128x512_S1x128x512_1_0_0))⟩,
   ⟨Rect.unit ![0, 0, 0] S1x128x512.size inb_S8x128x512_S1x128x512_0_0_0, new0 dt s
      (View.ld act (Rect.unit ![0, 0] S128x512.size inb_S128x6144_S128x512_0_0))
      (View.ld act (Rect.unit ![0, 4096] S128x128.size inb_S128x6144_S128x128_0_4096))
      (View.ld act (Rect.unit ![0, 5120] S128x128.size inb_S128x6144_S128x128_0_5120))
      (View.ld h (Rect.unit ![0, 0, 0] S1x128x512.size inb_S8x128x512_S1x128x512_0_0_0))⟩]

/-- The state after a chunk. -/
def state (i : grid0.Coords) (x0 : Vec F S128x6144 .f32) (x1 : Vec F S8x6144 .f32) (x3 : Vec F S64x128 .f32) (x4 x5 : Vec F S64x1 .f32)
    (x6 : Vec F S4x6144 .f32) (x7 : Vec F S1x6144 .f32) (h : Vec F S8x128x512 .f32) : List (View.Piece (Elt F) S8x128x512 .f32) :=
  groupPieces (k0_pay66 (k0_pay65 x3) x4) (k0_pay68 (iota .tc S64x128 32 [1] iota_S64x128_d1_w32) (k0_pay67 (k0_pay65 x3) x4 x5) 8#32)
    (View.canon (slabPieces (View.canon (stagePieces i x0 x1)) x6 x7)) h

end Pieces

variable {F : FTy → Type} [FloatOps F]
  (c : Dev nD) (i : grid0.Coords) (arg2 : Memref sig .tc .vmem S128x6144 .f32) (harg2 : arg2.IsWhole)
  (arg3 : Memref sig .tc .vmem S8x6144 .f32) (harg3 : arg3.IsWhole) (arg4 : Memref sig .tc .vmem S128x4096 .bf16) (harg4 : arg4.IsWhole)
  (arg5 : Memref sig .tc .vmem S64x128 .f32) (harg5 : arg5.IsWhole) (arg6 : Memref sig .tc .vmem S64x1 .f32) (harg6 : arg6.IsWhole)
  (arg7 : Memref sig .tc .vmem S64x1 .f32) (harg7 : arg7.IsWhole) (arg8 : Memref sig .tc .vmem S4x6144 .f32) (harg8 : arg8.IsWhole)
  (arg9 : Memref sig .tc .vmem S1x6144 .f32) (harg9 : arg9.IsWhole) (arg10 : Memref sig .tc .vmem S1x4096 .f32) (harg10 : arg10.IsWhole)
  (arg11 : Memref sig .tc .vmem S1x4096 .f32) (harg11 : arg11.IsWhole) (arg12 : Memref sig .tc .vmem S128x4096 .bf16)
  (harg12 : arg12.IsWhole) (arg13 : Memref sig .tc .vmem S1x32x128x128 .f32) (harg13 : arg13.IsWhole)
  (arg14 : Memref sig .tc .vmem S8x128x512 .f32) (harg14 : arg14.IsWhole) (arg15 : Memref sig .tc .vmem S136x6144 .f32)
  (harg15 : arg15.IsWhole) (arg16 : Memref sig .tc .vmem S128x6144 .f32) (harg16 : arg16.IsWhole)
  (x0 : Vec F S128x6144 .f32) (x1 : Vec F S8x6144 .f32) (x2 : Vec F S128x4096 .bf16) (x3 : Vec F S64x128 .f32) (x4 : Vec F S64x1 .f32)
  (x5 : Vec F S64x1 .f32) (x6 : Vec F S4x6144 .f32) (x7 : Vec F S1x6144 .f32) (x8 : Vec F S1x4096 .f32) (x9 : Vec F S1x4096 .f32)

/-- A batch's first chunk starts from a state of zeros. -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = View.canon (state i x0 x1 x3 x4 x5 x6 x7 k0_pay39 ++ [⟨Rect.unit ![0, 0, 0] S8x128x512.size inb_S8x128x512_S8x128x512_0_0_0, k0_pay39⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  simp (decide := true) only [↓View.readCov_skip (s := S8x128x512), ↓View.readCov_fill (s := S8x128x512)]
  simp only [View.readCov_eq_canon', View.readAt_eq_ld, harg2.read_unread, harg3.read_unread, harg5.read_unread, harg6.read_unread,
    harg7.read_unread, harg8.read_unread, harg9.read_unread, harg14.read_unread, View.ld_unit_zero (S := S128x6144) hz,
    View.ld_unit_zero (S := S8x6144) hz, View.ld_unit_zero (S := S64x128) hz, View.ld_unit_zero (S := S64x1) hz]
  simp only [state, groupPieces, slabPieces, stagePieces, new0, new1, new2, new3, new4, new5, new6, new7,
    slab0, slab1, slab2, slab3, slab4, slab5, slab6, slab7, slab8, slab9, slab10, slab11, List.cons_append, List.nil_append]

/-- A later chunk starts from the state before it. -/
theorem sout_B (hc0 : ¬cond0_0 i) (hc1 : ¬cond0_1 i) (xs0 : Vec F S8x128x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0
      = View.canon (state i x0 x1 x3 x4 x5 x6 x7 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0)]
  unfold kernelRun0_B
  dsimp only
  sl_unfold_words
  simp only [View.readCov_eq_canon', View.readAt_eq_ld, harg2.read_unread, harg3.read_unread, harg5.read_unread, harg6.read_unread,
    harg7.read_unread, harg8.read_unread, harg9.read_unread, harg14.read_unread, View.ld_unit_zero (S := S128x6144) hz,
    View.ld_unit_zero (S := S8x6144) hz, View.ld_unit_zero (S := S64x128) hz, View.ld_unit_zero (S := S64x1) hz]
  simp only [state, groupPieces, slabPieces, stagePieces, new0, new1, new2, new3, new4, new5, new6, new7,
    slab0, slab1, slab2, slab3, slab4, slab5, slab6, slab7, slab8, slab9, slab10, slab11]

/-- And so does the last. -/
theorem sout_C (hc0 : ¬cond0_0 i) (hc1 : cond0_1 i) (xs0 : Vec F S8x128x512 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0
      = View.canon (state i x0 x1 x3 x4 x5 x6 x7 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0)]
  unfold kernelRun0_C
  dsimp only
  sl_unfold_words
  simp only [View.readCov_eq_canon', View.readAt_eq_ld, harg2.read_unread, harg3.read_unread, harg5.read_unread, harg6.read_unread,
    harg7.read_unread, harg8.read_unread, harg9.read_unread, harg14.read_unread, View.ld_unit_zero (S := S128x6144) hz,
    View.ld_unit_zero (S := S8x6144) hz, View.ld_unit_zero (S := S64x128) hz, View.ld_unit_zero (S := S64x1) hz]
  simp only [state, groupPieces, slabPieces, stagePieces, new0, new1, new2, new3, new4, new5, new6, new7,
    slab0, slab1, slab2, slab3, slab4, slab5, slab6, slab7, slab8, slab9, slab10, slab11]

end Cert.Prompt

end
-- ==== Proof.PromptOut.lean ====
/- The prompts' recurrence: what a batch's last chunk writes out, the state with each pair of heads transposed. -/
module

public import proofs.«01_k».proof.Proof.PromptPieces

@[expose] public section

set_option maxRecDepth 16384

noncomputable section

open Idealize.ShloMosaic Idealize.ShloMosaic.TcCoe Idealize.SL.Sem
open Idealize.ShloMosaic.Pipeline (Dat)

namespace Cert.Prompt

open Cert.KernelIdeal Cert.KernelIdeal.Gen

/-- The block of the result, pair by pair, of the state. -/
def outPieces {F : FTy → Type} [FloatOps F] (h : Vec F S8x128x512 .f32) : List (View.Piece (Elt F) S1x32x128x128 .f32) :=
  [⟨Rect.unit ![0, 31, 0, 0] S1x1x128x128.size inb_S1x32x128x128_S1x1x128x128_0_31_0_0,
      k0_pay4 (View.ld h (Rect.unit ![7, 0, 384] S1x128x128.size inb_S8x128x512_S1x128x128_7_0_384))⟩,
   ⟨Rect.unit ![0, 30, 0, 0] S1x1x128x128.size inb_S1x32x128x128_S1x1x128x128_0_30_0_0,
      k0_pay3 (View.ld h (Rect.unit ![7, 0, 256] S1x128x128.size inb_S8x128x512_S1x128x128_7_0_256))⟩,
   ⟨Rect.unit ![0, 29, 0, 0] S1x1x128x128.size inb_S1x32x128x128_S1x1x128x128_0_29_0_0,
      k0_pay38 (View.ld h (Rect.unit ![7, 0, 128] S1x128x128.size inb_S8x128x512_S1x128x128_7_0_128))⟩,
   ⟨Rect.unit ![0, 28, 0, 0] S1x1x128x128.size inb_S1x32x128x128_S1x1x128x128_0_28_0_0,
      k0_pay37 (View.ld h (Rect.unit ![7, 0, 0] S1x128x128.size inb_S8x128x512_S1x128x128_7_0_0))⟩,
   ⟨Rect.unit ![0, 27, 0, 0] S1x1x128x128.size inb_S1x32x128x128_S1x1x128x128_0_27_0_0,
      k0_pay36 (View.ld h (Rect.unit ![6, 0, 384] S1x128x128.size inb_S8x128x512_S1x128x128_6_0_384))⟩,
   ⟨Rect.unit ![0, 26, 0, 0] S1x1x128x128.size inb_S1x32x128x128_S1x1x128x128_0_26_0_0,
      k0_pay35 (View.ld h (Rect.unit ![6, 0, 256] S1x128x128.size inb_S8x128x512_S1x128x128_6_0_256))⟩,
   ⟨Rect.unit ![0, 25, 0, 0] S1x1x128x128.size inb_S1x32x128x128_S1x1x128x128_0_25_0_0,
      k0_pay34 (k0_pay33 (View.ld h (Rect.unit ![6, 0, 128] S1x128x128.size inb_S8x128x512_S1x128x128_6_0_128)))⟩,
   ⟨Rect.unit ![0, 24, 0, 0] S1x1x128x128.size inb_S1x32x128x128_S1x1x128x128_0_24_0_0,
      k0_pay32 (View.ld h (Rect.unit ![6, 0, 0] S1x128x128.size inb_S8x128x512_S1x128x128_6_0_0))⟩,
   ⟨Rect.unit ![0, 23, 0, 0] S1x1x128x128.size inb_S1x32x128x128_S1x1x128x128_0_23_0_0,
      k0_pay31 (View.ld h (Rect.unit ![5, 0, 384] S1x128x128.size inb_S8x128x512_S1x128x128_5_0_384))⟩,
   ⟨Rect.unit ![0, 22, 0, 0] S1x1x128x128.size inb_S1x32x128x128_S1x1x128x128_0_22_0_0,
      k0_pay30 (View.ld h (Rect.unit ![5, 0, 256] S1x128x128.size inb_S8x128x512_S1x128x128_5_0_256))⟩,
   ⟨Rect.unit ![0, 21, 0, 0] S1x1x128x128.size inb_S1x32x128x128_S1x1x128x128_0_21_0_0,
      k0_pay29 (k0_pay28 (View.ld h (Rect.unit ![5, 0, 128] S1x128x128.size inb_S8x128x512_S1x128x128_5_0_128)))⟩,
   ⟨Rect.unit ![0, 20, 0, 0] S1x1x128x128.size inb_S1x32x128x128_S1x1x128x128_0_20_0_0,
      k0_pay27 (View.ld h (Rect.unit ![5, 0, 0] S1x128x128.size inb_S8x128x512_S1x128x128_5_0_0))⟩,
   ⟨Rect.unit ![0, 19, 0, 0] S1x1x128x128.size inb_S1x32x128x128_S1x1x128x128_0_19_0_0,
      k0_pay26 (View.ld h (Rect.unit ![4, 0, 384] S1x128x128.size inb_S8x128x512_S1x128x128_4_0_384))⟩,
   ⟨Rect.unit ![0, 18, 0, 0] S1x1x128x128.size inb_S1x32x128x128_S1x1x128x128_0_18_0_0,
      k0_pay25 (View.ld h (Rect.unit ![4, 0, 256] S1x128x128.size inb_S8x128x512_S1x128x128_4_0_256))⟩,
   ⟨Rect.unit ![0, 17, 0, 0] S1x1x128x128.size inb_S1x32x128x128_S1x1x128x128_0_17_0_0,
      k0_pay24 (View.ld h (Rect.unit ![4, 0, 128] S1x128x128.size inb_S8x128x512_S1x128x128_4_0_128))⟩,
   ⟨Rect.unit ![0, 16, 0, 0] S1x1x128x128.size inb_S1x32x128x128_S1x1x128x128_0_16_0_0,
      k0_pay23 (View.ld h (Rect.unit ![4, 0, 0] S1x128x128.size inb_S8x128x512_S1x128x128_4_0_0))⟩,
   ⟨Rect.unit ![0, 15, 0, 0] S1x1x128x128.size inb_S1x32x128x128_S1x1x128x128_0_15_0_0,
      k0_pay22 (View.ld h (Rect.unit ![3, 0, 384] S1x128x128.size inb_S8x128x512_S1x128x128_3_0_384))⟩,
   ⟨Rect.unit ![0, 14, 0, 0] S1x1x128x128.size inb_S1x32x128x128_S1x1x128x128_0_14_0_0,
      k0_pay21 (View.ld h (Rect.unit ![3, 0, 256] S1x128x128.size inb_S8x128x512_S1x128x128_3_0_256))⟩,
   ⟨Rect.unit ![0, 13, 0, 0] S1x1x128x128.size inb_S1x32x128x128_S1x1x128x128_0_13_0_0,
      k0_pay20 (View.ld h (Rect.unit ![3, 0, 128] S1x128x128.size inb_S8x128x512_S1x128x128_3_0_128))⟩,
   ⟨Rect.unit ![0, 12, 0, 0] S1x1x128x128.size inb_S1x32x128x128_S1x1x128x128_0_12_0_0,
      k0_pay19 (k0_pay18 (View.ld h (Rect.unit ![3, 0, 0] S1x128x128.size inb_S8x128x512_S1x128x128_3_0_0)))⟩,
   ⟨Rect.unit ![0, 11, 0, 0] S1x1x128x128.size inb_S1x32x128x128_S1x1x128x128_0_11_0_0,
      k0_pay17 (View.ld h (Rect.unit ![2, 0, 384] S1x128x128.size inb_S8x128x512_S1x128x128_2_0_384))⟩,
   ⟨Rect.unit ![0, 10, 0, 0] S1x1x128x128.size inb_S1x32x128x128_S1x1x128x128_0_10_0_0,
      k0_pay16 (View.ld h (Rect.unit ![2, 0, 256] S1x128x128.size inb_S8x128x512_S1x128x128_2_0_256))⟩,
   ⟨Rect.unit ![0, 9, 0, 0] S1x1x128x128.size inb_S1x32x128x128_S1x1x128x128_0_9_0_0,
      k0_pay15 (View.ld h (Rect.unit ![2, 0, 128] S1x128x128.size inb_S8x128x512_S1x128x128_2_0_128))⟩,
   ⟨Rect.unit ![0, 8, 0, 0] S1x1x128x128.size inb_S1x32x128x128_S1x1x128x128_0_8_0_0,
      k0_pay14 (k0_pay13 (View.ld h (Rect.unit ![2, 0, 0] S1x128x128.size inb_S8x128x512_S1x128x128_2_0_0)))⟩,
   ⟨Rect.unit ![0, 7, 0, 0] S1x1x128x128.size inb_S1x32x128x128_S1x1x128x128_0_7_0_0,
      k0_pay12 (View.ld h (Rect.unit ![1, 0, 384] S1x128x128.size inb_S8x128x512_S1x128x128_1_0_384))⟩,
   ⟨Rect.unit ![0, 6, 0, 0] S1x1x128x128.size inb_S1x32x128x128_S1x1x128x128_0_6_0_0,
      k0_pay11 (View.ld h (Rect.unit ![1, 0, 256] S1x128x128.size inb_S8x128x512_S1x128x128_1_0_256))⟩,
   ⟨Rect.unit ![0, 5, 0, 0] S1x1x128x128.size inb_S1x32x128x128_S1x1x128x128_0_5_0_0,
      k0_pay10 (View.ld h (Rect.unit ![1, 0, 128] S1x128x128.size inb_S8x128x512_S1x128x128_1_0_128))⟩,
   ⟨Rect.unit ![0, 4, 0, 0] S1x1x128x128.size inb_S1x32x128x128_S1x1x128x128_0_4_0_0,
      k0_pay9 (View.ld h (Rect.unit ![1, 0, 0] S1x128x128.size inb_S8x128x512_S1x128x128_1_0_0))⟩,
   ⟨Rect.unit ![0, 3, 0, 0] S1x1x128x128.size inb_S1x32x128x128_S1x1x128x128_0_3_0_0,
      k0_pay8 (View.ld h (Rect.unit ![0, 0, 384] S1x128x128.size inb_S8x128x512_S1x128x128_0_0_384))⟩,
   ⟨Rect.unit ![0, 2, 0, 0] S1x1x128x128.size inb_S1x32x128x128_S1x1x128x128_0_2_0_0,
      k0_pay7 (View.ld h (Rect.unit ![0, 0, 256] S1x128x128.size inb_S8x128x512_S1x128x128_0_0_256))⟩,
   ⟨Rect.unit ![0, 1, 0, 0] S1x1x128x128.size inb_S1x32x128x128_S1x1x128x128_0_1_0_0,
      k0_pay6 (View.ld h (Rect.unit ![0, 0, 128] S1x128x128.size inb_S8x128x512_S1x128x128_0_0_128))⟩,
   ⟨Rect.unit ![0, 0, 0, 0] S1x1x128x128.size inb_S1x32x128x128_S1x1x128x128_0_0_0_0,
      k0_pay5 (View.ld h (Rect.unit ![0, 0, 0] S1x128x128.size inb_S8x128x512_S1x128x128_0_0_0))⟩]

variable {F : FTy → Type} [FloatOps F]
  (c : Dev nD) (i : grid0.Coords) (arg2 : Memref sig .tc .vmem S128x6144 .f32) (harg2 : arg2.IsWhole)
  (arg3 : Memref sig .tc .vmem S8x6144 .f32) (harg3 : arg3.IsWhole) (arg4 : Memref sig .tc .vmem S128x4096 .bf16) (harg4 : arg4.IsWhole)
  (arg5 : Memref sig .tc .vmem S64x128 .f32) (harg5 : arg5.IsWhole) (arg6 : Memref sig .tc .vmem S64x1 .f32) (harg6 : arg6.IsWhole)
  (arg7 : Memref sig .tc .vmem S64x1 .f32) (harg7 : arg7.IsWhole) (arg8 : Memref sig .tc .vmem S4x6144 .f32) (harg8 : arg8.IsWhole)
  (arg9 : Memref sig .tc .vmem S1x6144 .f32) (harg9 : arg9.IsWhole) (arg10 : Memref sig .tc .vmem S1x4096 .f32) (harg10 : arg10.IsWhole)
  (arg11 : Memref sig .tc .vmem S1x4096 .f32) (harg11 : arg11.IsWhole) (arg12 : Memref sig .tc .vmem S128x4096 .bf16)
  (harg12 : arg12.IsWhole) (arg13 : Memref sig .tc .vmem S1x32x128x128 .f32) (harg13 : arg13.IsWhole)
  (arg14 : Memref sig .tc .vmem S8x128x512 .f32) (harg14 : arg14.IsWhole) (arg15 : Memref sig .tc .vmem S136x6144 .f32)
  (harg15 : arg15.IsWhole) (arg16 : Memref sig .tc .vmem S128x6144 .f32) (harg16 : arg16.IsWhole)
  (x0 : Vec F S128x6144 .f32) (x1 : Vec F S8x6144 .f32) (x2 : Vec F S128x4096 .bf16) (x3 : Vec F S64x128 .f32) (x4 : Vec F S64x1 .f32)
  (x5 : Vec F S64x1 .f32) (x6 : Vec F S4x6144 .f32) (x7 : Vec F S1x6144 .f32) (x8 : Vec F S1x4096 .f32) (x9 : Vec F S1x4096 .f32)

theorem out_C (hc0 : ¬cond0_0 i) (hc1 : cond0_1 i) (xs0 : Vec F S8x128x512 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0
      = View.canon (outPieces (View.canon (state i x0 x1 x3 x4 x5 x6 x7 xs0))) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0)]
  unfold kernelRun0_C
  dsimp only
  sl_unfold_words
  simp only [View.readCov_eq_canon', View.readAt_eq_ld, harg2.read_unread, harg3.read_unread, harg5.read_unread, harg6.read_unread,
    harg7.read_unread, harg8.read_unread, harg9.read_unread, harg14.read_unread, View.ld_unit_zero (S := S128x6144) hz,
    View.ld_unit_zero (S := S8x6144) hz, View.ld_unit_zero (S := S64x128) hz, View.ld_unit_zero (S := S64x1) hz]
  simp only [outPieces, state, groupPieces, slabPieces, stagePieces, new0, new1, new2, new3, new4, new5, new6, new7,
    slab0, slab1, slab2, slab3, slab4, slab5, slab6, slab7, slab8, slab9, slab10, slab11]

end Cert.Prompt

end
-- ==== Proof.PromptScan.lean ====
/- The prompts' recurrence: the kernel's time steps, and its sums of the decays along the tokens of a chunk, which it
   doubles the length of seven times. -/
module

public import proofs.«01_k».proof.Proof.PromptPiece

@[expose] public section

set_option maxRecDepth 16384

noncomputable section

namespace Cert.Prompt

open Idealize.ShloMosaic Cert.KernelIdeal Cert.KernelIdeal.Gen

/-- The sum of the last `w` values up to `q`. -/
def last (w : ℕ) (f : Fin 128 → EReal) (q : Fin 128) : EReal := ∑ r : Fin 128, if r ≤ q ∧ q.val < r.val + w then f r else 0

theorem last_one (f : Fin 128 → EReal) (q : Fin 128) : last 1 f q = f q := by
  unfold last
  rw [Finset.sum_eq_single q]
  · rw [if_pos ⟨le_refl _, by omega⟩]
  · intro r _ hr
    exact if_neg fun h => hr (Fin.ext (by have := h.1; have := h.2; simp only [Fin.le_def] at *; omega))
  · intro h
    exact absurd (Finset.mem_univ _) h

/-- Adding the sum of the `w` values before them doubles the window. -/
theorem last_double (w : ℕ) (f : Fin 128 → EReal) (q p : Fin 128) (hp : w ≤ q.val → p.val = q.val - w) :
    last w f q + (if w ≤ q.val then last w f p else 0) = last (w + w) f q := by
  unfold last
  by_cases c : w ≤ q.val
  · have hp := hp c
    rw [if_pos c, ← Finset.sum_add_distrib]
    refine Finset.sum_congr rfl fun r _ => ?_
    by_cases a : r ≤ q ∧ q.val < r.val + w
    · rw [if_pos a, if_neg fun h => ?_, if_pos ⟨a.1, by omega⟩, add_zero]
      have := h.1
      simp only [Fin.le_def] at this
      omega
    · rw [if_neg a, zero_add]
      refine if_congr ?_ rfl rfl
      simp only [Fin.le_def] at *
      omega
  · rw [if_neg c, add_zero]
    refine Finset.sum_congr rfl fun r _ => if_congr ?_ rfl rfl
    simp only [Fin.le_def] at *
    omega

/-- One doubling: the vector, and itself moved `w` lanes on, where there are that many before. -/
def doubled (w : BitVec 32) (v : FVec Ideal S64x128 .f32) : FVec Ideal S64x128 .f32 :=
  addf v (select (cmpi .sge (iota .tc S64x128 32 [1] iota_S64x128_d1_w32) (broadcast S64x128 w))
    (dynamicRotate 1 w none v rotates_S64x128_d1) (broadcast S64x128 (Scalar.ofBits .f32 0x00000000#32)))

/-- One doubling turns sums of `k` values into sums of twice as many. -/
theorem doubled_apply (k : ℕ) (hk : k ∈ [1, 2, 4, 8, 16, 32, 64]) (v : FVec Ideal S64x128 .f32) (j : Fin 64) (f : Fin 128 → EReal)
    (hv : ∀ q, v (ix2 j q) = last k f q) (q : Fin 128) :
    doubled (BitVec.ofNat 32 k) v (ix2 j q) = last (k + k) f q := by
  have z : (Scalar.ofBits .f32 0x00000000#32 : Ideal .f32) = 0 := Ideal.ofBits_zero_f32
  have c : IntOp.cmpi .sge (BitVec.ofNat 32 q.val) (BitVec.ofNat 32 k) = if k ≤ q.val then 1#1 else 0#1 := by
    revert q
    fin_cases hk <;> decide +kernel
  unfold doubled
  pointwise []
  have m : (BitVec.ofNat 32 k).toNat % 128 = k := by
    fin_cases hk <;> rfl
  rw [c, hv, hv, ← last_double k f q ⟨(q.val + 128 - (BitVec.ofNat 32 k).toNat % 128) % 128, Nat.mod_lt _ (by norm_num)⟩]
  · by_cases a : k ≤ q.val
    · rw [if_pos a, if_pos a]
      rfl
    · rw [if_neg a, if_neg a]
      rfl
  · intro a
    show (q.val + 128 - (BitVec.ofNat 32 k).toNat % 128) % 128 = q.val - k
    rw [m]
    omega

/-- A time step, as the kernel takes it. -/
theorem dt_apply (x3 : Vec Ideal S64x128 .f32) (x4 : Vec Ideal S64x1 .f32) (j : Fin 64) (q : Fin 128) :
    k0_pay66 (k0_pay65 x3) x4 (ix2 j q) = Ssd.softplus (x3 (ix2 j q) + x4 (ix2 j 0)) := by
  pointwise [k0_pay66, k0_pay65]
  exact if_neg fun h => h rfl

/-- The decays of the heads, times the steps. -/
def lane (x3 : Vec Ideal S64x128 .f32) (x4 x5 : Vec Ideal S64x1 .f32) (j : Fin 64) (q : Fin 128) : EReal :=
  Ssd.softplus (x3 (ix2 j q) + x4 (ix2 j 0)) * (0 - Ideal.exp (x5 (ix2 j 0)))

/-- The sums of the decays along the tokens of a chunk, as the kernel takes them. -/
theorem s_apply (x3 : Vec Ideal S64x128 .f32) (x4 x5 : Vec Ideal S64x1 .f32) (j : Fin 64) (q : Fin 128) :
    k0_pay68 (iota .tc S64x128 32 [1] iota_S64x128_d1_w32) (k0_pay67 (k0_pay65 x3) x4 x5) 8#32 (ix2 j q)
      = ∑ r : Fin 128, if r ≤ q then lane x3 x4 x5 j r else 0 := by
  let v : FVec Ideal S64x128 .f32 := mulf (k0_pay66 (k0_pay65 x3) x4) (broadcastTo S64x128
    (subf (broadcast S64x1 (Scalar.ofBits .f32 0x00000000#32)) (exp (shapeCast S64x1 x5 shapeCasts_S64x1_S64x1))) broadcasts_S64x1_S64x128)
  have e : k0_pay68 (iota .tc S64x128 32 [1] iota_S64x128_d1_w32) (k0_pay67 (k0_pay65 x3) x4 x5) 8#32
      = doubled 64#32 (doubled 32#32 (doubled 16#32 (doubled 8#32 (doubled 4#32 (doubled 2#32 (doubled 1#32 v)))))) := rfl
  have h0 : ∀ q, v (ix2 j q) = last 1 (lane x3 x4 x5 j) q := fun q => by
    rw [last_one]
    refine Eq.trans ?_ (congrArg (· * _) (dt_apply x3 x4 j q))
    pointwise [v]
  have h1 := doubled_apply 1 (by decide) _ j _ h0
  have h2 := doubled_apply 2 (by decide) _ j _ h1
  have h3 := doubled_apply 4 (by decide) _ j _ h2
  have h4 := doubled_apply 8 (by decide) _ j _ h3
  have h5 := doubled_apply 16 (by decide) _ j _ h4
  have h6 := doubled_apply 32 (by decide) _ j _ h5
  have h7 := doubled_apply 64 (by decide) _ j _ h6
  rw [e]
  refine (h7 q).trans (Finset.sum_congr rfl fun r _ => if_congr ?_ rfl rfl)
  exact ⟨fun h => h.1, fun h => ⟨h, by omega⟩⟩

end Cert.Prompt

end
-- ==== Proof.PromptValue.lean ====
/- The prompts' recurrence: the entries of one grid point's stores, over the blocks it loads. -/
module

public import proofs.«01_k».proof.Proof.PromptOut
public import proofs.«01_k».proof.Proof.PromptScan
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Prompt

open Cert.KernelIdeal Cert.KernelIdeal.Gen

/-- Where an entry of a block lies in the array it is a block of. -/
theorem emb2 {A B a b o0 o1 : ℕ} (inb : ∀ x, (![o0, o1] : Fin 2 → ℕ) x + (![a, b] : Fin 2 → ℕ) x ≤ (![A, B] : Fin 2 → ℕ) x)
    (l : Fin a) (n : Fin b) (h0 : o0 + l.val < A) (h1 : o1 + n.val < B) :
    (Rect.unit (s := ⟨2, ![A, B]⟩) ![o0, o1] ![a, b] inb).emb (ix2 l n) = ix2 ⟨o0 + l.val, h0⟩ ⟨o1 + n.val, h1⟩ := by
  funext x
  apply Fin.ext
  refine (ValueKit.rect_emb_unit_val _ _ inb (ix2 l n) x).trans ?_
  fin_cases x <;> rfl

theorem emb3 {A B C a b c o0 o1 o2 : ℕ}
    (inb : ∀ x, (![o0, o1, o2] : Fin 3 → ℕ) x + (![a, b, c] : Fin 3 → ℕ) x ≤ (![A, B, C] : Fin 3 → ℕ) x)
    (l : Fin a) (m : Fin b) (n : Fin c) (h0 : o0 + l.val < A) (h1 : o1 + m.val < B) (h2 : o2 + n.val < C) :
    (Rect.unit (s := ⟨3, ![A, B, C]⟩) ![o0, o1, o2] ![a, b, c] inb).emb (ix3 l m n)
      = ix3 ⟨o0 + l.val, h0⟩ ⟨o1 + m.val, h1⟩ ⟨o2 + n.val, h2⟩ := by
  funext x
  apply Fin.ext
  refine (ValueKit.rect_emb_unit_val _ _ inb (ix3 l m n) x).trans ?_
  fin_cases x <;> rfl

/-- The staged rows: eight before the chunk's, zeros at a batch's first chunk, then the chunk's. -/
def staged (first : Prop) [Decidable first] (x0 : Vec Ideal S128x6144 .f32) (x1 : Vec Ideal S8x6144 .f32) (R : ℕ) (C : Fin 6144) : EReal :=
  if h : R < 8 then if first then 0 else x1 (ix2 ⟨R, h⟩ C) else if h : R - 8 < 128 then x0 (ix2 ⟨R - 8, h⟩ C) else 0

theorem stage_eq (i : grid0.Coords) (x0 : Vec Ideal S128x6144 .f32) (x1 : Vec Ideal S8x6144 .f32) (R : Fin 136) (C : Fin 6144) :
    View.canon (stagePieces i x0 x1) (ix2 R C) = staged ((i 1).val = 0) x0 x1 R.val C := by
  unfold stagePieces staged
  by_cases c : R.val < 8
  · rw [dif_pos c]
    have e : (Rect.unit (s := S136x6144) ![0, 0] S8x6144.size inb_S136x6144_S8x6144_0_0).emb (ix2 ⟨R.val, c⟩ C) = ix2 R C :=
      (emb2 _ _ _ (by show 0 + R.val < 136; omega) (by show 0 + C.val < 6144; omega)).trans
        (congrArg₂ (fun a b => ix2 a b) (Fin.ext (Nat.zero_add _)) (Fin.ext (Nat.zero_add _)))
    rw [View.canon_cons_of_not_mem]
    · rw [← e]
      refine (View.canon_cons_emb _ _ _ _).trans ?_
      have h1 : IntOp.cmpi .eq (BitVec.ofNat 32 (i 1).val) 0#32 = if (i 1).val = 0 then 1#1 else 0#1 := by
        have : (i 1).val < 16 := (i 1).isLt
        revert this
        generalize (i 1).val = t
        revert t
        decide +kernel
      pointwise [k0_pay40]
      refine (congrArg (fun v => Scalar.select v (0 : EReal) _) h1).trans ?_
      split_ifs <;> rfl
    · intro hm
      obtain ⟨x, hx⟩ : ∃ x, (Rect.unit (s := S136x6144) ![8, 0] S128x6144.size inb_S136x6144_S128x6144_8_0).emb x = ix2 R C :=
        (Rect.unit (s := S136x6144) ![8, 0] S128x6144.size inb_S136x6144_S128x6144_8_0).exists_idx_of_mem hm
      have v := congrArg (fun y : S136x6144.Idx => (y 0).val) hx
      have w := ValueKit.rect_emb_unit_val (s := S136x6144) ![8, 0] S128x6144.size inb_S136x6144_S128x6144_8_0 x 0
      exact absurd (w.symm.trans v) (by show ¬ 8 + (x 0).val = R.val; omega)
  · rw [dif_neg c, dif_pos (by omega)]
    have e : (Rect.unit (s := S136x6144) ![8, 0] S128x6144.size inb_S136x6144_S128x6144_8_0).emb (ix2 ⟨R.val - 8, by omega⟩ C) = ix2 R C :=
      (emb2 _ _ _ (by show 8 + (R.val - 8) < 136; omega) (by show 0 + C.val < 6144; omega)).trans
        (congrArg₂ (fun a b => ix2 a b) (Fin.ext (by show 8 + (R.val - 8) = R.val; omega)) (Fin.ext (Nat.zero_add _)))
    rw [← e]
    refine (View.canon_cons_emb _ _ _ _).trans ?_
    pointwise [k0_pay41]

/-- The convolved rows, over the staged ones. -/
def convolved (st : Vec Ideal S136x6144 .f32) (x6 : Vec Ideal S4x6144 .f32) (x7 : Vec Ideal S1x6144 .f32) : Vec Ideal S128x6144 .f32 := fun y =>
  Ssd.conv ![st (ix2 ⟨5 + (y 0).val, by have : (y 0).val < 128 := (y 0).isLt; omega⟩ (y 1)),
      st (ix2 ⟨6 + (y 0).val, by have : (y 0).val < 128 := (y 0).isLt; omega⟩ (y 1)),
      st (ix2 ⟨7 + (y 0).val, by have : (y 0).val < 128 := (y 0).isLt; omega⟩ (y 1)),
      st (ix2 ⟨8 + (y 0).val, by have : (y 0).val < 128 := (y 0).isLt; omega⟩ (y 1))]
    ![x6 (ix2 0 (y 1)), x6 (ix2 1 (y 1)), x6 (ix2 2 (y 1)), x6 (ix2 3 (y 1))] (x7 (ix2 0 (y 1)))

theorem vec4 {a b c d a' b' c' d' : EReal} (ha : a = a') (hb : b = b') (hc : c = c') (hd : d = d') :
    (![a, b, c, d] : Fin 4 → EReal) = ![a', b', c', d'] := by
  rw [ha, hb, hc, hd]

/-- Any slab that convolves its block of the staged rows stores a block of the convolved rows. -/
theorem slab_piece (st : Vec Ideal S136x6144 .f32) (x6 : Vec Ideal S4x6144 .f32) (x7 : Vec Ideal S1x6144 .f32)
    (N : (v0 v1 v2 v3 : Vec Ideal S128x512 .f32) → (w0 w1 w2 w3 b : Vec Ideal S1x512 .f32) → Vec Ideal S128x512 .f32)
    (hN : ∀ v0 v1 v2 v3 w0 w1 w2 w3 b l n, N v0 v1 v2 v3 w0 w1 w2 w3 b (ix2 l n)
      = Ssd.conv ![v0 (ix2 l n), v1 (ix2 l n), v2 (ix2 l n), v3 (ix2 l n)] ![w0 (ix2 0 n), w1 (ix2 0 n), w2 (ix2 0 n), w3 (ix2 0 n)] (b (ix2 0 n)))
    (o : ℕ) (ho : o + 512 ≤ 6144) {i0 i1 i2 i3 i4 j0 j1 j2 j3 k} (y : S128x512.Idx) :
    N (View.ld st (Rect.unit (s := S136x6144) ![5, o] S128x512.size i0)) (View.ld st (Rect.unit (s := S136x6144) ![6, o] S128x512.size i1))
        (View.ld st (Rect.unit (s := S136x6144) ![7, o] S128x512.size i2)) (View.ld st (Rect.unit (s := S136x6144) ![8, o] S128x512.size i3))
        (View.ld x6 (Rect.unit (s := S4x6144) ![0, o] S1x512.size j0)) (View.ld x6 (Rect.unit (s := S4x6144) ![1, o] S1x512.size j1))
        (View.ld x6 (Rect.unit (s := S4x6144) ![2, o] S1x512.size j2)) (View.ld x6 (Rect.unit (s := S4x6144) ![3, o] S1x512.size j3))
        (View.ld x7 (Rect.unit (s := S1x6144) ![0, o] S1x512.size k)) y
      = convolved st x6 x7 ((Rect.unit (s := S128x6144) ![0, o] S128x512.size i4).emb y) := by
  obtain ⟨l, n, rfl⟩ : ∃ (l : Fin 128) (n : Fin 512), y = ix2 l n := ⟨y 0, y 1, by funext a; fin_cases a <;> rfl⟩
  have hl := l.isLt
  have hn := n.isLt
  refine (hN ..).trans ?_
  have s0 := congrArg st (emb2 i0 l n (by omega) (by omega))
  have s1 := congrArg st (emb2 i1 l n (by omega) (by omega))
  have s2 := congrArg st (emb2 i2 l n (by omega) (by omega))
  have s3 := congrArg st (emb2 i3 l n (by omega) (by omega))
  have t0 := congrArg x6 (emb2 j0 0 n (by decide) (by omega))
  have t1 := congrArg x6 (emb2 j1 0 n (by decide) (by omega))
  have t2 := congrArg x6 (emb2 j2 0 n (by decide) (by omega))
  have t3 := congrArg x6 (emb2 j3 0 n (by decide) (by omega))
  have u := congrArg x7 (emb2 k 0 n (by decide) (by omega))
  have e : (Rect.unit (s := S128x6144) ![0, o] S128x512.size i4).emb (ix2 l n) = ix2 l ⟨o + n.val, by omega⟩ :=
    (emb2 i4 l n (by omega) (by omega)).trans (congrArg (fun a => ix2 a _) (Fin.ext (Nat.zero_add _)))
  rw [e]
  exact congr (congr (congrArg Ssd.conv (vec4 s0 s1 s2 s3)) (vec4 t0 t1 t2 t3)) u

theorem slabs_cover {F : FTy → Type} [FloatOps F] (st : Vec F S136x6144 .f32) (x6 : Vec F S4x6144 .f32) (x7 : Vec F S1x6144 .f32) (y : S128x6144.Idx) :
    ∃ p ∈ slabPieces st x6 x7, y ∈ p.1.set :=
  View.cover_of_tiledL (slabPieces st x6 x7) S128x512.size (by sl_kernel_rfl) y

theorem slabs_eq (st : Vec Ideal S136x6144 .f32) (x6 : Vec Ideal S4x6144 .f32) (x7 : Vec Ideal S1x6144 .f32) :
    View.canon (slabPieces st x6 x7) = convolved st x6 x7 := by
  funext y
  refine (congrArg (fun L => View.canon L y) (List.append_nil _).symm).trans
    (View.canon_append_of_piecesOf (convolved st x6 x7) [] _ ?_ y (slabs_cover st x6 x7 y))
  exact ⟨slab_piece st x6 x7 slab11 slab11_apply 5632 (by decide) (i4 := inb_S128x6144_S128x512_0_5632), slab_piece st x6 x7 slab10 slab10_apply 5120 (by decide) (i4 := inb_S128x6144_S128x512_0_5120),
    slab_piece st x6 x7 slab9 slab9_apply 4608 (by decide) (i4 := inb_S128x6144_S128x512_0_4608), slab_piece st x6 x7 slab8 slab8_apply 4096 (by decide) (i4 := inb_S128x6144_S128x512_0_4096),
    slab_piece st x6 x7 slab7 slab7_apply 3584 (by decide) (i4 := inb_S128x6144_S128x512_0_3584), slab_piece st x6 x7 slab6 slab6_apply 3072 (by decide) (i4 := inb_S128x6144_S128x512_0_3072),
    slab_piece st x6 x7 slab5 slab5_apply 2560 (by decide) (i4 := inb_S128x6144_S128x512_0_2560), slab_piece st x6 x7 slab4 slab4_apply 2048 (by decide) (i4 := inb_S128x6144_S128x512_0_2048),
    slab_piece st x6 x7 slab3 slab3_apply 1536 (by decide) (i4 := inb_S128x6144_S128x512_0_1536), slab_piece st x6 x7 slab2 slab2_apply 1024 (by decide) (i4 := inb_S128x6144_S128x512_0_1024),
    slab_piece st x6 x7 slab1 slab1_apply 512 (by decide) (i4 := inb_S128x6144_S128x512_0_512), slab_piece st x6 x7 slab0 slab0_apply 0 (by decide) (i4 := inb_S128x6144_S128x512_0_0), True.intro⟩

/-- The state after a chunk, entry by entry. -/
def advanced (dt s : FVec Ideal S64x128 .f32) (act : Vec Ideal S128x6144 .f32) (h : Vec Ideal S8x128x512 .f32) : Vec Ideal S8x128x512 .f32 := fun y =>
  have h0 : (y 0).val < 8 := (y 0).isLt
  have h1 : (y 1).val < 128 := (y 1).isLt
  have h2 : (y 2).val < 512 := (y 2).isLt
  advance (fun q => s (ix2 ⟨8 * (y 0).val + (y 2).val / 64, by omega⟩ q)) (fun q => dt (ix2 ⟨8 * (y 0).val + (y 2).val / 64, by omega⟩ q))
    (fun q => act (ix2 q ⟨512 * (y 0).val + (y 2).val, by omega⟩)) (fun q => act (ix2 q ⟨4096 + 128 * (y 0).val + (y 1).val, by omega⟩))
    (h y)

/-- Any group that advances its block of the state stores a block of the advanced state. -/
theorem group_piece (dt s : FVec Ideal S64x128 .f32) (act : Vec Ideal S128x6144 .f32) (h : Vec Ideal S8x128x512 .f32) (g : ℕ) (hg : g < 8)
    (N : (x : Vec Ideal S128x512 .f32) → (b cm : Vec Ideal S128x128 .f32) → Vec Ideal S1x128x512 .f32 → Vec Ideal S1x128x512 .f32)
    (hN : ∀ x b cm h k n j, j.val = 8 * g + n.val / 64 → N x b cm h (ix3 0 k n)
      = advance (fun q => s (ix2 j q)) (fun q => dt (ix2 j q)) (fun q => x (ix2 q n)) (fun q => b (ix2 q k)) (h (ix3 0 k n)))
    (o1 o2 : ℕ) (h1 : o1 = 512 * g) (h2 : o2 = 4096 + 128 * g) {i0 i1 i2} (cm : Vec Ideal S128x128 .f32) (y : S1x128x512.Idx) :
    N (View.ld act (Rect.unit (s := S128x6144) ![0, o1] S128x512.size i0)) (View.ld act (Rect.unit (s := S128x6144) ![0, o2] S128x128.size i1)) cm
        (View.ld h (Rect.unit (s := S8x128x512) ![g, 0, 0] S1x128x512.size i2)) y
      = advanced dt s act h ((Rect.unit (s := S8x128x512) ![g, 0, 0] S1x128x512.size i2).emb y) := by
  obtain ⟨k, n, rfl⟩ : ∃ (k : Fin 128) (n : Fin 512), y = ix3 0 k n := ⟨y 1, y 2, by
    funext a
    fin_cases a
    · exact Fin.ext (Nat.lt_one_iff.mp (y 0).isLt)
    · rfl
    · rfl⟩
  subst h1 h2
  have hk := k.isLt
  have hn := n.isLt
  have e : (Rect.unit (s := S8x128x512) ![g, 0, 0] S1x128x512.size i2).emb (ix3 0 k n) = ix3 ⟨g, hg⟩ k n :=
    (emb3 i2 0 k n (by show g + 0 < 8; omega) (by omega) (by omega)).trans (by
      rw [show (⟨0 + k.val, by omega⟩ : Fin 128) = k from Fin.ext (Nat.zero_add _), show (⟨0 + n.val, by omega⟩ : Fin 512) = n from Fin.ext (Nat.zero_add _)]
      rfl)
  have ex : ∀ q : Fin 128, View.ld act (Rect.unit (s := S128x6144) ![0, 512 * g] S128x512.size i0) (ix2 q n) = act (ix2 q ⟨512 * g + n.val, by omega⟩) := fun q =>
    congrArg act ((emb2 i0 q n (by omega) (by omega)).trans (congrArg (fun a => ix2 a _) (Fin.ext (Nat.zero_add _))))
  have eb : ∀ q : Fin 128, View.ld act (Rect.unit (s := S128x6144) ![0, 4096 + 128 * g] S128x128.size i1) (ix2 q k) = act (ix2 q ⟨4096 + 128 * g + k.val, by omega⟩) := fun q =>
    congrArg act ((emb2 i1 q k (by omega) (by omega)).trans (congrArg (fun a => ix2 a _) (Fin.ext (Nat.zero_add _))))
  have eh : View.ld h (Rect.unit (s := S8x128x512) ![g, 0, 0] S1x128x512.size i2) (ix3 0 k n) = h (ix3 ⟨g, hg⟩ k n) := congrArg h e
  rw [hN _ _ _ _ k n ⟨8 * g + n.val / 64, by omega⟩ rfl, e, eh]
  simp only [ex, eb]
  rfl

theorem groups_cover {F : FTy → Type} [FloatOps F] (dt s : FVec F S64x128 .f32) (act : Vec F S128x6144 .f32) (h : Vec F S8x128x512 .f32) (y : S8x128x512.Idx) :
    ∃ p ∈ groupPieces dt s act h, y ∈ p.1.set :=
  View.cover_of_tiledL (groupPieces dt s act h) S1x128x512.size (by sl_kernel_rfl) y

theorem groups_eq (dt s : FVec Ideal S64x128 .f32) (act : Vec Ideal S128x6144 .f32) (h : Vec Ideal S8x128x512 .f32) (L : List (View.Piece (Elt Ideal) S8x128x512 .f32)) :
    View.canon (groupPieces dt s act h ++ L) = advanced dt s act h := by
  funext y
  refine View.canon_append_of_piecesOf (advanced dt s act h) L _ ?_ y (groups_cover dt s act h y)
  exact ⟨group_piece dt s act h 7 (by decide) (new7 dt s) (new7_apply dt s) 3584 4992 rfl rfl _,
    group_piece dt s act h 6 (by decide) (new6 dt s) (new6_apply dt s) 3072 4864 rfl rfl _,
    group_piece dt s act h 5 (by decide) (new5 dt s) (new5_apply dt s) 2560 4736 rfl rfl _,
    group_piece dt s act h 4 (by decide) (new4 dt s) (new4_apply dt s) 2048 4608 rfl rfl _,
    group_piece dt s act h 3 (by decide) (new3 dt s) (new3_apply dt s) 1536 4480 rfl rfl _,
    group_piece dt s act h 2 (by decide) (new2 dt s) (new2_apply dt s) 1024 4352 rfl rfl _,
    group_piece dt s act h 1 (by decide) (new1 dt s) (new1_apply dt s) 512 4224 rfl rfl _,
    group_piece dt s act h 0 (by decide) (new0 dt s) (new0_apply dt s) 0 4096 rfl rfl _,
    True.intro⟩

/-- The block a last chunk writes out: each pair of heads' rows become columns. -/
def written (h : Vec Ideal S8x128x512 .f32) : Vec Ideal S1x32x128x128 .f32 := fun y =>
  have h1 : (y 1).val < 32 := (y 1).isLt
  have h2 : (y 2).val < 128 := (y 2).isLt
  h (ix3 ⟨(y 1).val / 4, by omega⟩ (y 3) ⟨128 * ((y 1).val % 4) + (y 2).val, by omega⟩)

theorem out_piece (h : Vec Ideal S8x128x512 .f32) (N : Vec Ideal S1x128x128 .f32 → Vec Ideal S1x1x128x128 .f32)
    (hN : ∀ v a b, N v (ix4 0 0 a b) = v (ix3 0 b a)) (j g o : ℕ) (hj : j < 32) (hg : g = j / 4) (ho : o = 128 * (j % 4)) {i0 i1} (y : S1x1x128x128.Idx) :
    N (View.ld h (Rect.unit (s := S8x128x512) ![g, 0, o] S1x128x128.size i0)) y
      = written h ((Rect.unit (s := S1x32x128x128) ![0, j, 0, 0] S1x1x128x128.size i1).emb y) := by
  obtain ⟨a, b, rfl⟩ : ∃ (a b : Fin 128), y = ix4 0 0 a b := ⟨y 2, y 3, by
    funext x
    fin_cases x
    · exact Fin.ext (Nat.lt_one_iff.mp (y 0).isLt)
    · exact Fin.ext (Nat.lt_one_iff.mp (y 1).isLt)
    · rfl
    · rfl⟩
  have ha := a.isLt
  have hb := b.isLt
  have e : (Rect.unit (s := S1x32x128x128) ![0, j, 0, 0] S1x1x128x128.size i1).emb (ix4 0 0 a b) = ix4 0 ⟨j, hj⟩ a b := by
    funext x
    apply Fin.ext
    refine (ValueKit.rect_emb_unit_val _ _ i1 (ix4 0 0 a b) x).trans ?_
    fin_cases x
    · rfl
    · rfl
    · exact Nat.zero_add a.val
    · exact Nat.zero_add b.val
  rw [hN, e]
  refine congrArg h ((emb3 i0 0 b a (by show g + 0 < 8; omega) (by omega) (by omega)).trans ?_)
  funext x
  apply Fin.ext
  fin_cases x
  · exact hg
  · exact Nat.zero_add b.val
  · exact congrArg (· + a.val) ho

theorem out_cover {F : FTy → Type} [FloatOps F] (h : Vec F S8x128x512 .f32) (y : S1x32x128x128.Idx) : ∃ p ∈ outPieces h, y ∈ p.1.set :=
  View.cover_of_tiledL (outPieces h) S1x1x128x128.size (by sl_kernel_rfl) y

theorem out_eq (h : Vec Ideal S8x128x512 .f32) : View.canon (outPieces h) = written h := by
  funext y
  refine (congrArg (fun L => View.canon L y) (List.append_nil _).symm).trans
    (View.canon_append_of_piecesOf (written h) [] _ ?_ y (out_cover h y))
  exact ⟨out_piece h k0_pay4 (fun v a b => by pointwise [k0_pay4]) 31 7 384 (by decide) rfl rfl (i1 := inb_S1x32x128x128_S1x1x128x128_0_31_0_0),
    out_piece h k0_pay3 (fun v a b => by pointwise [k0_pay3]) 30 7 256 (by decide) rfl rfl (i1 := inb_S1x32x128x128_S1x1x128x128_0_30_0_0),
    out_piece h k0_pay38 (fun v a b => by pointwise [k0_pay38]) 29 7 128 (by decide) rfl rfl (i1 := inb_S1x32x128x128_S1x1x128x128_0_29_0_0),
    out_piece h k0_pay37 (fun v a b => by pointwise [k0_pay37]) 28 7 0 (by decide) rfl rfl (i1 := inb_S1x32x128x128_S1x1x128x128_0_28_0_0),
    out_piece h k0_pay36 (fun v a b => by pointwise [k0_pay36]) 27 6 384 (by decide) rfl rfl (i1 := inb_S1x32x128x128_S1x1x128x128_0_27_0_0),
    out_piece h k0_pay35 (fun v a b => by pointwise [k0_pay35]) 26 6 256 (by decide) rfl rfl (i1 := inb_S1x32x128x128_S1x1x128x128_0_26_0_0),
    out_piece h (fun v => k0_pay34 (k0_pay33 v)) (fun v a b => by pointwise [k0_pay34, k0_pay33]) 25 6 128 (by decide) rfl rfl (i1 := inb_S1x32x128x128_S1x1x128x128_0_25_0_0),
    out_piece h k0_pay32 (fun v a b => by pointwise [k0_pay32]) 24 6 0 (by decide) rfl rfl (i1 := inb_S1x32x128x128_S1x1x128x128_0_24_0_0),
    out_piece h k0_pay31 (fun v a b => by pointwise [k0_pay31]) 23 5 384 (by decide) rfl rfl (i1 := inb_S1x32x128x128_S1x1x128x128_0_23_0_0),
    out_piece h k0_pay30 (fun v a b => by pointwise [k0_pay30]) 22 5 256 (by decide) rfl rfl (i1 := inb_S1x32x128x128_S1x1x128x128_0_22_0_0),
    out_piece h (fun v => k0_pay29 (k0_pay28 v)) (fun v a b => by pointwise [k0_pay29, k0_pay28]) 21 5 128 (by decide) rfl rfl (i1 := inb_S1x32x128x128_S1x1x128x128_0_21_0_0),
    out_piece h k0_pay27 (fun v a b => by pointwise [k0_pay27]) 20 5 0 (by decide) rfl rfl (i1 := inb_S1x32x128x128_S1x1x128x128_0_20_0_0),
    out_piece h k0_pay26 (fun v a b => by pointwise [k0_pay26]) 19 4 384 (by decide) rfl rfl (i1 := inb_S1x32x128x128_S1x1x128x128_0_19_0_0),
    out_piece h k0_pay25 (fun v a b => by pointwise [k0_pay25]) 18 4 256 (by decide) rfl rfl (i1 := inb_S1x32x128x128_S1x1x128x128_0_18_0_0),
    out_piece h k0_pay24 (fun v a b => by pointwise [k0_pay24]) 17 4 128 (by decide) rfl rfl (i1 := inb_S1x32x128x128_S1x1x128x128_0_17_0_0),
    out_piece h k0_pay23 (fun v a b => by pointwise [k0_pay23]) 16 4 0 (by decide) rfl rfl (i1 := inb_S1x32x128x128_S1x1x128x128_0_16_0_0),
    out_piece h k0_pay22 (fun v a b => by pointwise [k0_pay22]) 15 3 384 (by decide) rfl rfl (i1 := inb_S1x32x128x128_S1x1x128x128_0_15_0_0),
    out_piece h k0_pay21 (fun v a b => by pointwise [k0_pay21]) 14 3 256 (by decide) rfl rfl (i1 := inb_S1x32x128x128_S1x1x128x128_0_14_0_0),
    out_piece h k0_pay20 (fun v a b => by pointwise [k0_pay20]) 13 3 128 (by decide) rfl rfl (i1 := inb_S1x32x128x128_S1x1x128x128_0_13_0_0),
    out_piece h (fun v => k0_pay19 (k0_pay18 v)) (fun v a b => by pointwise [k0_pay19, k0_pay18]) 12 3 0 (by decide) rfl rfl (i1 := inb_S1x32x128x128_S1x1x128x128_0_12_0_0),
    out_piece h k0_pay17 (fun v a b => by pointwise [k0_pay17]) 11 2 384 (by decide) rfl rfl (i1 := inb_S1x32x128x128_S1x1x128x128_0_11_0_0),
    out_piece h k0_pay16 (fun v a b => by pointwise [k0_pay16]) 10 2 256 (by decide) rfl rfl (i1 := inb_S1x32x128x128_S1x1x128x128_0_10_0_0),
    out_piece h k0_pay15 (fun v a b => by pointwise [k0_pay15]) 9 2 128 (by decide) rfl rfl (i1 := inb_S1x32x128x128_S1x1x128x128_0_9_0_0),
    out_piece h (fun v => k0_pay14 (k0_pay13 v)) (fun v a b => by pointwise [k0_pay14, k0_pay13]) 8 2 0 (by decide) rfl rfl (i1 := inb_S1x32x128x128_S1x1x128x128_0_8_0_0),
    out_piece h k0_pay12 (fun v a b => by pointwise [k0_pay12]) 7 1 384 (by decide) rfl rfl (i1 := inb_S1x32x128x128_S1x1x128x128_0_7_0_0),
    out_piece h k0_pay11 (fun v a b => by pointwise [k0_pay11]) 6 1 256 (by decide) rfl rfl (i1 := inb_S1x32x128x128_S1x1x128x128_0_6_0_0),
    out_piece h k0_pay10 (fun v a b => by pointwise [k0_pay10]) 5 1 128 (by decide) rfl rfl (i1 := inb_S1x32x128x128_S1x1x128x128_0_5_0_0),
    out_piece h k0_pay9 (fun v a b => by pointwise [k0_pay9]) 4 1 0 (by decide) rfl rfl (i1 := inb_S1x32x128x128_S1x1x128x128_0_4_0_0),
    out_piece h k0_pay8 (fun v a b => by pointwise [k0_pay8]) 3 0 384 (by decide) rfl rfl (i1 := inb_S1x32x128x128_S1x1x128x128_0_3_0_0),
    out_piece h k0_pay7 (fun v a b => by pointwise [k0_pay7]) 2 0 256 (by decide) rfl rfl (i1 := inb_S1x32x128x128_S1x1x128x128_0_2_0_0),
    out_piece h k0_pay6 (fun v a b => by pointwise [k0_pay6]) 1 0 128 (by decide) rfl rfl (i1 := inb_S1x32x128x128_S1x1x128x128_0_1_0_0),
    out_piece h k0_pay5 (fun v a b => by pointwise [k0_pay5]) 0 0 0 (by decide) rfl rfl (i1 := inb_S1x32x128x128_S1x1x128x128_0_0_0_0),
    True.intro⟩

end Cert.Prompt

end
-- ==== Proof.PromptSpec.lean ====
/- The prompts' recurrence over the arguments: the state of a head of a sequence after each chunk of 128 tokens. -/
module

public import proofs.«01_k».proof.Proof.PromptPiece

@[expose] public section

noncomputable section

namespace Cert.Prompt

open Idealize.ShloMosaic Cert.KernelIdeal

/-- The token numbered `q` in chunk `c` of a sequence. -/
def token (c : ℕ) (q : Fin 128) : Fin 2048 := ⟨(128 * c + q.val) % 2048, Nat.mod_lt _ (by decide)⟩

theorem token_val (c : ℕ) (h : c < 16) (q : Fin 128) : (token c q).val = 128 * c + q.val := by
  show (128 * c + q.val) % 2048 = _
  omega

/-- Lane `p` of head `j`, as a channel of the convolution. -/
def inner (j : Fin 64) (p : Fin 64) : Fin 6144 := ⟨64 * j.val + p.val, by omega⟩

/-- Column `k` of the group of head `j`, as a channel of the convolution. -/
def outer (j : Fin 64) (k : Fin 128) : Fin 6144 := ⟨4096 + 128 * (j.val / 8) + k.val, by omega⟩

variable (x : S4x2048x6144.Idx → EReal) (dt : S4x2048x64.Idx → EReal) (w : S1x4x6144.Idx → EReal) (bias : S1x6144.Idx → EReal)
  (dtb alog : S1x64.Idx → EReal)

/-- Row `T` of a sequence with three zero rows in front. -/
def tap (b : Fin 4) (T : ℕ) (C : Fin 6144) : EReal :=
  if h : 3 ≤ T ∧ T - 3 < 2048 then x (ix3 b ⟨T - 3, h.2⟩ C) else 0

/-- A channel of the gated convolution at a token. -/
def chan (b : Fin 4) (T : Fin 2048) (C : Fin 6144) : EReal :=
  Ssd.conv ![tap x b T.val C, tap x b (T.val + 1) C, tap x b (T.val + 2) C, tap x b (T.val + 3) C]
    ![w (ix3 0 0 C), w (ix3 0 1 C), w (ix3 0 2 C), w (ix3 0 3 C)] (bias (ix2 0 C))

/-- The step of a head at a token. -/
def stepAt (b : Fin 4) (T : Fin 2048) (j : Fin 64) : EReal := Ssd.softplus (dt (ix3 b T j) + dtb (ix2 0 j))

/-- The sums of the decay exponents of a head from a chunk's start. -/
def sumsAt (b : Fin 4) (c : ℕ) (j : Fin 64) (q : Fin 128) : EReal :=
  ∑ r : Fin 128, if r ≤ q then stepAt dt dtb b (token c r) j * (0 - Ideal.exp (alog (ix2 0 j))) else 0

/-- An entry of a head's state after `c` chunks. -/
def stateAfter (b : Fin 4) (j p : Fin 64) (k : Fin 128) : ℕ → EReal
  | 0 => 0
  | c + 1 => advance (sumsAt dt dtb alog b c j) (fun q => stepAt dt dtb b (token c q) j) (fun q => chan x w bias b (token c q) (inner j p))
      (fun q => chan x w bias b (token c q) (outer j k)) (stateAfter b j p k c)

/-- The states of all sequences after their last chunk, two heads to a block. -/
def states : S4x32x128x128.Idx → EReal := fun y =>
  have h1 : (y 1).val < 32 := (y 1).isLt
  have h2 : (y 2).val < 128 := (y 2).isLt
  stateAfter x dt w bias dtb alog (y 0) ⟨2 * (y 1).val + (y 2).val / 64, by omega⟩ ⟨(y 2).val % 64, by omega⟩ (y 3) 16

end Cert.Prompt

end
-- ==== Proof.Rows.lean ====
/- Prompt and sample tokens packed as rows of one matrix, read at an index. -/
module

public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Routing.Ops

@[expose] public section

set_option maxRecDepth 16384

noncomputable section

namespace Cert.Rows

open Idealize.ShloMosaic Idealize.ShloMosaic.ValueIdx

/-- Row `r` of the packed matrix, column `k`: 8192 prompt rows in sequence order, then the 512 sample rows, step by
    step, 128 sequences to a step. -/
def packed {α : Type} {C : ℕ} (p : (⟨3, ![4, 2048, C]⟩ : Shape).Idx → α) (s : (⟨3, ![128, 4, C]⟩ : Shape).Idx → α)
    (r : Fin 8704) (k : Fin C) : α :=
  if h : r.val < 8192 then p (ix3 ⟨r.val / 2048, by omega⟩ ⟨r.val % 2048, by omega⟩ k)
  else s (ix3 ⟨(r.val - 8192) % 128, by omega⟩ ⟨(r.val - 8192) / 128, by omega⟩ k)

/-- The samples' part of the packing at row `q` of the samples. -/
theorem sample_apply {α : Type} {C : ℕ} (s : (⟨3, ![128, 4, C]⟩ : Shape).Idx → α)
    (ht : (⟨3, ![128, 4, C]⟩ : Shape).Transposes [1, 0, 2] ⟨3, ![4, 128, C]⟩)
    (hs : (⟨3, ![4, 128, C]⟩ : Shape).ShapeCasts ⟨2, ![512, C]⟩) (q : Fin 512) (k : Fin C) :
    shapeCast _ (transpose ⟨3, ![4, 128, C]⟩ [1, 0, 2] s ht) hs (ix2 q k)
      = s (ix3 ⟨q.val % 128, by omega⟩ ⟨q.val / 128, by omega⟩ k) := by
  rw [shapeCast_apply _ hs _ (ix3 (⟨q.val / 128, by omega⟩ : Fin 4) (⟨q.val % 128, by omega⟩ : Fin 128) k) (by
    rw [Shape.rowMajor_val_three, Shape.rowMajor_val_two]
    show (q.val / 128 * 128 + q.val % 128) * C + k.val = q.val * C + k.val
    rw [show q.val / 128 * 128 + q.val % 128 = q.val by omega])]
  exact transpose_apply [1, 0, 2] s ht _ _ (fun b => match b with | ⟨0, _⟩ => rfl | ⟨1, _⟩ => rfl | ⟨2, _⟩ => rfl)

/-- The host's packing (reshape the prompts; transpose and reshape the samples; concatenate the rows) is `packed`. -/
theorem pack_apply {α : Type} {C : ℕ} (p : (⟨3, ![4, 2048, C]⟩ : Shape).Idx → α) (s : (⟨3, ![128, 4, C]⟩ : Shape).Idx → α)
    (hp : (⟨3, ![4, 2048, C]⟩ : Shape).ShapeCasts ⟨2, ![8192, C]⟩)
    (ht : (⟨3, ![128, 4, C]⟩ : Shape).Transposes [1, 0, 2] ⟨3, ![4, 128, C]⟩)
    (hs : (⟨3, ![4, 128, C]⟩ : Shape).ShapeCasts ⟨2, ![512, C]⟩)
    (hc : Shape.Concatenates [⟨2, ![8192, C]⟩, ⟨2, ![512, C]⟩] ⟨2, ![8704, C]⟩ 0)
    (r : Fin 8704) (k : Fin C) :
    concatenate ⟨2, ![8704, C]⟩ 0 [⟨⟨2, ![8192, C]⟩, shapeCast _ p hp⟩,
      ⟨⟨2, ![512, C]⟩, shapeCast _ (transpose ⟨3, ![4, 128, C]⟩ [1, 0, 2] s ht) hs⟩] hc (ix2 r k) = packed p s r k := by
  unfold packed
  by_cases h : r.val < 8192
  · have hb : ∀ b : Fin 2, (ix2 (⟨r.val, h⟩ : Fin 8192) k b).val = (ix2 r k b).val :=
      fun b => match b with | ⟨0, _⟩ => rfl | ⟨1, _⟩ => rfl
    have e := concatenate_pair_apply_left (t := ⟨2, ![8704, C]⟩) (s₁ := ⟨2, ![8192, C]⟩) (s₂ := ⟨2, ![512, C]⟩) 0
      (shapeCast _ p hp) (shapeCast _ (transpose ⟨3, ![4, 128, C]⟩ [1, 0, 2] s ht) hs) hc (ix2 r k) rfl
      (ix2 (⟨r.val, h⟩ : Fin 8192) k) hb
    rw [dif_pos h]
    refine e.trans ?_
    refine shapeCast_apply p hp _ _ ?_
    rw [Shape.rowMajor_val_three, Shape.rowMajor_val_two]
    show (r.val / 2048 * 2048 + r.val % 2048) * C + k.val = r.val * C + k.val
    rw [show r.val / 2048 * 2048 + r.val % 2048 = r.val by omega]
  · obtain ⟨q, hq⟩ : ∃ q : Fin 512, r.val - 8192 = q.val := ⟨⟨r.val - 8192, by omega⟩, rfl⟩
    have hb : ∀ b : Fin 2, b ≠ 0 → (ix2 q k b).val = (ix2 r k b).val := fun b hb => by
      obtain rfl : b = 1 := by omega
      rfl
    have e := concatenate_pair_apply_right (t := ⟨2, ![8704, C]⟩) (s₁ := ⟨2, ![8192, C]⟩) (s₂ := ⟨2, ![512, C]⟩) 0
      (shapeCast _ p hp) (shapeCast _ (transpose ⟨3, ![4, 128, C]⟩ [1, 0, 2] s ht) hs) hc (ix2 r k) rfl rfl
      (ix2 q k) hb (show q.val + 8192 = r.val by omega)
    rw [dif_neg h]
    refine (e.trans (sample_apply s ht hs q k)).trans ?_
    simp only [hq]

/-- A matrix with one leading unit axis, the axis dropped. -/
theorem dropLead_apply {α : Type} {K C : ℕ} (w : (⟨3, ![1, K, C]⟩ : Shape).Idx → α)
    (h : (⟨3, ![1, K, C]⟩ : Shape).ShapeCasts ⟨2, ![K, C]⟩) (k : Fin K) (c : Fin C) :
    shapeCast _ w h (ix2 k c) = w (ix3 0 k c) := by
  refine shapeCast_apply w h _ _ ?_
  rw [Shape.rowMajor_val_three, Shape.rowMajor_val_two]
  show (0 * K + k.val) * C + c.val = k.val * C + c.val
  rw [Nat.zero_mul, Nat.zero_add]

/-- Row `b * 2048 + t` of the packed matrix is the prompt's. -/
theorem packed_prompt {α : Type} {C : ℕ} (p : (⟨3, ![4, 2048, C]⟩ : Shape).Idx → α) (s : (⟨3, ![128, 4, C]⟩ : Shape).Idx → α)
    (b : Fin 4) (t : Fin 2048) (r : Fin 8704) (hr : r.val = b.val * 2048 + t.val) (k : Fin C) : packed p s r k = p (ix3 b t k) := by
  have e1 : r.val / 2048 = b.val := by omega
  have e2 : r.val % 2048 = t.val := by omega
  unfold packed
  rw [dif_pos (show r.val < 8192 by omega)]
  simp only [e1, e2]

/-- Row `8192 + t * 128 + b` is the samples'. -/
theorem packed_sample {α : Type} {C : ℕ} (p : (⟨3, ![4, 2048, C]⟩ : Shape).Idx → α) (s : (⟨3, ![128, 4, C]⟩ : Shape).Idx → α)
    (b : Fin 128) (t : Fin 4) (r : Fin 8704) (hr : r.val = 8192 + (t.val * 128 + b.val)) (k : Fin C) : packed p s r k = s (ix3 b t k) := by
  have e1 : (r.val - 8192) % 128 = b.val := by omega
  have e2 : (r.val - 8192) / 128 = t.val := by omega
  unfold packed
  rw [dif_neg (show ¬ r.val < 8192 by omega)]
  simp only [e1, e2]

/-- A matrix product's entry. -/
def dot {M K N : ℕ} (a : (⟨2, ![M, K]⟩ : Shape).Idx → EReal) (w : (⟨2, ![K, N]⟩ : Shape).Idx → EReal) (r : Fin M) (n : Fin N) : EReal :=
  ∑ k : Fin K, a (ix2 r k) * w (ix2 k n)

/-- A guarded row gather at a row whose number is in range. -/
theorem guarded_apply {α : Type} {n C : ℕ} (d : GatherDims ⟨2, ![8704, C]⟩ ⟨2, ![n, 1]⟩ ⟨2, ![n, C]⟩) (hoff : d.offsetDims = [1])
    (hcoll : d.collapsedSliceDims = [0]) (hob : d.operandBatchingDims = []) (hsim : d.startIndexMap = [0]) (hivd : d.indexVectorDim = 1)
    (x : (⟨2, ![8704, C]⟩ : Shape).Idx → α) (starts : IVec ⟨2, ![n, 1]⟩ 32) (ok : IVec ⟨1, ![n]⟩ 1)
    (hb : (⟨1, ![n]⟩ : Shape).BroadcastsInDim ⟨2, ![n, C]⟩ ![0]) (z : (⟨2, ![n, C]⟩ : Shape).Idx → α) (hn : n ≠ 1)
    (j : Fin n) (y : Fin C) (b : Fin 8704) (hok : ok (ix1 j) = 1#1) (hj : starts (ix2 j 0) = BitVec.ofNat 32 b.val) :
    select (broadcastInDim ⟨2, ![n, C]⟩ ![0] hb ok) (Host.gather d x starts) z (ix2 j y) = x (ix2 b y) := by
  have e1 : broadcastInDim ⟨2, ![n, C]⟩ ![0] hb ok (ix2 j y) = ok (ix1 j) := by
    refine broadcastInDim_apply ![0] hb ok _ (ix1 j) (fun a => ?_)
    match a with
    | ⟨0, _⟩ => exact (if_neg (show ¬ n = 1 from hn)).symm
  have e2 := Routing.gather_row d hoff hcoll hob hsim hivd x starts j y b hj (by decide)
  show Scalar.select _ _ _ = _
  rw [e1, hok, e2]
  exact if_pos rfl

end Cert.Rows

end
-- ==== Proof.PromptBlk.lean ====
/- The blocks that a grid point of the prompts' state-space kernel reads, as entries of the arguments. -/
module

public import proofs.«01_k».proof.Proof.PromptValue
public import proofs.«01_k».proof.Proof.PromptSpec
public import proofs.«01_k».proof.Proof.Rows
public import proofs.«01_k».proof.Proof.Gen.KernelIdeal.Value
public import Idealize.ShloMosaic.Lib.Claim
public import Idealize.ShloMosaic.Lib.KernelVsHost
public import Idealize.ShloMosaic.Lib.StableHlo.ReadAt
public import Idealize.ShloMosaic.Lib.Pipeline.ValueKit.Point

@[expose] public section

set_option maxRecDepth 16384

noncomputable section

namespace Cert.Prompt

open Idealize.ShloMosaic Idealize.ShloMosaic.TcCoe Cert.KernelIdeal Cert.KernelIdeal.Gen

variable (m : (ℓ : Loc nD τ sig) → Buf (Elt Ideal) ℓ) (c : Dev nD) (t : Fin cfg0.N)

theorem arr3 (R : Fin 8704) (k : Fin 6144) :
    V m c main_v3 (ix2 R k) = Rows.packed (m ((c : Thread nD τ).loc main_arg0)) (m ((c : Thread nD τ).loc main_arg1)) R k := by
  have e : V m c main_v3 = concatenate S8704x6144 0
      [⟨S8192x6144, shapeCast _ (m ((c : Thread nD τ).loc main_arg0)) shapeCasts_S4x2048x6144_S8192x6144⟩,
       ⟨S512x6144, shapeCast _ (transpose S4x128x6144 [1, 0, 2] (m ((c : Thread nD τ).loc main_arg1)) transposes_S128x4x6144_S4x128x6144_1_0_2)
          shapeCasts_S4x128x6144_S512x6144⟩] concatenates_S8192x6144_S512x6144_S8704x6144_d0 := by
    show StableHlo.after hostOps0 _ _ = _
    after_results <;> rfl
  rw [e]
  exact Rows.pack_apply _ _ _ _ _ concatenates_S8192x6144_S512x6144_S8704x6144_d0 R k

theorem arr14 (j : Fin 64) (R : Fin 8192) :
    V m c main_v14 (ix2 j R) = m ((c : Thread nD τ).loc main_arg4) (ix3 ⟨R.val / 2048, by omega⟩ ⟨R.val % 2048, by omega⟩ j) := by
  unfold V
  after_reads_at

theorem arr15 (j : Fin 64) : V m c main_v15 (ix2 j 0) = m ((c : Thread nD τ).loc main_arg7) (ix2 0 j) := by
  unfold V
  after_reads_at

theorem arr16 (j : Fin 64) : V m c main_v16 (ix2 j 0) = m ((c : Thread nD τ).loc main_arg8) (ix2 0 j) := by
  unfold V
  after_reads_at

theorem arr17 (k : Fin 4) (l : Fin 6144) : V m c main_v17 (ix2 k l) = m ((c : Thread nD τ).loc main_arg5) (ix3 0 k l) := by
  unfold V
  after_reads_at

theorem idx0 : ∀ t : Fin grid0.N, win0_0.index t (0 : Fin 2) = t.val ∧ win0_0.index t (1 : Fin 2) = 0 := by decide +kernel
theorem idx1 : ∀ t : Fin grid0.N, win0_1.index t (0 : Fin 2) = 16 * t.val - 1 ∧ win0_1.index t (1 : Fin 2) = 0 := by decide +kernel
theorem idx3 : ∀ t : Fin grid0.N, win0_3.index t (0 : Fin 2) = 0 ∧ win0_3.index t (1 : Fin 2) = t.val := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel

theorem point_lt (t : Fin cfg0.N) : t.val < 64 := lt_of_lt_of_eq t.isLt N_0

/-- The sequence a grid point works on. -/
def sequence (t : Fin cfg0.N) : Fin 4 := ⟨t.val / 16, by have := point_lt t; omega⟩

/-- The chunk's rows. -/
theorem blk0 (q : Fin 128) (C : Fin 6144) :
    iblk m c 0 t (ix2 q C) = m ((c : Thread nD τ).loc main_arg0) (ix3 (sequence t) (token (t.val % 16) q) C) := by
  have ht := point_lt t
  obtain ⟨e0, e1⟩ := idx0 t
  have e : iblk m c 0 t (ix2 q C) = V m c main_v3 (ix2 ⟨128 * t.val + q.val, by omega⟩ C) := by
    show V m c main_v3 _ = _
    congr 1
    funext a; apply Fin.ext
    match a with
    | ⟨0, _⟩ => show win0_0.index t (0 : Fin 2) * 128 + 1 * q.val = 128 * t.val + q.val; omega
    | ⟨1, _⟩ => show win0_0.index t (1 : Fin 2) * 6144 + 1 * C.val = C.val; omega
  rw [e, arr3, Rows.packed, dif_pos (by show 128 * t.val + q.val < 8192; omega)]
  refine congrArg _ (congrArg₂ (fun a b => ix3 a b C) (Fin.ext ?_) (Fin.ext ?_))
  · show (128 * t.val + q.val) / 2048 = t.val / 16; omega
  · rw [token_val _ (by omega)]; show (128 * t.val + q.val) % 2048 = _; omega

/-- The eight rows before the chunk, when it is not a sequence's first. -/
theorem blk1 (h : t.val % 16 ≠ 0) (r : Fin 8) (C : Fin 6144) :
    iblk m c 1 t (ix2 r C) = m ((c : Thread nD τ).loc main_arg0) (ix3 (sequence t) ⟨128 * (t.val % 16) - 8 + r.val, by omega⟩ C) := by
  have ht := point_lt t
  obtain ⟨e0, e1⟩ := idx1 t
  have e : iblk m c 1 t (ix2 r C) = V m c main_v3 (ix2 ⟨128 * t.val - 8 + r.val, by omega⟩ C) := by
    show V m c main_v3 _ = _
    congr 1
    funext a; apply Fin.ext
    match a with
    | ⟨0, _⟩ => show win0_1.index t (0 : Fin 2) * 8 + 1 * r.val = 128 * t.val - 8 + r.val; omega
    | ⟨1, _⟩ => show win0_1.index t (1 : Fin 2) * 6144 + 1 * C.val = C.val; omega
  rw [e, arr3, Rows.packed, dif_pos (by show 128 * t.val - 8 + r.val < 8192; omega)]
  refine congrArg _ (congrArg₂ (fun a b => ix3 a b C) (Fin.ext ?_) (Fin.ext ?_))
  · show (128 * t.val - 8 + r.val) / 2048 = t.val / 16; omega
  · show (128 * t.val - 8 + r.val) % 2048 = 128 * (t.val % 16) - 8 + r.val; omega

theorem blk3 (j : Fin 64) (q : Fin 128) :
    iblk m c 3 t (ix2 j q) = m ((c : Thread nD τ).loc main_arg4) (ix3 (sequence t) (token (t.val % 16) q) j) := by
  have ht := point_lt t
  obtain ⟨e0, e1⟩ := idx3 t
  have e : iblk m c 3 t (ix2 j q) = V m c main_v14 (ix2 j ⟨128 * t.val + q.val, by omega⟩) := by
    show V m c main_v14 _ = _
    congr 1
    funext a; apply Fin.ext
    match a with
    | ⟨0, _⟩ => show win0_3.index t (0 : Fin 2) * 64 + 1 * j.val = j.val; omega
    | ⟨1, _⟩ => show win0_3.index t (1 : Fin 2) * 128 + 1 * q.val = 128 * t.val + q.val; omega
  rw [e, arr14]
  refine congrArg _ (congrArg₂ (fun a b => ix3 a b j) (Fin.ext ?_) (Fin.ext ?_))
  · show (128 * t.val + q.val) / 2048 = t.val / 16; omega
  · rw [token_val _ (by omega)]; show (128 * t.val + q.val) % 2048 = _; omega

theorem blk4 (j : Fin 64) : iblk m c 4 t (ix2 j 0) = m ((c : Thread nD τ).loc main_arg7) (ix2 0 j) := by
  obtain ⟨e0, e1⟩ := idx4 t
  refine Eq.trans (congrArg (V m c main_v15) (funext fun a => Fin.ext ?_)) (arr15 m c j)
  match a with
  | ⟨0, _⟩ => show win0_4.index t (0 : Fin 2) * 64 + 1 * j.val = j.val; omega
  | ⟨1, _⟩ => show win0_4.index t (1 : Fin 2) * 1 + 1 * 0 = 0; omega

theorem blk5 (j : Fin 64) : iblk m c 5 t (ix2 j 0) = m ((c : Thread nD τ).loc main_arg8) (ix2 0 j) := by
  obtain ⟨e0, e1⟩ := idx5 t
  refine Eq.trans (congrArg (V m c main_v16) (funext fun a => Fin.ext ?_)) (arr16 m c j)
  match a with
  | ⟨0, _⟩ => show win0_5.index t (0 : Fin 2) * 64 + 1 * j.val = j.val; omega
  | ⟨1, _⟩ => show win0_5.index t (1 : Fin 2) * 1 + 1 * 0 = 0; omega

theorem blk6 (k : Fin 4) (l : Fin 6144) : iblk m c 6 t (ix2 k l) = m ((c : Thread nD τ).loc main_arg5) (ix3 0 k l) := by
  obtain ⟨e0, e1⟩ := idx6 t
  refine Eq.trans (congrArg (V m c main_v17) (funext fun a => Fin.ext ?_)) (arr17 m c k l)
  match a with
  | ⟨0, _⟩ => show win0_6.index t (0 : Fin 2) * 4 + 1 * k.val = k.val; omega
  | ⟨1, _⟩ => show win0_6.index t (1 : Fin 2) * 6144 + 1 * l.val = l.val; omega

theorem arrBias (l : Fin 6144) : V m c main_arg6 (ix2 0 l) = m ((c : Thread nD τ).loc main_arg6) (ix2 0 l) := by
  unfold V
  after_reads_at

theorem blk7 (l : Fin 6144) : iblk m c 7 t (ix2 0 l) = m ((c : Thread nD τ).loc main_arg6) (ix2 0 l) := by
  obtain ⟨e0, e1⟩ := idx7 t
  refine Eq.trans (congrArg (V m c main_arg6) (funext fun a => Fin.ext ?_)) (arrBias m c l)
  match a with
  | ⟨0, _⟩ => show win0_7.index t (0 : Fin 2) * 1 + 1 * 0 = 0; omega
  | ⟨1, _⟩ => show win0_7.index t (1 : Fin 2) * 6144 + 1 * l.val = l.val; omega

end Cert.Prompt

end
-- ==== Proof.PromptRun.lean ====
/- The prompts' states as the kernel leaves them: over every grid point of a sequence, then in the result. -/
module

public import proofs.«01_k».proof.Proof.PromptBlk

@[expose] public section

set_option maxRecDepth 16384

noncomputable section

namespace Cert.Prompt

open Idealize.ShloMosaic Idealize.ShloMosaic.TcCoe Cert.KernelIdeal Cert.KernelIdeal.Gen

variable (m : (ℓ : Loc nD τ sig) → Buf (Elt Ideal) ℓ) (c : Dev nD)

theorem chunk_eq : ∀ t : Fin grid0.N, (grid0.coords t 1).val = t.val % 16 := by decide +kernel

/-- A staged row is the sequence's, with three zero rows in front. -/
theorem staged_eq (t : Fin cfg0.N) (q : Fin 128) (k : ℕ) (hk : k < 4) (C : Fin 6144) :
    staged ((grid0.coords t 1).val = 0) (iblk m c 0 t) (iblk m c 1 t) (5 + k + q.val) C
      = tap (m ((c : Thread nD τ).loc main_arg0)) (sequence t) ((token (t.val % 16) q).val + k) C := by
  have ht := point_lt t
  have e := chunk_eq t
  have et := token_val (t.val % 16) (by omega) q
  unfold staged tap
  by_cases hR : 5 + k + q.val < 8
  · rw [dif_pos hR]
    by_cases h0 : t.val % 16 = 0
    · rw [if_pos (e.trans h0), dif_neg (by rw [et]; omega)]
    · rw [if_neg (fun h => h0 (e.symm.trans h)), dif_pos ⟨by rw [et]; omega, by rw [et]; omega⟩, blk1 m c t h0]
      exact congrArg _ (congrArg (fun a => ix3 (sequence t) a C) (Fin.ext (by
        show 128 * (t.val % 16) - 8 + (5 + k + q.val) = (token (t.val % 16) q).val + k - 3; rw [et]; omega)))
  · rw [dif_neg hR, dif_pos (by omega), dif_pos ⟨by rw [et]; omega, by rw [et]; omega⟩, blk0 m c t]
    exact congrArg _ (congrArg (fun a => ix3 (sequence t) a C) (Fin.ext (by
      rw [token_val _ (by omega)]
      show 128 * (t.val % 16) + (5 + k + q.val - 8) = (token (t.val % 16) q).val + k - 3; rw [et]; omega)))

/-- The gated convolution of a grid point's rows. -/
theorem act_eq (t : Fin cfg0.N) (q : Fin 128) (C : Fin 6144) :
    View.canon (slabPieces (View.canon (stagePieces (grid0.coords t) (iblk m c 0 t) (iblk m c 1 t))) (iblk m c 6 t) (iblk m c 7 t)) (ix2 q C)
      = chan (m ((c : Thread nD τ).loc main_arg0)) (m ((c : Thread nD τ).loc main_arg5)) (m ((c : Thread nD τ).loc main_arg6))
          (sequence t) (token (t.val % 16) q) C := by
  rw [slabs_eq]
  unfold convolved chan
  have s : ∀ (k R : ℕ) (hR : R < 136) (hk : k < 4) (e : R = 5 + k + q.val),
      View.canon (stagePieces (grid0.coords t) (iblk m c 0 t) (iblk m c 1 t)) (ix2 ⟨R, hR⟩ C)
        = tap (m ((c : Thread nD τ).loc main_arg0)) (sequence t) ((token (t.val % 16) q).val + k) C := by
    rintro k R hR hk rfl
    exact (stage_eq _ _ _ _ _).trans (staged_eq m c t q k hk C)
  have h1 := vec4 (s 0 (5 + q.val) (by omega) (by omega) (by omega)) (s 1 (6 + q.val) (by omega) (by omega) (by omega))
    (s 2 (7 + q.val) (by omega) (by omega) (by omega)) (s 3 (8 + q.val) (by omega) (by omega) (by omega))
  have h2 := vec4 (blk6 m c t 0 C) (blk6 m c t 1 C) (blk6 m c t 2 C) (blk6 m c t 3 C)
  exact congr (congr (congrArg Ssd.conv h1) h2) (blk7 m c t C)

/-- The arguments' state after `n` chunks, at an entry of the carried scratch. -/
def entry (b : Fin 4) (n : ℕ) (g : Fin 8) (k : Fin 128) (l : Fin 512) : EReal :=
  stateAfter (m ((c : Thread nD τ).loc main_arg0)) (m ((c : Thread nD τ).loc main_arg4)) (m ((c : Thread nD τ).loc main_arg5))
    (m ((c : Thread nD τ).loc main_arg6)) (m ((c : Thread nD τ).loc main_arg7)) (m ((c : Thread nD τ).loc main_arg8))
    b ⟨8 * g.val + l.val / 64, by omega⟩ ⟨l.val % 64, by omega⟩ k n

/-- One grid point advances the state by its chunk. -/
theorem point_eq (t : Fin cfg0.N) (h : Vec Ideal S8x128x512 .f32) (L : List (View.Piece (Elt Ideal) S8x128x512 .f32)) (g : Fin 8) (k : Fin 128) (l : Fin 512)
    (hh : h (ix3 g k l) = entry m c (sequence t) (t.val % 16) g k l) :
    View.canon (state (grid0.coords t) (iblk m c 0 t) (iblk m c 1 t) (iblk m c 3 t) (iblk m c 4 t) (iblk m c 5 t) (iblk m c 6 t) (iblk m c 7 t) h ++ L)
        (ix3 g k l) = entry m c (sequence t) (t.val % 16 + 1) g k l := by
  unfold state
  rw [groups_eq]
  unfold advanced
  have hd : ∀ (j : Fin 64) q, k0_pay66 (F := Ideal) (k0_pay65 (iblk m c 3 t)) (iblk m c 4 t) (ix2 j q)
      = stepAt (m ((c : Thread nD τ).loc main_arg4)) (m ((c : Thread nD τ).loc main_arg7)) (sequence t) (token (t.val % 16) q) j := fun j q => by
    rw [dt_apply, blk3, blk4]; rfl
  have hs : ∀ (j : Fin 64) q, k0_pay68 (F := Ideal) (iota .tc S64x128 32 [1] iota_S64x128_d1_w32)
        (k0_pay67 (k0_pay65 (iblk m c 3 t)) (iblk m c 4 t) (iblk m c 5 t)) 8#32 (ix2 j q)
      = sumsAt (m ((c : Thread nD τ).loc main_arg4)) (m ((c : Thread nD τ).loc main_arg7)) (m ((c : Thread nD τ).loc main_arg8))
          (sequence t) (t.val % 16) j q := fun j q => by
    rw [s_apply]
    refine Finset.sum_congr rfl fun r _ => ?_
    unfold lane
    rw [blk3, blk4, blk5]; rfl
  show advance _ _ _ _ (h (ix3 g k l)) = advance _ _ _ _ _
  refine congr (congr (congr (congr (congrArg advance (funext fun q => hs _ q)) (funext fun q => hd _ q)) (funext fun q => ?_)) (funext fun q => ?_)) hh
  · refine (act_eq m c t q _).trans (congrArg _ (Fin.ext ?_))
    show 512 * g.val + l.val = 64 * (8 * g.val + l.val / 64) + l.val % 64
    omega
  · refine (act_eq m c t q _).trans (congrArg _ (Fin.ext ?_))
    show 4096 + 128 * g.val + k.val = 4096 + 128 * ((8 * g.val + l.val / 64) / 8) + k.val
    omega

theorem zeros_apply (y : S8x128x512.Idx) : k0_pay39 (F := Ideal) y = 0 := by
  obtain ⟨a, b, d, rfl⟩ : ∃ (a : Fin 8) (b : Fin 128) (d : Fin 512), y = ix3 a b d := ⟨y 0, y 1, y 2, eq_ix3 y⟩
  pointwise [k0_pay39]

/-- The carried scratch after any point. -/
theorem carried : ∀ (n : ℕ) (h : n < cfg0.N) (g : Fin 8) (k : Fin 128) (l : Fin 512),
    (outsAt0 m c n h).2.2 (ix3 g k l) = entry m c (sequence ⟨n, h⟩) (n % 16 + 1) g k l := by
  intro n
  induction n using Nat.strong_induction_on with
  | _ n ih =>
    intro h g k l
    by_cases h0 : n % 16 = 0
    · rw [outsAt0_A m c ⟨n, h⟩ h0 (by show ¬ n % 16 = 15; omega)]
      dsimp only
      rw [sout_A]
      refine point_eq m c ⟨n, h⟩ _ _ g k l ((zeros_apply _).trans ?_)
      show 0 = entry m c _ (n % 16) g k l
      rw [h0]
      rfl
    · have hd : sequence ⟨n - 1, Nat.lt_of_le_of_lt (Nat.sub_le _ _) h⟩ = sequence ⟨n, h⟩ := Fin.ext (by show (n - 1) / 16 = n / 16; omega)
      have hp := ih (n - 1) (by omega) (Nat.lt_of_le_of_lt (Nat.sub_le _ _) h) g k l
      rw [hd, show (n - 1) % 16 + 1 = n % 16 by omega] at hp
      by_cases h1 : n % 16 = 15
      · rw [outsAt0_C m c ⟨n, h⟩ h0 h1]
        dsimp only
        rw [sout_C, ← List.append_nil (state _ _ _ _ _ _ _ _ _)]
        exact point_eq m c ⟨n, h⟩ _ _ g k l hp
      · rw [outsAt0_B m c ⟨n, h⟩ h0 h1]
        dsimp only
        rw [sout_B, ← List.append_nil (state _ _ _ _ _ _ _ _ _)]
        exact point_eq m c ⟨n, h⟩ _ _ g k l hp

/-- What a sequence's last point writes to the result. -/
theorem written_eq (t : Fin cfg0.N) (h1 : t.val % 16 = 15) : (outsAt0 m c t.val t.isLt).2.1 = written (outsAt0 m c t.val t.isLt).2.2 := by
  rw [outsAt0_C m c t (by omega) h1]
  dsimp only
  rw [sout_C, out_C, out_eq]

/-- The states of the arguments. -/
def statesOfArgs : S4x32x128x128.Idx → EReal :=
  states (m ((c : Thread nD τ).loc main_arg0)) (m ((c : Thread nD τ).loc main_arg4)) (m ((c : Thread nD τ).loc main_arg5))
    (m ((c : Thread nD τ).loc main_arg6)) (m ((c : Thread nD τ).loc main_arg7)) (m ((c : Thread nD τ).loc main_arg8))

theorem last_of_flush : ∀ t : Fin grid0.N, win0_11.index t = ![t.val / 16, 0, 0, 0] := by decide +kernel

/-- The result. -/
theorem array : (dats m 0 c).arrAt 11 cfg0.N = statesOfArgs m c := by
  have e := last_of_flush
  refine (dats m 0 c).arrAt_eq_of_covers 11 _ (by decide +kernel) fun t hf y => ?_
  have h1 : t.val % 16 = 15 := (flush0_11 t).mp hf
  have h2 : (y 1).val < 32 := (y 1).isLt
  have h3 : (y 2).val < 128 := (y 2).isLt
  rw [after0_11, written_eq m c t h1]
  refine (carried m c t.val t.isLt ⟨(y 1).val / 4, by omega⟩ (y 3) ⟨128 * ((y 1).val % 4) + (y 2).val, by omega⟩).trans
    (Eq.trans ?_ (congrArg (statesOfArgs m c) (a₁ := ix4 (sequence t) (y 1) (y 2) (y 3)) (funext fun a => Fin.ext ?_)))
  · unfold entry statesOfArgs states
    have ej : (⟨8 * ((y 1).val / 4) + (128 * ((y 1).val % 4) + (y 2).val) / 64, by omega⟩ : Fin 64)
        = ⟨2 * (y 1).val + (y 2).val / 64, by omega⟩ := Fin.ext (by dsimp only; omega)
    have ep : (⟨(128 * ((y 1).val % 4) + (y 2).val) % 64, by omega⟩ : Fin 64) = ⟨(y 2).val % 64, by omega⟩ := Fin.ext (by dsimp only; omega)
    rw [h1]
    exact congr (congr (congr (congrArg (stateAfter _ _ _ _ _ _ _) ej) ep) rfl) rfl
  · fin_cases a <;> blk_simp [e] <;> rfl

end Cert.Prompt

end
-- ==== Proof.PromptRef.lean ====
/- The prompts' states by the reference, at an index. -/
module

public import proofs.«01_k».proof.Proof.PromptSpec
public import proofs.«01_k».proof.Proof.Gen.ReferenceIdeal.StepRun
public import Idealize.ShloMosaic.Lib.Pointwise
public import Idealize.ShloMosaic.Lib.WordCmp

@[expose] public section

set_option maxRecDepth 16384

noncomputable section

namespace Cert.Prompt.Ref

open Idealize.ShloMosaic Cert.ReferenceIdeal Cert.ReferenceIdeal.Gen Cert.ReferenceIdeal.Step

/-- The positions of a window of 128 tokens, in order. -/
abbrev Window : Shape := ⟨4, ![1, 128, 1, 1]⟩

theorem window_index (n : Fin Window.numel) (a : Fin 4) : (Window.rowMajor.symm n a).val = ![0, n.val, 0, 0] a := by
  revert n a
  decide +kernel

/-- The running sum over a chunk's tokens, written as sums over windows padded with zeros in front. -/
theorem running (x : FVec Ideal S4x128x8x8 .f32) (init : FVec Ideal S_ .f32) (hi : ∀ y, init y = 0)
    (h : S4x128x8x8.ReduceWindows ![1, 128, 1, 1] ![1, 1, 1, 1] ![0, 127, 0, 0] ![0, 0, 0, 0] S4x128x8x8) (hu : 0 < S_.numel)
    (b : Fin 4) (t : Fin 128) (g r : Fin 8) :
    Host.reduceWindowAdd ![1, 128, 1, 1] ![1, 1, 1, 1] ![0, 127, 0, 0] ![0, 0, 0, 0] x init h hu (ix4 b t g r)
      = ∑ u : Fin 128, if u ≤ t then x (ix4 b u g r) else 0 := by
  let val : ℕ → EReal := fun k => if hk : 127 ≤ t.val + k ∧ t.val + k - 127 < 128 then x (ix4 b ⟨t.val + k - 127, hk.2⟩ g r) else 0
  have e : Host.reduceWindowAdd ![1, 128, 1, 1] ![1, 1, 1, 1] ![0, 127, 0, 0] ![0, 0, 0, 0] x init h hu (ix4 b t g r)
      = (List.finRange Window.numel).foldl (fun s n => s + val n.val) 0 := by
    show Host.reduceWindow (u := ⟨0, ![]⟩) (fun a b : EReal => a + b) _ _ _ _ x (fun _ => init (Shape.Idx.first hu)) h (by decide) (ix4 b t g r) = _
    unfold Host.reduceWindow
    dsimp only
    rw [hi]
    refine congrArg (fun f => List.foldl f (0 : EReal) (List.finRange Window.numel)) (funext fun s => funext fun n => congrArg (s + ·) ?_)
    have w0 : (Window.rowMajor.symm n 0).val = 0 := window_index n 0
    have w1 : (Window.rowMajor.symm n 1).val = n.val := window_index n 1
    have w2 : (Window.rowMajor.symm n 2).val = 0 := window_index n 2
    have w3 : (Window.rowMajor.symm n 3).val = 0 := window_index n 3
    by_cases hk : 127 ≤ t.val + n.val ∧ t.val + n.val - 127 < 128
    · have v : val n.val = x (ix4 b ⟨t.val + n.val - 127, hk.2⟩ g r) := dif_pos hk
      refine Eq.trans (dif_pos fun a => ?_) (Eq.trans (congrArg x (funext fun a => Fin.ext ?_)) v.symm)
      · match a with
        | ⟨0, _⟩ => show 0 ≤ b.val * 1 + (Window.rowMajor.symm n 0).val ∧ b.val * 1 + (Window.rowMajor.symm n 0).val - 0 < 4; rw [w0]; omega
        | ⟨1, _⟩ => show 127 ≤ t.val * 1 + (Window.rowMajor.symm n 1).val ∧ t.val * 1 + (Window.rowMajor.symm n 1).val - 127 < 128; rw [w1]; omega
        | ⟨2, _⟩ => show 0 ≤ g.val * 1 + (Window.rowMajor.symm n 2).val ∧ g.val * 1 + (Window.rowMajor.symm n 2).val - 0 < 8; rw [w2]; omega
        | ⟨3, _⟩ => show 0 ≤ r.val * 1 + (Window.rowMajor.symm n 3).val ∧ r.val * 1 + (Window.rowMajor.symm n 3).val - 0 < 8; rw [w3]; omega
      · match a with
        | ⟨0, _⟩ => show b.val * 1 + (Window.rowMajor.symm n 0).val - 0 = b.val; rw [w0]; omega
        | ⟨1, _⟩ => show t.val * 1 + (Window.rowMajor.symm n 1).val - 127 = t.val + n.val - 127; rw [w1]; omega
        | ⟨2, _⟩ => show g.val * 1 + (Window.rowMajor.symm n 2).val - 0 = g.val; rw [w2]; omega
        | ⟨3, _⟩ => show r.val * 1 + (Window.rowMajor.symm n 3).val - 0 = r.val; rw [w3]; omega
    · have v : val n.val = 0 := dif_neg hk
      refine Eq.trans (dif_neg fun hin => hk ?_) v.symm
      have := hin 1
      change 127 ≤ t.val * 1 + (Window.rowMajor.symm n 1).val ∧ t.val * 1 + (Window.rowMajor.symm n 1).val - 127 < 128 at this
      rw [w1] at this
      omega
  have f : ∀ (l : List (Fin Window.numel)) (s : EReal), l.foldl (fun s n => s + val n.val) s = s + (l.map fun n => val n.val).sum := fun l => by
    induction l with
    | nil => intro s; simp
    | cons a l ih => intro s; simp [ih, add_assoc]
  rw [e, f, zero_add, ← Fin.sum_univ_def, Fin.sum_univ_eq_sum_range val, show Window.numel = 128 from by decide +kernel, ← Fin.sum_univ_eq_sum_range val]
  refine Eq.trans (Finset.sum_congr rfl fun k _ => ?_)
    (Equiv.sum_comp (Equiv.addRight (⟨(t.val + 1) % 128, Nat.mod_lt _ (by decide)⟩ : Fin 128)) fun u => if u ≤ t then x (ix4 b u g r) else 0)
  have ek : ((Equiv.addRight (⟨(t.val + 1) % 128, Nat.mod_lt _ (by decide)⟩ : Fin 128)) k).val = (k.val + (t.val + 1) % 128) % 128 := rfl
  by_cases hk : 127 ≤ t.val + k.val
  · rw [if_pos (Fin.le_def.mpr (by rw [ek]; omega))]
    refine (dif_pos ⟨hk, by omega⟩).trans (congrArg x (congrArg (fun u => ix4 b u g r) (Fin.ext ?_)))
    rw [ek]
    show t.val + k.val - 127 = _
    omega
  · rw [if_neg (fun h => by have := Fin.le_def.mp h; rw [ek] at this; omega)]
    exact dif_neg (fun h => hk h.1)

variable (x : Vec Ideal S4x2048x6144 .f32) (dt : Vec Ideal S4x2048x64 .f32) (w : Vec Ideal S1x4x6144 .f32) (bias : Vec Ideal S1x6144 .f32)
  (dtb alog : Vec Ideal S1x64 .f32)

/-- A row of a sequence with three zero rows in front. -/
theorem tap_apply (b : Fin 4) (R : Fin 2051) (C : Fin 6144) :
    A_main_v4 (F := Ideal) x dt w bias dtb alog (ix3 b R C) = tap x b R.val C := by
  unfold A_main_v4
  pointwise [K_main_v0, K_main_cst]
  unfold tap
  by_cases h : R.val < 3
  · rw [dif_pos h, dif_neg (by omega)]
  · rw [dif_neg h, dif_pos ⟨by omega, by omega⟩]

theorem act_apply (b : Fin 4) (T : Fin 2048) (C : Fin 6144) :
    A_main_v35 (F := Ideal) x dt w bias dtb alog (ix3 b T C) = chan x w bias b T C := by
  have e : A_main_v35 (F := Ideal) x dt w bias dtb alog (ix3 b T C)
      = A_main_v34 (F := Ideal) x dt w bias dtb alog (ix3 b T C) * Ideal.logistic (A_main_v34 (F := Ideal) x dt w bias dtb alog (ix3 b T C)) := by
    unfold A_main_v35
    pointwise [A_main_call0_v5, A_main_call0_v3, A_main_call0_v1, A_main_call0_v0, K_main_call0_v4, K_main_call0_cst_0, K_main_call0_v2, K_main_call0_cst]
    rfl
  rw [e]
  unfold A_main_v34
  pointwise [A_main_v33, A_main_v32, A_main_v31, A_main_v30, A_main_v29, A_main_v28, A_main_v27, A_main_v26, A_main_v25, A_main_v24, A_main_v23, A_main_v22,
    A_main_v21, A_main_v20, A_main_v19, A_main_v18, A_main_v17, A_main_v16, A_main_v15, A_main_v14, A_main_v13, A_main_v12, A_main_v11, A_main_v10,
    A_main_v9, A_main_v8, A_main_v7, A_main_v6, A_main_v5, A_main_v3, A_main_v2]
  simp only [tap_apply]
  rw [Nat.add_comm 1 T.val, Nat.add_comm 2 T.val, Nat.add_comm 3 T.val]
  rfl

theorem step_apply (b : Fin 4) (T : Fin 2048) (j : Fin 64) :
    A_main_v45 (F := Ideal) x dt w bias dtb alog (ix3 b T j) = stepAt dt dtb b T j := by
  unfold A_main_v45
  pointwise [A_main_call1_v11, A_main_call1_v10, A_main_call1_v9, A_main_call1_v8, A_main_call1_v7, A_main_call1_v6, K_main_call1_v5,
    A_main_call1_v4, A_main_call1_v3, K_main_call1_v2, A_main_call1_v1, K_main_call1_v0, K_main_call1_cst,
    A_main_v44, A_main_v43, A_main_v42, A_main_v41]
  rw [if_neg (not_not_intro rfl)]
  unfold stepAt Ssd.softplus
  rw [zero_sub]
  rfl

theorem token_eq (c : Fin 16) (q : Fin 128) : token c.val q = ⟨c.val * 128 + q.val, by omega⟩ :=
  Fin.ext ((token_val c.val c.isLt q).trans (by dsimp only; omega))

theorem steps_apply (c : Fin 16) (b : Fin 4) (q : Fin 128) (g e : Fin 8) :
    A_main_v57 (F := Ideal) x dt w bias dtb alog (ix5 c b q g e) = stepAt dt dtb b (token c.val q) ⟨8 * g.val + e.val, by omega⟩ := by
  unfold A_main_v57
  pointwise [A_main_v50]
  exact (congrArg _ (congrArg₂ (fun u v => ix3 b u v) (token_eq c q).symm (Fin.ext (by dsimp only; omega)))).trans (step_apply x dt w bias dtb alog b _ _)

theorem decays_apply (c : Fin 16) (b : Fin 4) (q : Fin 128) (g e : Fin 8) :
    A_main_v58 (F := Ideal) x dt w bias dtb alog (ix5 c b q g e)
      = stepAt dt dtb b (token c.val q) ⟨8 * g.val + e.val, by omega⟩ * (0 - Ideal.exp (alog (ix2 0 ⟨8 * g.val + e.val, by omega⟩))) := by
  unfold A_main_v58
  pointwise [A_main_v54, A_main_v53, A_main_v52, A_main_v51, A_main_v50, A_main_v48, A_main_v47, A_main_v46]
  rw [zero_sub]
  have ej : (⟨g.val * 8 + e.val, by omega⟩ : Fin 64) = ⟨8 * g.val + e.val, by omega⟩ := Fin.ext (by dsimp only; omega)
  exact congrArg₂ (fun u v : EReal => u * -Ideal.exp v)
    ((congrArg _ (congrArg₂ (fun u v => ix3 b u v) (token_eq c q).symm ej)).trans (step_apply x dt w bias dtb alog b _ _))
    (congrArg (fun u => alog (ix2 0 u)) ej)

theorem outers_apply (c : Fin 16) (b : Fin 4) (q : Fin 128) (g : Fin 8) (k : Fin 128) (j : Fin 64) (hj : j.val / 8 = g.val) :
    A_main_v59 (F := Ideal) x dt w bias dtb alog (ix5 c b q g k) = chan x w bias b (token c.val q) (outer j k) := by
  unfold A_main_v59
  pointwise [A_main_v55, A_main_v40, A_main_v37]
  exact (congrArg _ (congrArg₂ (fun u v => ix3 b u v) (token_eq c q).symm (Fin.ext (by
    show 4096 + (g.val * 128 + k.val) = 4096 + 128 * (j.val / 8) + k.val; omega)))).trans (act_apply x dt w bias dtb alog b _ _)

theorem inners_apply (c : Fin 16) (b : Fin 4) (q : Fin 128) (g e : Fin 8) (p : Fin 64) :
    A_main_v56 (F := Ideal) x dt w bias dtb alog (ix6 c b q g e p) = chan x w bias b (token c.val q) (inner ⟨8 * g.val + e.val, by omega⟩ p) := by
  unfold A_main_v56
  pointwise [A_main_v49, A_main_v39, A_main_v36]
  exact (congrArg _ (congrArg₂ (fun u v => ix3 b u v) (token_eq c q).symm (Fin.ext (by
    show g.val * 512 + e.val * 64 + p.val = 64 * (8 * g.val + e.val) + p.val; omega)))).trans (act_apply x dt w bias dtb alog b _ _)

theorem zeros_apply (y : S4x8x8x64x128.Idx) : K_main_v60 (F := Ideal) y = 0 := by
  unfold K_main_v60
  exact Ideal.ofBits_zero_f32

/-! ## One trip -/

section Trip

variable (j : ℕ) (hj : j < 16) (s : State Ideal)

theorem word (h : j < 16) : (BitVec.ofNat 32 j).toInt = (j : Int) := by
  interval_cases j <;> rfl

include hj

theorem b6_apply (b : Fin 4) (q : Fin 128) (g e : Fin 8) (p : Fin 64) :
    b6 j s (ix5 b q g e p) = s.main_v61_0 (ix6 ⟨j, hj⟩ b q g e p) := by
  unfold b6 b5
  have sl : S16x4x128x8x8x64.Slices ![j, 0, 0, 0, 0, 0] S1x4x128x8x8x64 := ⟨rfl, fun a => by fin_cases a <;> simp <;> omega⟩
  refine (congrArg (fun v => shapeCast S4x128x8x8x64 v shapeCasts_S1x4x128x8x8x64_S4x128x8x8x64 (ix5 b q g e p)) (WordCmp.dynamicSlice_eq_extract S1x4x128x8x8x64 s.main_v61_0 _ _
    ![j, 0, 0, 0, 0, 0] sl (fun a => by fin_cases a; exact word j hj; all_goals rfl))).trans ?_
  pointwise

theorem b12_apply (b : Fin 4) (q : Fin 128) (g e : Fin 8) : b12 j s (ix4 b q g e) = s.main_v61_1 (ix5 ⟨j, hj⟩ b q g e) := by
  unfold b12 b11
  have sl : S16x4x128x8x8.Slices ![j, 0, 0, 0, 0] S1x4x128x8x8 := ⟨rfl, fun a => by fin_cases a <;> simp <;> omega⟩
  refine (congrArg (fun v => shapeCast S4x128x8x8 v shapeCasts_S1x4x128x8x8_S4x128x8x8 (ix4 b q g e)) (WordCmp.dynamicSlice_eq_extract S1x4x128x8x8 s.main_v61_1 _ _
    ![j, 0, 0, 0, 0] sl (fun a => by fin_cases a; exact word j hj; all_goals rfl))).trans ?_
  pointwise

theorem b18_apply (b : Fin 4) (q : Fin 128) (g e : Fin 8) : b18 j s (ix4 b q g e) = s.main_v61_2 (ix5 ⟨j, hj⟩ b q g e) := by
  unfold b18 b17
  have sl : S16x4x128x8x8.Slices ![j, 0, 0, 0, 0] S1x4x128x8x8 := ⟨rfl, fun a => by fin_cases a <;> simp <;> omega⟩
  refine (congrArg (fun v => shapeCast S4x128x8x8 v shapeCasts_S1x4x128x8x8_S4x128x8x8 (ix4 b q g e)) (WordCmp.dynamicSlice_eq_extract S1x4x128x8x8 s.main_v61_2 _ _
    ![j, 0, 0, 0, 0] sl (fun a => by fin_cases a; exact word j hj; all_goals rfl))).trans ?_
  pointwise

theorem b24_apply (b : Fin 4) (q : Fin 128) (g : Fin 8) (k : Fin 128) : b24 j s (ix4 b q g k) = s.main_v61_3 (ix5 ⟨j, hj⟩ b q g k) := by
  unfold b24 b23
  have sl : S16x4x128x8x128.Slices ![j, 0, 0, 0, 0] S1x4x128x8x128 := ⟨rfl, fun a => by fin_cases a <;> simp <;> omega⟩
  refine (congrArg (fun v => shapeCast S4x128x8x128 v shapeCasts_S1x4x128x8x128_S4x128x8x128 (ix4 b q g k)) (WordCmp.dynamicSlice_eq_extract S1x4x128x8x128 s.main_v61_3 _ _
    ![j, 0, 0, 0, 0] sl (fun a => by fin_cases a; exact word j hj; all_goals rfl))).trans ?_
  pointwise

theorem b27_apply (b : Fin 4) (q : Fin 128) (g e : Fin 8) :
    b27 j s (ix4 b q g e) = ∑ u : Fin 128, if u ≤ q then s.main_v61_2 (ix5 ⟨j, hj⟩ b u g e) else 0 := by
  unfold b27
  refine (running _ _ (fun y => ?_) _ _ b q g e).trans (Finset.sum_congr rfl fun u _ => ?_)
  · exact Ideal.ofBits_zero_f32
  · rw [b18_apply j hj]

theorem b43_apply (b : Fin 4) (g e : Fin 8) (p : Fin 64) (k : Fin 128) :
    b43 j s (ix5 b g e p k) = advance (fun q => ∑ u : Fin 128, if u ≤ q then s.main_v61_2 (ix5 ⟨j, hj⟩ b u g e) else 0)
      (fun q => s.main_v61_1 (ix5 ⟨j, hj⟩ b q g e)) (fun q => s.main_v61_0 (ix6 ⟨j, hj⟩ b q g e p))
      (fun q => s.main_v61_3 (ix5 ⟨j, hj⟩ b q g k)) (s.main_v61_5 (ix5 b g e p k)) := by
  unfold b43
  pointwise [b42, b41, b40, b39, b38, b37, b36, b35, b34, b33, b32, b31, b30, b29, b28]
  simp only [b27_apply j hj, b12_apply j hj, b6_apply j hj, b24_apply j hj]
  unfold advance added
  exact congrArg (fun v : EReal => _ + v) (Finset.sum_congr rfl fun q _ => (mul_comm _ _).trans (mul_assoc _ _ _).symm)

end Trip

/-- The states the trips hand on. -/
theorem trips (it : ℕ → State Ideal) (h0 : it 0 = init x dt w bias dtb alog) (hs : ∀ n, it (n + 1) = step n (it n)) (n : ℕ) (hn : n ≤ 16) :
    (it n).main_v61_0 = A_main_v56 x dt w bias dtb alog ∧ (it n).main_v61_1 = A_main_v57 x dt w bias dtb alog
    ∧ (it n).main_v61_2 = A_main_v58 x dt w bias dtb alog ∧ (it n).main_v61_3 = A_main_v59 x dt w bias dtb alog
    ∧ ∀ (b : Fin 4) (g e : Fin 8) (p : Fin 64) (k : Fin 128),
      (it n).main_v61_5 (ix5 b g e p k) = stateAfter x dt w bias dtb alog b ⟨8 * g.val + e.val, by omega⟩ p k n := by
  induction n with
  | zero =>
    rw [h0]
    exact ⟨rfl, rfl, rfl, rfl, fun b g e p k => zeros_apply (ix5 b g e p k)⟩
  | succ n ih =>
    obtain ⟨i0, i1, i2, i3, i5⟩ := ih (by omega)
    have hj : n < 16 := by omega
    rw [hs n]
    refine ⟨i0, i1, i2, i3, fun b g e p k => ?_⟩
    refine (congrFun (step_main_v61_5 n (it n)) _).trans ((b43_apply n hj (it n) b g e p k).trans ?_)
    rw [i0, i1, i2, i3]
    refine congr (congr (congr (congr (congrArg advance (funext fun q => ?_)) (funext fun q => ?_)) (funext fun q => ?_)) (funext fun q => ?_)) (i5 b g e p k)
    · exact Finset.sum_congr rfl fun u _ => by rw [decays_apply]
    · exact steps_apply x dt w bias dtb alog ⟨n, hj⟩ b q g e
    · exact inners_apply x dt w bias dtb alog ⟨n, hj⟩ b q g e p
    · exact outers_apply x dt w bias dtb alog ⟨n, hj⟩ b q g k _ (by dsimp only; omega)

/-- The reference's result. -/
theorem result_eq (it : ℕ → State Ideal) (h0 : it 0 = init x dt w bias dtb alog) (hs : ∀ n, it (n + 1) = step n (it n)) :
    R_main_v63 (it 16) = states x dt w bias dtb alog := by
  funext y
  obtain ⟨b, h, l, k, rfl⟩ : ∃ (b : Fin 4) (h : Fin 32) (l : Fin 128) (k : Fin 128), y = ix4 b h l k := ⟨y 0, y 1, y 2, y 3, eq_ix4 y⟩
  obtain ⟨-, -, -, -, e⟩ := trips x dt w bias dtb alog it h0 hs 16 (le_refl _)
  unfold R_main_v63
  pointwise
  rw [e]
  unfold states
  exact congrArg (fun u => stateAfter x dt w bias dtb alog b u ⟨l.val % 64, by omega⟩ k 16) (Fin.ext (by
    show 8 * (h.val / 4) + (h.val % 4 * 2 + l.val / 64) = 2 * h.val + l.val / 64; omega))

end Cert.Prompt.Ref

end
-- ==== Proof.PromptClaim.lean ====
/- The claim that the kernel's states of the prompts are the reference's. -/
module

public import proofs.«01_k».proof.Defs
public import proofs.«01_k».proof.Proof.PromptRun
public import proofs.«01_k».proof.Proof.PromptRef

@[expose] public section

noncomputable section

namespace Cert.Prompt

open Idealize.ShloMosaic Idealize.ShloMosaic.TcCoe Idealize.SL.Sem Cert.KernelIdeal Cert.KernelIdeal.Gen

/-- The reference's states, trip by trip. -/
def trip (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (trip m c n)

/-- The kernel's states of the prompts are the reference's. -/
theorem algebraic : Cert.algebraic_KernelIdeal_ReferenceIdeal := by
  intro m ρ m' ρ' _ hagree
  refine ⟨fun c => statesOfArgs m c, ?_, ?_⟩
  · refine (θ_run defs _ _).mono (fun r h c => ?_) (Cert.KernelIdeal.Value.run_blocks (F := Ideal) m ρ)
    obtain ⟨-, hv, hk⟩ := h c
    exact ⟨hv.trans (array m c), hk⟩
  · refine (θ_run Cert.ReferenceIdeal.defs _ _).mono (fun r h c => ?_)
      (Cert.ReferenceIdeal.StepRun.run_iter (F := Ideal) m' ρ' (trip m') (fun _ => rfl) (fun _ _ => rfl))
    obtain ⟨e0, e1, e2, e3, e4, e5, e6, e7, e8, e9, e10⟩ := hagree c
    obtain ⟨h0, hk⟩ := h c
    refine ⟨h0.trans ((Ref.result_eq _ _ _ _ _ _ (trip m' c) rfl fun _ => rfl).trans ?_), hk⟩
    rw [e0, e4, e5, e6, e7, e8]
    rfl

end Cert.Prompt

end
-- ==== Proof.Up.lean ====
/- The FFN's gated up-projection: what the kernel's grid leaves in its result, and that the reference leaves the same. -/
module

public import proofs.«01_k».proof.Proof.Rows
public import proofs.«01_k».proof.Proof.Gen.UpKernelIdeal.Value
public import proofs.«01_k».proof.Proof.Gen.UpReferenceIdeal.Read

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Up

open Cert.UpKernelIdeal Cert.UpKernelIdeal.Gen
open Cert.Rows (dot)

variable (m : (ℓ : Loc nD τ sig) → Buf (Elt Ideal) ℓ)

theorem hz : (![0, 0] : Fin 2 → Nat) = fun _ => 0 := funext fun a => by fin_cases a <;> rfl

section Cases
variable {F : FTy → Type} [FloatOps F]
variable (c : Dev nD) (i : grid0.Coords) (a2 : Memref sig .tc .vmem S512x2048 .bf16) (h2 : a2.IsWhole)
  (a3 : Memref sig .tc .vmem S2048x512 .f32) (h3 : a3.IsWhole) (a4 : Memref sig .tc .vmem S2048x512 .f32) (h4 : a4.IsWhole)
  (a5 : Memref sig .tc .vmem S512x512 .bf16) (h5 : a5.IsWhole) (a6 : Memref sig .tc .vmem S2048x512 .bf16) (h6 : a6.IsWhole)
  (a7 : Memref sig .tc .vmem S2048x512 .bf16) (h7 : a7.IsWhole)
  (x0 : Vec F S512x2048 .bf16) (x1 x2 : Vec F S2048x512 .f32) (xs0 xs1 : Vec F S2048x512 .bf16)

/-- At a column block's first point the body casts the gate's weights into the first scratch. -/
theorem sout_A_0 (hc : cond0_0 i) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz]
  simp only [View.readAt_eq_ld, h3.read_unread, View.ld_unit_zero (S := S2048x512) hz]

/-- And the other factor's weights into the second. -/
theorem sout_A_1 (hc : cond0_0 i) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz]
  simp only [View.readAt_eq_ld, h4.read_unread, View.ld_unit_zero (S := S2048x512) hz]

/-- The block the first point stores, over the weights just cast. -/
theorem out_A (hc : cond0_0 i) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz]
  simp only [View.readAt_eq_ld, h2.read_unread, h3.read_unread, h4.read_unread, View.ld_unit_zero (S := S2048x512) hz,
    View.ld_unit_zero (S := S512x2048) hz, View.readCov_unit_zero (S := S2048x512) _ hz]

/-- The block a later point stores, over the weights carried in the scratch. -/
theorem out_B (hc : ¬cond0_0 i) :
    out0_B_3 c i a2 h2 a3 h3 a4 h4 a5 h5 a6 h6 a7 h7 hc x0 x1 x2 xs0 xs1 = k0_pay3 x0 xs0 xs1 := by
  unfold out0_B_3
  rw [View.read_writes_eq_canon _ _ _ (cover0_B_3 c i a2 h2 a3 h3 a4 h4 a5 h5 a6 h6 a7 h7 hc x0 x1 x2 xs0 xs1)]
  unfold kernelRun0_B
  dsimp only
  sl_unfold_words
  rw [View.canon_unit_zero hz]
  simp only [View.readAt_eq_ld, h2.read_unread, h6.read_unread, h7.read_unread, View.ld_unit_zero (S := S2048x512) hz,
    View.ld_unit_zero (S := S512x2048) hz]

end Cases

/-- The gated product of one row of the activations and two columns of the weights. -/
def gate (a b : EReal) : EReal := a * Ideal.logistic a * b

theorem pay1_apply (x : Vec Ideal S2048x512 .f32) (y : S2048x512.Idx) : k0_pay1 x y = x y := by
  unfold k0_pay1
  simp only [shapeCast_self]
  rfl

theorem pay2_apply (x : Vec Ideal S2048x512 .f32) (y : S2048x512.Idx) : k0_pay2 x y = x y := by
  unfold k0_pay2
  simp only [shapeCast_self]
  rfl

theorem pay3_apply (x : Vec Ideal S512x2048 .bf16) (w v : Vec Ideal S2048x512 .bf16) (r : Fin 512) (n : Fin 512) :
    k0_pay3 x w v (ix2 r n) = gate (dot x w r n) (dot x v r n) := by
  unfold k0_pay3
  simp only [shapeCast_self]
  have e : ∀ u : Vec Ideal S2048x512 .bf16,
      matmul (F := Ideal) dot_S512x2048_S2048x512_S512x512_1_0_0_1_n_n none x u (constant S512x512 .f32 0x00000000#32) (ix2 r n) = dot x u r n :=
    fun u => by
      refine (Ideal.matmul_plain_apply (M := 512) (K := 2048) (N := 512) none x u (constant S512x512 .f32 0x00000000#32) r n).trans ?_
      show Ideal.ofBits .f32 0x00000000#32 + _ = _
      rw [Ideal.ofBits_zero_f32, zero_add]
      rfl
  show gate _ _ = _
  exact congrArg₂ gate (e w) (e v)

/-! ## The scratch and the result -/

theorem idx0 : ∀ t : Fin cfg0.N, win0_0.index t (0 : Fin 2) = t.val % 17 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 17 :=
  (by decide +kernel : ∀ t : Fin grid0.N, _)
theorem idx2 : ∀ t : Fin cfg0.N, win0_2.index t (0 : Fin 2) = 0 ∧ win0_2.index t (1 : Fin 2) = 11 + t.val / 17 :=
  (by decide +kernel : ∀ t : Fin grid0.N, _)

/-- The activations' block at a point. -/
theorem iblk0_apply (c : Dev nD) (t : Fin cfg0.N) (r : Fin 512) (k : Fin 2048) (R : Fin 8704) (hR : R.val = 512 * (t.val % 17) + r.val) :
    iblk m c 0 t (ix2 r k) = V m c main_v4 (ix2 R k) := by
  obtain ⟨e0, e1⟩ := idx0 t
  show V m c main_v4 _ = _
  congr 1
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

/-- The gate's weights' block at a point. -/
theorem iblk1_apply (c : Dev nD) (t : Fin cfg0.N) (k : Fin 2048) (n : Fin 512) (C : Fin 11264) (hC : C.val = 512 * (t.val / 17) + n.val) :
    iblk m c 1 t (ix2 k n) = V m c main_v5 (ix2 k C) := by
  obtain ⟨e0, e1⟩ := idx1 t
  show V m c main_v5 _ = _
  congr 1
  funext a; apply Fin.ext
  match a with
  | ⟨0, _⟩ => show win0_1.index t (0 : Fin 2) * 2048 + 1 * k.val = k.val; omega
  | ⟨1, _⟩ => show win0_1.index t (1 : Fin 2) * 512 + 1 * n.val = C.val; omega

/-- The other factor's weights' block at a point. -/
theorem iblk2_apply (c : Dev nD) (t : Fin cfg0.N) (k : Fin 2048) (n : Fin 512) (C : Fin 11264) (hC : C.val = 5632 + 512 * (t.val / 17) + n.val) :
    iblk m c 2 t (ix2 k n) = V m c main_v5 (ix2 k C) := by
  obtain ⟨e0, e1⟩ := idx2 t
  show V m c main_v5 _ = _
  congr 1
  funext a; apply Fin.ext
  match a with
  | ⟨0, _⟩ => show win0_2.index t (0 : Fin 2) * 2048 + 1 * k.val = k.val; omega
  | ⟨1, _⟩ => show win0_2.index t (1 : Fin 2) * 512 + 1 * n.val = C.val; omega

/-- The two scratches after any point hold the weights of the point's own column block. -/
theorem carried (c : Dev nD) : ∀ (n : ℕ) (h : n < cfg0.N) (k : Fin 2048) (q : Fin 512),
    (∀ C : Fin 11264, C.val = 512 * (n / 17) + q.val → (outsAt0 m c n h).2.1 (ix2 k q) = V m c main_v5 (ix2 k C))
    ∧ (∀ C : Fin 11264, C.val = 5632 + 512 * (n / 17) + q.val → (outsAt0 m c n h).2.2 (ix2 k q) = V m c main_v5 (ix2 k C)) := by
  intro n
  induction n using Nat.strong_induction_on with
  | _ n ih =>
    intro h k q
    by_cases h0 : n % 17 = 0
    · rw [outsAt0_A m c ⟨n, h⟩ h0]
      dsimp only
      rw [sout_A_0, sout_A_1]
      exact ⟨fun C hC => (pay1_apply _ _).trans (iblk1_apply m c ⟨n, h⟩ k q C hC),
        fun C hC => (pay2_apply _ _).trans (iblk2_apply m c ⟨n, h⟩ k q C hC)⟩
    · rw [outsAt0_B m c ⟨n, h⟩ h0]
      have hd : (n - 1) / 17 = n / 17 := by omega
      have := ih (n - 1) (by omega) (Nat.lt_of_le_of_lt (Nat.sub_le _ _) h) k q
      rw [hd] at this
      exact this

/-- The block a point leaves in the output's staging buffer. -/
theorem out_apply (c : Dev nD) (n : ℕ) (h : n < cfg0.N) (r q : Fin 512) (R : Fin 8704) (hR : R.val = 512 * (n % 17) + r.val)
    (C D : Fin 11264) (hC : C.val = 512 * (n / 17) + q.val) (hD : D.val = 5632 + 512 * (n / 17) + q.val) :
    (outsAt0 m c n h).1 (ix2 r q)
      = gate (dot (V m c main_v4) (V m c main_v5) R C) (dot (V m c main_v4) (V m c main_v5) R D) := by
  have hx : ∀ k, iblk m c 0 ⟨n, h⟩ (ix2 r k) = V m c main_v4 (ix2 R k) := fun k => iblk0_apply m c ⟨n, h⟩ r k R hR
  by_cases h0 : n % 17 = 0
  · rw [outsAt0_A m c ⟨n, h⟩ h0]
    dsimp only
    rw [out_A, pay3_apply]
    refine congrArg₂ gate (Finset.sum_congr rfl fun k _ => ?_) (Finset.sum_congr rfl fun k _ => ?_)
    · exact congrArg₂ (· * ·) (hx k) ((pay1_apply _ _).trans (iblk1_apply m c ⟨n, h⟩ k q C hC))
    · exact congrArg₂ (· * ·) (hx k) ((pay2_apply _ _).trans (iblk2_apply m c ⟨n, h⟩ k q D hD))
  · rw [outsAt0_B m c ⟨n, h⟩ h0]
    dsimp only
    rw [out_B, pay3_apply]
    have hd : (n - 1) / 17 = n / 17 := by omega
    have hw := fun k => carried m c (n - 1) (Nat.lt_of_le_of_lt (Nat.sub_le _ _) h) k q
    rw [hd] at hw
    refine congrArg₂ gate (Finset.sum_congr rfl fun k _ => ?_) (Finset.sum_congr rfl fun k _ => ?_)
    · exact congrArg₂ (· * ·) (hx k) ((hw k).1 C hC)
    · exact congrArg₂ (· * ·) (hx k) ((hw k).2 D hD)

/-- The result array at an index. -/
theorem G_apply (c : Dev nD) (R : Fin 8704) (n : Fin 5632) :
    Value.G3 m c (ix2 R n)
      = gate (dot (V m c main_v4) (V m c main_v5) R (⟨n.val, by omega⟩ : Fin 11264))
          (dot (V m c main_v4) (V m c main_v5) R (⟨5632 + n.val, by omega⟩ : Fin 11264)) := by
  have hN : cfg0.N = 187 := N_0
  have hp : Value.pt3Of (ix2 R n) = R.val / 512 + 17 * (n.val / 512) := by
    show 1 * (R.val / 512 - 0) + 17 * (n.val / 512 - 0) = _; omega
  have hlt : Value.pt3Of (ix2 R n) < cfg0.N := by rw [hp, hN]; omega
  have hl : Value.loc3Of (ix2 R n) = ix2 ⟨R.val % 512, Nat.mod_lt _ (by decide)⟩ ⟨n.val % 512, Nat.mod_lt _ (by decide)⟩ := by
    funext a; match a with | ⟨0, _⟩ => rfl | ⟨1, _⟩ => rfl
  unfold Value.G3
  rw [dif_pos hlt, ← Value.outsAt0_sweep m c _ hlt, hl]
  refine out_apply m c _ hlt _ _ R ?_ _ _ ?_ ?_
  · show R.val = 512 * (Value.pt3Of (ix2 R n) % 17) + R.val % 512; rw [hp]; omega
  · show n.val = 512 * (Value.pt3Of (ix2 R n) / 17) + n.val % 512; rw [hp]; omega
  · show 5632 + n.val = 5632 + 512 * (Value.pt3Of (ix2 R n) / 17) + n.val % 512; rw [hp]; omega

/-! ## The host's operands -/

theorem V4_apply (c : Dev nD) (R : Fin 8704) (k : Fin 2048) :
    V m c main_v4 (ix2 R k) = Rows.packed (m ((c : Thread nD τ).loc main_arg0)) (m ((c : Thread nD τ).loc main_arg1)) R k := by
  have e : V m c main_v4 = truncf (F := Ideal) .bf16 (concatenate S8704x2048 0
      [⟨S8192x2048, shapeCast _ (m ((c : Thread nD τ).loc main_arg0)) shapeCasts_S4x2048x2048_S8192x2048⟩,
       ⟨S512x2048, shapeCast _ (transpose S4x128x2048 [1, 0, 2] (m ((c : Thread nD τ).loc main_arg1)) transposes_S128x4x2048_S4x128x2048_1_0_2)
          shapeCasts_S4x128x2048_S512x2048⟩] concatenates_S8192x2048_S512x2048_S8704x2048_d0) bitsLt_bf16_f32 := by
    show StableHlo.after hostOps0 _ _ = _
    after_results <;> rfl
  rw [e]
  exact Rows.pack_apply _ _ _ _ _ concatenates_S8192x2048_S512x2048_S8704x2048_d0 R k

theorem V5_apply (c : Dev nD) (k : Fin 2048) (n : Fin 11264) :
    V m c main_v5 (ix2 k n) = m ((c : Thread nD τ).loc main_arg2) (ix3 0 k n) := by
  have e : V m c main_v5 = shapeCast _ (m ((c : Thread nD τ).loc main_arg2)) shapeCasts_S1x2048x11264_S2048x11264 := by
    show StableHlo.after hostOps0 _ _ = _
    after_results <;> rfl
  rw [e]
  exact Rows.dropLead_apply _ _ k n

/-- The gated up-projection of the packed rows. -/
def up (p : S4x2048x2048.Idx → EReal) (s : S128x4x2048.Idx → EReal) (w : S1x2048x11264.Idx → EReal) (R : Fin 8704) (n : Fin 5632) : EReal :=
  gate (∑ k, Rows.packed p s R k * w (ix3 0 k (⟨n.val, by omega⟩ : Fin 11264)))
    (∑ k, Rows.packed p s R k * w (ix3 0 k (⟨5632 + n.val, by omega⟩ : Fin 11264)))

theorem result_apply (c : Dev nD) (R : Fin 8704) (n : Fin 5632) :
    Value.G3 m c (ix2 R n) = up (m ((c : Thread nD τ).loc main_arg0)) (m ((c : Thread nD τ).loc main_arg1))
      (m ((c : Thread nD τ).loc main_arg2)) R n := by
  rw [G_apply]
  refine congrArg₂ gate (Finset.sum_congr rfl fun k _ => ?_) (Finset.sum_congr rfl fun k _ => ?_) <;>
    exact congrArg₂ (· * ·) (V4_apply m c R k) (V5_apply m c k _)

end Cert.Up

/-! ## The reference -/

namespace Cert.Up.Ref

open Cert.UpReferenceIdeal Cert.UpReferenceIdeal.Gen Cert.UpReferenceIdeal.Read

variable (x0 : (⟨S4x2048x2048, .f32⟩ : BufTy).Contents (Elt Ideal)) (x1 : (⟨S128x4x2048, .f32⟩ : BufTy).Contents (Elt Ideal))
  (x2 : (⟨S1x2048x11264, .f32⟩ : BufTy).Contents (Elt Ideal))

/-- The host's `x * (1 / (1 + exp (-x)))` times the other factor. -/
theorem gate_host (a b one : EReal) (h : one = 1) : a * Ideal.div one (one + Ideal.exp (-a)) * b = gate a b := by
  subst h; rfl

theorem prompt_apply (b : Fin 4) (t : Fin 2048) (n : Fin 5632) :
    val_main_v5 x0 x2 (ix3 b t n)
      = gate (∑ k, x0 (ix3 b t k) * x2 (ix3 0 k (⟨n.val, by omega⟩ : Fin 11264)))
          (∑ k, x0 (ix3 b t k) * x2 (ix3 0 k (⟨5632 + n.val, by omega⟩ : Fin 11264))) := by
  have e : ∀ C : Fin 11264, val_main_v1 x0 x2 (ix3 b t C) = ∑ k, x0 (ix3 b t k) * x2 (ix3 0 k C) := fun C => by
    rw [val_main_v1_apply]
    refine Finset.sum_congr rfl fun k _ => congrArg₂ (· * ·) (congrArg x0 ?_) ?_
    · funext a; match a with | ⟨0, _⟩ => rfl | ⟨1, _⟩ => rfl | ⟨2, _⟩ => rfl
    · rw [show ridx_main_v1 (ix3 b t C) k = ix2 k C from by funext a; match a with | ⟨0, _⟩ => rfl | ⟨1, _⟩ => rfl]
      exact Rows.dropLead_apply x2 _ k C
  have e2 : val_main_v2 x0 x2 (ix3 b t n) = ∑ k, x0 (ix3 b t k) * x2 (ix3 0 k (⟨n.val, by omega⟩ : Fin 11264)) := by
    rw [val_main_v2_apply, ← e]
    congr 1; funext a; match a with | ⟨0, _⟩ => rfl | ⟨1, _⟩ => rfl | ⟨2, _⟩ => rfl
  have e3 : val_main_v3 x0 x2 (ix3 b t n) = ∑ k, x0 (ix3 b t k) * x2 (ix3 0 k (⟨5632 + n.val, by omega⟩ : Fin 11264)) := by
    rw [val_main_v3_apply, ← e]
    congr 1; funext a; match a with | ⟨0, _⟩ => rfl | ⟨1, _⟩ => rfl | ⟨2, _⟩ => rfl
  rw [← e2, ← e3]
  exact gate_host _ _ _ Ideal.ofBits_one_f32

theorem sample_apply (b : Fin 128) (t : Fin 4) (n : Fin 5632) :
    val_main_v12 x1 x2 (ix3 b t n)
      = gate (∑ k, x1 (ix3 b t k) * x2 (ix3 0 k (⟨n.val, by omega⟩ : Fin 11264)))
          (∑ k, x1 (ix3 b t k) * x2 (ix3 0 k (⟨5632 + n.val, by omega⟩ : Fin 11264))) := by
  have e : ∀ C : Fin 11264, val_main_v8 x1 x2 (ix3 b t C) = ∑ k, x1 (ix3 b t k) * x2 (ix3 0 k C) := fun C => by
    rw [val_main_v8_apply]
    refine Finset.sum_congr rfl fun k _ => congrArg₂ (· * ·) (congrArg x1 ?_) ?_
    · funext a; match a with | ⟨0, _⟩ => rfl | ⟨1, _⟩ => rfl | ⟨2, _⟩ => rfl
    · rw [show ridx_main_v8 (ix3 b t C) k = ix2 k C from by funext a; match a with | ⟨0, _⟩ => rfl | ⟨1, _⟩ => rfl]
      exact Rows.dropLead_apply x2 _ k C
  have e2 : val_main_v9 x1 x2 (ix3 b t n) = ∑ k, x1 (ix3 b t k) * x2 (ix3 0 k (⟨n.val, by omega⟩ : Fin 11264)) := by
    rw [val_main_v9_apply, ← e]
    congr 1; funext a; match a with | ⟨0, _⟩ => rfl | ⟨1, _⟩ => rfl | ⟨2, _⟩ => rfl
  have e3 : val_main_v10 x1 x2 (ix3 b t n) = ∑ k, x1 (ix3 b t k) * x2 (ix3 0 k (⟨5632 + n.val, by omega⟩ : Fin 11264)) := by
    rw [val_main_v10_apply, ← e]
    congr 1; funext a; match a with | ⟨0, _⟩ => rfl | ⟨1, _⟩ => rfl | ⟨2, _⟩ => rfl
  rw [← e2, ← e3]
  exact gate_host _ _ _ Ideal.ofBits_one_f32

/-- The reference's result is the same function. -/
theorem result_apply (R : Fin 8704) (n : Fin 5632) : val_main_v16 x0 x1 x2 (ix2 R n) = up x0 x1 x2 R n := by
  refine (Rows.pack_apply (val_main_v5 x0 x2) (val_main_v12 x1 x2) _ _ _ concatenates_S8192x5632_S512x5632_S8704x5632_d0 R n).trans ?_
  unfold up Rows.packed
  by_cases h : R.val < 8192
  · simp only [dif_pos h]; exact prompt_apply x0 x2 _ _ n
  · simp only [dif_neg h]; exact sample_apply x1 x2 _ _ n

end Cert.Up.Ref

end
-- ==== Proof.UpClaim.lean ====
/- The FFN's gated up-projection: kernel and reference leave the same array. -/
module

public import proofs.«01_k».proof.Proof.Up
public import proofs.«01_k».proof.Defs
public import proofs.«01_k».proof.Proof.Gen.UpReferenceIdeal.Run
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.Up

/-- The kernel's rows of the gated up-projection are the reference's. -/
theorem algebraic : Cert.algebraic_UpKernelIdeal_UpReferenceIdeal := by
  intro m ρ m' ρ' _ hagree
  refine ⟨fun c => Cert.UpKernelIdeal.Value.G3 m c, Cert.UpKernelIdeal.Value.run m ρ, ?_⟩
  refine (θ_run Cert.UpReferenceIdeal.defs _ _).mono (fun r h c => ?_) (Cert.UpReferenceIdeal.Value.run m' ρ')
  obtain ⟨e0, e1, e2⟩ := hagree c
  obtain ⟨h0, hk⟩ := h c
  rw [e0, e1, e2] at h0
  refine ⟨h0.trans ?_, hk⟩
  refine (Cert.UpReferenceIdeal.Read.val_main_v16_eq _ _ _).trans (funext fun i => ?_)
  obtain ⟨R, n, rfl⟩ : ∃ (R : Fin 8704) (n : Fin 5632), i = ix2 R n := ⟨i 0, i 1, eq_ix2 i⟩
  exact (Ref.result_apply _ _ _ R n).trans (result_apply m c R n).symm

end Cert.Up

end
-- ==== Proof.Xbc.lean ====
/- The convolution's input columns of the projection, and the two states it keeps: what the kernel leaves in its results. -/
module

public import proofs.«01_k».proof.Proof.Rows
public import proofs.«01_k».proof.Proof.Gen.XbcKernelIdeal.Frame

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Xbc

open Cert.XbcKernelIdeal Cert.XbcKernelIdeal.Gen
open Cert.Rows (dot)

variable (m : (ℓ : Loc nD τ sig) → Buf (Elt Ideal) ℓ)

theorem hz : (![0, 0] : Fin 2 → Nat) = fun _ => 0 := funext fun a => by fin_cases a <;> rfl

section Cases
variable {F : FTy → Type} [FloatOps F]
variable (c : Dev nD) (i : grid0.Coords) (a2 : Memref sig .tc .vmem S512x2048 .bf16) (h2 : a2.IsWhole)
  (a3 : Memref sig .tc .vmem S2048x1024 .f32) (h3 : a3.IsWhole) (a4 : Memref sig .tc .vmem S512x1024 .f32) (h4 : a4.IsWhole)
  (a5 : Memref sig .tc .vmem S2048x1024 .bf16) (h5 : a5.IsWhole)
  (x0 : Vec F S512x2048 .bf16) (x1 : Vec F S2048x1024 .f32) (xs : Vec F S2048x1024 .bf16)

/-- At a column block's first point the body casts the weights into the scratch. -/
theorem sout_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S2048x1024) hz]

/-- The block the first point stores, over the weights just cast. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S2048x1024) hz,
    View.ld_unit_zero (S := S512x2048) hz, View.readCov_unit_zero (S := S2048x1024) _ hz]

/-- The block a later point stores, over the weights carried in the scratch. -/
theorem out_B (hc : ¬cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz]
  simp only [View.readAt_eq_ld, h2.read_unread, h5.read_unread, View.ld_unit_zero (S := S2048x1024) hz,
    View.ld_unit_zero (S := S512x2048) hz]

end Cases

theorem pay1_apply (x : Vec Ideal S2048x1024 .f32) (y : S2048x1024.Idx) : k0_pay1 x y = x y := by
  unfold k0_pay1
  simp only [shapeCast_self]
  rfl

theorem pay2_apply (x : Vec Ideal S512x2048 .bf16) (w : Vec Ideal S2048x1024 .bf16) (r : Fin 512) (n : Fin 1024) :
    k0_pay2 x w (ix2 r n) = dot x w r n := by
  unfold k0_pay2
  simp only [shapeCast_self]
  refine (Ideal.matmul_plain_apply (M := 512) (K := 2048) (N := 1024) none x w (constant S512x1024 .f32 0x00000000#32) r n).trans ?_
  show Ideal.ofBits .f32 0x00000000#32 + _ = _
  rw [Ideal.ofBits_zero_f32, zero_add]
  rfl

/-! ## The region -/

theorem idx0 : ∀ t : Fin cfg0.N, win0_0.index t (0 : Fin 2) = t.val % 17 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 6 + t.val / 17 :=
  (by decide +kernel : ∀ t : Fin grid0.N, _)
theorem idx2 : ∀ t : Fin cfg0.N, win0_2.index t (0 : Fin 2) = t.val % 17 ∧ win0_2.index t (1 : Fin 2) = t.val / 17 :=
  (by decide +kernel : ∀ t : Fin grid0.N, _)

/-- The activations' block at a point. -/
theorem iblk0_apply (c : Dev nD) (t : Fin cfg0.N) (r : Fin 512) (k : Fin 2048) (R : Fin 8704) (hR : R.val = 512 * (t.val % 17) + r.val) :
    iblk m c 0 t (ix2 r k) = V m c main_v4 (ix2 R k) := by
  obtain ⟨e0, e1⟩ := idx0 t
  show V m c main_v4 _ = _
  congr 1
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

/-- The weights' block at a point. -/
theorem X1_apply (c : Dev nD) (t : Fin cfg0.N) (k : Fin 2048) (n : Fin 1024) (C : Fin 16448) (hC : C.val = 6144 + 1024 * (t.val / 17) + n.val) :
    X0_1 m c t (ix2 k n) = V m c main_v5 (ix2 k C) := by
  obtain ⟨e0, e1⟩ := idx1 t
  unfold X0_1 Pipeline.Window.fill
  refine (dif_pos (moved0_1 t (ix2 k n))).trans ?_
  show V m c main_v5 _ = _
  congr 1
  funext a; apply Fin.ext
  match a with
  | ⟨0, _⟩ => show win0_1.index t (0 : Fin 2) * 2048 + 1 * k.val = k.val; omega
  | ⟨1, _⟩ => show win0_1.index t (1 : Fin 2) * 1024 + 1 * n.val = C.val; omega

/-- The scratch after any point holds the weights of the point's own column block. -/
theorem carried (c : Dev nD) : ∀ (n : ℕ) (h : n < cfg0.N) (k : Fin 2048) (q : Fin 1024) (C : Fin 16448),
    C.val = 6144 + 1024 * (n / 17) + q.val → (outsAt0 m c n h).2 (ix2 k q) = V m c main_v5 (ix2 k C) := by
  intro n
  induction n using Nat.strong_induction_on with
  | _ n ih =>
    intro h k q C hC
    by_cases h0 : n % 17 = 0
    · rw [outsAt0_A m c ⟨n, h⟩ h0]
      dsimp only
      rw [sout_A]
      exact (pay1_apply _ _).trans (X1_apply m c ⟨n, h⟩ k q C hC)
    · rw [outsAt0_B m c ⟨n, h⟩ h0]
      have hd : (n - 1) / 17 = n / 17 := by omega
      have := ih (n - 1) (by omega) (Nat.lt_of_le_of_lt (Nat.sub_le _ _) h) k q C (by omega)
      dsimp only
      exact this

/-- The block a point leaves in the output's staging buffer. -/
theorem out_apply (c : Dev nD) (n : ℕ) (h : n < cfg0.N) (r : Fin 512) (q : Fin 1024) (R : Fin 8704) (hR : R.val = 512 * (n % 17) + r.val)
    (C : Fin 16448) (hC : C.val = 6144 + 1024 * (n / 17) + q.val) :
    (outsAt0 m c n h).1 (ix2 r q) = dot (V m c main_v4) (V m c main_v5) R C := by
  have hx : ∀ k, iblk m c 0 ⟨n, h⟩ (ix2 r k) = V m c main_v4 (ix2 R k) := fun k => iblk0_apply m c ⟨n, h⟩ r k R hR
  by_cases h0 : n % 17 = 0
  · rw [outsAt0_A m c ⟨n, h⟩ h0]
    dsimp only
    rw [out_A, pay2_apply]
    exact Finset.sum_congr rfl fun k _ => congrArg₂ (· * ·) (hx k) ((pay1_apply _ _).trans (X1_apply m c ⟨n, h⟩ k q C hC))
  · rw [outsAt0_B m c ⟨n, h⟩ h0]
    dsimp only
    rw [out_B, pay2_apply]
    have hd : (n - 1) / 17 = n / 17 := by omega
    exact Finset.sum_congr rfl fun k _ => congrArg₂ (· * ·) (hx k)
      (carried m c (n - 1) (Nat.lt_of_le_of_lt (Nat.sub_le _ _) h) k q C (by rw [hd]; exact hC))

/-- The region's array: the rows times the columns from 6144 on. -/
def G (c : Dev nD) : Buf (Elt Ideal) ((c : Thread nD τ).loc main_v6) := fun i =>
  dot (V m c main_v4) (V m c main_v5) (⟨(i 0).val, (i 0).isLt⟩ : Fin 8704)
    (⟨6144 + (i 1).val, by have := (i 1).isLt; change (i 1).val < 6144 at this; omega⟩ : Fin 16448)

theorem flushed (c : Dev nD) (t : Fin cfg0.N) : (dats m 0 c).flushed 2 t = ((cfg0.win 2).blk t).view.read (Elt Ideal) (G m c) := by
  show (cfg0.win 2).cut (grid0.coords t) ((dats m 0 c).after 2 t) = _
  rw [after0_2]
  obtain ⟨e0, e1⟩ := idx2 t
  funext y
  have hy : (cfg0.win 2).xinj (grid0.coords t) y = ix2 (⟨(y 0).val, (y 0).isLt⟩ : Fin 512) (⟨(y 1).val, (y 1).isLt⟩ : Fin 1024) := by
    funext a; match a with | ⟨0, _⟩ => rfl | ⟨1, _⟩ => rfl
  show (outsAt0 m c t.val t.isLt).1 ((cfg0.win 2).xinj (grid0.coords t) y) = G m c (((cfg0.win 2).blk t).view.emb y)
  rw [hy]
  refine out_apply m c t.val t.isLt _ _ _ ?_ _ ?_
  · show win0_2.index t (0 : Fin 2) * 512 + 1 * (y 0).val = 512 * (t.val % 17) + (y 0).val; omega
  · show 6144 + (win0_2.index t (1 : Fin 2) * 1024 + 1 * (y 1).val) = 6144 + 1024 * (t.val / 17) + (y 1).val; omega

theorem covered (i : S8704x6144.Idx) : ∃ t : Fin cfg0.N, (cfg0.win 2).flush t = true ∧ i ∈ ((cfg0.win 2).blk t).view.set := by
  have hi0 : (i 0).val < 8704 := (i 0).isLt
  have hi1 : (i 1).val < 6144 := (i 1).isLt
  have hN : cfg0.N = 102 := N_0
  obtain ⟨t, ht⟩ : ∃ t : Fin cfg0.N, t.val = (i 0).val / 512 + 17 * ((i 1).val / 1024) :=
    ⟨⟨(i 0).val / 512 + 17 * ((i 1).val / 1024), by omega⟩, rfl⟩
  obtain ⟨e0, e1⟩ := idx2 t
  refine ⟨t, (by decide +kernel : ∀ t : Fin grid0.N, win0_2.flush t = true) t, ?_⟩
  show i ∈ ((View.whole main_v6).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array after the region. -/
theorem final (c : Dev nD) : (dats m 0 c).arrAt 2 cfg0.N = G m c :=
  (dats m 0 c).arrAt_eq_of_cover 2 _ (fun t _ => flushed m c t) covered

/-! ## The host's operands -/

theorem V4_apply (c : Dev nD) (R : Fin 8704) (k : Fin 2048) :
    V m c main_v4 (ix2 R k) = Rows.packed (m ((c : Thread nD τ).loc main_arg0)) (m ((c : Thread nD τ).loc main_arg1)) R k := by
  have e : V m c main_v4 = truncf (F := Ideal) .bf16 (concatenate S8704x2048 0
      [⟨S8192x2048, shapeCast _ (m ((c : Thread nD τ).loc main_arg0)) shapeCasts_S4x2048x2048_S8192x2048⟩,
       ⟨S512x2048, shapeCast _ (transpose S4x128x2048 [1, 0, 2] (m ((c : Thread nD τ).loc main_arg1)) transposes_S128x4x2048_S4x128x2048_1_0_2)
          shapeCasts_S4x128x2048_S512x2048⟩] concatenates_S8192x2048_S512x2048_S8704x2048_d0) bitsLt_bf16_f32 := by
    show StableHlo.after hostOps0 _ _ = _
    after_results <;> rfl
  rw [e]
  exact Rows.pack_apply _ _ _ _ _ concatenates_S8192x2048_S512x2048_S8704x2048_d0 R k

theorem V5_apply (c : Dev nD) (k : Fin 2048) (n : Fin 16448) :
    V m c main_v5 (ix2 k n) = m ((c : Thread nD τ).loc main_arg2) (ix3 0 k n) := by
  have e : V m c main_v5 = shapeCast _ (m ((c : Thread nD τ).loc main_arg2)) shapeCasts_S1x2048x16448_S2048x16448 := by
    show StableHlo.after hostOps0 _ _ = _
    after_results <;> rfl
  rw [e]
  exact Rows.dropLead_apply _ _ k n

/-- The convolution's input for the packed rows. -/
def proj (p : S4x2048x2048.Idx → EReal) (s : S128x4x2048.Idx → EReal) (w : S1x2048x16448.Idx → EReal) (R : Fin 8704) (n : Fin 6144) : EReal :=
  ∑ k, Rows.packed p s R k * w (ix3 0 k (⟨6144 + n.val, by omega⟩ : Fin 16448))

theorem G_apply (c : Dev nD) (R : Fin 8704) (n : Fin 6144) :
    G m c (ix2 R n) = proj (m ((c : Thread nD τ).loc main_arg0)) (m ((c : Thread nD τ).loc main_arg1)) (m ((c : Thread nD τ).loc main_arg2)) R n := by
  show dot (V m c main_v4) (V m c main_v5) R (⟨6144 + n.val, by omega⟩ : Fin 16448) = _
  exact Finset.sum_congr rfl fun k _ => congrArg₂ (fun a b : EReal => a * b) (V4_apply m c R k) (V5_apply m c k _)

/-! ## The lines after the region -/

/-- The numbers of each prompt's last three rows. -/
def rows : IVec S12 32 :=
  shapeCast _ (addi (broadcastInDim S4x3 ![0, 1] bcast_S4x1_S4x3_0_1 (subi (broadcastInDim S4x1 ![0] bcast_S4_S4x1_0
      (muli (addi (iotaInDim S4 32 0) (broadcastInDim S4 ![] bcast_S_S4 (constantI S_ 32 1#32))) (broadcastInDim S4 ![] bcast_S_S4 (constantI S_ 32 2048#32))))
      (broadcastInDim S4x1 ![] bcast_S_S4x1 (constantI S_ 32 3#32))))
    (broadcastInDim S4x3 ![0, 1] bcast_S1x3_S4x3_0_1 (broadcastInDim S1x3 ![1] bcast_S3_S1x3_1 (iotaInDim S3 32 0)))) shapeCasts_S4x3_S12

/-- The gather's start indices: a negative number counts from the end. -/
def starts (i : IVec S12 32) : IVec S12x1 32 :=
  broadcastInDim S12x1 ![0] bcast_S12_S12x1_0 (select (cmpi .slt i (broadcastInDim S12 ![] bcast_S_S12 (constantI S_ 32 0#32)))
    (addi i (broadcastInDim S12 ![] bcast_S_S12 (constantI S_ 32 8704#32))) i)

/-- Which of them name a row. -/
def inRange (j : IVec S12x1 32) : IVec S12 1 :=
  Host.reduce IntOp.andi (andi (cmpi .sge j (broadcastInDim S12x1 ![] bcast_S_S12x1 (constantI S_ 32 0#32)))
    (cmpi .sle j (broadcastInDim S12x1 ![0, 1] bcast_S1x1_S12x1_0_1 (broadcastInDim S1x1 ![1] bcast_S1_S1x1_1 (constantI S1 32 8703#32)))))
    (constantI S_ 1 1#1) reducesTo_S12x1_S12_d1 h_S_

/-- The rows taken. -/
def take (x : Vec Ideal S8704x6144 .f32) (i : IVec S12 32) : Vec Ideal S12x6144 .f32 :=
  select (broadcastInDim S12x6144 ![0] bcast_S12_S12x6144_0 (inRange (starts i)))
    (Host.gather gather_S8704x6144_S12x1_S12x6144_1_0_n_n_0_1_16144 x (starts i))
    (broadcastInDim S12x6144 ![] bcast_S_S12x6144 (constant (F := Ideal) S_ .f32 0x7FC00000#32))

/-- The samples' last three rows, of the state and the steps. -/
def kept (st : Vec Ideal S1x128x3x6144 .f32) (tok : Vec Ideal S128x4x6144 .f32) : Vec Ideal S1x128x3x6144 .f32 :=
  broadcastInDim S1x128x3x6144 ![1, 2, 3] bcast_S128x3x6144_S1x128x3x6144_1_2_3 (extractStridedSlice S128x3x6144 ![0, 4, 0]
    (concatenate S128x7x6144 1 [⟨S128x3x6144, shapeCast _ st shapeCasts_S1x128x3x6144_S128x3x6144⟩, ⟨S128x4x6144, tok⟩]
      concatenates_S128x3x6144_S128x4x6144_S128x7x6144_d1) slices_S128x7x6144_S128x3x6144_0_4_0)

/-- The samples' part of the packed rows, sequence by sequence. -/
def steps (x : Vec Ideal S8704x6144 .f32) : Vec Ideal S128x4x6144 .f32 :=
  transpose S128x4x6144 [1, 0, 2] (shapeCast S4x128x6144 (extractStridedSlice S512x6144 ![8192, 0] x slices_S8704x6144_S512x6144_8192_0)
    shapeCasts_S512x6144_S4x128x6144) transposes_S4x128x6144_S128x4x6144_1_0_2

section Tail
variable (W : Valuation τ sig (Elt Ideal))

theorem tail1_rows : StableHlo.after (hostOps1 (F := Ideal)) W (Proc.devRef .tc main_v23) = rows := by
  after_results <;> rfl
theorem tail1_arr : StableHlo.after (hostOps1 (F := Ideal)) W (Proc.devRef .tc main_v6) = W (Proc.devRef .tc main_v6) := by
  after_results <;> rfl
theorem tail1_state : StableHlo.after (hostOps1 (F := Ideal)) W (Proc.devRef .tc main_v7)
    = shapeCast S128x3x6144 (W (Proc.devRef .tc main_arg3)) shapeCasts_S1x128x3x6144_S128x3x6144 := by
  after_results <;> rfl
theorem tail1_steps : StableHlo.after (hostOps1 (F := Ideal)) W (Proc.devRef .tc main_v9)
    = shapeCast S4x128x6144 (extractStridedSlice S512x6144 ![8192, 0] (W (Proc.devRef .tc main_v6)) slices_S8704x6144_S512x6144_8192_0)
        shapeCasts_S512x6144_S4x128x6144 := by
  after_results <;> rfl
theorem tail2_take : StableHlo.after (hostOps1_1 (F := Ideal)) W (Proc.devRef .tc main_v24)
    = take (W (Proc.devRef .tc main_v6)) (W (Proc.devRef .tc main_v23)) := by
  after_results
  simp only [StableHlo.TRef.ofBuf_toBuf]
  unfold take inRange starts
  rfl
theorem tail2_state : StableHlo.after (hostOps1_1 (F := Ideal)) W (Proc.devRef .tc main_v7) = W (Proc.devRef .tc main_v7) := by
  after_results <;> rfl
theorem tail2_steps : StableHlo.after (hostOps1_1 (F := Ideal)) W (Proc.devRef .tc main_v9) = W (Proc.devRef .tc main_v9) := by
  after_results <;> rfl
theorem tail3_prompt : StableHlo.after (hostOps1_2 (F := Ideal)) W (Proc.devRef .tc main_v25)
    = shapeCast S1x4x3x6144 (W (Proc.devRef .tc main_v24)) shapeCasts_S12x6144_S1x4x3x6144 := by
  after_results <;> rfl
theorem tail3_sample : StableHlo.after (hostOps1_2 (F := Ideal)) W (Proc.devRef .tc main_v29)
    = broadcastInDim S1x128x3x6144 ![1, 2, 3] bcast_S128x3x6144_S1x128x3x6144_1_2_3 (extractStridedSlice S128x3x6144 ![0, 4, 0]
    (concatenate S128x7x6144 1 [⟨S128x3x6144, W (Proc.devRef .tc main_v7)⟩, ⟨S128x4x6144, transpose S128x4x6144 [1, 0, 2] (W (Proc.devRef .tc main_v9)) transposes_S4x128x6144_S128x4x6144_1_0_2⟩]
      concatenates_S128x3x6144_S128x4x6144_S128x7x6144_d1) slices_S128x7x6144_S128x3x6144_0_4_0) := by
  after_results <;> rfl

/-- The prompts' kept rows, from any contents before the lines. -/
theorem tail_prompt : StableHlo.after (List.flatten [hostOps1 (F := Ideal), hostOps1_1, hostOps1_2]) W (Proc.devRef .tc main_v25)
    = shapeCast S1x4x3x6144 (take (W (Proc.devRef .tc main_v6)) rows) shapeCasts_S12x6144_S1x4x3x6144 := by
  rw [List.flatten_cons, List.flatten_cons, List.flatten_cons, List.flatten_nil, List.append_nil, StableHlo.after_append, StableHlo.after_append,
    tail3_prompt, tail2_take, tail1_rows, tail1_arr]

/-- The samples'. -/
theorem tail_sample : StableHlo.after (List.flatten [hostOps1 (F := Ideal), hostOps1_1, hostOps1_2]) W (Proc.devRef .tc main_v29)
    = kept (W (Proc.devRef .tc main_arg3)) (steps (W (Proc.devRef .tc main_v6))) := by
  rw [List.flatten_cons, List.flatten_cons, List.flatten_cons, List.flatten_nil, List.append_nil, StableHlo.after_append, StableHlo.after_append,
    tail3_sample, tail2_state, tail2_steps, tail1_state, tail1_steps]
  rfl

end Tail

theorem starts_apply : ∀ j : Fin 12, starts rows (ix2 j 0) = BitVec.ofNat 32 (2048 * (j.val / 3 + 1) - 3 + j.val % 3) := by
  decide +kernel
theorem inRange_apply : ∀ j : Fin 12, inRange (starts rows) (ix1 j) = 1#1 := by decide +kernel

/-- The prompts' kept rows at an index. -/
theorem take_apply (x : Vec Ideal S8704x6144 .f32) (b : Fin 4) (j : Fin 3) (n : Fin 6144) :
    shapeCast S1x4x3x6144 (take x rows) shapeCasts_S12x6144_S1x4x3x6144 (ix4 0 b j n)
      = x (ix2 (⟨2048 * b.val + 2045 + j.val, by omega⟩ : Fin 8704) n) := by
  have e := shapeCast_apply (take x rows) shapeCasts_S12x6144_S1x4x3x6144 (ix4 0 b j n) (ix2 (⟨3 * b.val + j.val, by omega⟩ : Fin 12) n) (by
    rw [Shape.rowMajor_val_two, Shape.rowMajor_val_four]
    show (3 * b.val + j.val) * 6144 + n.val = ((0 * 4 + b.val) * 3 + j.val) * 6144 + n.val
    omega)
  refine e.trans ?_
  unfold take
  refine (Rows.guarded_apply (n := 12) (C := 6144) gather_S8704x6144_S12x1_S12x6144_1_0_n_n_0_1_16144 rfl rfl rfl rfl rfl x (starts rows)
    (inRange (starts rows)) bcast_S12_S12x6144_0 _ (by decide) _ n _ (inRange_apply _) ?_)
  rw [starts_apply]
  congr 1
  show 2048 * ((3 * b.val + j.val) / 3 + 1) - 3 + (3 * b.val + j.val) % 3 = 2048 * b.val + 2045 + j.val
  omega

/-- The samples' steps at an index. -/
theorem steps_apply (x : Vec Ideal S8704x6144 .f32) (b : Fin 128) (t : Fin 4) (n : Fin 6144) :
    steps x (ix3 b t n) = x (ix2 (⟨8192 + (t.val * 128 + b.val), by omega⟩ : Fin 8704) n) := by
  unfold steps
  rw [transpose_apply [1, 0, 2] _ transposes_S4x128x6144_S128x4x6144_1_0_2 (ix3 b t n) (ix3 t b n)
      (fun a => match a with | ⟨0, _⟩ => rfl | ⟨1, _⟩ => rfl | ⟨2, _⟩ => rfl),
    shapeCast_apply _ shapeCasts_S512x6144_S4x128x6144 (ix3 t b n) (ix2 (⟨t.val * 128 + b.val, by omega⟩ : Fin 512) n) (by
      rw [Shape.rowMajor_val_two, Shape.rowMajor_val_three]; rfl)]
  refine extractStridedSlice_apply _ _ slices_S8704x6144_S512x6144_8192_0 _ _ (fun a => ?_)
  match a with
  | ⟨0, _⟩ => rfl
  | ⟨1, _⟩ => exact (Nat.zero_add _).symm

/-! ## The run -/

/-- Every run ends with the projection, the prompts' last rows of it, and the samples' last rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_v25) = shapeCast S1x4x3x6144 (take (G m c) rows) shapeCasts_S12x6144_S1x4x3x6144
      ∧ r.2.mem ((c : Thread nD τ).loc main_v29) = kept (m ((c : Thread nD τ).loc main_arg3)) (steps (G m c)) := by
  refine (θ_run defs _ _).mono (fun r h c => ?_) (run_main m ρ)
  have hW : Pipeline.withArrays spec0 c (V0 m c) (fun w => (dats m 0 c).arrAt w cfg0.N) (Proc.devRef .tc main_v6) = G m c :=
    (Pipeline.withArrays_arr spec0 (by decide : Function.Injective (Pipeline.arrRef spec0)) c (V0 m c) _ 2).trans (final m c)
  have hS : Pipeline.withArrays spec0 c (V0 m c) (fun w => (dats m 0 c).arrAt w cfg0.N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  refine ⟨((h c).1 2).trans (final m c), ?_, ?_⟩
  · refine ((h c).2 main_v25 (Pipeline.mem_restRefs_of main_v25 (by decide) (by decide))).trans ?_
    unfold Pipeline.afterTail₀
    exact (tail_prompt _).trans (by rw [hW])
  · refine ((h c).2 main_v29 (Pipeline.mem_restRefs_of main_v29 (by decide) (by decide))).trans ?_
    unfold Pipeline.afterTail₀
    exact (tail_sample _).trans (by rw [hW, hS])

end Cert.Xbc

end
-- ==== Proof.XbcRef.lean ====
/- The reference's convolution input and kept states, read at an index, and the claim. -/
module

public import proofs.«01_k».proof.Defs
public import proofs.«01_k».proof.Proof.Xbc
public import proofs.«01_k».proof.Proof.Gen.XbcReferenceIdeal.Run
public import proofs.«01_k».proof.Proof.Gen.XbcReferenceIdeal.Read
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.Xbc.Ref

open Cert.XbcReferenceIdeal Cert.XbcReferenceIdeal.Gen Cert.XbcReferenceIdeal.Read

variable (x0 : (⟨S4x2048x2048, .f32⟩ : BufTy).Contents (Elt Ideal)) (x1 : (⟨S128x4x2048, .f32⟩ : BufTy).Contents (Elt Ideal))
  (x2 : (⟨S1x2048x16448, .f32⟩ : BufTy).Contents (Elt Ideal)) (x3 : (⟨S1x128x3x6144, .f32⟩ : BufTy).Contents (Elt Ideal))

theorem prompt_apply (b : Fin 4) (t : Fin 2048) (n : Fin 6144) :
    val_main_v5 x0 x2 (ix3 b t n) = ∑ k, x0 (ix3 b t k) * x2 (ix3 0 k (⟨6144 + n.val, by omega⟩ : Fin 16448)) := by
  have e : ∀ C : Fin 16448, val_main_v2 x0 x2 (ix3 b t C) = ∑ k, x0 (ix3 b t k) * x2 (ix3 0 k C) := fun C => by
    rw [val_main_v2_apply]
    refine Finset.sum_congr rfl fun k _ => congrArg₂ (fun a b : EReal => a * b) (congrArg x0 ?_) ?_
    · funext a; match a with | ⟨0, _⟩ => rfl | ⟨1, _⟩ => rfl | ⟨2, _⟩ => rfl
    · rw [show ridx_main_v2 (ix3 b t C) k = ix2 k C from by funext a; match a with | ⟨0, _⟩ => rfl | ⟨1, _⟩ => rfl]
      exact Rows.dropLead_apply x2 _ k C
  rw [val_main_v5_apply, ← e]
  congr 1; funext a; match a with | ⟨0, _⟩ => rfl | ⟨1, _⟩ => rfl | ⟨2, _⟩ => rfl

theorem sample_apply (b : Fin 128) (t : Fin 4) (n : Fin 6144) :
    val_main_v13 x1 x2 (ix3 b t n) = ∑ k, x1 (ix3 b t k) * x2 (ix3 0 k (⟨6144 + n.val, by omega⟩ : Fin 16448)) := by
  have e : ∀ C : Fin 16448, val_main_v10 x1 x2 (ix3 b t C) = ∑ k, x1 (ix3 b t k) * x2 (ix3 0 k C) := fun C => by
    rw [val_main_v10_apply]
    refine Finset.sum_congr rfl fun k _ => congrArg₂ (fun a b : EReal => a * b) (congrArg x1 ?_) ?_
    · funext a; match a with | ⟨0, _⟩ => rfl | ⟨1, _⟩ => rfl | ⟨2, _⟩ => rfl
    · rw [show ridx_main_v10 (ix3 b t C) k = ix2 k C from by funext a; match a with | ⟨0, _⟩ => rfl | ⟨1, _⟩ => rfl]
      exact Rows.dropLead_apply x2 _ k C
  rw [val_main_v13_apply, ← e]
  congr 1; funext a; match a with | ⟨0, _⟩ => rfl | ⟨1, _⟩ => rfl | ⟨2, _⟩ => rfl

/-- The packed rows. -/
theorem rows_apply (R : Fin 8704) (n : Fin 6144) : val_main_v27 x0 x1 x2 (ix2 R n) = proj x0 x1 x2 R n := by
  refine (Rows.pack_apply (val_main_v5 x0 x2) (val_main_v13 x1 x2) _ _ _ concatenates_S8192x6144_S512x6144_S8704x6144_d0 R n).trans ?_
  unfold proj Rows.packed
  by_cases h : R.val < 8192
  · simp only [dif_pos h]; exact prompt_apply x0 x2 _ _ n
  · simp only [dif_neg h]; exact sample_apply x1 x2 _ _ n

/-- The prompts' kept rows. -/
theorem kept_prompt_apply (b : Fin 4) (j : Fin 3) (n : Fin 6144) :
    val_main_v19 x0 x2 (ix4 0 b j n) = val_main_v5 x0 x2 (ix3 b (⟨2045 + j.val, by omega⟩ : Fin 2048) n) := by
  rw [val_main_v19_apply, val_main_v18_apply]
  exact concatenate_pair_apply_right (t := S4x2051x6144) (s₁ := S4x3x6144) (s₂ := S4x2048x6144) 1 _ (val_main_v5 x0 x2)
    concatenates_S4x3x6144_S4x2048x6144_S4x2051x6144_d1 _ rfl rfl (ix3 b (⟨2045 + j.val, by omega⟩ : Fin 2048) n)
    (fun a ha => match a with | ⟨0, _⟩ => rfl | ⟨1, _⟩ => absurd rfl ha | ⟨2, _⟩ => rfl)
    (show 2045 + j.val + 3 = 2048 + j.val by omega)

/-- The kernel's result agrees with the reference's on every result. -/
theorem prompt_eq (x : (⟨S8704x6144, .f32⟩ : BufTy).Contents (Elt Ideal)) (hx : ∀ R n, x (ix2 R n) = proj x0 x1 x2 R n) :
    val_main_v19 x0 x2 = shapeCast S1x4x3x6144 (take x rows) Cert.XbcKernelIdeal.Gen.facts.shapeCasts_S12x6144_S1x4x3x6144 := by
  funext i
  obtain ⟨z, b, j, n, rfl⟩ : ∃ (z : Fin 1) (b : Fin 4) (j : Fin 3) (n : Fin 6144), i = ix4 z b j n :=
    ⟨i 0, i 1, i 2, i 3, eq_ix4 i⟩
  obtain rfl : z = 0 := Subsingleton.elim _ _
  refine (kept_prompt_apply x0 x2 b j n).trans (Eq.trans ?_ (take_apply x b j n).symm)
  rw [hx, prompt_apply]
  exact Finset.sum_congr rfl fun k _ => congrArg (fun a : EReal => a * _)
    (Rows.packed_prompt x0 x1 b _ _ (show 2048 * b.val + 2045 + j.val = b.val * 2048 + (2045 + j.val) by omega) k).symm

theorem steps_eq (x : (⟨S8704x6144, .f32⟩ : BufTy).Contents (Elt Ideal)) (hx : ∀ R n, x (ix2 R n) = proj x0 x1 x2 R n) :
    val_main_v13 x1 x2 = steps x := by
  funext i
  obtain ⟨b, t, n, rfl⟩ : ∃ (b : Fin 128) (t : Fin 4) (n : Fin 6144), i = ix3 b t n := ⟨i 0, i 1, i 2, eq_ix3 i⟩
  refine Eq.trans ?_ (steps_apply x b t n).symm
  rw [hx, sample_apply]
  exact Finset.sum_congr rfl fun k _ => congrArg (fun a : EReal => a * _) (Rows.packed_sample x0 x1 b t _ rfl k).symm

theorem sample_eq (x : (⟨S8704x6144, .f32⟩ : BufTy).Contents (Elt Ideal)) (hx : ∀ R n, x (ix2 R n) = proj x0 x1 x2 R n) :
    val_main_v23 x1 x2 x3 = kept x3 (steps x) := by
  rw [← steps_eq x0 x1 x2 x hx]
  rfl

end Cert.Xbc.Ref

namespace Cert.Xbc

/-- The kernel's rows of the projection, and the two states it keeps of them, are the reference's. -/
theorem algebraic : Cert.algebraic_XbcKernelIdeal_XbcReferenceIdeal := by
  intro m ρ m' ρ' _ hagree
  refine ⟨fun c => G m c, fun c => shapeCast _ (take (G m c) rows) Cert.XbcKernelIdeal.Gen.facts.shapeCasts_S12x6144_S1x4x3x6144,
    fun c => kept (m ((c.tc : Thread _ Cert.XbcKernelIdeal.τ).loc Cert.XbcKernelIdeal.main_arg3)) (steps (G m c)), ?_, ?_⟩
  · exact (θ_run Cert.XbcKernelIdeal.defs _ _).mono (fun r h c => ⟨(h.1 c).1, (h.1 c).2.1, (h.1 c).2.2, h.2 c⟩)
      (θ_run_and (run m ρ) (Cert.XbcKernelIdeal.Gen.unchanged m ρ))
  · refine (θ_run Cert.XbcReferenceIdeal.defs _ _).mono (fun r h c => ?_) (Cert.XbcReferenceIdeal.Value.run m' ρ')
    obtain ⟨e0, e1, e2, e3⟩ := hagree c
    obtain ⟨h0, h1, h2, hk⟩ := h c
    rw [e0, e1, e2] at h0
    rw [e0, e2] at h1
    rw [e1, e2, e3] at h2
    have hG := fun R n => G_apply m c R n
    refine ⟨h0.trans ?_, h1.trans ?_, h2.trans ?_, hk⟩
    · refine (Cert.XbcReferenceIdeal.Read.val_main_v27_eq _ _ _).trans (funext fun i => ?_)
      obtain ⟨R, n, rfl⟩ : ∃ (R : Fin 8704) (n : Fin 6144), i = ix2 R n := ⟨i 0, i 1, eq_ix2 i⟩
      exact (Ref.rows_apply _ _ _ R n).trans (hG R n).symm
    · exact (Cert.XbcReferenceIdeal.Read.val_main_v19_eq _ _).trans (Ref.prompt_eq _ _ _ _ hG)
    · exact (Cert.XbcReferenceIdeal.Read.val_main_v23_eq _ _ _).trans (Ref.sample_eq _ _ _ _ _ hG)

end Cert.Xbc

end
-- ==== Proof.Pool.lean ====
/- The pool mixer's input columns of the projection, and the two states it keeps: what the kernel leaves in its results. -/
module

public import proofs.«01_k».proof.Proof.Rows
public import proofs.«01_k».proof.Proof.Gen.PoolKernelIdeal.Frame

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Pool

open Cert.PoolKernelIdeal Cert.PoolKernelIdeal.Gen
open Cert.Rows (dot)

variable (m : (ℓ : Loc nD τ sig) → Buf (Elt Ideal) ℓ)

theorem hz : (![0, 0] : Fin 2 → Nat) = fun _ => 0 := funext fun a => by fin_cases a <;> rfl

section Cases
variable {F : FTy → Type} [FloatOps F]
variable (c : Dev nD) (i : grid0.Coords) (a2 : Memref sig .tc .vmem S512x2048 .bf16) (h2 : a2.IsWhole)
  (a3 : Memref sig .tc .vmem S2048x1024 .f32) (h3 : a3.IsWhole) (a4 : Memref sig .tc .vmem S512x1024 .f32) (h4 : a4.IsWhole)
  (a5 : Memref sig .tc .vmem S2048x1024 .bf16) (h5 : a5.IsWhole)
  (x0 : Vec F S512x2048 .bf16) (x1 : Vec F S2048x1024 .f32) (xs : Vec F S2048x1024 .bf16)

/-- At a column block's first point the body casts the weights into the scratch. -/
theorem sout_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S2048x1024) hz]

/-- The block the first point stores, over the weights just cast. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S2048x1024) hz,
    View.ld_unit_zero (S := S512x2048) hz, View.readCov_unit_zero (S := S2048x1024) _ hz]

/-- The block a later point stores, over the weights carried in the scratch. -/
theorem out_B (hc : ¬cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz]
  simp only [View.readAt_eq_ld, h2.read_unread, h5.read_unread, View.ld_unit_zero (S := S2048x1024) hz,
    View.ld_unit_zero (S := S512x2048) hz]

end Cases

theorem pay1_apply (x : Vec Ideal S2048x1024 .f32) (y : S2048x1024.Idx) : k0_pay1 x y = x y := by
  unfold k0_pay1
  simp only [shapeCast_self]
  rfl

theorem pay2_apply (x : Vec Ideal S512x2048 .bf16) (w : Vec Ideal S2048x1024 .bf16) (r : Fin 512) (n : Fin 1024) :
    k0_pay2 x w (ix2 r n) = dot x w r n := by
  unfold k0_pay2
  simp only [shapeCast_self]
  refine (Ideal.matmul_plain_apply (M := 512) (K := 2048) (N := 1024) none x w (constant S512x1024 .f32 0x00000000#32) r n).trans ?_
  show Ideal.ofBits .f32 0x00000000#32 + _ = _
  rw [Ideal.ofBits_zero_f32, zero_add]
  rfl

/-! ## The region -/

theorem idx0 : ∀ t : Fin cfg0.N, win0_0.index t (0 : Fin 2) = t.val % 17 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 17 :=
  (by decide +kernel : ∀ t : Fin grid0.N, _)
theorem idx2 : ∀ t : Fin cfg0.N, win0_2.index t (0 : Fin 2) = t.val % 17 ∧ win0_2.index t (1 : Fin 2) = t.val / 17 :=
  (by decide +kernel : ∀ t : Fin grid0.N, _)

/-- The activations' block at a point. -/
theorem iblk0_apply (c : Dev nD) (t : Fin cfg0.N) (r : Fin 512) (k : Fin 2048) (R : Fin 8704) (hR : R.val = 512 * (t.val % 17) + r.val) :
    iblk m c 0 t (ix2 r k) = V m c main_v4 (ix2 R k) := by
  obtain ⟨e0, e1⟩ := idx0 t
  show V m c main_v4 _ = _
  congr 1
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

/-- The weights' block at a point. -/
theorem X1_apply (c : Dev nD) (t : Fin cfg0.N) (k : Fin 2048) (n : Fin 1024) (C : Fin 16448) (hC : C.val = 1024 * (t.val / 17) + n.val) :
    X0_1 m c t (ix2 k n) = V m c main_v5 (ix2 k C) := by
  obtain ⟨e0, e1⟩ := idx1 t
  unfold X0_1 Pipeline.Window.fill
  refine (dif_pos (moved0_1 t (ix2 k n))).trans ?_
  show V m c main_v5 _ = _
  congr 1
  funext a; apply Fin.ext
  match a with
  | ⟨0, _⟩ => show win0_1.index t (0 : Fin 2) * 2048 + 1 * k.val = k.val; omega
  | ⟨1, _⟩ => show win0_1.index t (1 : Fin 2) * 1024 + 1 * n.val = C.val; omega

/-- The scratch after any point holds the weights of the point's own column block. -/
theorem carried (c : Dev nD) : ∀ (n : ℕ) (h : n < cfg0.N) (k : Fin 2048) (q : Fin 1024) (C : Fin 16448),
    C.val = 1024 * (n / 17) + q.val → (outsAt0 m c n h).2 (ix2 k q) = V m c main_v5 (ix2 k C) := by
  intro n
  induction n using Nat.strong_induction_on with
  | _ n ih =>
    intro h k q C hC
    by_cases h0 : n % 17 = 0
    · rw [outsAt0_A m c ⟨n, h⟩ h0]
      dsimp only
      rw [sout_A]
      exact (pay1_apply _ _).trans (X1_apply m c ⟨n, h⟩ k q C hC)
    · rw [outsAt0_B m c ⟨n, h⟩ h0]
      have hd : (n - 1) / 17 = n / 17 := by omega
      have := ih (n - 1) (by omega) (Nat.lt_of_le_of_lt (Nat.sub_le _ _) h) k q C (by omega)
      dsimp only
      exact this

/-- The block a point leaves in the output's staging buffer. -/
theorem out_apply (c : Dev nD) (n : ℕ) (h : n < cfg0.N) (r : Fin 512) (q : Fin 1024) (R : Fin 8704) (hR : R.val = 512 * (n % 17) + r.val)
    (C : Fin 16448) (hC : C.val = 1024 * (n / 17) + q.val) :
    (outsAt0 m c n h).1 (ix2 r q) = dot (V m c main_v4) (V m c main_v5) R C := by
  have hx : ∀ k, iblk m c 0 ⟨n, h⟩ (ix2 r k) = V m c main_v4 (ix2 R k) := fun k => iblk0_apply m c ⟨n, h⟩ r k R hR
  by_cases h0 : n % 17 = 0
  · rw [outsAt0_A m c ⟨n, h⟩ h0]
    dsimp only
    rw [out_A, pay2_apply]
    exact Finset.sum_congr rfl fun k _ => congrArg₂ (· * ·) (hx k) ((pay1_apply _ _).trans (X1_apply m c ⟨n, h⟩ k q C hC))
  · rw [outsAt0_B m c ⟨n, h⟩ h0]
    dsimp only
    rw [out_B, pay2_apply]
    have hd : (n - 1) / 17 = n / 17 := by omega
    exact Finset.sum_congr rfl fun k _ => congrArg₂ (· * ·) (hx k)
      (carried m c (n - 1) (Nat.lt_of_le_of_lt (Nat.sub_le _ _) h) k q C (by rw [hd]; exact hC))

/-- The region's array: the rows times the first 2048 columns. -/
def G (c : Dev nD) : Buf (Elt Ideal) ((c : Thread nD τ).loc main_v6) := fun i =>
  dot (V m c main_v4) (V m c main_v5) (⟨(i 0).val, (i 0).isLt⟩ : Fin 8704)
    (⟨(i 1).val, by have := (i 1).isLt; change (i 1).val < 2048 at this; omega⟩ : Fin 16448)

theorem flushed (c : Dev nD) (t : Fin cfg0.N) : (dats m 0 c).flushed 2 t = ((cfg0.win 2).blk t).view.read (Elt Ideal) (G m c) := by
  show (cfg0.win 2).cut (grid0.coords t) ((dats m 0 c).after 2 t) = _
  rw [after0_2]
  obtain ⟨e0, e1⟩ := idx2 t
  funext y
  have hy : (cfg0.win 2).xinj (grid0.coords t) y = ix2 (⟨(y 0).val, (y 0).isLt⟩ : Fin 512) (⟨(y 1).val, (y 1).isLt⟩ : Fin 1024) := by
    funext a; match a with | ⟨0, _⟩ => rfl | ⟨1, _⟩ => rfl
  show (outsAt0 m c t.val t.isLt).1 ((cfg0.win 2).xinj (grid0.coords t) y) = G m c (((cfg0.win 2).blk t).view.emb y)
  rw [hy]
  refine out_apply m c t.val t.isLt _ _ _ ?_ _ ?_
  · show win0_2.index t (0 : Fin 2) * 512 + 1 * (y 0).val = 512 * (t.val % 17) + (y 0).val; omega
  · show win0_2.index t (1 : Fin 2) * 1024 + 1 * (y 1).val = 1024 * (t.val / 17) + (y 1).val; omega

theorem covered (i : S8704x2048.Idx) : ∃ t : Fin cfg0.N, (cfg0.win 2).flush t = true ∧ i ∈ ((cfg0.win 2).blk t).view.set := by
  have hi0 : (i 0).val < 8704 := (i 0).isLt
  have hi1 : (i 1).val < 2048 := (i 1).isLt
  have hN : cfg0.N = 34 := N_0
  obtain ⟨t, ht⟩ : ∃ t : Fin cfg0.N, t.val = (i 0).val / 512 + 17 * ((i 1).val / 1024) :=
    ⟨⟨(i 0).val / 512 + 17 * ((i 1).val / 1024), by omega⟩, rfl⟩
  obtain ⟨e0, e1⟩ := idx2 t
  refine ⟨t, (by decide +kernel : ∀ t : Fin grid0.N, win0_2.flush t = true) t, ?_⟩
  show i ∈ ((View.whole main_v6).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array after the region. -/
theorem final (c : Dev nD) : (dats m 0 c).arrAt 2 cfg0.N = G m c :=
  (dats m 0 c).arrAt_eq_of_cover 2 _ (fun t _ => flushed m c t) covered

/-! ## The host's operands -/

theorem V4_apply (c : Dev nD) (R : Fin 8704) (k : Fin 2048) :
    V m c main_v4 (ix2 R k) = Rows.packed (m ((c : Thread nD τ).loc main_arg0)) (m ((c : Thread nD τ).loc main_arg1)) R k := by
  have e : V m c main_v4 = truncf (F := Ideal) .bf16 (concatenate S8704x2048 0
      [⟨S8192x2048, shapeCast _ (m ((c : Thread nD τ).loc main_arg0)) shapeCasts_S4x2048x2048_S8192x2048⟩,
       ⟨S512x2048, shapeCast _ (transpose S4x128x2048 [1, 0, 2] (m ((c : Thread nD τ).loc main_arg1)) transposes_S128x4x2048_S4x128x2048_1_0_2)
          shapeCasts_S4x128x2048_S512x2048⟩] concatenates_S8192x2048_S512x2048_S8704x2048_d0) bitsLt_bf16_f32 := by
    show StableHlo.after hostOps0 _ _ = _
    after_results <;> rfl
  rw [e]
  exact Rows.pack_apply _ _ _ _ _ concatenates_S8192x2048_S512x2048_S8704x2048_d0 R k

theorem V5_apply (c : Dev nD) (k : Fin 2048) (n : Fin 16448) :
    V m c main_v5 (ix2 k n) = m ((c : Thread nD τ).loc main_arg2) (ix3 0 k n) := by
  have e : V m c main_v5 = shapeCast _ (m ((c : Thread nD τ).loc main_arg2)) shapeCasts_S1x2048x16448_S2048x16448 := by
    show StableHlo.after hostOps0 _ _ = _
    after_results <;> rfl
  rw [e]
  exact Rows.dropLead_apply _ _ k n

/-- The pool mixer's input for the packed rows. -/
def proj (p : S4x2048x2048.Idx → EReal) (s : S128x4x2048.Idx → EReal) (w : S1x2048x16448.Idx → EReal) (R : Fin 8704) (n : Fin 2048) : EReal :=
  ∑ k, Rows.packed p s R k * w (ix3 0 k (⟨n.val, by omega⟩ : Fin 16448))

theorem G_apply (c : Dev nD) (R : Fin 8704) (n : Fin 2048) :
    G m c (ix2 R n) = proj (m ((c : Thread nD τ).loc main_arg0)) (m ((c : Thread nD τ).loc main_arg1)) (m ((c : Thread nD τ).loc main_arg2)) R n := by
  show dot (V m c main_v4) (V m c main_v5) R (⟨n.val, by omega⟩ : Fin 16448) = _
  exact Finset.sum_congr rfl fun k _ => congrArg₂ (fun a b : EReal => a * b) (V4_apply m c R k) (V5_apply m c k _)

/-! ## The lines after the region -/

/-- The numbers of each prompt's last fifteen rows. -/
def rows : IVec S60 32 :=
  shapeCast _ (addi (broadcastInDim S4x15 ![0, 1] bcast_S4x1_S4x15_0_1 (subi (broadcastInDim S4x1 ![0] bcast_S4_S4x1_0
      (muli (addi (iotaInDim S4 32 0) (broadcastInDim S4 ![] bcast_S_S4 (constantI S_ 32 1#32))) (broadcastInDim S4 ![] bcast_S_S4 (constantI S_ 32 2048#32))))
      (broadcastInDim S4x1 ![] bcast_S_S4x1 (constantI S_ 32 15#32))))
    (broadcastInDim S4x15 ![0, 1] bcast_S1x15_S4x15_0_1 (broadcastInDim S1x15 ![1] bcast_S15_S1x15_1 (iotaInDim S15 32 0)))) shapeCasts_S4x15_S60

/-- The gather's start indices: a negative number counts from the end. -/
def starts (i : IVec S60 32) : IVec S60x1 32 :=
  broadcastInDim S60x1 ![0] bcast_S60_S60x1_0 (select (cmpi .slt i (broadcastInDim S60 ![] bcast_S_S60 (constantI S_ 32 0#32)))
    (addi i (broadcastInDim S60 ![] bcast_S_S60 (constantI S_ 32 8704#32))) i)

/-- Which of them name a row. -/
def inRange (j : IVec S60x1 32) : IVec S60 1 :=
  Host.reduce IntOp.andi (andi (cmpi .sge j (broadcastInDim S60x1 ![] bcast_S_S60x1 (constantI S_ 32 0#32)))
    (cmpi .sle j (broadcastInDim S60x1 ![0, 1] bcast_S1x1_S60x1_0_1 (broadcastInDim S1x1 ![1] bcast_S1_S1x1_1 (constantI S1 32 8703#32)))))
    (constantI S_ 1 1#1) reducesTo_S60x1_S60_d1 h_S_

/-- The rows taken. -/
def take (x : Vec Ideal S8704x2048 .f32) (i : IVec S60 32) : Vec Ideal S60x2048 .f32 :=
  select (broadcastInDim S60x2048 ![0] bcast_S60_S60x2048_0 (inRange (starts i)))
    (Host.gather gather_S8704x2048_S60x1_S60x2048_1_0_n_n_0_1_12048 x (starts i))
    (broadcastInDim S60x2048 ![] bcast_S_S60x2048 (constant (F := Ideal) S_ .f32 0x7FC00000#32))

/-- The samples' last fifteen rows, of the state and the steps. -/
def kept (st : Vec Ideal S1x128x15x2048 .f32) (tok : Vec Ideal S128x4x2048 .f32) : Vec Ideal S1x128x15x2048 .f32 :=
  broadcastInDim S1x128x15x2048 ![1, 2, 3] bcast_S128x15x2048_S1x128x15x2048_1_2_3 (extractStridedSlice S128x15x2048 ![0, 4, 0]
    (concatenate S128x19x2048 1 [⟨S128x15x2048, shapeCast _ st shapeCasts_S1x128x15x2048_S128x15x2048⟩, ⟨S128x4x2048, tok⟩]
      concatenates_S128x15x2048_S128x4x2048_S128x19x2048_d1) slices_S128x19x2048_S128x15x2048_0_4_0)

/-- The samples' part of the packed rows, sequence by sequence. -/
def steps (x : Vec Ideal S8704x2048 .f32) : Vec Ideal S128x4x2048 .f32 :=
  transpose S128x4x2048 [1, 0, 2] (shapeCast S4x128x2048 (extractStridedSlice S512x2048 ![8192, 0] x slices_S8704x2048_S512x2048_8192_0)
    shapeCasts_S512x2048_S4x128x2048) transposes_S4x128x2048_S128x4x2048_1_0_2

section Tail
variable (W : Valuation τ sig (Elt Ideal))

theorem tail1_rows : StableHlo.after (hostOps1 (F := Ideal)) W (Proc.devRef .tc main_v23) = rows := by
  after_results <;> rfl
theorem tail1_arr : StableHlo.after (hostOps1 (F := Ideal)) W (Proc.devRef .tc main_v6) = W (Proc.devRef .tc main_v6) := by
  after_results <;> rfl
theorem tail1_state : StableHlo.after (hostOps1 (F := Ideal)) W (Proc.devRef .tc main_v9)
    = shapeCast S128x15x2048 (W (Proc.devRef .tc main_arg3)) shapeCasts_S1x128x15x2048_S128x15x2048 := by
  after_results <;> rfl
theorem tail1_steps : StableHlo.after (hostOps1 (F := Ideal)) W (Proc.devRef .tc main_v8)
    = shapeCast S4x128x2048 (extractStridedSlice S512x2048 ![8192, 0] (W (Proc.devRef .tc main_v6)) slices_S8704x2048_S512x2048_8192_0)
        shapeCasts_S512x2048_S4x128x2048 := by
  after_results <;> rfl
theorem tail2_take : StableHlo.after (hostOps1_1 (F := Ideal)) W (Proc.devRef .tc main_v24)
    = take (W (Proc.devRef .tc main_v6)) (W (Proc.devRef .tc main_v23)) := by
  after_results
  simp only [StableHlo.TRef.ofBuf_toBuf]
  unfold take inRange starts
  rfl
theorem tail2_state : StableHlo.after (hostOps1_1 (F := Ideal)) W (Proc.devRef .tc main_v9) = W (Proc.devRef .tc main_v9) := by
  after_results <;> rfl
theorem tail2_steps : StableHlo.after (hostOps1_1 (F := Ideal)) W (Proc.devRef .tc main_v8) = W (Proc.devRef .tc main_v8) := by
  after_results <;> rfl
theorem tail3_prompt : StableHlo.after (hostOps1_2 (F := Ideal)) W (Proc.devRef .tc main_v25)
    = shapeCast S1x4x15x2048 (W (Proc.devRef .tc main_v24)) shapeCasts_S60x2048_S1x4x15x2048 := by
  after_results <;> rfl
theorem tail3_sample : StableHlo.after (hostOps1_2 (F := Ideal)) W (Proc.devRef .tc main_v29)
    = broadcastInDim S1x128x15x2048 ![1, 2, 3] bcast_S128x15x2048_S1x128x15x2048_1_2_3 (extractStridedSlice S128x15x2048 ![0, 4, 0]
    (concatenate S128x19x2048 1 [⟨S128x15x2048, W (Proc.devRef .tc main_v9)⟩, ⟨S128x4x2048, transpose S128x4x2048 [1, 0, 2] (W (Proc.devRef .tc main_v8)) transposes_S4x128x2048_S128x4x2048_1_0_2⟩]
      concatenates_S128x15x2048_S128x4x2048_S128x19x2048_d1) slices_S128x19x2048_S128x15x2048_0_4_0) := by
  after_results <;> rfl

/-- The prompts' kept rows, from any contents before the lines. -/
theorem tail_prompt : StableHlo.after (List.flatten [hostOps1 (F := Ideal), hostOps1_1, hostOps1_2]) W (Proc.devRef .tc main_v25)
    = shapeCast S1x4x15x2048 (take (W (Proc.devRef .tc main_v6)) rows) shapeCasts_S60x2048_S1x4x15x2048 := by
  rw [List.flatten_cons, List.flatten_cons, List.flatten_cons, List.flatten_nil, List.append_nil, StableHlo.after_append, StableHlo.after_append,
    tail3_prompt, tail2_take, tail1_rows, tail1_arr]

/-- The samples'. -/
theorem tail_sample : StableHlo.after (List.flatten [hostOps1 (F := Ideal), hostOps1_1, hostOps1_2]) W (Proc.devRef .tc main_v29)
    = kept (W (Proc.devRef .tc main_arg3)) (steps (W (Proc.devRef .tc main_v6))) := by
  rw [List.flatten_cons, List.flatten_cons, List.flatten_cons, List.flatten_nil, List.append_nil, StableHlo.after_append, StableHlo.after_append,
    tail3_sample, tail2_state, tail2_steps, tail1_state, tail1_steps]
  rfl

end Tail

theorem starts_apply : ∀ j : Fin 60, starts rows (ix2 j 0) = BitVec.ofNat 32 (2048 * (j.val / 15 + 1) - 15 + j.val % 15) := by
  decide +kernel
theorem inRange_apply : ∀ j : Fin 60, inRange (starts rows) (ix1 j) = 1#1 := by decide +kernel

/-- The prompts' kept rows at an index. -/
theorem take_apply (x : Vec Ideal S8704x2048 .f32) (b : Fin 4) (j : Fin 15) (n : Fin 2048) :
    shapeCast S1x4x15x2048 (take x rows) shapeCasts_S60x2048_S1x4x15x2048 (ix4 0 b j n)
      = x (ix2 (⟨2048 * b.val + 2033 + j.val, by omega⟩ : Fin 8704) n) := by
  have e := shapeCast_apply (take x rows) shapeCasts_S60x2048_S1x4x15x2048 (ix4 0 b j n) (ix2 (⟨15 * b.val + j.val, by omega⟩ : Fin 60) n) (by
    rw [Shape.rowMajor_val_two, Shape.rowMajor_val_four]
    show (15 * b.val + j.val) * 2048 + n.val = ((0 * 4 + b.val) * 15 + j.val) * 2048 + n.val
    omega)
  refine e.trans ?_
  unfold take
  refine (Rows.guarded_apply (n := 60) (C := 2048) gather_S8704x2048_S60x1_S60x2048_1_0_n_n_0_1_12048 rfl rfl rfl rfl rfl x (starts rows)
    (inRange (starts rows)) bcast_S60_S60x2048_0 _ (by decide) _ n _ (inRange_apply _) ?_)
  rw [starts_apply]
  congr 1
  show 2048 * ((15 * b.val + j.val) / 15 + 1) - 15 + (15 * b.val + j.val) % 15 = 2048 * b.val + 2033 + j.val
  omega

/-- The samples' steps at an index. -/
theorem steps_apply (x : Vec Ideal S8704x2048 .f32) (b : Fin 128) (t : Fin 4) (n : Fin 2048) :
    steps x (ix3 b t n) = x (ix2 (⟨8192 + (t.val * 128 + b.val), by omega⟩ : Fin 8704) n) := by
  unfold steps
  rw [transpose_apply [1, 0, 2] _ transposes_S4x128x2048_S128x4x2048_1_0_2 (ix3 b t n) (ix3 t b n)
      (fun a => match a with | ⟨0, _⟩ => rfl | ⟨1, _⟩ => rfl | ⟨2, _⟩ => rfl),
    shapeCast_apply _ shapeCasts_S512x2048_S4x128x2048 (ix3 t b n) (ix2 (⟨t.val * 128 + b.val, by omega⟩ : Fin 512) n) (by
      rw [Shape.rowMajor_val_two, Shape.rowMajor_val_three]; rfl)]
  refine extractStridedSlice_apply _ _ slices_S8704x2048_S512x2048_8192_0 _ _ (fun a => ?_)
  match a with
  | ⟨0, _⟩ => rfl
  | ⟨1, _⟩ => exact (Nat.zero_add _).symm

/-! ## The run -/

/-- Every run ends with the projection, the prompts' last rows of it, and the samples' last rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_v25) = shapeCast S1x4x15x2048 (take (G m c) rows) shapeCasts_S60x2048_S1x4x15x2048
      ∧ r.2.mem ((c : Thread nD τ).loc main_v29) = kept (m ((c : Thread nD τ).loc main_arg3)) (steps (G m c)) := by
  refine (θ_run defs _ _).mono (fun r h c => ?_) (run_main m ρ)
  have hW : Pipeline.withArrays spec0 c (V0 m c) (fun w => (dats m 0 c).arrAt w cfg0.N) (Proc.devRef .tc main_v6) = G m c :=
    (Pipeline.withArrays_arr spec0 (by decide : Function.Injective (Pipeline.arrRef spec0)) c (V0 m c) _ 2).trans (final m c)
  have hS : Pipeline.withArrays spec0 c (V0 m c) (fun w => (dats m 0 c).arrAt w cfg0.N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  refine ⟨((h c).1 2).trans (final m c), ?_, ?_⟩
  · refine ((h c).2 main_v25 (Pipeline.mem_restRefs_of main_v25 (by decide) (by decide))).trans ?_
    unfold Pipeline.afterTail₀
    exact (tail_prompt _).trans (by rw [hW])
  · refine ((h c).2 main_v29 (Pipeline.mem_restRefs_of main_v29 (by decide) (by decide))).trans ?_
    unfold Pipeline.afterTail₀
    exact (tail_sample _).trans (by rw [hW, hS])

end Cert.Pool

end
-- ==== Proof.PoolRef.lean ====
/- The reference's pool mixer input and kept states, read at an index, and the claim. -/
module

public import proofs.«01_k».proof.Defs
public import proofs.«01_k».proof.Proof.Pool
public import proofs.«01_k».proof.Proof.Gen.PoolReferenceIdeal.Run
public import proofs.«01_k».proof.Proof.Gen.PoolReferenceIdeal.Read
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.Pool.Ref

open Cert.PoolReferenceIdeal Cert.PoolReferenceIdeal.Gen Cert.PoolReferenceIdeal.Read

variable (x0 : (⟨S4x2048x2048, .f32⟩ : BufTy).Contents (Elt Ideal)) (x1 : (⟨S128x4x2048, .f32⟩ : BufTy).Contents (Elt Ideal))
  (x2 : (⟨S1x2048x16448, .f32⟩ : BufTy).Contents (Elt Ideal)) (x3 : (⟨S1x128x15x2048, .f32⟩ : BufTy).Contents (Elt Ideal))

theorem prompt_apply (b : Fin 4) (t : Fin 2048) (n : Fin 2048) :
    val_main_v3 x0 x2 (ix3 b t n) = ∑ k, x0 (ix3 b t k) * x2 (ix3 0 k (⟨n.val, by omega⟩ : Fin 16448)) := by
  have e : ∀ C : Fin 16448, val_main_v2 x0 x2 (ix3 b t C) = ∑ k, x0 (ix3 b t k) * x2 (ix3 0 k C) := fun C => by
    rw [val_main_v2_apply]
    refine Finset.sum_congr rfl fun k _ => congrArg₂ (fun a b : EReal => a * b) (congrArg x0 ?_) ?_
    · funext a; match a with | ⟨0, _⟩ => rfl | ⟨1, _⟩ => rfl | ⟨2, _⟩ => rfl
    · rw [show ridx_main_v2 (ix3 b t C) k = ix2 k C from by funext a; match a with | ⟨0, _⟩ => rfl | ⟨1, _⟩ => rfl]
      exact Rows.dropLead_apply x2 _ k C
  rw [val_main_v3_apply, ← e]
  congr 1; funext a; match a with | ⟨0, _⟩ => rfl | ⟨1, _⟩ => rfl | ⟨2, _⟩ => rfl

theorem sample_apply (b : Fin 128) (t : Fin 4) (n : Fin 2048) :
    val_main_v11 x1 x2 (ix3 b t n) = ∑ k, x1 (ix3 b t k) * x2 (ix3 0 k (⟨n.val, by omega⟩ : Fin 16448)) := by
  have e : ∀ C : Fin 16448, val_main_v10 x1 x2 (ix3 b t C) = ∑ k, x1 (ix3 b t k) * x2 (ix3 0 k C) := fun C => by
    rw [val_main_v10_apply]
    refine Finset.sum_congr rfl fun k _ => congrArg₂ (fun a b : EReal => a * b) (congrArg x1 ?_) ?_
    · funext a; match a with | ⟨0, _⟩ => rfl | ⟨1, _⟩ => rfl | ⟨2, _⟩ => rfl
    · rw [show ridx_main_v10 (ix3 b t C) k = ix2 k C from by funext a; match a with | ⟨0, _⟩ => rfl | ⟨1, _⟩ => rfl]
      exact Rows.dropLead_apply x2 _ k C
  rw [val_main_v11_apply, ← e]
  congr 1; funext a; match a with | ⟨0, _⟩ => rfl | ⟨1, _⟩ => rfl | ⟨2, _⟩ => rfl

/-- The packed rows. -/
theorem rows_apply (R : Fin 8704) (n : Fin 2048) : val_main_v27 x0 x1 x2 (ix2 R n) = proj x0 x1 x2 R n := by
  refine (Rows.pack_apply (val_main_v3 x0 x2) (val_main_v11 x1 x2) _ _ _ concatenates_S8192x2048_S512x2048_S8704x2048_d0 R n).trans ?_
  unfold proj Rows.packed
  by_cases h : R.val < 8192
  · simp only [dif_pos h]; exact prompt_apply x0 x2 _ _ n
  · simp only [dif_neg h]; exact sample_apply x1 x2 _ _ n

/-- The prompts' kept rows. -/
theorem kept_prompt_apply (b : Fin 4) (j : Fin 15) (n : Fin 2048) :
    val_main_v19 x0 x2 (ix4 0 b j n) = val_main_v3 x0 x2 (ix3 b (⟨2033 + j.val, by omega⟩ : Fin 2048) n) := by
  rw [val_main_v19_apply, val_main_v18_apply]
  exact concatenate_pair_apply_right (t := S4x2063x2048) (s₁ := S4x15x2048) (s₂ := S4x2048x2048) 1 _ (val_main_v3 x0 x2)
    concatenates_S4x15x2048_S4x2048x2048_S4x2063x2048_d1 _ rfl rfl (ix3 b (⟨2033 + j.val, by omega⟩ : Fin 2048) n)
    (fun a ha => match a with | ⟨0, _⟩ => rfl | ⟨1, _⟩ => absurd rfl ha | ⟨2, _⟩ => rfl)
    (show 2033 + j.val + 15 = 2048 + j.val by omega)

/-- The kernel's result agrees with the reference's on every result. -/
theorem prompt_eq (x : (⟨S8704x2048, .f32⟩ : BufTy).Contents (Elt Ideal)) (hx : ∀ R n, x (ix2 R n) = proj x0 x1 x2 R n) :
    val_main_v19 x0 x2 = shapeCast S1x4x15x2048 (take x rows) Cert.PoolKernelIdeal.Gen.facts.shapeCasts_S60x2048_S1x4x15x2048 := by
  funext i
  obtain ⟨z, b, j, n, rfl⟩ : ∃ (z : Fin 1) (b : Fin 4) (j : Fin 15) (n : Fin 2048), i = ix4 z b j n :=
    ⟨i 0, i 1, i 2, i 3, eq_ix4 i⟩
  obtain rfl : z = 0 := Subsingleton.elim _ _
  refine (kept_prompt_apply x0 x2 b j n).trans (Eq.trans ?_ (take_apply x b j n).symm)
  rw [hx, prompt_apply]
  exact Finset.sum_congr rfl fun k _ => congrArg (fun a : EReal => a * _)
    (Rows.packed_prompt x0 x1 b _ _ (show 2048 * b.val + 2033 + j.val = b.val * 2048 + (2033 + j.val) by omega) k).symm

theorem steps_eq (x : (⟨S8704x2048, .f32⟩ : BufTy).Contents (Elt Ideal)) (hx : ∀ R n, x (ix2 R n) = proj x0 x1 x2 R n) :
    val_main_v11 x1 x2 = steps x := by
  funext i
  obtain ⟨b, t, n, rfl⟩ : ∃ (b : Fin 128) (t : Fin 4) (n : Fin 2048), i = ix3 b t n := ⟨i 0, i 1, i 2, eq_ix3 i⟩
  refine Eq.trans ?_ (steps_apply x b t n).symm
  rw [hx, sample_apply]
  exact Finset.sum_congr rfl fun k _ => congrArg (fun a : EReal => a * _) (Rows.packed_sample x0 x1 b t _ rfl k).symm

theorem sample_eq (x : (⟨S8704x2048, .f32⟩ : BufTy).Contents (Elt Ideal)) (hx : ∀ R n, x (ix2 R n) = proj x0 x1 x2 R n) :
    val_main_v23 x1 x2 x3 = kept x3 (steps x) := by
  rw [← steps_eq x0 x1 x2 x hx]
  rfl

end Cert.Pool.Ref

namespace Cert.Pool

/-- The kernel's rows of the projection, and the two states it keeps of them, are the reference's. -/
theorem algebraic : Cert.algebraic_PoolKernelIdeal_PoolReferenceIdeal := by
  intro m ρ m' ρ' _ hagree
  refine ⟨fun c => G m c, fun c => shapeCast _ (take (G m c) rows) Cert.PoolKernelIdeal.Gen.facts.shapeCasts_S60x2048_S1x4x15x2048,
    fun c => kept (m ((c.tc : Thread _ Cert.PoolKernelIdeal.τ).loc Cert.PoolKernelIdeal.main_arg3)) (steps (G m c)), ?_, ?_⟩
  · exact (θ_run Cert.PoolKernelIdeal.defs _ _).mono (fun r h c => ⟨(h.1 c).1, (h.1 c).2.1, (h.1 c).2.2, h.2 c⟩)
      (θ_run_and (run m ρ) (Cert.PoolKernelIdeal.Gen.unchanged m ρ))
  · refine (θ_run Cert.PoolReferenceIdeal.defs _ _).mono (fun r h c => ?_) (Cert.PoolReferenceIdeal.Value.run m' ρ')
    obtain ⟨e0, e1, e2, e3⟩ := hagree c
    obtain ⟨h0, h1, h2, hk⟩ := h c
    rw [e0, e1, e2] at h0
    rw [e0, e2] at h1
    rw [e1, e2, e3] at h2
    have hG := fun R n => G_apply m c R n
    refine ⟨h0.trans ?_, h1.trans ?_, h2.trans ?_, hk⟩
    · refine (Cert.PoolReferenceIdeal.Read.val_main_v27_eq _ _ _).trans (funext fun i => ?_)
      obtain ⟨R, n, rfl⟩ : ∃ (R : Fin 8704) (n : Fin 2048), i = ix2 R n := ⟨i 0, i 1, eq_ix2 i⟩
      exact (Ref.rows_apply _ _ _ R n).trans (hG R n).symm
    · exact (Cert.PoolReferenceIdeal.Read.val_main_v19_eq _ _).trans (Ref.prompt_eq _ _ _ _ hG)
    · exact (Cert.PoolReferenceIdeal.Read.val_main_v23_eq _ _ _).trans (Ref.sample_eq _ _ _ _ _ hG)

end Cert.Pool

end
-- ==== Proof.GateZ.lean ====
/- The columns of the input projection that gate the state-space branch: what the kernel leaves in its result. -/
module

public import proofs.«01_k».proof.Proof.Rows
public import proofs.«01_k».proof.Proof.Gen.GateZKernelIdeal.Frame

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.GateZ

open Cert.GateZKernelIdeal Cert.GateZKernelIdeal.Gen
open Cert.Rows (dot)

variable (m : (ℓ : Loc nD τ sig) → Buf (Elt Ideal) ℓ)

theorem hz : (![0, 0] : Fin 2 → Nat) = fun _ => 0 := funext fun a => by fin_cases a <;> rfl

section Cases
variable {F : FTy → Type} [FloatOps F]
variable (c : Dev nD) (i : grid0.Coords) (a2 : Memref sig .tc .vmem S512x2048 .bf16) (h2 : a2.IsWhole)
  (a3 : Memref sig .tc .vmem S2048x1024 .f32) (h3 : a3.IsWhole) (a4 : Memref sig .tc .vmem S512x1024 .bf16) (h4 : a4.IsWhole)
  (a5 : Memref sig .tc .vmem S2048x1024 .bf16) (h5 : a5.IsWhole)
  (x0 : Vec F S512x2048 .bf16) (x1 : Vec F S2048x1024 .f32) (xs : Vec F S2048x1024 .bf16)

/-- At a column block's first point the body casts the weights into the scratch. -/
theorem sout_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S2048x1024) hz]

/-- The block the first point stores, over the weights just cast. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S2048x1024) hz,
    View.ld_unit_zero (S := S512x2048) hz, View.readCov_unit_zero (S := S2048x1024) _ hz]

/-- The block a later point stores, over the weights carried in the scratch. -/
theorem out_B (hc : ¬cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz]
  simp only [View.readAt_eq_ld, h2.read_unread, h5.read_unread, View.ld_unit_zero (S := S2048x1024) hz,
    View.ld_unit_zero (S := S512x2048) hz]

end Cases

theorem pay1_apply (x : Vec Ideal S2048x1024 .f32) (y : S2048x1024.Idx) : k0_pay1 x y = x y := by
  unfold k0_pay1
  simp only [shapeCast_self]
  rfl

theorem pay2_apply (x : Vec Ideal S512x2048 .bf16) (w : Vec Ideal S2048x1024 .bf16) (r : Fin 512) (n : Fin 1024) :
    k0_pay2 x w (ix2 r n) = dot x w r n := by
  unfold k0_pay2
  simp only [shapeCast_self]
  refine (Ideal.matmul_plain_apply (φ₁ := .bf16) (φ₂ := .bf16) (M := 512) (K := 2048) (N := 1024) none x w (constant S512x1024 .f32 0x00000000#32) r n).trans ?_
  show Ideal.ofBits .f32 0x00000000#32 + _ = _
  rw [Ideal.ofBits_zero_f32, zero_add]
  rfl

/-! ## The region -/

theorem idx0 : ∀ t : Fin cfg0.N, win0_0.index t (0 : Fin 2) = t.val % 17 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 2 + t.val / 17 :=
  (by decide +kernel : ∀ t : Fin grid0.N, _)
theorem idx2 : ∀ t : Fin cfg0.N, win0_2.index t (0 : Fin 2) = t.val % 17 ∧ win0_2.index t (1 : Fin 2) = t.val / 17 :=
  (by decide +kernel : ∀ t : Fin grid0.N, _)

/-- The activations' block at a point. -/
theorem iblk0_apply (c : Dev nD) (t : Fin cfg0.N) (r : Fin 512) (k : Fin 2048) (R : Fin 8704) (hR : R.val = 512 * (t.val % 17) + r.val) :
    iblk m c 0 t (ix2 r k) = V m c main_v4 (ix2 R k) := by
  obtain ⟨e0, e1⟩ := idx0 t
  show V m c main_v4 _ = _
  congr 1
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

/-- The weights' block at a point. -/
theorem X1_apply (c : Dev nD) (t : Fin cfg0.N) (k : Fin 2048) (n : Fin 1024) (C : Fin 16448) (hC : C.val = 2048 + 1024 * (t.val / 17) + n.val) :
    X0_1 m c t (ix2 k n) = V m c main_v5 (ix2 k C) := by
  obtain ⟨e0, e1⟩ := idx1 t
  unfold X0_1 Pipeline.Window.fill
  refine (dif_pos (moved0_1 t (ix2 k n))).trans ?_
  show V m c main_v5 _ = _
  congr 1
  funext a; apply Fin.ext
  match a with
  | ⟨0, _⟩ => show win0_1.index t (0 : Fin 2) * 2048 + 1 * k.val = k.val; omega
  | ⟨1, _⟩ => show win0_1.index t (1 : Fin 2) * 1024 + 1 * n.val = C.val; omega

/-- The scratch after any point holds the weights of the point's own column block. -/
theorem carried (c : Dev nD) : ∀ (n : ℕ) (h : n < cfg0.N) (k : Fin 2048) (q : Fin 1024) (C : Fin 16448),
    C.val = 2048 + 1024 * (n / 17) + q.val → (outsAt0 m c n h).2 (ix2 k q) = V m c main_v5 (ix2 k C) := by
  intro n
  induction n using Nat.strong_induction_on with
  | _ n ih =>
    intro h k q C hC
    by_cases h0 : n % 17 = 0
    · rw [outsAt0_A m c ⟨n, h⟩ h0]
      dsimp only
      rw [sout_A]
      exact (pay1_apply _ _).trans (X1_apply m c ⟨n, h⟩ k q C hC)
    · rw [outsAt0_B m c ⟨n, h⟩ h0]
      have hd : (n - 1) / 17 = n / 17 := by omega
      have := ih (n - 1) (by omega) (Nat.lt_of_le_of_lt (Nat.sub_le _ _) h) k q C (by omega)
      dsimp only
      exact this

/-- The block a point leaves in the output's staging buffer. -/
theorem out_apply (c : Dev nD) (n : ℕ) (h : n < cfg0.N) (r : Fin 512) (q : Fin 1024) (R : Fin 8704) (hR : R.val = 512 * (n % 17) + r.val)
    (C : Fin 16448) (hC : C.val = 2048 + 1024 * (n / 17) + q.val) :
    (outsAt0 m c n h).1 (ix2 r q) = dot (V m c main_v4) (V m c main_v5) R C := by
  have hx : ∀ k, iblk m c 0 ⟨n, h⟩ (ix2 r k) = V m c main_v4 (ix2 R k) := fun k => iblk0_apply m c ⟨n, h⟩ r k R hR
  by_cases h0 : n % 17 = 0
  · rw [outsAt0_A m c ⟨n, h⟩ h0]
    dsimp only
    rw [out_A, pay2_apply]
    exact Finset.sum_congr rfl fun k _ => congrArg₂ (· * ·) (hx k) ((pay1_apply _ _).trans (X1_apply m c ⟨n, h⟩ k q C hC))
  · rw [outsAt0_B m c ⟨n, h⟩ h0]
    dsimp only
    rw [out_B, pay2_apply]
    have hd : (n - 1) / 17 = n / 17 := by omega
    exact Finset.sum_congr rfl fun k _ => congrArg₂ (· * ·) (hx k)
      (carried m c (n - 1) (Nat.lt_of_le_of_lt (Nat.sub_le _ _) h) k q C (by rw [hd]; exact hC))

/-- The region's array: the rows times the columns from 2048 on. -/
def G (c : Dev nD) : Buf (Elt Ideal) ((c : Thread nD τ).loc main_v6) := fun i =>
  dot (V m c main_v4) (V m c main_v5) (⟨(i 0).val, (i 0).isLt⟩ : Fin 8704)
    (⟨2048 + (i 1).val, by have := (i 1).isLt; change (i 1).val < 4096 at this; omega⟩ : Fin 16448)

theorem flushed (c : Dev nD) (t : Fin cfg0.N) : (dats m 0 c).flushed 2 t = ((cfg0.win 2).blk t).view.read (Elt Ideal) (G m c) := by
  show (cfg0.win 2).cut (grid0.coords t) ((dats m 0 c).after 2 t) = _
  rw [after0_2]
  obtain ⟨e0, e1⟩ := idx2 t
  funext y
  have hy : (cfg0.win 2).xinj (grid0.coords t) y = ix2 (⟨(y 0).val, (y 0).isLt⟩ : Fin 512) (⟨(y 1).val, (y 1).isLt⟩ : Fin 1024) := by
    funext a; match a with | ⟨0, _⟩ => rfl | ⟨1, _⟩ => rfl
  show (outsAt0 m c t.val t.isLt).1 ((cfg0.win 2).xinj (grid0.coords t) y) = G m c (((cfg0.win 2).blk t).view.emb y)
  rw [hy]
  refine out_apply m c t.val t.isLt _ _ _ ?_ _ ?_
  · show win0_2.index t (0 : Fin 2) * 512 + 1 * (y 0).val = 512 * (t.val % 17) + (y 0).val; omega
  · show 2048 + (win0_2.index t (1 : Fin 2) * 1024 + 1 * (y 1).val) = 2048 + 1024 * (t.val / 17) + (y 1).val; omega

theorem covered (i : S8704x4096.Idx) : ∃ t : Fin cfg0.N, (cfg0.win 2).flush t = true ∧ i ∈ ((cfg0.win 2).blk t).view.set := by
  have hi0 : (i 0).val < 8704 := (i 0).isLt
  have hi1 : (i 1).val < 4096 := (i 1).isLt
  have hN : cfg0.N = 68 := N_0
  obtain ⟨t, ht⟩ : ∃ t : Fin cfg0.N, t.val = (i 0).val / 512 + 17 * ((i 1).val / 1024) :=
    ⟨⟨(i 0).val / 512 + 17 * ((i 1).val / 1024), by omega⟩, rfl⟩
  obtain ⟨e0, e1⟩ := idx2 t
  refine ⟨t, (by decide +kernel : ∀ t : Fin grid0.N, win0_2.flush t = true) t, ?_⟩
  show i ∈ ((View.whole main_v6).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array after the region. -/
theorem final (c : Dev nD) : (dats m 0 c).arrAt 2 cfg0.N = G m c :=
  (dats m 0 c).arrAt_eq_of_cover 2 _ (fun t _ => flushed m c t) covered

/-! ## The host's operands -/

theorem V4_apply (c : Dev nD) (R : Fin 8704) (k : Fin 2048) :
    V m c main_v4 (ix2 R k) = Rows.packed (m ((c : Thread nD τ).loc main_arg0)) (m ((c : Thread nD τ).loc main_arg1)) R k := by
  have e : V m c main_v4 = truncf (F := Ideal) .bf16 (concatenate S8704x2048 0
      [⟨S8192x2048, shapeCast _ (m ((c : Thread nD τ).loc main_arg0)) shapeCasts_S4x2048x2048_S8192x2048⟩,
       ⟨S512x2048, shapeCast _ (transpose S4x128x2048 [1, 0, 2] (m ((c : Thread nD τ).loc main_arg1)) transposes_S128x4x2048_S4x128x2048_1_0_2)
          shapeCasts_S4x128x2048_S512x2048⟩] concatenates_S8192x2048_S512x2048_S8704x2048_d0) bitsLt_bf16_f32 := by
    show StableHlo.after hostOps0 _ _ = _
    after_results <;> rfl
  rw [e]
  exact Rows.pack_apply _ _ _ _ _ concatenates_S8192x2048_S512x2048_S8704x2048_d0 R k

theorem V5_apply (c : Dev nD) (k : Fin 2048) (n : Fin 16448) :
    V m c main_v5 (ix2 k n) = m ((c : Thread nD τ).loc main_arg2) (ix3 0 k n) := by
  have e : V m c main_v5 = shapeCast _ (m ((c : Thread nD τ).loc main_arg2)) shapeCasts_S1x2048x16448_S2048x16448 := by
    show StableHlo.after hostOps0 _ _ = _
    after_results <;> rfl
  rw [e]
  exact Rows.dropLead_apply _ _ k n

/-- The same columns of the packed rows' projection. -/
def proj (p : S4x2048x2048.Idx → EReal) (s : S128x4x2048.Idx → EReal) (w : S1x2048x16448.Idx → EReal) (R : Fin 8704) (n : Fin 4096) : EReal :=
  ∑ k, Rows.packed p s R k * w (ix3 0 k (⟨2048 + n.val, by omega⟩ : Fin 16448))

theorem G_apply (c : Dev nD) (R : Fin 8704) (n : Fin 4096) :
    G m c (ix2 R n) = proj (m ((c : Thread nD τ).loc main_arg0)) (m ((c : Thread nD τ).loc main_arg1)) (m ((c : Thread nD τ).loc main_arg2)) R n := by
  show dot (V m c main_v4) (V m c main_v5) R (⟨2048 + n.val, by omega⟩ : Fin 16448) = _
  exact Finset.sum_congr rfl fun k _ => congrArg₂ (fun a b : EReal => a * b) (V4_apply m c R k) (V5_apply m c k _)

/-! ## The run -/

/-- Every run ends with these columns in the result. -/
theorem run (ρ : Dev nD → PrngReg) : θ_run defs (onTc (τ := τ) (main (F := Ideal))) ⟨m, fun _ => 0, ρ⟩ fun r => ∀ c : Dev nD,
      r.2.mem ((c : Thread nD τ).loc main_v6) = G m c :=
  (θ_run defs _ _).mono (fun _ h c => ((h c).1 2).trans (final m c)) (run_main m ρ)

end Cert.GateZ

end
-- ==== Proof.GateZRef.lean ====
/- The reference's columns of the input projection that gate the state-space branch, read at an index, and the claim. -/
module

public import proofs.«01_k».proof.Defs
public import proofs.«01_k».proof.Proof.GateZ
public import proofs.«01_k».proof.Proof.Gen.GateZReferenceIdeal.Run
public import proofs.«01_k».proof.Proof.Gen.GateZReferenceIdeal.Read
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.GateZ.Ref

open Cert.GateZReferenceIdeal Cert.GateZReferenceIdeal.Gen Cert.GateZReferenceIdeal.Read

variable (x0 : (⟨S4x2048x2048, .f32⟩ : BufTy).Contents (Elt Ideal)) (x1 : (⟨S128x4x2048, .f32⟩ : BufTy).Contents (Elt Ideal))
  (x2 : (⟨S1x2048x16448, .f32⟩ : BufTy).Contents (Elt Ideal))

theorem prompt_all_apply (b : Fin 4) (t : Fin 2048) (C : Fin 16448) :
    val_main_v1 x0 x2 (ix3 b t C) = ∑ k, x0 (ix3 b t k) * x2 (ix3 0 k C) := by
  rw [val_main_v1_apply]
  refine Finset.sum_congr rfl fun k _ => congrArg₂ (fun a b : EReal => a * b) (congrArg x0 ?_) ?_
  · funext a; match a with | ⟨0, _⟩ => rfl | ⟨1, _⟩ => rfl | ⟨2, _⟩ => rfl
  · rw [show ridx_main_v1 (ix3 b t C) k = ix2 k C from by funext a; match a with | ⟨0, _⟩ => rfl | ⟨1, _⟩ => rfl]
    exact Rows.dropLead_apply x2 _ k C

theorem prompt_apply (b : Fin 4) (t : Fin 2048) (n : Fin 4096) :
    val_main_v3 x0 x2 (ix3 b t n) = ∑ k, x0 (ix3 b t k) * x2 (ix3 0 k (⟨2048 + n.val, by omega⟩ : Fin 16448)) := by
  rw [val_main_v3_apply, ← prompt_all_apply]
  congr 1; funext a; match a with | ⟨0, _⟩ => rfl | ⟨1, _⟩ => rfl | ⟨2, _⟩ => rfl

theorem sample_all_apply (b : Fin 128) (t : Fin 4) (C : Fin 16448) :
    val_main_v9 x1 x2 (ix3 b t C) = ∑ k, x1 (ix3 b t k) * x2 (ix3 0 k C) := by
  rw [val_main_v9_apply]
  refine Finset.sum_congr rfl fun k _ => congrArg₂ (fun a b : EReal => a * b) (congrArg x1 ?_) ?_
  · funext a; match a with | ⟨0, _⟩ => rfl | ⟨1, _⟩ => rfl | ⟨2, _⟩ => rfl
  · rw [show ridx_main_v9 (ix3 b t C) k = ix2 k C from by funext a; match a with | ⟨0, _⟩ => rfl | ⟨1, _⟩ => rfl]
    exact Rows.dropLead_apply x2 _ k C

theorem sample_apply (b : Fin 128) (t : Fin 4) (n : Fin 4096) :
    val_main_v11 x1 x2 (ix3 b t n) = ∑ k, x1 (ix3 b t k) * x2 (ix3 0 k (⟨2048 + n.val, by omega⟩ : Fin 16448)) := by
  rw [val_main_v11_apply, ← sample_all_apply]
  congr 1; funext a; match a with | ⟨0, _⟩ => rfl | ⟨1, _⟩ => rfl | ⟨2, _⟩ => rfl

/-- The reference's rows are the same columns. -/
theorem result_apply (R : Fin 8704) (n : Fin 4096) : val_main_v20 x0 x1 x2 (ix2 R n) = proj x0 x1 x2 R n := by
  refine (Rows.pack_apply (val_main_v3 x0 x2) (val_main_v11 x1 x2) _ _ _ concatenates_S8192x4096_S512x4096_S8704x4096_d0 R n).trans ?_
  unfold proj Rows.packed
  by_cases h : R.val < 8192
  · simp only [dif_pos h]; exact prompt_apply x0 x2 _ _ n
  · simp only [dif_neg h]; exact sample_apply x1 x2 _ _ n

end Cert.GateZ.Ref

namespace Cert.GateZ

/-- The kernel's columns of the projection for z are the reference's. -/
theorem algebraic : Cert.algebraic_GateZKernelIdeal_GateZReferenceIdeal := by
  intro m ρ m' ρ' _ hagree
  refine ⟨fun c => G m c, ?_, ?_⟩
  · exact (θ_run Cert.GateZKernelIdeal.defs _ _).mono (fun r h c => ⟨h.1 c, h.2 c⟩)
      (θ_run_and (run m ρ) (Cert.GateZKernelIdeal.Gen.unchanged m ρ))
  · refine (θ_run Cert.GateZReferenceIdeal.defs _ _).mono (fun r h c => ?_) (Cert.GateZReferenceIdeal.Value.run m' ρ')
    obtain ⟨e0, e1, e2⟩ := hagree c
    obtain ⟨h0, hk⟩ := h c
    rw [e0, e1, e2] at h0
    refine ⟨h0.trans ?_, hk⟩
    refine (Cert.GateZReferenceIdeal.Read.val_main_v20_eq _ _ _).trans (funext fun i => ?_)
    obtain ⟨R, n, rfl⟩ : ∃ (R : Fin 8704) (n : Fin 4096), i = ix2 R n := ⟨i 0, i 1, eq_ix2 i⟩
    exact (Ref.result_apply _ _ _ R n).trans (G_apply m c R n).symm

end Cert.GateZ

end
-- ==== Proof.Gates.lean ====
/- The columns of the input projection that gate the two branches: what the kernel leaves in its result. -/
module

public import proofs.«01_k».proof.Proof.Rows
public import proofs.«01_k».proof.Proof.Gen.GatesKernelIdeal.Frame

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Gates

open Cert.GatesKernelIdeal Cert.GatesKernelIdeal.Gen
open Cert.Rows (dot)

variable (m : (ℓ : Loc nD τ sig) → Buf (Elt Ideal) ℓ)

theorem hz : (![0, 0] : Fin 2 → Nat) = fun _ => 0 := funext fun a => by fin_cases a <;> rfl

section Cases
variable {F : FTy → Type} [FloatOps F]
variable (c : Dev nD) (i : grid0.Coords) (a2 : Memref sig .tc .vmem S512x2048 .bf16) (h2 : a2.IsWhole)
  (a3 : Memref sig .tc .vmem S2048x1024 .f32) (h3 : a3.IsWhole) (a4 : Memref sig .tc .vmem S512x1024 .bf16) (h4 : a4.IsWhole)
  (a5 : Memref sig .tc .vmem S2048x1024 .bf16) (h5 : a5.IsWhole)
  (x0 : Vec F S512x2048 .bf16) (x1 : Vec F S2048x1024 .f32) (xs : Vec F S2048x1024 .bf16)

/-- At a column block's first point the body casts the weights into the scratch. -/
theorem sout_A (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S2048x1024) hz]

/-- The block the first point stores, over the weights just cast. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S2048x1024) hz,
    View.ld_unit_zero (S := S512x2048) hz, View.readCov_unit_zero (S := S2048x1024) _ hz]

/-- The block a later point stores, over the weights carried in the scratch. -/
theorem out_B (hc : ¬cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz]
  simp only [View.readAt_eq_ld, h2.read_unread, h5.read_unread, View.ld_unit_zero (S := S2048x1024) hz,
    View.ld_unit_zero (S := S512x2048) hz]

end Cases

theorem pay1_apply (x : Vec Ideal S2048x1024 .f32) (y : S2048x1024.Idx) : k0_pay1 x y = x y := by
  unfold k0_pay1
  simp only [shapeCast_self]
  rfl

theorem pay2_apply (x : Vec Ideal S512x2048 .bf16) (w : Vec Ideal S2048x1024 .bf16) (r : Fin 512) (n : Fin 1024) :
    k0_pay2 x w (ix2 r n) = dot x w r n := by
  unfold k0_pay2
  simp only [shapeCast_self]
  refine (Ideal.matmul_plain_apply (φ₁ := .bf16) (φ₂ := .bf16) (M := 512) (K := 2048) (N := 1024) none x w (constant S512x1024 .f32 0x00000000#32) r n).trans ?_
  show Ideal.ofBits .f32 0x00000000#32 + _ = _
  rw [Ideal.ofBits_zero_f32, zero_add]
  rfl

/-! ## The region -/

theorem idx0 : ∀ t : Fin cfg0.N, win0_0.index t (0 : Fin 2) = t.val % 17 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 17 :=
  (by decide +kernel : ∀ t : Fin grid0.N, _)
theorem idx2 : ∀ t : Fin cfg0.N, win0_2.index t (0 : Fin 2) = t.val % 17 ∧ win0_2.index t (1 : Fin 2) = t.val / 17 :=
  (by decide +kernel : ∀ t : Fin grid0.N, _)

/-- The activations' block at a point. -/
theorem iblk0_apply (c : Dev nD) (t : Fin cfg0.N) (r : Fin 512) (k : Fin 2048) (R : Fin 8704) (hR : R.val = 512 * (t.val % 17) + r.val) :
    iblk m c 0 t (ix2 r k) = V m c main_v5 (ix2 R k) := by
  obtain ⟨e0, e1⟩ := idx0 t
  show V m c main_v5 _ = _
  congr 1
  funext a; apply Fin.ext
  match a with
  | ⟨0, _⟩ => show win0_0.index t (0 : Fin 2) * 512 + 1 * r.val = R.val; omega
  | ⟨1, _⟩ => show win0_0.index t (1 : Fin 2) * 2048 + 1 * k.val = k.val; omega

/-- The weights' block at a point. -/
theorem X1_apply (c : Dev nD) (t : Fin cfg0.N) (k : Fin 2048) (n : Fin 1024) (C : Fin 4096) (hC : C.val = 1024 * (t.val / 17) + n.val) :
    iblk m c 1 t (ix2 k n) = V m c main_v6 (ix2 k C) := by
  obtain ⟨e0, e1⟩ := idx1 t
  show V m c main_v6 _ = _
  congr 1
  funext a; apply Fin.ext
  match a with
  | ⟨0, _⟩ => show win0_1.index t (0 : Fin 2) * 2048 + 1 * k.val = k.val; omega
  | ⟨1, _⟩ => show win0_1.index t (1 : Fin 2) * 1024 + 1 * n.val = C.val; omega

/-- The scratch after any point holds the weights of the point's own column block. -/
theorem carried (c : Dev nD) : ∀ (n : ℕ) (h : n < cfg0.N) (k : Fin 2048) (q : Fin 1024) (C : Fin 4096),
    C.val = 1024 * (n / 17) + q.val → (outsAt0 m c n h).2 (ix2 k q) = V m c main_v6 (ix2 k C) := by
  intro n
  induction n using Nat.strong_induction_on with
  | _ n ih =>
    intro h k q C hC
    by_cases h0 : n % 17 = 0
    · rw [outsAt0_A m c ⟨n, h⟩ h0]
      dsimp only
      rw [sout_A]
      exact (pay1_apply _ _).trans (X1_apply m c ⟨n, h⟩ k q C hC)
    · rw [outsAt0_B m c ⟨n, h⟩ h0]
      have hd : (n - 1) / 17 = n / 17 := by omega
      have := ih (n - 1) (by omega) (Nat.lt_of_le_of_lt (Nat.sub_le _ _) h) k q C (by omega)
      dsimp only
      exact this

/-- The block a point leaves in the output's staging buffer. -/
theorem out_apply (c : Dev nD) (n : ℕ) (h : n < cfg0.N) (r : Fin 512) (q : Fin 1024) (R : Fin 8704) (hR : R.val = 512 * (n % 17) + r.val)
    (C : Fin 4096) (hC : C.val = 1024 * (n / 17) + q.val) :
    (outsAt0 m c n h).1 (ix2 r q) = dot (V m c main_v5) (V m c main_v6) R C := by
  have hx : ∀ k, iblk m c 0 ⟨n, h⟩ (ix2 r k) = V m c main_v5 (ix2 R k) := fun k => iblk0_apply m c ⟨n, h⟩ r k R hR
  by_cases h0 : n % 17 = 0
  · rw [outsAt0_A m c ⟨n, h⟩ h0]
    dsimp only
    rw [out_A, pay2_apply]
    exact Finset.sum_congr rfl fun k _ => congrArg₂ (· * ·) (hx k) ((pay1_apply _ _).trans (X1_apply m c ⟨n, h⟩ k q C hC))
  · rw [outsAt0_B m c ⟨n, h⟩ h0]
    dsimp only
    rw [out_B, pay2_apply]
    have hd : (n - 1) / 17 = n / 17 := by omega
    exact Finset.sum_congr rfl fun k _ => congrArg₂ (· * ·) (hx k)
      (carried m c (n - 1) (Nat.lt_of_le_of_lt (Nat.sub_le _ _) h) k q C (by rw [hd]; exact hC))

/-- The region's array: the rows times the columns cut out for it. -/
def G (c : Dev nD) : Buf (Elt Ideal) ((c : Thread nD τ).loc main_v7) := fun i =>
  dot (V m c main_v5) (V m c main_v6) (⟨(i 0).val, (i 0).isLt⟩ : Fin 8704)
    (⟨(i 1).val, by have := (i 1).isLt; change (i 1).val < 4096 at this; omega⟩ : Fin 4096)

theorem flushed (c : Dev nD) (t : Fin cfg0.N) : (dats m 0 c).flushed 2 t = ((cfg0.win 2).blk t).view.read (Elt Ideal) (G m c) := by
  show (cfg0.win 2).cut (grid0.coords t) ((dats m 0 c).after 2 t) = _
  rw [after0_2]
  obtain ⟨e0, e1⟩ := idx2 t
  funext y
  have hy : (cfg0.win 2).xinj (grid0.coords t) y = ix2 (⟨(y 0).val, (y 0).isLt⟩ : Fin 512) (⟨(y 1).val, (y 1).isLt⟩ : Fin 1024) := by
    funext a; match a with | ⟨0, _⟩ => rfl | ⟨1, _⟩ => rfl
  show (outsAt0 m c t.val t.isLt).1 ((cfg0.win 2).xinj (grid0.coords t) y) = G m c (((cfg0.win 2).blk t).view.emb y)
  rw [hy]
  refine out_apply m c t.val t.isLt _ _ _ ?_ _ ?_
  · show win0_2.index t (0 : Fin 2) * 512 + 1 * (y 0).val = 512 * (t.val % 17) + (y 0).val; omega
  · show win0_2.index t (1 : Fin 2) * 1024 + 1 * (y 1).val = 1024 * (t.val / 17) + (y 1).val; omega

theorem covered (i : S8704x4096.Idx) : ∃ t : Fin cfg0.N, (cfg0.win 2).flush t = true ∧ i ∈ ((cfg0.win 2).blk t).view.set := by
  have hi0 : (i 0).val < 8704 := (i 0).isLt
  have hi1 : (i 1).val < 4096 := (i 1).isLt
  have hN : cfg0.N = 68 := N_0
  obtain ⟨t, ht⟩ : ∃ t : Fin cfg0.N, t.val = (i 0).val / 512 + 17 * ((i 1).val / 1024) :=
    ⟨⟨(i 0).val / 512 + 17 * ((i 1).val / 1024), by omega⟩, rfl⟩
  obtain ⟨e0, e1⟩ := idx2 t
  refine ⟨t, (by decide +kernel : ∀ t : Fin grid0.N, win0_2.flush t = true) t, ?_⟩
  show i ∈ ((View.whole main_v7).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array after the region. -/
theorem final (c : Dev nD) : (dats m 0 c).arrAt 2 cfg0.N = G m c :=
  (dats m 0 c).arrAt_eq_of_cover 2 _ (fun t _ => flushed m c t) covered

/-! ## The host's operands -/

theorem V5_apply (c : Dev nD) (R : Fin 8704) (k : Fin 2048) :
    V m c main_v5 (ix2 R k) = Rows.packed (m ((c : Thread nD τ).loc main_arg0)) (m ((c : Thread nD τ).loc main_arg1)) R k := by
  have e : V m c main_v5 = truncf (F := Ideal) .bf16 (concatenate S8704x2048 0
      [⟨S8192x2048, shapeCast _ (m ((c : Thread nD τ).loc main_arg0)) shapeCasts_S4x2048x2048_S8192x2048⟩,
       ⟨S512x2048, shapeCast _ (transpose S4x128x2048 [1, 0, 2] (m ((c : Thread nD τ).loc main_arg1)) transposes_S128x4x2048_S4x128x2048_1_0_2)
          shapeCasts_S4x128x2048_S512x2048⟩] concatenates_S8192x2048_S512x2048_S8704x2048_d0) bitsLt_bf16_f32 := by
    show StableHlo.after hostOps0 _ _ = _
    after_results <;> rfl
  rw [e]
  exact Rows.pack_apply _ _ _ _ _ concatenates_S8192x2048_S512x2048_S8704x2048_d0 R k

theorem V6_apply (c : Dev nD) (k : Fin 2048) (n : Fin 4096) :
    V m c main_v6 (ix2 k n) = m ((c : Thread nD τ).loc main_arg2) (ix3 0 k (⟨12352 + n.val, by omega⟩ : Fin 16448)) := by
  have e : V m c main_v6 = extractStridedSlice S2048x4096 ![0, 12352]
      (shapeCast _ (m ((c : Thread nD τ).loc main_arg2)) shapeCasts_S1x2048x16448_S2048x16448) slices_S2048x16448_S2048x4096_0_12352 := by
    show StableHlo.after hostOps0 _ _ = _
    after_results <;> rfl
  rw [e]
  refine (extractStridedSlice_apply _ _ slices_S2048x16448_S2048x4096_0_12352 _ (ix2 k (⟨12352 + n.val, by omega⟩ : Fin 16448)) (fun a => ?_)).trans
    (Rows.dropLead_apply _ _ k _)
  match a with
  | ⟨0, _⟩ => exact (Nat.zero_add _).symm
  | ⟨1, _⟩ => rfl

/-- The same columns of the packed rows' projection. -/
def proj (p : S4x2048x2048.Idx → EReal) (s : S128x4x2048.Idx → EReal) (w : S1x2048x16448.Idx → EReal) (R : Fin 8704) (n : Fin 4096) : EReal :=
  ∑ k, Rows.packed p s R k * w (ix3 0 k (⟨12352 + n.val, by omega⟩ : Fin 16448))

theorem G_apply (c : Dev nD) (R : Fin 8704) (n : Fin 4096) :
    G m c (ix2 R n) = proj (m ((c : Thread nD τ).loc main_arg0)) (m ((c : Thread nD τ).loc main_arg1)) (m ((c : Thread nD τ).loc main_arg2)) R n := by
  show dot (V m c main_v5) (V m c main_v6) R n = _
  exact Finset.sum_congr rfl fun k _ => congrArg₂ (fun a b : EReal => a * b) (V5_apply m c R k) (V6_apply m c k _)

/-! ## The run -/

/-- Every run ends with these columns in the result. -/
theorem run (ρ : Dev nD → PrngReg) : θ_run defs (onTc (τ := τ) (main (F := Ideal))) ⟨m, fun _ => 0, ρ⟩ fun r => ∀ c : Dev nD,
      r.2.mem ((c : Thread nD τ).loc main_v7) = G m c :=
  (θ_run defs _ _).mono (fun _ h c => ((h c).1 2).trans (final m c)) (run_main m ρ)

end Cert.Gates

end
-- ==== Proof.GatesRef.lean ====
/- The reference's columns of the input projection that gate the two branches, read at an index, and the claim. -/
module

public import proofs.«01_k».proof.Defs
public import proofs.«01_k».proof.Proof.Gates
public import proofs.«01_k».proof.Proof.Gen.GatesReferenceIdeal.Run
public import proofs.«01_k».proof.Proof.Gen.GatesReferenceIdeal.Read
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.Gates.Ref

open Cert.GatesReferenceIdeal Cert.GatesReferenceIdeal.Gen Cert.GatesReferenceIdeal.Read

variable (x0 : (⟨S4x2048x2048, .f32⟩ : BufTy).Contents (Elt Ideal)) (x1 : (⟨S128x4x2048, .f32⟩ : BufTy).Contents (Elt Ideal))
  (x2 : (⟨S1x2048x16448, .f32⟩ : BufTy).Contents (Elt Ideal))

theorem prompt_all_apply (b : Fin 4) (t : Fin 2048) (C : Fin 16448) :
    val_main_v1 x0 x2 (ix3 b t C) = ∑ k, x0 (ix3 b t k) * x2 (ix3 0 k C) := by
  rw [val_main_v1_apply]
  refine Finset.sum_congr rfl fun k _ => congrArg₂ (fun a b : EReal => a * b) (congrArg x0 ?_) ?_
  · funext a; match a with | ⟨0, _⟩ => rfl | ⟨1, _⟩ => rfl | ⟨2, _⟩ => rfl
  · rw [show ridx_main_v1 (ix3 b t C) k = ix2 k C from by funext a; match a with | ⟨0, _⟩ => rfl | ⟨1, _⟩ => rfl]
    exact Rows.dropLead_apply x2 _ k C

theorem prompt_apply (b : Fin 4) (t : Fin 2048) (n : Fin 4096) :
    val_main_v8 x0 x2 (ix3 b t n) = ∑ k, x0 (ix3 b t k) * x2 (ix3 0 k (⟨12352 + n.val, by omega⟩ : Fin 16448)) := by
  by_cases h : n.val < 2048
  · refine (concatenate_pair_apply_left (t := S4x2048x4096) (s₁ := S4x2048x2048) (s₂ := S4x2048x2048) 2 (val_main_v6 x0 x2) (val_main_v7 x0 x2)
      concatenates_S4x2048x2048_S4x2048x2048_S4x2048x4096_d2 (ix3 b t n) rfl (ix3 b t (⟨n.val, h⟩ : Fin 2048))
      (fun a => match a with | ⟨0, _⟩ => rfl | ⟨1, _⟩ => rfl | ⟨2, _⟩ => rfl)).trans ?_
    rw [val_main_v6_apply, ← prompt_all_apply]
    congr 1; funext a; match a with | ⟨0, _⟩ => rfl | ⟨1, _⟩ => rfl | ⟨2, _⟩ => rfl
  · refine (concatenate_pair_apply_right (t := S4x2048x4096) (s₁ := S4x2048x2048) (s₂ := S4x2048x2048) 2 (val_main_v6 x0 x2) (val_main_v7 x0 x2)
      concatenates_S4x2048x2048_S4x2048x2048_S4x2048x4096_d2 (ix3 b t n) rfl rfl (ix3 b t (⟨n.val - 2048, by omega⟩ : Fin 2048))
      (fun a ha => match a with | ⟨0, _⟩ => rfl | ⟨1, _⟩ => rfl | ⟨2, _⟩ => absurd rfl ha)
      (show n.val - 2048 + 2048 = n.val by omega)).trans ?_
    rw [val_main_v7_apply, ← prompt_all_apply]
    congr 1; funext a; apply Fin.ext
    match a with
    | ⟨0, _⟩ => rfl
    | ⟨1, _⟩ => rfl
    | ⟨2, _⟩ => show 14400 + (n.val - 2048) = 12352 + n.val; omega

theorem sample_all_apply (b : Fin 128) (t : Fin 4) (C : Fin 16448) :
    val_main_v10 x1 x2 (ix3 b t C) = ∑ k, x1 (ix3 b t k) * x2 (ix3 0 k C) := by
  rw [val_main_v10_apply]
  refine Finset.sum_congr rfl fun k _ => congrArg₂ (fun a b : EReal => a * b) (congrArg x1 ?_) ?_
  · funext a; match a with | ⟨0, _⟩ => rfl | ⟨1, _⟩ => rfl | ⟨2, _⟩ => rfl
  · rw [show ridx_main_v10 (ix3 b t C) k = ix2 k C from by funext a; match a with | ⟨0, _⟩ => rfl | ⟨1, _⟩ => rfl]
    exact Rows.dropLead_apply x2 _ k C

theorem sample_apply (b : Fin 128) (t : Fin 4) (n : Fin 4096) :
    val_main_v17 x1 x2 (ix3 b t n) = ∑ k, x1 (ix3 b t k) * x2 (ix3 0 k (⟨12352 + n.val, by omega⟩ : Fin 16448)) := by
  by_cases h : n.val < 2048
  · refine (concatenate_pair_apply_left (t := S128x4x4096) (s₁ := S128x4x2048) (s₂ := S128x4x2048) 2 (val_main_v15 x1 x2) (val_main_v16 x1 x2)
      concatenates_S128x4x2048_S128x4x2048_S128x4x4096_d2 (ix3 b t n) rfl (ix3 b t (⟨n.val, h⟩ : Fin 2048))
      (fun a => match a with | ⟨0, _⟩ => rfl | ⟨1, _⟩ => rfl | ⟨2, _⟩ => rfl)).trans ?_
    rw [val_main_v15_apply, ← sample_all_apply]
    congr 1; funext a; match a with | ⟨0, _⟩ => rfl | ⟨1, _⟩ => rfl | ⟨2, _⟩ => rfl
  · refine (concatenate_pair_apply_right (t := S128x4x4096) (s₁ := S128x4x2048) (s₂ := S128x4x2048) 2 (val_main_v15 x1 x2) (val_main_v16 x1 x2)
      concatenates_S128x4x2048_S128x4x2048_S128x4x4096_d2 (ix3 b t n) rfl rfl (ix3 b t (⟨n.val - 2048, by omega⟩ : Fin 2048))
      (fun a ha => match a with | ⟨0, _⟩ => rfl | ⟨1, _⟩ => rfl | ⟨2, _⟩ => absurd rfl ha)
      (show n.val - 2048 + 2048 = n.val by omega)).trans ?_
    rw [val_main_v16_apply, ← sample_all_apply]
    congr 1; funext a; apply Fin.ext
    match a with
    | ⟨0, _⟩ => rfl
    | ⟨1, _⟩ => rfl
    | ⟨2, _⟩ => show 14400 + (n.val - 2048) = 12352 + n.val; omega

/-- The reference's rows are the same columns. -/
theorem result_apply (R : Fin 8704) (n : Fin 4096) : val_main_v22 x0 x1 x2 (ix2 R n) = proj x0 x1 x2 R n := by
  refine (Rows.pack_apply (val_main_v8 x0 x2) (val_main_v17 x1 x2) _ _ _ concatenates_S8192x4096_S512x4096_S8704x4096_d0 R n).trans ?_
  unfold proj Rows.packed
  by_cases h : R.val < 8192
  · simp only [dif_pos h]; exact prompt_apply x0 x2 _ _ n
  · simp only [dif_neg h]; exact sample_apply x1 x2 _ _ n

end Cert.Gates.Ref

namespace Cert.Gates

/-- The kernel's columns of the projection for the two gates are the reference's. -/
theorem algebraic : Cert.algebraic_GatesKernelIdeal_GatesReferenceIdeal := by
  intro m ρ m' ρ' _ hagree
  refine ⟨fun c => G m c, ?_, ?_⟩
  · exact (θ_run Cert.GatesKernelIdeal.defs _ _).mono (fun r h c => ⟨h.1 c, h.2 c⟩)
      (θ_run_and (run m ρ) (Cert.GatesKernelIdeal.Gen.unchanged m ρ))
  · refine (θ_run Cert.GatesReferenceIdeal.defs _ _).mono (fun r h c => ?_) (Cert.GatesReferenceIdeal.Value.run m' ρ')
    obtain ⟨e0, e1, e2⟩ := hagree c
    obtain ⟨h0, hk⟩ := h c
    rw [e0, e1, e2] at h0
    refine ⟨h0.trans ?_, hk⟩
    refine (Cert.GatesReferenceIdeal.Read.val_main_v22_eq _ _ _).trans (funext fun i => ?_)
    obtain ⟨R, n, rfl⟩ : ∃ (R : Fin 8704) (n : Fin 4096), i = ix2 R n := ⟨i 0, i 1, eq_ix2 i⟩
    exact (Ref.result_apply _ _ _ R n).trans (G_apply m c R n).symm

end Cert.Gates

end
-- ==== Proof.MergeWeights.lean ====
/- The branches' projection weights as the merge keeps them: copied from the argument block by block, cast, and stored. -/
module

public import proofs.«01_k».proof.Proof.Rows
public import proofs.«01_k».proof.Proof.Gen.MergeKernelIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.ValueIdx

namespace Cert.Merge

open Cert.MergeKernelIdeal Cert.MergeKernelIdeal.Gen

/-- A staged block of the weights, cast: the same numbers. -/
theorem cast_apply (x : Vec Ideal S1x256x2048 .f32) (r : Fin 256) (n : Fin 2048) : k0_pay3 x (ix2 r n) = x (ix3 0 r n) := by
  unfold k0_pay3
  simp only [shapeCast_self]
  exact Rows.dropLead_apply _ _ r n

variable (c : Dev nD) (fh0 : HbBuf0 (F := Ideal) c hbM0_0) (fh1 : HbBuf0 (F := Ideal) c hbM0_1)

/-- The pool branch's weights. -/
def pool : Vec Ideal S2048x2048 .bf16 := fun y => fh0 (ix3 0 (⟨(y 0).val, (y 0).isLt⟩ : Fin 2048) (⟨(y 1).val, (y 1).isLt⟩ : Fin 2048))

/-- The state-space branch's. -/
def ssm : Vec Ideal S4096x2048 .bf16 := fun y => fh1 (ix3 0 (⟨(y 0).val, (y 0).isLt⟩ : Fin 4096) (⟨(y 1).val, (y 1).isLt⟩ : Fin 2048))

/-- A block of rows copied from the pool branch's argument and cast is those rows of the weights. -/
theorem pool_block (o : ℕ) (i3 : ∀ a, ![0, o, 0] a + S1x256x2048.size a ≤ S1x2048x2048.size a)
    (i2 : ∀ a, ![o, 0] a + S256x2048.size a ≤ S2048x2048.size a) (p) (x : S256x2048.Idx) :
    k0_pay3 (ReadAs.same.apply (View.read (Elt Ideal)
      ((Memref.whole main_arg8).slice (Rect.unit ![0, o, 0] S1x256x2048.size i3) p).view fh0)) x
      = pool c fh0 ((Rect.unit (s := S2048x2048) ![o, 0] S256x2048.size i2).emb x) := by
  obtain ⟨r, n, rfl⟩ : ∃ (r : Fin 256) (n : Fin 2048), x = ix2 r n := ⟨x 0, x 1, eq_ix2 x⟩
  refine (cast_apply _ r n).trans ?_
  show fh0 _ = fh0 _
  congr 1
  funext a; apply Fin.ext
  match a with
  | ⟨0, _⟩ => rfl
  | ⟨1, _⟩ => rfl
  | ⟨2, _⟩ => rfl

/-- A block of rows copied from the state-space branch's argument and cast is those rows of the weights. -/
theorem ssm_block (o : ℕ) (i3 : ∀ a, ![0, o, 0] a + S1x256x2048.size a ≤ S1x4096x2048.size a)
    (i2 : ∀ a, ![o, 0] a + S256x2048.size a ≤ S4096x2048.size a) (p) (x : S256x2048.Idx) :
    k0_pay3 (ReadAs.same.apply (View.read (Elt Ideal)
      ((Memref.whole main_arg9).slice (Rect.unit ![0, o, 0] S1x256x2048.size i3) p).view fh1)) x
      = ssm c fh1 ((Rect.unit (s := S4096x2048) ![o, 0] S256x2048.size i2).emb x) := by
  obtain ⟨r, n, rfl⟩ : ∃ (r : Fin 256) (n : Fin 2048), x = ix2 r n := ⟨x 0, x 1, eq_ix2 x⟩
  refine (cast_apply _ r n).trans ?_
  show fh1 _ = fh1 _
  congr 1
  funext a; apply Fin.ext
  match a with
  | ⟨0, _⟩ => rfl
  | ⟨1, _⟩ => rfl
  | ⟨2, _⟩ => rfl

/-- The staging buffer read where the last copy landed. -/
theorem staged_last {S : Shape} {e : EltTy} (v : View sig .tc .vmem S e) (r : Rect S) (w : r.shape.Idx → Elt Ideal e) (L : List (View.Piece (Elt Ideal) S e)) :
    v.readCov (⟨r, w⟩ :: L) r.toLoadRect = w := View.readCov_cons_toLoadRect v r w L

/-- The staging buffer read where the copy before the last landed, the last having landed in the other half. -/
theorem staged_before {S : Shape} {e : EltTy} (v : View sig .tc .vmem S e) (q : Rect S) (u : q.shape.Idx → Elt Ideal e) (r : Rect S)
    (w : r.shape.Idx → Elt Ideal e) (L : List (View.Piece (Elt Ideal) S e)) (h : LoadRect.disj q r.toLoadRect = true) :
    v.readCov (⟨q, u⟩ :: ⟨r, w⟩ :: L) r.toLoadRect = w :=
  (View.readCov_skip v q u _ _ h).trans (View.readCov_cons_toLoadRect v r w L)

section Cases
variable (i : grid0.Coords) (arg1 : Memref sig .tc .vmem S256x2048 .bf16) (harg1 : arg1.IsWhole) (arg2 : Memref sig .tc .vmem S256x2048 .bf16) (harg2 : arg2.IsWhole)
  (arg3 : Memref sig .tc .vmem S256x4096 .bf16) (harg3 : arg3.IsWhole) (arg4 : Memref sig .tc .vmem S256x4096 .bf16) (harg4 : arg4.IsWhole)
  (arg5 : Memref sig .tc .vmem S256x2048 .bf16) (harg5 : arg5.IsWhole) (arg6 : Memref sig .tc .vmem S256x2048 .bf16) (harg6 : arg6.IsWhole)
  (arg9 : Memref sig .tc .vmem S256x2048 .bf16) (harg9 : arg9.IsWhole) (arg10 : Memref sig .tc .vmem S2048x2048 .bf16) (harg10 : arg10.IsWhole)
  (arg11 : Memref sig .tc .vmem S4096x2048 .bf16) (harg11 : arg11.IsWhole) (arg12 : Memref sig .tc .vmem S2x256x2048 .f32) (harg12 : arg12.IsWhole)
  (x0 x1 : Vec Ideal S256x2048 .bf16) (x2 x3 : Vec Ideal S256x4096 .bf16) (x4 x5 : Vec Ideal S256x2048 .bf16)
  (xs0 : Vec Ideal S2048x2048 .bf16) (xs1 : Vec Ideal S4096x2048 .bf16)

/-- The first point's stores into the pool branch's scratch leave its weights. -/
theorem pool_canon (hc0 : cond0_0 i) : View.canon (kernelRun0_A c i arg1 harg1 arg2 harg2 arg3 harg3 arg4 harg4 arg5 harg5 arg6 harg6 arg9 harg9 arg10 harg10 arg11 harg11 arg12 harg12 hc0 x0 x1 x2 x3 x4 x5 fh0 fh1).2.1 = pool c fh0 := by
  funext y
  refine View.canon_apply_of_pieces (pool c fh0) _ (View.PiecesOf.mem ?_) y (scover0_A_0 c i arg1 harg1 arg2 harg2 arg3 harg3 arg4 harg4 arg5 harg5 arg6 harg6 arg9 harg9 arg10 harg10 arg11 harg11 arg12 harg12 hc0 x0 x1 x2 x3 x4 x5 fh0 fh1 y)
  unfold kernelRun0_A
  dsimp only
  sl_unfold_words
  exact ⟨fun x => (congrArg (fun v => k0_pay3 v x) (staged_last _ _ _ _)).trans (pool_block c fh0 1792 inb_S1x2048x2048_S1x256x2048_0_1792_0 inb_S2048x2048_S256x2048_1792_0 _ x),
    fun x => (congrArg (fun v => k0_pay3 v x) (staged_before _ _ _ _ _ _ (by decide))).trans (pool_block c fh0 1536 inb_S1x2048x2048_S1x256x2048_0_1536_0 inb_S2048x2048_S256x2048_1536_0 _ x),
    fun x => (congrArg (fun v => k0_pay3 v x) (staged_before _ _ _ _ _ _ (by decide))).trans (pool_block c fh0 1280 inb_S1x2048x2048_S1x256x2048_0_1280_0 inb_S2048x2048_S256x2048_1280_0 _ x),
    fun x => (congrArg (fun v => k0_pay3 v x) (staged_before _ _ _ _ _ _ (by decide))).trans (pool_block c fh0 1024 inb_S1x2048x2048_S1x256x2048_0_1024_0 inb_S2048x2048_S256x2048_1024_0 _ x),
    fun x => (congrArg (fun v => k0_pay3 v x) (staged_before _ _ _ _ _ _ (by decide))).trans (pool_block c fh0 768 inb_S1x2048x2048_S1x256x2048_0_768_0 inb_S2048x2048_S256x2048_768_0 _ x),
    fun x => (congrArg (fun v => k0_pay3 v x) (staged_before _ _ _ _ _ _ (by decide))).trans (pool_block c fh0 512 inb_S1x2048x2048_S1x256x2048_0_512_0 inb_S2048x2048_S256x2048_512_0 _ x),
    fun x => (congrArg (fun v => k0_pay3 v x) (staged_before _ _ _ _ _ _ (by decide))).trans (pool_block c fh0 256 inb_S1x2048x2048_S1x256x2048_0_256_0 inb_S2048x2048_S256x2048_256_0 _ x),
    fun x => (congrArg (fun v => k0_pay3 v x) (staged_before _ _ _ _ _ _ (by decide))).trans (pool_block c fh0 0 inb_S1x2048x2048_S1x256x2048_0_0_0 inb_S2048x2048_S256x2048_0_0 _ x), trivial⟩

/-- Those into the state-space branch's leave its. -/
theorem ssm_canon (hc0 : cond0_0 i) : View.canon (kernelRun0_A c i arg1 harg1 arg2 harg2 arg3 harg3 arg4 harg4 arg5 harg5 arg6 harg6 arg9 harg9 arg10 harg10 arg11 harg11 arg12 harg12 hc0 x0 x1 x2 x3 x4 x5 fh0 fh1).2.2.1 = ssm c fh1 := by
  funext y
  refine View.canon_apply_of_pieces (ssm c fh1) _ (View.PiecesOf.mem ?_) y (scover0_A_1 c i arg1 harg1 arg2 harg2 arg3 harg3 arg4 harg4 arg5 harg5 arg6 harg6 arg9 harg9 arg10 harg10 arg11 harg11 arg12 harg12 hc0 x0 x1 x2 x3 x4 x5 fh0 fh1 y)
  unfold kernelRun0_A
  dsimp only
  sl_unfold_words
  exact ⟨fun x => (congrArg (fun v => k0_pay3 v x) (staged_last _ _ _ _)).trans (ssm_block c fh1 3840 inb_S1x4096x2048_S1x256x2048_0_3840_0 inb_S4096x2048_S256x2048_3840_0 _ x),
    fun x => (congrArg (fun v => k0_pay3 v x) (staged_before _ _ _ _ _ _ (by decide))).trans (ssm_block c fh1 3584 inb_S1x4096x2048_S1x256x2048_0_3584_0 inb_S4096x2048_S256x2048_3584_0 _ x),
    fun x => (congrArg (fun v => k0_pay3 v x) (staged_before _ _ _ _ _ _ (by decide))).trans (ssm_block c fh1 3328 inb_S1x4096x2048_S1x256x2048_0_3328_0 inb_S4096x2048_S256x2048_3328_0 _ x),
    fun x => (congrArg (fun v => k0_pay3 v x) (staged_before _ _ _ _ _ _ (by decide))).trans (ssm_block c fh1 3072 inb_S1x4096x2048_S1x256x2048_0_3072_0 inb_S4096x2048_S256x2048_3072_0 _ x),
    fun x => (congrArg (fun v => k0_pay3 v x) (staged_before _ _ _ _ _ _ (by decide))).trans (ssm_block c fh1 2816 inb_S1x4096x2048_S1x256x2048_0_2816_0 inb_S4096x2048_S256x2048_2816_0 _ x),
    fun x => (congrArg (fun v => k0_pay3 v x) (staged_before _ _ _ _ _ _ (by decide))).trans (ssm_block c fh1 2560 inb_S1x4096x2048_S1x256x2048_0_2560_0 inb_S4096x2048_S256x2048_2560_0 _ x),
    fun x => (congrArg (fun v => k0_pay3 v x) (staged_before _ _ _ _ _ _ (by decide))).trans (ssm_block c fh1 2304 inb_S1x4096x2048_S1x256x2048_0_2304_0 inb_S4096x2048_S256x2048_2304_0 _ x),
    fun x => (congrArg (fun v => k0_pay3 v x) (staged_before _ _ _ _ _ _ (by decide))).trans (ssm_block c fh1 2048 inb_S1x4096x2048_S1x256x2048_0_2048_0 inb_S4096x2048_S256x2048_2048_0 _ x),
    fun x => (congrArg (fun v => k0_pay3 v x) (staged_before _ _ _ _ _ _ (by decide))).trans (ssm_block c fh1 1792 inb_S1x4096x2048_S1x256x2048_0_1792_0 inb_S4096x2048_S256x2048_1792_0 _ x),
    fun x => (congrArg (fun v => k0_pay3 v x) (staged_before _ _ _ _ _ _ (by decide))).trans (ssm_block c fh1 1536 inb_S1x4096x2048_S1x256x2048_0_1536_0 inb_S4096x2048_S256x2048_1536_0 _ x),
    fun x => (congrArg (fun v => k0_pay3 v x) (staged_before _ _ _ _ _ _ (by decide))).trans (ssm_block c fh1 1280 inb_S1x4096x2048_S1x256x2048_0_1280_0 inb_S4096x2048_S256x2048_1280_0 _ x),
    fun x => (congrArg (fun v => k0_pay3 v x) (staged_before _ _ _ _ _ _ (by decide))).trans (ssm_block c fh1 1024 inb_S1x4096x2048_S1x256x2048_0_1024_0 inb_S4096x2048_S256x2048_1024_0 _ x),
    fun x => (congrArg (fun v => k0_pay3 v x) (staged_before _ _ _ _ _ _ (by decide))).trans (ssm_block c fh1 768 inb_S1x4096x2048_S1x256x2048_0_768_0 inb_S4096x2048_S256x2048_768_0 _ x),
    fun x => (congrArg (fun v => k0_pay3 v x) (staged_before _ _ _ _ _ _ (by decide))).trans (ssm_block c fh1 512 inb_S1x4096x2048_S1x256x2048_0_512_0 inb_S4096x2048_S256x2048_512_0 _ x),
    fun x => (congrArg (fun v => k0_pay3 v x) (staged_before _ _ _ _ _ _ (by decide))).trans (ssm_block c fh1 256 inb_S1x4096x2048_S1x256x2048_0_256_0 inb_S4096x2048_S256x2048_256_0 _ x),
    fun x => (congrArg (fun v => k0_pay3 v x) (staged_before _ _ _ _ _ _ (by decide))).trans (ssm_block c fh1 0 inb_S1x4096x2048_S1x256x2048_0_0_0 inb_S4096x2048_S256x2048_0_0 _ x), trivial⟩

theorem sout_A_0 (hc0 : cond0_0 i) : sout0_A_0 c i arg1 harg1 arg2 harg2 arg3 harg3 arg4 harg4 arg5 harg5 arg6 harg6 arg9 harg9 arg10 harg10 arg11 harg11 arg12 harg12 hc0 x0 x1 x2 x3 x4 x5 fh0 fh1 = pool c fh0 := by
  unfold sout0_A_0
  rw [View.read_writes_eq_canon _ _ _ (scover0_A_0 c i arg1 harg1 arg2 harg2 arg3 harg3 arg4 harg4 arg5 harg5 arg6 harg6 arg9 harg9 arg10 harg10 arg11 harg11 arg12 harg12 hc0 x0 x1 x2 x3 x4 x5 fh0 fh1)]
  exact pool_canon c fh0 fh1 i arg1 harg1 arg2 harg2 arg3 harg3 arg4 harg4 arg5 harg5 arg6 harg6 arg9 harg9 arg10 harg10 arg11 harg11 arg12 harg12 x0 x1 x2 x3 x4 x5 hc0

theorem sout_A_1 (hc0 : cond0_0 i) : sout0_A_1 c i arg1 harg1 arg2 harg2 arg3 harg3 arg4 harg4 arg5 harg5 arg6 harg6 arg9 harg9 arg10 harg10 arg11 harg11 arg12 harg12 hc0 x0 x1 x2 x3 x4 x5 fh0 fh1 = ssm c fh1 := by
  unfold sout0_A_1
  rw [View.read_writes_eq_canon _ _ _ (scover0_A_1 c i arg1 harg1 arg2 harg2 arg3 harg3 arg4 harg4 arg5 harg5 arg6 harg6 arg9 harg9 arg10 harg10 arg11 harg11 arg12 harg12 hc0 x0 x1 x2 x3 x4 x5 fh0 fh1)]
  exact ssm_canon c fh0 fh1 i arg1 harg1 arg2 harg2 arg3 harg3 arg4 harg4 arg5 harg5 arg6 harg6 arg9 harg9 arg10 harg10 arg11 harg11 arg12 harg12 x0 x1 x2 x3 x4 x5 hc0

theorem hz : (![0, 0] : Fin 2 → Nat) = fun _ => 0 := funext fun a => by fin_cases a <;> rfl

/-- A later point's block, over the weights carried in the scratches. -/
theorem out_B (hc0 : ¬cond0_0 i) : out0_B_6 c i arg1 harg1 arg2 harg2 arg3 harg3 arg4 harg4 arg5 harg5 arg6 harg6 arg9 harg9 arg10 harg10 arg11 harg11 arg12 harg12 hc0 x0 x1 x2 x3 x4 x5 xs0 xs1 fh0 fh1 = k0_pay2 i x1 x0 xs0 x3 x2 xs1 x4 x5 := by
  unfold out0_B_6
  rw [View.read_writes_eq_canon _ _ _ (cover0_B_6 c i arg1 harg1 arg2 harg2 arg3 harg3 arg4 harg4 arg5 harg5 arg6 harg6 arg9 harg9 arg10 harg10 arg11 harg11 arg12 harg12 hc0 x0 x1 x2 x3 x4 x5 xs0 xs1 fh0 fh1)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg10.read_unread, harg11.read_unread, View.ld_unit_zero (S := S256x2048) hz, View.ld_unit_zero (S := S256x4096) hz,
    View.ld_unit_zero (S := S2048x2048) hz, View.ld_unit_zero (S := S4096x2048) hz]

/-- The first point's, over the weights just stored. -/
theorem out_A (hc0 : cond0_0 i) : out0_A_6 c i arg1 harg1 arg2 harg2 arg3 harg3 arg4 harg4 arg5 harg5 arg6 harg6 arg9 harg9 arg10 harg10 arg11 harg11 arg12 harg12 hc0 x0 x1 x2 x3 x4 x5 fh0 fh1 = k0_pay2 i x1 x0 (pool c fh0) x3 x2 (ssm c fh1) x4 x5 := by
  have e0 : arg10.view.readCov (kernelRun0_A c i arg1 harg1 arg2 harg2 arg3 harg3 arg4 harg4 arg5 harg5 arg6 harg6 arg9 harg9 arg10 harg10 arg11 harg11 arg12 harg12 hc0 x0 x1 x2 x3 x4 x5 fh0 fh1).2.1 (Rect.unit ![0, 0] S2048x2048.size inb_S2048x2048_S2048x2048_0_0).toLoadRect = pool c fh0 := by
    rw [View.readCov_eq_canon_ld _ _ _ (scover0_A_0 c i arg1 harg1 arg2 harg2 arg3 harg3 arg4 harg4 arg5 harg5 arg6 harg6 arg9 harg9 arg10 harg10 arg11 harg11 arg12 harg12 hc0 x0 x1 x2 x3 x4 x5 fh0 fh1), pool_canon, View.ld_unit_zero (S := S2048x2048) hz]
  have e1 : arg11.view.readCov (kernelRun0_A c i arg1 harg1 arg2 harg2 arg3 harg3 arg4 harg4 arg5 harg5 arg6 harg6 arg9 harg9 arg10 harg10 arg11 harg11 arg12 harg12 hc0 x0 x1 x2 x3 x4 x5 fh0 fh1).2.2.1 (Rect.unit ![0, 0] S4096x2048.size inb_S4096x2048_S4096x2048_0_0).toLoadRect = ssm c fh1 := by
    rw [View.readCov_eq_canon_ld _ _ _ (scover0_A_1 c i arg1 harg1 arg2 harg2 arg3 harg3 arg4 harg4 arg5 harg5 arg6 harg6 arg9 harg9 arg10 harg10 arg11 harg11 arg12 harg12 hc0 x0 x1 x2 x3 x4 x5 fh0 fh1), ssm_canon, View.ld_unit_zero (S := S4096x2048) hz]
  rw [← e0, ← e1]
  unfold out0_A_6
  rw [View.read_writes_eq_canon _ _ _ (cover0_A_6 c i arg1 harg1 arg2 harg2 arg3 harg3 arg4 harg4 arg5 harg5 arg6 harg6 arg9 harg9 arg10 harg10 arg11 harg11 arg12 harg12 hc0 x0 x1 x2 x3 x4 x5 fh0 fh1)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x2048) hz, View.ld_unit_zero (S := S256x4096) hz]

end Cases

end Cert.Merge

end
-- ==== Proof.Merge.lean ====
/- The merge of the two branches under their gates: what the kernel leaves in its result. -/
module

public import proofs.«01_k».proof.Proof.MergeWeights

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Merge

open Cert.MergeKernelIdeal Cert.MergeKernelIdeal.Gen
open Cert.Rows (dot)

variable (m : (ℓ : Loc nD τ sig) → Buf (Elt Ideal) ℓ)

/-! ## The stored block -/

/-- Points below 32 take the prompts' rows, the others the samples'. -/
theorem picks (i : grid0.Coords) : Scalar.cmpi .sge (BitVec.ofNat 32 (i 0).val) 32#32 = if (i 0).val < 32 then 0#1 else 1#1 :=
  (by decide +kernel : ∀ n : Fin 34, Scalar.cmpi .sge (BitVec.ofNat 32 n.val) 32#32 = if n.val < 32 then 0#1 else 1#1) (i 0)

/-- The gated sum of two products. -/
def gated (g h a b : EReal) : EReal := Ideal.logistic g * a + Ideal.logistic h * b

theorem pay2_sum (i : grid0.Coords) (x0 x1 : Vec Ideal S256x2048 .bf16) (w : Vec Ideal S2048x2048 .bf16) (x2 x3 : Vec Ideal S256x4096 .bf16)
    (u : Vec Ideal S4096x2048 .bf16) (g h : Vec Ideal S256x2048 .bf16) (r : Fin 256) (n : Fin 2048) :
    k0_pay2 i x1 x0 w x3 x2 u g h (ix2 r n) = gated (g (ix2 r n)) (h (ix2 r n)) (dot (if (i 0).val < 32 then x0 else x1) w r n)
      (dot (if (i 0).val < 32 then x2 else x3) u r n) := by
  have hp : ∀ (a : Vec Ideal S256x2048 .bf16),
      matmul dot_S256x2048_S2048x2048_S256x2048_1_0_0_1_n_n none a w (constant (F := Ideal) S256x2048 .f32 0x00000000#32) (ix2 r n) = dot a w r n := fun a => by
    refine (Ideal.matmul_plain_apply (φ₁ := .bf16) (φ₂ := .bf16) (M := 256) (K := 2048) (N := 2048) none a w _ r n).trans ?_
    show Ideal.ofBits .f32 0x00000000#32 + _ = _
    rw [Ideal.ofBits_zero_f32, zero_add]
    rfl
  have hs : ∀ (a : Vec Ideal S256x4096 .bf16),
      matmul dot_S256x4096_S4096x2048_S256x2048_1_0_0_1_n_n none a u (constant (F := Ideal) S256x2048 .f32 0x00000000#32) (ix2 r n) = dot a u r n := fun a => by
    refine (Ideal.matmul_plain_apply (φ₁ := .bf16) (φ₂ := .bf16) (M := 256) (K := 4096) (N := 2048) none a u _ r n).trans ?_
    show Ideal.ofBits .f32 0x00000000#32 + _ = _
    rw [Ideal.ofBits_zero_f32, zero_add]
    rfl
  rw [← hp, ← hs]
  unfold k0_pay2
  simp only [shapeCast_self, picks]
  by_cases c : (i 0).val < 32
  · simp only [if_pos c]; rfl
  · simp only [if_neg c]; rfl

/-! ## The region -/

theorem coord : ∀ t : Fin cfg0.N, ((grid0.coords t) 0).val = t.val := (by decide +kernel : ∀ t : Fin grid0.N, _)
theorem idx0 : ∀ t : Fin cfg0.N, win0_0.index t (0 : Fin 2) = min t.val 31 ∧ win0_0.index t (1 : Fin 2) = 0 :=
  (by decide +kernel : ∀ t : Fin grid0.N, _)
theorem idx1 : ∀ t : Fin cfg0.N, win0_1.index t (0 : Fin 2) = t.val - 32 ∧ win0_1.index t (1 : Fin 2) = 0 :=
  (by decide +kernel : ∀ t : Fin grid0.N, _)
theorem idx2 : ∀ t : Fin cfg0.N, win0_2.index t (0 : Fin 2) = min t.val 31 ∧ win0_2.index t (1 : Fin 2) = 0 :=
  (by decide +kernel : ∀ t : Fin grid0.N, _)
theorem idx3 : ∀ t : Fin cfg0.N, win0_3.index t (0 : Fin 2) = t.val - 32 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 1 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- After any point the scratches hold the two branches' weights. -/
theorem carried (c : Dev nD) : ∀ (n : ℕ) (h : n < cfg0.N),
    (outsAt0 m c n h).2.1 = pool c (V m c main_arg8) ∧ (outsAt0 m c n h).2.2 = ssm c (V m c main_arg9) := by
  intro n
  induction n using Nat.strong_induction_on with
  | _ n ih =>
    intro h
    by_cases h0 : n % 34 = 0
    · rw [outsAt0_A m c ⟨n, h⟩ h0]
      dsimp only
      rw [sout_A_0, sout_A_1]
      exact ⟨rfl, rfl⟩
    · rw [outsAt0_B m c ⟨n, h⟩ h0]
      have e := ih (n - 1) (by omega) (Nat.lt_of_le_of_lt (Nat.sub_le _ _) h)
      dsimp only
      exact e

/-- The block every point stores. -/
theorem out_eq (c : Dev nD) (t : Fin cfg0.N) : (outsAt0 m c t.val t.isLt).1
    = k0_pay2 (grid0.coords t) (iblk m c 1 t) (iblk m c 0 t) (pool c (V m c main_arg8)) (iblk m c 3 t) (iblk m c 2 t) (ssm c (V m c main_arg9))
        (iblk m c 4 t) (iblk m c 5 t) := by
  by_cases h0 : t.val % 34 = 0
  · rw [outsAt0_A m c t h0]
    dsimp only
    rw [out_A]
  · rw [outsAt0_B m c t h0]
    dsimp only
    rw [out_B, (carried m c _ _).1, (carried m c _ _).2]

/-! ## The host's operands -/

/-- The prompts' rows one after another are the packed rows' first. -/
theorem prompt_rows {C : ℕ} (p : (⟨3, ![4, 2048, C]⟩ : Shape).Idx → EReal) (s : (⟨3, ![128, 4, C]⟩ : Shape).Idx → EReal)
    (hp : (⟨3, ![4, 2048, C]⟩ : Shape).ShapeCasts ⟨2, ![8192, C]⟩) (R : Fin 8704) (k : Fin C) (q : Fin 8192) (hq : q.val = R.val) :
    shapeCast ⟨2, ![8192, C]⟩ p hp (ix2 q k) = Rows.packed p s R k := by
  refine (shapeCast_apply p hp _ (ix3 (⟨R.val / 2048, by omega⟩ : Fin 4) (⟨R.val % 2048, by omega⟩ : Fin 2048) k) ?_).trans ?_
  · rw [Shape.rowMajor_val_three, Shape.rowMajor_val_two]
    show (R.val / 2048 * 2048 + R.val % 2048) * C + k.val = q.val * C + k.val
    rw [show R.val / 2048 * 2048 + R.val % 2048 = q.val by omega]
  · unfold Rows.packed
    rw [dif_pos (by omega : R.val < 8192)]

/-- The samples' rows, step by step, are the last. -/
theorem sample_rows {C : ℕ} (p : (⟨3, ![4, 2048, C]⟩ : Shape).Idx → EReal) (s : (⟨3, ![128, 4, C]⟩ : Shape).Idx → EReal)
    (ht : (⟨3, ![128, 4, C]⟩ : Shape).Transposes [1, 0, 2] ⟨3, ![4, 128, C]⟩)
    (hs : (⟨3, ![4, 128, C]⟩ : Shape).ShapeCasts ⟨2, ![512, C]⟩) (R : Fin 8704) (k : Fin C) (q : Fin 512) (hq : 8192 + q.val = R.val) :
    shapeCast _ (transpose ⟨3, ![4, 128, C]⟩ [1, 0, 2] s ht) hs (ix2 q k) = Rows.packed p s R k := by
  refine (Rows.sample_apply s ht hs q k).trans ?_
  unfold Rows.packed
  rw [dif_neg (by omega : ¬R.val < 8192)]
  simp only [show R.val - 8192 = q.val by omega]

theorem V11_apply (c : Dev nD) (R : Fin 8704) (k : Fin 2048) (q : Fin 8192) (hq : q.val = R.val) :
    V m c main_v11 (ix2 q k) = Rows.packed (m ((c : Thread nD τ).loc main_arg0)) (m ((c : Thread nD τ).loc main_arg1)) R k := by
  have e : V m c main_v11 = truncf (F := Ideal) .bf16 (shapeCast S8192x2048 (m ((c : Thread nD τ).loc main_arg0)) shapeCasts_S4x2048x2048_S8192x2048) bitsLt_bf16_f32 := by
    show StableHlo.after hostOps0 _ _ = _
    after_results <;> rfl
  rw [e]
  exact prompt_rows _ _ _ R k q hq

theorem V14_apply (c : Dev nD) (R : Fin 8704) (k : Fin 2048) (q : Fin 512) (hq : 8192 + q.val = R.val) :
    V m c main_v14 (ix2 q k) = Rows.packed (m ((c : Thread nD τ).loc main_arg0)) (m ((c : Thread nD τ).loc main_arg1)) R k := by
  have e : V m c main_v14 = truncf (F := Ideal) .bf16 (shapeCast S512x2048 (transpose S4x128x2048 [1, 0, 2] (m ((c : Thread nD τ).loc main_arg1)) transposes_S128x4x2048_S4x128x2048_1_0_2)
      shapeCasts_S4x128x2048_S512x2048) bitsLt_bf16_f32 := by
    show StableHlo.after hostOps0 _ _ = _
    after_results <;> rfl
  rw [e]
  exact sample_rows _ _ _ _ R k q hq

theorem V16_apply (c : Dev nD) (R : Fin 8704) (k : Fin 4096) (q : Fin 8192) (hq : q.val = R.val) :
    V m c main_v16 (ix2 q k) = Rows.packed (m ((c : Thread nD τ).loc main_arg2)) (m ((c : Thread nD τ).loc main_arg3)) R k := by
  have e : V m c main_v16 = truncf (F := Ideal) .bf16 (shapeCast S8192x4096 (m ((c : Thread nD τ).loc main_arg2)) shapeCasts_S4x2048x4096_S8192x4096) bitsLt_bf16_f32 := by
    show StableHlo.after hostOps0 _ _ = _
    after_results <;> rfl
  rw [e]
  exact prompt_rows _ _ _ R k q hq

theorem V19_apply (c : Dev nD) (R : Fin 8704) (k : Fin 4096) (q : Fin 512) (hq : 8192 + q.val = R.val) :
    V m c main_v19 (ix2 q k) = Rows.packed (m ((c : Thread nD τ).loc main_arg2)) (m ((c : Thread nD τ).loc main_arg3)) R k := by
  have e : V m c main_v19 = truncf (F := Ideal) .bf16 (shapeCast S512x4096 (transpose S4x128x4096 [1, 0, 2] (m ((c : Thread nD τ).loc main_arg3)) transposes_S128x4x4096_S4x128x4096_1_0_2)
      shapeCasts_S4x128x4096_S512x4096) bitsLt_bf16_f32 := by
    show StableHlo.after hostOps0 _ _ = _
    after_results <;> rfl
  rw [e]
  exact sample_rows _ _ _ _ R k q hq

/-- The two gates' rows, side by side. -/
theorem V9_eq (c : Dev nD) : V m c main_v9 = truncf (F := Ideal) .bf16 (concatenate S8704x4096 1
      [⟨S8704x2048, (concatenate S8704x2048 0 [⟨S8192x2048, shapeCast _ (m ((c : Thread nD τ).loc main_arg4)) shapeCasts_S4x2048x2048_S8192x2048⟩,
        ⟨S512x2048, shapeCast _ (transpose S4x128x2048 [1, 0, 2] (m ((c : Thread nD τ).loc main_arg5)) transposes_S128x4x2048_S4x128x2048_1_0_2)
          shapeCasts_S4x128x2048_S512x2048⟩] concatenates_S8192x2048_S512x2048_S8704x2048_d0)⟩,
       ⟨S8704x2048, (concatenate S8704x2048 0 [⟨S8192x2048, shapeCast _ (m ((c : Thread nD τ).loc main_arg6)) shapeCasts_S4x2048x2048_S8192x2048⟩,
        ⟨S512x2048, shapeCast _ (transpose S4x128x2048 [1, 0, 2] (m ((c : Thread nD τ).loc main_arg7)) transposes_S128x4x2048_S4x128x2048_1_0_2)
          shapeCasts_S4x128x2048_S512x2048⟩] concatenates_S8192x2048_S512x2048_S8704x2048_d0)⟩]
      concatenates_S8704x2048_S8704x2048_S8704x4096_d1) bitsLt_bf16_f32 := by
  show StableHlo.after hostOps0 _ _ = _
  after_results <;> rfl

theorem V9_pool (c : Dev nD) (R : Fin 8704) (n : Fin 2048) (C : Fin 4096) (hC : C.val = n.val) :
    V m c main_v9 (ix2 R C) = Rows.packed (m ((c : Thread nD τ).loc main_arg4)) (m ((c : Thread nD τ).loc main_arg5)) R n := by
  rw [V9_eq]
  refine (concatenate_pair_apply_left (t := S8704x4096) (s₁ := S8704x2048) (s₂ := S8704x2048) 1 _ _
    concatenates_S8704x2048_S8704x2048_S8704x4096_d1 (ix2 R C) rfl (ix2 R n) (fun b => match b with | ⟨0, _⟩ => rfl | ⟨1, _⟩ => hC.symm)).trans ?_
  exact Rows.pack_apply _ _ _ _ _ concatenates_S8192x2048_S512x2048_S8704x2048_d0 R n

theorem V9_ssm (c : Dev nD) (R : Fin 8704) (n : Fin 2048) (C : Fin 4096) (hC : C.val = 2048 + n.val) :
    V m c main_v9 (ix2 R C) = Rows.packed (m ((c : Thread nD τ).loc main_arg6)) (m ((c : Thread nD τ).loc main_arg7)) R n := by
  rw [V9_eq]
  refine (concatenate_pair_apply_right (t := S8704x4096) (s₁ := S8704x2048) (s₂ := S8704x2048) 1 _ _
    concatenates_S8704x2048_S8704x2048_S8704x4096_d1 (ix2 R C) rfl rfl (ix2 R n)
    (fun b => match b with | ⟨0, _⟩ => fun _ => rfl | ⟨1, _⟩ => fun hb => absurd rfl hb) (show n.val + 2048 = C.val by omega)).trans ?_
  exact Rows.pack_apply _ _ _ _ _ concatenates_S8192x2048_S512x2048_S8704x2048_d0 R n

/-! ## The blocks of a point -/

theorem iblk0_apply (c : Dev nD) (t : Fin cfg0.N) (h : t.val < 32) (r : Fin 256) (k : Fin 2048) (R : Fin 8704) (hR : R.val = 256 * t.val + r.val) :
    iblk m c 0 t (ix2 r k) = Rows.packed (m ((c : Thread nD τ).loc main_arg0)) (m ((c : Thread nD τ).loc main_arg1)) R k := by
  have hN : cfg0.N = 34 := N_0
  have ht : t.val < 34 := hN ▸ t.isLt
  have e0 := idx0 t
  rw [← V11_apply m c R k (⟨R.val, by omega⟩ : Fin 8192) (rfl)]
  show V m c main_v11 _ = _
  congr 1
  funext a; apply Fin.ext
  match a with
  | ⟨0, _⟩ => show win0_0.index t (0 : Fin 2) * 256 + 1 * r.val = R.val; omega
  | ⟨1, _⟩ => show win0_0.index t (1 : Fin 2) * 2048 + 1 * k.val = k.val; omega

theorem iblk1_apply (c : Dev nD) (t : Fin cfg0.N) (h : 32 ≤ t.val) (r : Fin 256) (k : Fin 2048) (R : Fin 8704) (hR : R.val = 256 * t.val + r.val) :
    iblk m c 1 t (ix2 r k) = Rows.packed (m ((c : Thread nD τ).loc main_arg0)) (m ((c : Thread nD τ).loc main_arg1)) R k := by
  have hN : cfg0.N = 34 := N_0
  have ht : t.val < 34 := hN ▸ t.isLt
  have e0 := idx1 t
  rw [← V14_apply m c R k (⟨R.val - 8192, by omega⟩ : Fin 512) (by dsimp only; omega)]
  show V m c main_v14 _ = _
  congr 1
  funext a; apply Fin.ext
  match a with
  | ⟨0, _⟩ => show win0_1.index t (0 : Fin 2) * 256 + 1 * r.val = R.val - 8192; omega
  | ⟨1, _⟩ => show win0_1.index t (1 : Fin 2) * 2048 + 1 * k.val = k.val; omega

theorem iblk2_apply (c : Dev nD) (t : Fin cfg0.N) (h : t.val < 32) (r : Fin 256) (k : Fin 4096) (R : Fin 8704) (hR : R.val = 256 * t.val + r.val) :
    iblk m c 2 t (ix2 r k) = Rows.packed (m ((c : Thread nD τ).loc main_arg2)) (m ((c : Thread nD τ).loc main_arg3)) R k := by
  have hN : cfg0.N = 34 := N_0
  have ht : t.val < 34 := hN ▸ t.isLt
  have e0 := idx2 t
  rw [← V16_apply m c R k (⟨R.val, by omega⟩ : Fin 8192) (rfl)]
  show V m c main_v16 _ = _
  congr 1
  funext a; apply Fin.ext
  match a with
  | ⟨0, _⟩ => show win0_2.index t (0 : Fin 2) * 256 + 1 * r.val = R.val; omega
  | ⟨1, _⟩ => show win0_2.index t (1 : Fin 2) * 4096 + 1 * k.val = k.val; omega

theorem iblk3_apply (c : Dev nD) (t : Fin cfg0.N) (h : 32 ≤ t.val) (r : Fin 256) (k : Fin 4096) (R : Fin 8704) (hR : R.val = 256 * t.val + r.val) :
    iblk m c 3 t (ix2 r k) = Rows.packed (m ((c : Thread nD τ).loc main_arg2)) (m ((c : Thread nD τ).loc main_arg3)) R k := by
  have hN : cfg0.N = 34 := N_0
  have ht : t.val < 34 := hN ▸ t.isLt
  have e0 := idx3 t
  rw [← V19_apply m c R k (⟨R.val - 8192, by omega⟩ : Fin 512) (by dsimp only; omega)]
  show V m c main_v19 _ = _
  congr 1
  funext a; apply Fin.ext
  match a with
  | ⟨0, _⟩ => show win0_3.index t (0 : Fin 2) * 256 + 1 * r.val = R.val - 8192; omega
  | ⟨1, _⟩ => show win0_3.index t (1 : Fin 2) * 4096 + 1 * k.val = k.val; omega

theorem iblk4_apply (c : Dev nD) (t : Fin cfg0.N) (r : Fin 256) (n : Fin 2048) (R : Fin 8704) (hR : R.val = 256 * t.val + r.val) :
    iblk m c 4 t (ix2 r n) = Rows.packed (m ((c : Thread nD τ).loc main_arg4)) (m ((c : Thread nD τ).loc main_arg5)) R n := by
  obtain ⟨e0, e1⟩ := idx4 t
  rw [← V9_pool m c R n (⟨n.val, by omega⟩ : Fin 4096) rfl]
  show V m c main_v9 _ = _
  congr 1
  funext a; apply Fin.ext
  match a with
  | ⟨0, _⟩ => show win0_4.index t (0 : Fin 2) * 256 + 1 * r.val = R.val; omega
  | ⟨1, _⟩ => show win0_4.index t (1 : Fin 2) * 2048 + 1 * n.val = n.val; omega

theorem iblk5_apply (c : Dev nD) (t : Fin cfg0.N) (r : Fin 256) (n : Fin 2048) (R : Fin 8704) (hR : R.val = 256 * t.val + r.val) :
    iblk m c 5 t (ix2 r n) = Rows.packed (m ((c : Thread nD τ).loc main_arg6)) (m ((c : Thread nD τ).loc main_arg7)) R n := by
  obtain ⟨e0, e1⟩ := idx5 t
  rw [← V9_ssm m c R n (⟨2048 + n.val, by omega⟩ : Fin 4096) rfl]
  show V m c main_v9 _ = _
  congr 1
  funext a; apply Fin.ext
  match a with
  | ⟨0, _⟩ => show win0_5.index t (0 : Fin 2) * 256 + 1 * r.val = R.val; omega
  | ⟨1, _⟩ => show win0_5.index t (1 : Fin 2) * 2048 + 1 * n.val = 2048 + n.val; omega

/-- The merge of the packed rows: each branch's projection under its gate. -/
def merged (p : S4x2048x2048.Idx → EReal) (s : S128x4x2048.Idx → EReal) (q : S4x2048x4096.Idx → EReal) (u : S128x4x4096.Idx → EReal)
    (gp : S4x2048x2048.Idx → EReal) (gs : S128x4x2048.Idx → EReal) (hp : S4x2048x2048.Idx → EReal) (hs : S128x4x2048.Idx → EReal)
    (w : S1x2048x2048.Idx → EReal) (z : S1x4096x2048.Idx → EReal) (R : Fin 8704) (n : Fin 2048) : EReal :=
  gated (Rows.packed gp gs R n) (Rows.packed hp hs R n) (∑ k, Rows.packed p s R k * w (ix3 0 k n)) (∑ k, Rows.packed q u R k * z (ix3 0 k n))

/-- The block a point leaves in the output's staging buffer. -/
theorem out_apply (c : Dev nD) (t : Fin cfg0.N) (r : Fin 256) (n : Fin 2048) (R : Fin 8704) (hR : R.val = 256 * t.val + r.val) :
    (outsAt0 m c t.val t.isLt).1 (ix2 r n) = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) R n := by
  rw [out_eq, pay2_sum, coord, iblk4_apply m c t r n R hR, iblk5_apply m c t r n R hR, V_main_arg8, V_main_arg9]
  unfold merged
  refine congrArg₂ (gated _ _) (Finset.sum_congr rfl fun k _ => congrArg₂ (fun a b : EReal => a * b) ?_ rfl)
    (Finset.sum_congr rfl fun k _ => congrArg₂ (fun a b : EReal => a * b) ?_ rfl)
  · by_cases h : t.val < 32
    · rw [if_pos h]; exact iblk0_apply m c t h r k R hR
    · rw [if_neg h]; exact iblk1_apply m c t (by omega) r k R hR
  · by_cases h : t.val < 32
    · rw [if_pos h]; exact iblk2_apply m c t h r k R hR
    · rw [if_neg h]; exact iblk3_apply m c t (by omega) r k R hR

/-- The region's array. -/
def G (c : Dev nD) : Buf (Elt Ideal) ((c : Thread nD τ).loc main_v20) := fun i =>
  merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (⟨(i 0).val, (i 0).isLt⟩ : Fin 8704) (⟨(i 1).val, (i 1).isLt⟩ : Fin 2048)

theorem flushed (c : Dev nD) (t : Fin cfg0.N) : (dats m 0 c).flushed 6 t = ((cfg0.win 6).blk t).view.read (Elt Ideal) (G m c) := by
  show (cfg0.win 6).cut (grid0.coords t) ((dats m 0 c).after 6 t) = _
  rw [after0_6]
  obtain ⟨e0, e1⟩ := idx6 t
  funext y
  have hy : (cfg0.win 6).xinj (grid0.coords t) y = ix2 (⟨(y 0).val, (y 0).isLt⟩ : Fin 256) (⟨(y 1).val, (y 1).isLt⟩ : Fin 2048) := by
    funext a; match a with | ⟨0, _⟩ => rfl | ⟨1, _⟩ => rfl
  show (outsAt0 m c t.val t.isLt).1 ((cfg0.win 6).xinj (grid0.coords t) y) = G m c (((cfg0.win 6).blk t).view.emb y)
  rw [hy]
  have hn : (⟨((((cfg0.win 6).blk t).view.emb y) 1).val, ((((cfg0.win 6).blk t).view.emb y) 1).isLt⟩ : Fin 2048) = ⟨(y 1).val, (y 1).isLt⟩ := by
    apply Fin.ext
    show win0_6.index t (1 : Fin 2) * 2048 + 1 * (y 1).val = (y 1).val; omega
  unfold G
  rw [hn]
  refine out_apply m c t _ _ _ ?_
  show win0_6.index t (0 : Fin 2) * 256 + 1 * (y 0).val = 256 * t.val + (y 0).val; omega

theorem covered (i : S8704x2048.Idx) : ∃ t : Fin cfg0.N, (cfg0.win 6).flush t = true ∧ i ∈ ((cfg0.win 6).blk t).view.set := by
  have hi0 : (i 0).val < 8704 := (i 0).isLt
  have hi1 : (i 1).val < 2048 := (i 1).isLt
  have hN : cfg0.N = 34 := N_0
  obtain ⟨t, ht⟩ : ∃ t : Fin cfg0.N, t.val = (i 0).val / 256 := ⟨⟨(i 0).val / 256, by omega⟩, rfl⟩
  obtain ⟨e0, e1⟩ := idx6 t
  refine ⟨t, (by decide +kernel : ∀ t : Fin grid0.N, win0_6.flush t = true) t, ?_⟩
  show i ∈ ((View.whole main_v20).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- The array after the region. -/
theorem final (c : Dev nD) : (dats m 0 c).arrAt 6 cfg0.N = G m c :=
  (dats m 0 c).arrAt_eq_of_cover 6 _ (fun t _ => flushed m c t) covered

end Cert.Merge

end
-- ==== Proof.MergeRef.lean ====
/- The reference's merge of the two branches under their gates, read at an index, and the claim. -/
module

public import proofs.«01_k».proof.Defs
public import proofs.«01_k».proof.Proof.Merge
public import proofs.«01_k».proof.Proof.Gen.MergeReferenceIdeal.Run
public import proofs.«01_k».proof.Proof.Gen.MergeReferenceIdeal.Read
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.Merge.Ref

open Cert.MergeReferenceIdeal Cert.MergeReferenceIdeal.Gen Cert.MergeReferenceIdeal.Read

variable (x0 : (⟨S4x2048x2048, .f32⟩ : BufTy).Contents (Elt Ideal)) (x1 : (⟨S128x4x2048, .f32⟩ : BufTy).Contents (Elt Ideal))
  (x2 : (⟨S4x2048x4096, .f32⟩ : BufTy).Contents (Elt Ideal)) (x3 : (⟨S128x4x4096, .f32⟩ : BufTy).Contents (Elt Ideal))
  (x4 : (⟨S4x2048x2048, .f32⟩ : BufTy).Contents (Elt Ideal)) (x5 : (⟨S128x4x2048, .f32⟩ : BufTy).Contents (Elt Ideal))
  (x6 : (⟨S4x2048x2048, .f32⟩ : BufTy).Contents (Elt Ideal)) (x7 : (⟨S128x4x2048, .f32⟩ : BufTy).Contents (Elt Ideal))
  (x8 : (⟨S1x2048x2048, .f32⟩ : BufTy).Contents (Elt Ideal)) (x9 : (⟨S1x4096x2048, .f32⟩ : BufTy).Contents (Elt Ideal))

/-- The host spells the logistic function as a quotient. -/
theorem gated_host (g h a b one : EReal) (e : one = 1) :
    Ideal.div one (one + Ideal.exp (-g)) * a + Ideal.div one (one + Ideal.exp (-h)) * b = gated g h a b := by
  subst e; rfl

theorem prompt_pool (b : Fin 4) (t : Fin 2048) (n : Fin 2048) : val_main_v7 x0 x8 (ix3 b t n) = ∑ k, x0 (ix3 b t k) * x8 (ix3 0 k n) := by
  rw [val_main_v7_apply]
  refine Finset.sum_congr rfl fun k _ => congrArg₂ (fun a b : EReal => a * b) (congrArg x0 ?_) ?_
  · funext a; match a with | ⟨0, _⟩ => rfl | ⟨1, _⟩ => rfl | ⟨2, _⟩ => rfl
  · rw [show ridx_main_v7 (ix3 b t n) k = ix2 k n from by funext a; match a with | ⟨0, _⟩ => rfl | ⟨1, _⟩ => rfl]
    exact Rows.dropLead_apply x8 _ k n

theorem prompt_ssm (b : Fin 4) (t : Fin 2048) (n : Fin 2048) : val_main_v16 x2 x9 (ix3 b t n) = ∑ k, x2 (ix3 b t k) * x9 (ix3 0 k n) := by
  rw [val_main_v16_apply]
  refine Finset.sum_congr rfl fun k _ => congrArg₂ (fun a b : EReal => a * b) (congrArg x2 ?_) ?_
  · funext a; match a with | ⟨0, _⟩ => rfl | ⟨1, _⟩ => rfl | ⟨2, _⟩ => rfl
  · rw [show ridx_main_v16 (ix3 b t n) k = ix2 k n from by funext a; match a with | ⟨0, _⟩ => rfl | ⟨1, _⟩ => rfl]
    exact Rows.dropLead_apply x9 _ k n

theorem sample_pool (b : Fin 128) (t : Fin 4) (n : Fin 2048) : val_main_v26 x1 x8 (ix3 b t n) = ∑ k, x1 (ix3 b t k) * x8 (ix3 0 k n) := by
  rw [val_main_v26_apply]
  refine Finset.sum_congr rfl fun k _ => congrArg₂ (fun a b : EReal => a * b) (congrArg x1 ?_) ?_
  · funext a; match a with | ⟨0, _⟩ => rfl | ⟨1, _⟩ => rfl | ⟨2, _⟩ => rfl
  · rw [show ridx_main_v26 (ix3 b t n) k = ix2 k n from by funext a; match a with | ⟨0, _⟩ => rfl | ⟨1, _⟩ => rfl]
    exact Rows.dropLead_apply x8 _ k n

theorem sample_ssm (b : Fin 128) (t : Fin 4) (n : Fin 2048) : val_main_v35 x3 x9 (ix3 b t n) = ∑ k, x3 (ix3 b t k) * x9 (ix3 0 k n) := by
  rw [val_main_v35_apply]
  refine Finset.sum_congr rfl fun k _ => congrArg₂ (fun a b : EReal => a * b) (congrArg x3 ?_) ?_
  · funext a; match a with | ⟨0, _⟩ => rfl | ⟨1, _⟩ => rfl | ⟨2, _⟩ => rfl
  · rw [show ridx_main_v35 (ix3 b t n) k = ix2 k n from by funext a; match a with | ⟨0, _⟩ => rfl | ⟨1, _⟩ => rfl]
    exact Rows.dropLead_apply x9 _ k n

theorem prompt_apply (b : Fin 4) (t : Fin 2048) (n : Fin 2048) : val_main_v18 x0 x2 x4 x6 x8 x9 (ix3 b t n)
    = gated (x4 (ix3 b t n)) (x6 (ix3 b t n)) (∑ k, x0 (ix3 b t k) * x8 (ix3 0 k n)) (∑ k, x2 (ix3 b t k) * x9 (ix3 0 k n)) := by
  rw [← prompt_pool, ← prompt_ssm]
  exact gated_host _ _ _ _ _ Ideal.ofBits_one_f32

theorem sample_apply (b : Fin 128) (t : Fin 4) (n : Fin 2048) : val_main_v37 x1 x3 x5 x7 x8 x9 (ix3 b t n)
    = gated (x5 (ix3 b t n)) (x7 (ix3 b t n)) (∑ k, x1 (ix3 b t k) * x8 (ix3 0 k n)) (∑ k, x3 (ix3 b t k) * x9 (ix3 0 k n)) := by
  rw [← sample_pool, ← sample_ssm]
  exact gated_host _ _ _ _ _ Ideal.ofBits_one_f32

/-- The reference's rows are the same merge. -/
theorem result_apply (R : Fin 8704) (n : Fin 2048) :
    val_main_v42 x0 x1 x2 x3 x4 x5 x6 x7 x8 x9 (ix2 R n) = merged x0 x1 x2 x3 x4 x5 x6 x7 x8 x9 R n := by
  refine (Rows.pack_apply (val_main_v18 x0 x2 x4 x6 x8 x9) (val_main_v37 x1 x3 x5 x7 x8 x9) _ _ _
    concatenates_S8192x2048_S512x2048_S8704x2048_d0 R n).trans ?_
  unfold merged Rows.packed
  by_cases h : R.val < 8192
  · simp only [dif_pos h]; exact prompt_apply x0 x2 x4 x6 x8 x9 _ _ n
  · simp only [dif_neg h]; exact sample_apply x1 x3 x5 x7 x8 x9 _ _ n

end Cert.Merge.Ref

namespace Cert.Merge

/-- The kernel's merged rows are the reference's. -/
theorem algebraic : Cert.algebraic_MergeKernelIdeal_MergeReferenceIdeal := by
  intro m ρ m' ρ' _ hagree
  refine ⟨fun c => G m c, ?_, ?_⟩
  · exact (θ_run Cert.MergeKernelIdeal.defs _ _).mono (fun r h c => ⟨(h c).1.trans (final m c), (h c).2⟩) (Cert.MergeKernelIdeal.Value.run_blocks m ρ)
  · refine (θ_run Cert.MergeReferenceIdeal.defs _ _).mono (fun r h c => ?_) (Cert.MergeReferenceIdeal.Value.run m' ρ')
    obtain ⟨e0, e1, e2, e3, e4, e5, e6, e7, e8, e9⟩ := hagree c
    obtain ⟨h0, hk⟩ := h c
    rw [e0, e1, e2, e3, e4, e5, e6, e7, e8, e9] at h0
    refine ⟨h0.trans ?_, hk⟩
    refine (Cert.MergeReferenceIdeal.Read.val_main_v42_eq _ _ _ _ _ _ _ _ _ _).trans (funext fun i => ?_)
    obtain ⟨R, n, rfl⟩ : ∃ (R : Fin 8704) (n : Fin 2048), i = ix2 R n := ⟨i 0, i 1, eq_ix2 i⟩
    exact Ref.result_apply _ _ _ _ _ _ _ _ _ _ R n

end Cert.Merge

end
-- ==== Proof.FinalRuns.lean ====
/- What the runs of the final residual block share: the host lines around the region, the conditions of its body, its buffers. -/
module

public import proofs.«01_k».proof.Proof.Gen.FinalKernelIdeal.Frame
public import proofs.«01_k».proof.Proof.Gen.FinalKernelIdeal.Skeleton

@[expose] public section

set_option maxRecDepth 16384

noncomputable section

namespace Cert.FinalKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FinalKernelIdeal Cert.FinalKernelIdeal.Gen

variable {F : FTy → Type} [FloatOps F]

variable (m : (ℓ : Loc nD τ sig) → Buf (Elt F) ℓ) (ρ : Dev nD → PrngReg)

set_option maxHeartbeats 800000 in
/-- `@main` around the region: the host lines before it, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Argument 0 ends as launched: no line after the region writes it. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Argument 1 ends as launched: no line after the region writes it. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Argument 2 ends as launched: no line after the region writes it. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Argument 3 ends as launched: no line after the region writes it. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Argument 6 ends as launched: no line after the region writes it. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Argument 7 ends as launched: no line after the region writes it. -/
theorem W_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- The body finds window 0's block in its buffer at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body finds window 1's block in its buffer at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body finds window 2's block in its buffer at every point. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body finds window 3's block in its buffer at every point. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body finds window 4's block in its buffer at every point. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments end as launched, from a run to the frame post. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

/-- The condition of the first conditional: the first point. -/
abbrev cond1 (i : grid0.Coords) : Prop := (Scalar.cmpi .ne (Scalar.extui (Scalar.cmpi .eq (BitVec.ofNat 32 (i 0).val) 0#32)) 0#32) = 1#1
/-- The condition of the second: a prompt point. -/
abbrev cond2 (i : grid0.Coords) : Prop := k0_cond2 i = 1#1
/-- The condition of the third: a sample point. -/
abbrev cond3 (i : grid0.Coords) : Prop := k0_cond3 i = 1#1
theorem hcond1 : ∀ t : Fin cfg0.N, cond1 (grid0.coords t) ↔ t.val = 0 := by
  exact (by decide +kernel : ∀ t : Fin grid0.N, cond1 (grid0.coords t) ↔ t.val = 0)
theorem hcond2 : ∀ t : Fin cfg0.N, cond2 (grid0.coords t) ↔ t.val < 32 := by
  exact (by decide +kernel : ∀ t : Fin grid0.N, cond2 (grid0.coords t) ↔ t.val < 32)
theorem hcond3 : ∀ t : Fin cfg0.N, cond3 (grid0.coords t) ↔ 32 ≤ t.val := by
  exact (by decide +kernel : ∀ t : Fin grid0.N, cond3 (grid0.coords t) ↔ 32 ≤ t.val)

/-! ## The buffers the body is called with -/

abbrev ms0 (t : Fin cfg0.N) : Memref sig .tc .vmem S256x5632 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2048 .f32 := win0_6.stage (cfg0.slots t 6)
abbrev hs6 (t : Fin cfg0.N) : (ms6 t).IsWhole := hstage0_6 ((cfg0.slots t 6).cast nbuf0_6)
/-- The buffers of the two outputs, the kept weights and the landing buffer. -/
abbrev VO5 : View sig .tc .vmem S256x2048 .f32 := (Memref.whole cc0_stg5_0 : Memref sig .tc .vmem S256x2048 .f32).view
abbrev VO6 : View sig .tc .vmem S256x2048 .f32 := (Memref.whole cc0_stg6_0 : Memref sig .tc .vmem S256x2048 .f32).view
abbrev scM0 : Memref sig .tc .vmem S5632x2048 .bf16 := Memref.whole cc0_scratch0
abbrev scM1 : Memref sig .tc .vmem S2x176x2048 .f32 := Memref.whole cc0_scratch1
abbrev VS0 : View sig .tc .vmem S5632x2048 .bf16 := scM0.view
/-- The weights in the large memory, which the body copies itself. -/
abbrev hbM : Memref sig .tc .hbm S1x5632x2048 .f32 := Memref.whole main_arg6
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp (MT nD τ sig Unit (Elt F) ℕ (Pipeline.UD sig nD τ) ℕ) :=
  M.view.loc (c : Thread nD τ) ↦{fullShare} f

/-- The body's own semaphores. -/
abbrev osem : Fin 2 → SemLoc sig := fun j => (![SemLoc.dma 11, SemLoc.dma 12] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp (MT nD τ sig Unit (Elt F) ℕ (Pipeline.UD sig nD τ) ℕ))
      = iprop(semVal ((c : Thread nD τ), SemLoc.dma 11) 0 ∗ semVal ((c : Thread nD τ), SemLoc.dma 12) 0) := by
  rw [Pipeline.ownSems0_eq_of_list c osem [0, 1] (by decide) (by decide)]; rfl
/-- The operand the body copies itself. -/
def H : Finset (Ref sig .tc) := {main_arg6}
theorem H_sub : H ⊆ Pipeline.restRefs sig spec0 := by decide
theorem hbmPts_eq (c : Dev nD) :
    (bigSep H (fun b => ((c : Thread nD τ).loc b) ↦{fullShare} V m c b) : sProp (MT nD τ sig Unit (Elt F) ℕ (Pipeline.UD sig nD τ) ℕ)) = hbPt c hbM (V m c main_arg6) := by
  rw [BI.bigSep_eq_bigSepL_of_eq [main_arg6] (by decide) (by decide)]; rfl

/-- What the region hands the body before the first point, conjunct by conjunct. -/
theorem Phi_eq (c : Dev nD) :
    (Pipeline.ΦD osem spec0 H (V m) c : sProp (MT nD τ sig Unit (Elt F) ℕ (Pipeline.UD sig nD τ) ℕ))
      = iprop(iprop((∃ d, owns (c : Thread nD τ) scM0 fullShare d) ∗ (∃ d, owns (c : Thread nD τ) scM1 fullShare d)) ∗ (∃ r, prngReg c r) ∗ iprop(semVal ((c : Thread nD τ), SemLoc.dma 11) 0 ∗ semVal ((c : Thread nD τ), SemLoc.dma 12) 0) ∗ hbPt c hbM (V m c main_arg6)) := by
  rw [Pipeline.ΦD_eq, scopedRest0_eq, ownSems_eq, hbmPts_eq]; simp only [scM0, scM1, owns_whole]; try rfl

end Cert.FinalKernelIdeal.Run

end
-- ==== Proof.FinalRunA.lean ====
/- The body of the final residual block at the first point. -/
module

public import proofs.«01_k».proof.Proof.FinalRuns

@[expose] public section

set_option maxRecDepth 16384

noncomputable section

namespace Cert.FinalKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FinalKernelIdeal Cert.FinalKernelIdeal.Gen

variable {F : FTy → Type} [FloatOps F]

variable (m : (ℓ : Loc nD τ sig) → Buf (Elt F) ℓ) (ρ : Dev nD → PrngReg)

set_option maxHeartbeats 4000000 in set_option sl_exec.dmaWindow true in set_option sl_exec.dmaWindowSet true in
/-- The body at the first point: it fetches the weights by its own transfers, casts them into the scratch it keeps,
    and stores the first output. The pieces its stores leave are the witness the run finds. -/
def runA (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (fh : HbBuf (F := F) c hbM) :
    Σ' (L : List (View.Piece (Elt F) S256x2048 .f32)), Σ' (LS : List (View.Piece (Elt F) S5632x2048 .bf16)), { LT : List (View.Piece (Elt F) S2x176x2048 .f32) //
      ∀ (W : Waits sig Unit) (K : PUnit → sProp (MT nD τ sig Unit (Elt F) ℕ (Pipeline.UD sig nD τ) ℕ)),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg9 fullShare d) ∗ (∃ d, owns (c : Thread nD τ) arg10 fullShare d) ∗ semVal ((c : Thread nD τ), SemLoc.dma 11) 0 ∗ semVal ((c : Thread nD τ), SemLoc.dma 12) 0 ∗ hbPt c hbM fh ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LT) ∗ semVal ((c : Thread nD τ), SemLoc.dma 11) 0 ∗ semVal ((c : Thread nD τ), SemLoc.dma 12) 0 ∗ hbPt c hbM fh ∗ (∃ W', owes (c : Thread nD τ) 0 W')) -∗ K ⟨⟩))
          ⊢ wp frame (wpE (defs₀ (F := F)) Variants.none c none) Set.univ (cc0_res_block_final i arg1 harg1 (Memref.whole main_arg6) (Memref.isWhole_whole _) arg3 harg3 arg4 harg4 arg5 harg5 arg6 harg6 arg7 harg7 arg8 harg8 arg9 harg9 arg10 harg10 cc0_scratch2) K } := by
  refine ⟨?_, ?_, ?_, fun W K => ?run⟩
  case run =>
    simp only [cc0_res_block_final_eq_skeleton]; unfold cc0_res_block_final_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hq0, Hq1, Hh, HW, Hk⟩
    obtain rfl := harg1.eq_unread hf0; obtain rfl := harg3.eq_unread hf1; obtain rfl := harg4.eq_unread hf2; obtain rfl := harg5.eq_unread hf3; obtain rfl := harg6.eq_unread hf4
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [Hq0]; · iexact Hq0
    isplitl [Hq1]; · iexact Hq1
    isplitl [Hh]; · iexact Hh
    iexists _; iexact HW

end Cert.FinalKernelIdeal.Run

end
-- ==== Proof.FinalRunB.lean ====
/- The body of the final residual block at the later points. -/
module

public import proofs.«01_k».proof.Proof.FinalRunA

@[expose] public section

set_option maxRecDepth 16384

noncomputable section

namespace Cert.FinalKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FinalKernelIdeal Cert.FinalKernelIdeal.Gen

variable {F : FTy → Type} [FloatOps F]

variable (m : (ℓ : Loc nD τ sig) → Buf (Elt F) ℓ) (ρ : Dev nD → PrngReg)

set_option maxHeartbeats 2000000 in
/-- The body at a prompt point after the first: the kept weights are read, the first output is stored. -/
def runB (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : ¬cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (xs : Vec F S5632x2048 .bf16) :
    { L : List (View.Piece (Elt F) S256x2048 .f32) //
      ∀ (K : PUnit → sProp (MT nD τ sig Unit (Elt F) ℕ (Pipeline.UD sig nD τ) ℕ)),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg9 fullShare xs
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ owns (c : Thread nD τ) arg9 fullShare xs) -∗ K ⟨⟩))
          ⊢ wp frame (wpE (defs₀ (F := F)) Variants.none c none) Set.univ (cc0_res_block_final i arg1 harg1 (Memref.whole main_arg6) (Memref.isWhole_whole _) arg3 harg3 arg4 harg4 arg5 harg5 arg6 harg6 arg7 harg7 arg8 harg8 arg9 harg9 arg10 harg10 cc0_scratch2) K } := by
  refine ⟨?_, fun K => ?run⟩
  case run =>
    simp only [cc0_res_block_final_eq_skeleton]; unfold cc0_res_block_final_skel
    simp only [k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg9.read_unread _
    iexact HS0

set_option maxHeartbeats 2000000 in
/-- The body at a sample point: the kept weights are read, the second output is stored. -/
def runC (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : ¬cond1 i) (h2 : ¬cond2 i) (h3 : cond3 i)
    (x0 : Vec F S256x5632 .bf16) (x1 : Vec F S256x2048 .f32) (x2 : Vec F S4x2048 .f32) (x3 : Vec F S128x2048 .f32) (x4 : Vec F S1x2048 .f32) (xs : Vec F S5632x2048 .bf16) :
    { L : List (View.Piece (Elt F) S256x2048 .f32) //
      ∀ (K : PUnit → sProp (MT nD τ sig Unit (Elt F) ℕ (Pipeline.UD sig nD τ) ℕ)),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg9 fullShare xs
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L) ∗ owns (c : Thread nD τ) arg9 fullShare xs) -∗ K ⟨⟩))
          ⊢ wp frame (wpE (defs₀ (F := F)) Variants.none c none) Set.univ (cc0_res_block_final i arg1 harg1 (Memref.whole main_arg6) (Memref.isWhole_whole _) arg3 harg3 arg4 harg4 arg5 harg5 arg6 harg6 arg7 harg7 arg8 harg8 arg9 harg9 arg10 harg10 cc0_scratch2) K } := by
  refine ⟨?_, fun K => ?run⟩
  case run =>
    simp only [cc0_res_block_final_eq_skeleton]; unfold cc0_res_block_final_skel
    simp only [k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg9.read_unread _
    iexact HS0

end Cert.FinalKernelIdeal.Run

end
-- ==== Proof.FinalFrame.lean ====
/- The run of the final residual block as a whole: what its buffers hold at every point, and what the program leaves. -/
module

public import proofs.«01_k».proof.Proof.FinalRunB
public import Idealize.ShloMosaic.Lib.Claim

@[expose] public section

set_option maxRecDepth 16384

noncomputable section

namespace Cert.FinalKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FinalKernelIdeal Cert.FinalKernelIdeal.Gen

variable {F : FTy → Type} [FloatOps F]

variable (m : (ℓ : Loc nD τ sig) → Buf (Elt F) ℓ) (ρ : Dev nD → PrngReg)

/-- The one store of case A covers the output's block. -/
theorem coverA (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (fh : HbBuf (F := F) c hbM) (y : S256x2048.Idx) :
    ∃ pc ∈ (runA c i arg1 harg1 arg3 harg3 arg4 harg4 arg5 harg5 arg6 harg6 arg7 harg7 arg8 harg8 arg9 harg9 arg10 harg10 h1 h2 h3 x0 x1 x2 x3 x4 fh).1, y ∈ pc.1.set :=
  View.cover_of_tiledL (runA c i arg1 harg1 arg3 harg3 arg4 harg4 arg5 harg5 arg6 harg6 arg7 harg7 arg8 harg8 arg9 harg9 arg10 harg10 h1 h2 h3 x0 x1 x2 x3 x4 fh).1 S256x2048.size (by sl_kernel_rfl) y

/-- What case A leaves in the output's buffer. -/
def outA (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (fh : HbBuf (F := F) c hbM) : Vec F S256x2048 .f32 :=
  VO5.read (Elt F) (VO5.writes (Elt F) VO5.junk (runA c i arg1 harg1 arg3 harg3 arg4 harg4 arg5 harg5 arg6 harg6 arg7 harg7 arg8 harg8 arg9 harg9 arg10 harg10 h1 h2 h3 x0 x1 x2 x3 x4 fh).1)

/-- The one store of case B covers the output's block. -/
theorem coverB (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : ¬cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (xs : Vec F S5632x2048 .bf16) (y : S256x2048.Idx) :
    ∃ pc ∈ (runB c i arg1 harg1 arg3 harg3 arg4 harg4 arg5 harg5 arg6 harg6 arg7 harg7 arg8 harg8 arg9 harg9 arg10 harg10 h1 h2 h3 x0 x1 x2 x3 x4 xs).1, y ∈ pc.1.set :=
  View.cover_of_tiledL (runB c i arg1 harg1 arg3 harg3 arg4 harg4 arg5 harg5 arg6 harg6 arg7 harg7 arg8 harg8 arg9 harg9 arg10 harg10 h1 h2 h3 x0 x1 x2 x3 x4 xs).1 S256x2048.size (by sl_kernel_rfl) y

/-- What case B leaves in the output's buffer. -/
def outB (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : ¬cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (xs : Vec F S5632x2048 .bf16) : Vec F S256x2048 .f32 :=
  VO5.read (Elt F) (VO5.writes (Elt F) VO5.junk (runB c i arg1 harg1 arg3 harg3 arg4 harg4 arg5 harg5 arg6 harg6 arg7 harg7 arg8 harg8 arg9 harg9 arg10 harg10 h1 h2 h3 x0 x1 x2 x3 x4 xs).1)

/-- The one store of case C covers the output's block. -/
theorem coverC (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : ¬cond1 i) (h2 : ¬cond2 i) (h3 : cond3 i)
    (x0 : Vec F S256x5632 .bf16) (x1 : Vec F S256x2048 .f32) (x2 : Vec F S4x2048 .f32) (x3 : Vec F S128x2048 .f32) (x4 : Vec F S1x2048 .f32) (xs : Vec F S5632x2048 .bf16) (y : S256x2048.Idx) :
    ∃ pc ∈ (runC c i arg1 harg1 arg3 harg3 arg4 harg4 arg5 harg5 arg6 harg6 arg7 harg7 arg8 harg8 arg9 harg9 arg10 harg10 h1 h2 h3 x0 x1 x2 x3 x4 xs).1, y ∈ pc.1.set :=
  View.cover_of_tiledL (runC c i arg1 harg1 arg3 harg3 arg4 harg4 arg5 harg5 arg6 harg6 arg7 harg7 arg8 harg8 arg9 harg9 arg10 harg10 h1 h2 h3 x0 x1 x2 x3 x4 xs).1 S256x2048.size (by sl_kernel_rfl) y

/-- What case C leaves in the output's buffer. -/
def outC (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : ¬cond1 i) (h2 : ¬cond2 i) (h3 : cond3 i)
    (x0 : Vec F S256x5632 .bf16) (x1 : Vec F S256x2048 .f32) (x2 : Vec F S4x2048 .f32) (x3 : Vec F S128x2048 .f32) (x4 : Vec F S1x2048 .f32) (xs : Vec F S5632x2048 .bf16) : Vec F S256x2048 .f32 :=
  VO6.read (Elt F) (VO6.writes (Elt F) VO6.junk (runC c i arg1 harg1 arg3 harg3 arg4 harg4 arg5 harg5 arg6 harg6 arg7 harg7 arg8 harg8 arg9 harg9 arg10 harg10 h1 h2 h3 x0 x1 x2 x3 x4 xs).1)

/-- The chunks stored into the kept weights cover them. -/
theorem scover (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (fh : HbBuf (F := F) c hbM) (y : S5632x2048.Idx) :
    ∃ pc ∈ (runA c i arg1 harg1 arg3 harg3 arg4 harg4 arg5 harg5 arg6 harg6 arg7 harg7 arg8 harg8 arg9 harg9 arg10 harg10 h1 h2 h3 x0 x1 x2 x3 x4 fh).2.1, y ∈ pc.1.set :=
  View.cover_of_tiledL (runA c i arg1 harg1 arg3 harg3 arg4 harg4 arg5 harg5 arg6 harg6 arg7 harg7 arg8 harg8 arg9 harg9 arg10 harg10 h1 h2 h3 x0 x1 x2 x3 x4 fh).2.1 S176x2048.size (by sl_kernel_rfl) y

/-- What the first point leaves in the kept weights. -/
def sout (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S4x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S5632x2048 .bf16) (harg9 : arg9.IsWhole) (arg10 : Memref sig .tc .vmem S2x176x2048 .f32) (harg10 : arg10.IsWhole) (h1 : cond1 i) (h2 : cond2 i) (h3 : ¬cond3 i)
    (x0 : Vec F S256x5632 .bf16) (x1 : Vec F S256x2048 .f32) (x2 : Vec F S4x2048 .f32) (x3 : Vec F S128x2048 .f32) (x4 : Vec F S1x2048 .f32) (fh : HbBuf (F := F) c hbM) : Vec F S5632x2048 .bf16 :=
  VS0.read (Elt F) (VS0.writes (Elt F) VS0.junk (runA c i arg1 harg1 arg3 harg3 arg4 harg4 arg5 harg5 arg6 harg6 arg7 harg7 arg8 harg8 arg9 harg9 arg10 harg10 h1 h2 h3 x0 x1 x2 x3 x4 fh).2.1)

/-- The first point. -/
def t0 : Fin cfg0.N := ⟨0, lt_of_lt_of_eq (by decide) N_0.symm⟩
theorem c1z {t : Fin cfg0.N} (h : t.val = 0) : cond1 (grid0.coords t) := (hcond1 t).mpr h
theorem c1p {t : Fin cfg0.N} (h : ¬t.val = 0) : ¬cond1 (grid0.coords t) := fun e => h ((hcond1 t).mp e)
theorem c2z {t : Fin cfg0.N} (h : t.val < 32) : cond2 (grid0.coords t) := (hcond2 t).mpr h
theorem c2p {t : Fin cfg0.N} (h : ¬t.val < 32) : ¬cond2 (grid0.coords t) := fun e => h ((hcond2 t).mp e)
theorem c3z {t : Fin cfg0.N} (h : ¬t.val < 32) : cond3 (grid0.coords t) := (hcond3 t).mpr (Nat.le_of_not_lt h)
theorem c3p {t : Fin cfg0.N} (h : t.val < 32) : ¬cond3 (grid0.coords t) := fun e => absurd ((hcond3 t).mp e) (Nat.not_le.mpr h)
theorem z32 {t : Fin cfg0.N} (h : t.val = 0) : t.val < 32 := by omega

/-- The kept weights after the first point. -/
def wAt (c : Dev nD) : Vec F S5632x2048 .bf16 :=
  sout c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) (c1z rfl) (c2z (z32 rfl)) (c3p (z32 rfl)) (iblk m c 0 t0) (iblk m c 1 t0) (iblk m c 2 t0) (iblk m c 3 t0) (iblk m c 4 t0) (V m c main_arg6)

/-- What the body stores into the output it stores at point `t`. -/
def yAt (c : Dev nD) (t : Fin cfg0.N) : Vec F S256x2048 .f32 :=
  if h : t.val = 0 then outA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (c1z h) (c2z (z32 h)) (c3p (z32 h)) (iblk m c 0 t) (iblk m c 1 t) (iblk m c 2 t) (iblk m c 3 t) (iblk m c 4 t) (V m c main_arg6)
  else if h2 : t.val < 32 then outB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (c1p h) (c2z h2) (c3p h2) (iblk m c 0 t) (iblk m c 1 t) (iblk m c 2 t) (iblk m c 3 t) (iblk m c 4 t) (wAt m c)
  else outC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (c1p h) (c2p h2) (c3z h2) (iblk m c 0 t) (iblk m c 1 t) (iblk m c 2 t) (iblk m c 3 t) (iblk m c 4 t) (wAt m c)

theorem yAt_A (c : Dev nD) (t : Fin cfg0.N) (h : t.val = 0) :
    yAt m c t = outA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (c1z h) (c2z (z32 h)) (c3p (z32 h)) (iblk m c 0 t) (iblk m c 1 t) (iblk m c 2 t) (iblk m c 3 t) (iblk m c 4 t) (V m c main_arg6) := dif_pos h
theorem yAt_B (c : Dev nD) (t : Fin cfg0.N) (h : ¬t.val = 0) (h2 : t.val < 32) :
    yAt m c t = outB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (c1p h) (c2z h2) (c3p h2) (iblk m c 0 t) (iblk m c 1 t) (iblk m c 2 t) (iblk m c 3 t) (iblk m c 4 t) (wAt m c) := (dif_neg h).trans (dif_pos h2)
theorem yAt_C (c : Dev nD) (t : Fin cfg0.N) (h : ¬t.val = 0) (h2 : ¬t.val < 32) :
    yAt m c t = outC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (c1p h) (c2p h2) (c3z h2) (iblk m c 0 t) (iblk m c 1 t) (iblk m c 2 t) (iblk m c 3 t) (iblk m c 4 t) (wAt m c) := (dif_neg h).trans (dif_neg h2)

/-- The last prompt point. -/
def t31 : Fin cfg0.N := ⟨31, lt_of_lt_of_eq (by decide) N_0.symm⟩

/-- The invariant after the first point: the kept weights, the landing buffer at anything, the register, the semaphores
    at zero, the weights in the large memory. -/
def PhiK (c : Dev nD) : sProp (MT nD τ sig Unit (Elt F) ℕ (Pipeline.UD sig nD τ) ℕ) :=
  iprop(iprop(owns (c : Thread nD τ) scM0 fullShare (wAt m c) ∗ (∃ d, owns (c : Thread nD τ) scM1 fullShare d)) ∗ (∃ r, prngReg c r) ∗ iprop(semVal ((c : Thread nD τ), SemLoc.dma 11) 0 ∗ semVal ((c : Thread nD τ), SemLoc.dma 12) 0) ∗ hbPt c hbM (V m c main_arg6))

/-- The invariant before position `n`. -/
def PhiS (c : Dev nD) : (n : ℕ) → sProp (MT nD τ sig Unit (Elt F) ℕ (Pipeline.UD sig nD τ) ℕ)
  | 0 => Pipeline.ΦD osem spec0 H (V m) c
  | _ + 1 => PhiK m c

theorem PhiS_zero (c : Dev nD) (n : ℕ) (h : n = 0) : PhiS m c n = Pipeline.ΦD osem spec0 H (V m) c := by subst h; rfl
theorem PhiS_pos (c : Dev nD) (n : ℕ) (h : n ≠ 0) : PhiS m c n = PhiK m c := by
  cases n with
  | zero => exact absurd rfl h
  | succ n => rfl

/-- The proof data: the first output's buffer keeps the last prompt block through the sample points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if t.val < 32 then yAt m c t else yAt m c t31
    | ⟨6, _⟩ => yAt m c t
  Φ t := PhiS m c t.val
  q w := fullShare
  owed _ := 0

theorem A_eq (c : Dev nD) (w : Fin cfg0.W) : (dats m 0 c).A w = V m c (Pipeline.arrRef spec0 w) := by
  dsimp only [dats]
theorem share_eq (c : Dev nD) (w : Fin cfg0.W) : (dats m 0 c).share w = fullShare := by
  unfold Dat.share dats; dsimp only; split <;> rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = if t.val < 32 then yAt m c t else yAt m c t31 := by dsimp only [dats]
theorem after6 (c : Dev nD) (t : Fin cfg0.N) : (dats m 0 c).after 6 t = yAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## When the outputs are idle and when they are written back -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 : ∀ t : Fin cfg0.N, t.val < 32 → cfg0.idle 5 (grid0.coords t) = false := by exact (by decide +kernel : ∀ t : Fin grid0.N, t.val < 32 → cfg0.idle 5 (grid0.coords t) = false)
theorem idle5 : ∀ t : Fin cfg0.N, ¬t.val < 32 → cfg0.idle 5 (grid0.coords t) = true := by exact (by decide +kernel : ∀ t : Fin grid0.N, ¬t.val < 32 → cfg0.idle 5 (grid0.coords t) = true)
theorem live6 : ∀ t : Fin cfg0.N, ¬t.val < 32 → cfg0.idle 6 (grid0.coords t) = false := by exact (by decide +kernel : ∀ t : Fin grid0.N, ¬t.val < 32 → cfg0.idle 6 (grid0.coords t) = false)
theorem idle6 : ∀ t : Fin cfg0.N, t.val < 32 → cfg0.idle 6 (grid0.coords t) = true := by exact (by decide +kernel : ∀ t : Fin grid0.N, t.val < 32 → cfg0.idle 6 (grid0.coords t) = true)
theorem noFlush6 : ∀ t : Fin cfg0.N, t.val < 32 → (cfg0.win 6).flush t = false := by exact (by decide +kernel : ∀ t : Fin grid0.N, t.val < 32 → win0_6.flush t = false)
theorem noFlush5 : ∀ t : Fin cfg0.N, t.val = 31 ∨ t.val = 32 → (cfg0.win 5).flush t = false := by exact (by decide +kernel : ∀ t : Fin grid0.N, t.val = 31 ∨ t.val = 32 → win0_5.flush t = false)
theorem flush5 : ∀ t : Fin cfg0.N, t.val = 33 → (cfg0.win 5).flush t = true := by exact (by decide +kernel : ∀ t : Fin grid0.N, t.val = 33 → win0_5.flush t = true)
theorem noFetch5 : ∀ t : Fin cfg0.N, (cfg0.win 5).fetch t = false := by exact (by decide +kernel : ∀ t : Fin grid0.N, win0_5.fetch t = false)

/-- Through the first sample point the first output's buffer keeps the last prompt block. -/
theorem before5_32 (c : Dev nD) (t : Fin cfg0.N) (ht : t.val = 32) (d) : (dats m 0 c).before 5 t d = yAt m c t31 := by
  rw [Dat.before_of_pos _ 5 t (by omega) (noFetch5 t)]
  have e : (⟨t.val - 1, Nat.lt_of_le_of_lt (Nat.sub_le _ _) t.isLt⟩ : Fin cfg0.N) = t31 := Fin.ext (by show t.val - 1 = 31; omega)
  rw [e, noFlush5 t31 (Or.inl rfl), if_neg Bool.false_ne_true]
  unfold Dat.left
  rw [live5 t31 (by decide)]
  show (dats m 0 c).kept 5 t31 d = _
  have k : (dats m 0 c).kept 5 t31 d = (dats m 0 c).after 5 t31 := rfl
  rw [k, after5, if_pos (by decide)]

/-- And through the second. -/
theorem before5_33 (c : Dev nD) (t : Fin cfg0.N) (ht : t.val = 33) (d) : (dats m 0 c).before 5 t d = yAt m c t31 := by
  rw [Dat.before_of_pos _ 5 t (by omega) (noFetch5 t)]
  have h32 : (⟨t.val - 1, Nat.lt_of_le_of_lt (Nat.sub_le _ _) t.isLt⟩ : Fin cfg0.N).val = 32 := by show t.val - 1 = 32; omega
  rw [noFlush5 _ (Or.inr h32), if_neg Bool.false_ne_true]
  unfold Dat.left
  rw [idle5 _ (by omega)]
  exact before5_32 m c _ h32 d

/-- A sample point leaves the first output's buffer alone. -/
theorem leaves5 (c : Dev nD) (t : Fin cfg0.N) (h2 : ¬t.val < 32) :
    (iprop(∃ d, owns (c : Thread nD τ) (ms5 t) fullShare ((dats m 0 c).before 5 t d)) : sProp (MT nD τ sig Unit (Elt F) ℕ (Pipeline.UD sig nD τ) ℕ)) ⊢ (dats m 0 c).leavesExact 5 t := by
  have hN : t.val < 34 := lt_of_lt_of_eq t.isLt N_0
  by_cases h : t.val = 33
  · have e : (dats m 0 c).leavesExact 5 t = owns (c : Thread nD τ) (ms5 t) fullShare ((dats m 0 c).after 5 t) := by
      unfold Dat.leavesExact; rw [idle5 t h2, flush5 t h]
    rw [e, after5, if_neg h2]
    iintro ⟨%d, H⟩
    rw [before5_33 m c t h d]
    iexact H
  · rw [Dat.leavesExact_idle (dats m 0 c) 5 t (idle5 t h2) (noFlush5 t (by omega))]

/-- What the body is called with at point `t`, -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = PhiK m c from rfl, show (dats m 0 c).Φ t.castSucc = PhiS m c t.val from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [show (dats m 0 c).leavesExact 4 t = owns (c : Thread nD τ) (ms4 t) fullShare ((dats m 0 c).after 4 t) from by
      unfold Dat.leavesExact; rw [live4 t], after4]
  unfold Dat.owesAt Pipeline.owesWithin
  rw [show (dats m 0 c).owed t.castSucc = 0 from rfl, show (dats m 0 c).owed t.succ = 0 from rfl]
  have hN : t.val < 34 := lt_of_lt_of_eq t.isLt N_0
  by_cases h2 : t.val < 32
  · rw [Dat.leavesExact_idle (dats m 0 c) 6 t (idle6 t h2) (noFlush6 t h2)]
    rw [show (dats m 0 c).leavesExact 5 t = owns (c : Thread nD τ) (ms5 t) fullShare ((dats m 0 c).after 5 t) from by
      unfold Dat.leavesExact; rw [live5 t h2], after5]
    rw [if_pos h2]
    by_cases h : t.val = 0
    · rw [PhiS_zero m c _ h, Phi_eq, yAt_A m c t h]
      obtain rfl : t = t0 := Fin.ext h
      unfold PhiK outA wAt sout; (try dsimp only)
      iintro ⟨⟨⟨HS0, HS1⟩, Hg, ⟨Hq0, Hq1⟩, Hh⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((runA c (grid0.coords t0) _ _ _ _ _ _ _ _ _ _ _ _ (ms6 t0) (hs6 t0) _ _ _ _ (c1z h) (c2z h2) (c3p h2) (iblk m c 0 t0) (iblk m c 1 t0) (iblk m c 2 t0) (iblk m c 3 t0) (iblk m c 4 t0) (V m c main_arg6)).2.2.2 W _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [Hq0]; · iexact Hq0
      isplitl [Hq1]; · iexact Hq1
      isplitl [Hh]; · iexact Hh
      isplitl [HW]; · iexact HW
      iintro ⟨H0, H1, H2, H3, H4, ⟨%e5, H5⟩, ⟨%es0, HS0⟩, ⟨%es1, HS1⟩, Hq0, Hq1, Hh, ⟨%W', HW'⟩⟩
      isplitl [HS0 HS1 Hg Hq0 Hq1 Hh]
      · isplitl [HS0 HS1]
        · isplitl [HS0]
          · unfold owns; iexists _; isplitr
            swap; · iexact HS0
            ipureintro; exact View.read_writes_of_cover _ _ _ _ _ (scover c _ _ _ _ _ _ _ _ _ _ _ _ _ _ _ _ _ _ _ _ _ _ _ _ _ _ _ _)
          iexists _; unfold owns; iexists _; isplitr
          swap; · iexact HS1
          ipureintro; rfl
        isplitl [Hg]; · iexact Hg
        isplitl [Hq0 Hq1]
        · isplitl [Hq0]; · iexact Hq0
          iexact Hq1
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA c _ _ _ _ _ _ _ _ _ _ _ _ _ _ _ _ _ _ _ _ _ _ _ _ _ _ _ _)
      iexists _; iexact H6
    · rw [PhiS_pos m c _ h, yAt_B m c t h h2]
      unfold PhiK outB; (try dsimp only)
      iintro ⟨⟨⟨HS0, HS1⟩, Hg, ⟨Hq0, Hq1⟩, Hh⟩, ⟨%W, -, HW⟩, ⟨%d0, H0⟩, ⟨%d1, H1⟩, ⟨%d2, H2⟩, ⟨%d3, H3⟩, ⟨%d4, H4⟩, ⟨%d5, H5⟩, H6⟩
      iapply ((runB c (grid0.coords t) _ _ _ _ _ _ _ _ _ _ (ms5 t) (hs5 t) (ms6 t) (hs6 t) _ _ scM1 (Memref.isWhole_whole _) (c1p h) (c2z h2) (c3p h2) (iblk m c 0 t) (iblk m c 1 t) (iblk m c 2 t) (iblk m c 3 t) (iblk m c 4 t) (wAt m c)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%ee, H5⟩, HS0⟩
      isplitl [HS0 HS1 Hg Hq0 Hq1 Hh]
      · isplitl [HS0 HS1]
        · isplitl [HS0]; · iexact HS0
          iexact HS1
        isplitl [Hg]; · iexact Hg
        isplitl [Hq0 Hq1]
        · isplitl [Hq0]; · iexact Hq0
          iexact Hq1
        iexact Hh
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB c _ _ _ _ _ _ _ _ _ _ _ _ _ _ _ _ _ _ _ _ _ _ _ _ _ _ _ _)
      iexact H6
  · rw [show (dats m 0 c).leavesExact 6 t = owns (c : Thread nD τ) (ms6 t) fullShare ((dats m 0 c).after 6 t) from by
      unfold Dat.leavesExact; rw [live6 t h2], after6]
    have h : ¬t.val = 0 := by omega
    rw [PhiS_pos m c _ h, yAt_C m c t h h2]
    unfold PhiK outC; (try dsimp only)
    iintro ⟨⟨⟨HS0, HS1⟩, Hg, ⟨Hq0, Hq1⟩, Hh⟩, ⟨%W, -, HW⟩, ⟨%d0, H0⟩, ⟨%d1, H1⟩, ⟨%d2, H2⟩, ⟨%d3, H3⟩, ⟨%d4, H4⟩, H5, ⟨%d6, H6⟩⟩
    iapply ((runC c (grid0.coords t) _ _ _ _ _ _ _ _ _ _ (ms5 t) (hs5 t) (ms6 t) (hs6 t) _ _ scM1 (Memref.isWhole_whole _) (c1p h) (c2p h2) (c3z h2) (iblk m c 0 t) (iblk m c 1 t) (iblk m c 2 t) (iblk m c 3 t) (iblk m c 4 t) (wAt m c)).2 _)
    isplitl [H0]; · iexact H0
    isplitl [H1]; · iexact H1
    isplitl [H2]; · iexact H2
    isplitl [H3]; · iexact H3
    isplitl [H4]; · iexact H4
    isplitl [H6]; · iexists _; iexact H6
    isplitl [HS0]; · iexact HS0
    iintro ⟨H0, H1, H2, H3, H4, ⟨%ee, H6⟩, HS0⟩
    isplitl [HS0 HS1 Hg Hq0 Hq1 Hh]
    · isplitl [HS0 HS1]
      · isplitl [HS0]; · iexact HS0
        iexact HS1
      isplitl [Hg]; · iexact Hg
      isplitl [Hq0 Hq1]
      · isplitl [Hq0]; · iexact Hq0
        iexact Hq1
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iapply (leaves5 m c t h2); iexact H5
    unfold owns; iexists _; isplitr
    swap; · iexact H6
    ipureintro; exact View.read_writes_of_cover _ _ _ _ _ (coverC c _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem spec0 H (V m) c ⊢ (dats m 0 c).Φ 0 := by
  rw [show (dats m 0 c).Φ 0 = PhiS m c 0 from rfl, PhiS_zero m c 0 rfl]

theorem hout (c : Dev nD) : (dats m 0 c).Φ (Fin.last cfg0.N) ⊢ Pipeline.ΦD osem spec0 H (V m) c := by
  rw [show (dats m 0 c).Φ (Fin.last cfg0.N) = PhiS m c (Fin.last cfg0.N).val from rfl,
    PhiS_pos m c _ (by rw [Fin.val_last]; have : cfg0.N = 34 := N_0; omega), Phi_eq]
  unfold PhiK
  iintro ⟨⟨HS0, HS1⟩, Hg, ⟨Hq0, Hq1⟩, Hh⟩
  isplitl [HS0 HS1]
  · isplitl [HS0]
    · iexists _; iexact HS0
    iexact HS1
  isplitl [Hg]; · iexact Hg
  isplitl [Hq0 Hq1]
  · isplitl [Hq0]; · iexact Hq0
    iexact Hq1
  iexact Hh

/-- The lines after the region do not touch the weights in the large memory. -/
theorem sfx_but : ∀ ops ∈ ([hostOps1] : List (List (HloOp τ sig (Elt F)))), ∀ op ∈ ops,
    op.bufs ⊆ Pipeline.tailRefsBut sig Pipeline.Prefetch.none spec0 H := by
  intro ops hops op hop
  simp only [List.mem_cons, List.mem_nil_iff, or_false] at hops
  rcases hops with rfl
  refine Pipeline.sub_tailRefsBut Pipeline.Prefetch.none spec0 H op ((List.forall_iff_forall_mem.mp hostOps1_sub) op hop) (fun j => j.elim0) ?_
  simp only [hostOps1, List.mem_cons, List.mem_nil_iff, or_false] at hop
  rcases hop with rfl | rfl | rfl
  all_goals intro b hb; simp only [H, Finset.mem_singleton] at hb
  all_goals rcases hb with rfl <;>
    simp only [StableHlo.nullary_bufs, StableHlo.unary_bufs, StableHlo.binary_bufs, StableHlo.reshape_bufs, Finset.mem_insert, Finset.mem_singleton, not_or] <;> and_intros <;> exact StableHlo.devRef_ne_of_ne (by decide)

set_option backward.isDefEq.respectTransparency.types false in
/-- Every execution terminates, with the arrays at what the proof data gives, the buffers after the region at what the
    host lines make of them, and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem defs₀ Variants.none ownSemFacts H H_sub m ρ main
    (hbody := fun c => (body_obligation m c).loose) (hshare := share_eq m)
    (howed := fun _ _ => rfl) (V0 m) [hostOps1] sfx_but sfx_fresh sfx_keeps (hmain m Variants.none) (A_eq m)
    (hin m) (hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.FinalKernelIdeal.Run

end
-- ==== Proof.FinalWeights.lean ====
/- The down projection's weights as the final block keeps them, copied from the argument block by block, cast, and stored; and the blocks its points store. -/
module

public import proofs.«01_k».proof.Proof.Rows
public import proofs.«01_k».proof.Proof.FinalFrame
public import Idealize.ShloMosaic.Lib.Pipeline.ReadBack

@[expose] public section

set_option maxRecDepth 16384

noncomputable section

open Idealize.ShloMosaic Idealize.ShloMosaic.TcCoe Idealize.SL.Sem
open Idealize.ShloMosaic.ValueIdx

namespace Cert.Final

open Cert.FinalKernelIdeal Cert.FinalKernelIdeal.Gen Cert.FinalKernelIdeal.Run

/-- A staged block of the weights, cast: the same numbers. -/
theorem cast_apply (x : Vec Ideal S1x176x2048 .f32) (r : Fin 176) (n : Fin 2048) : k0_pay2 x (ix2 r n) = x (ix3 0 r n) := by
  unfold k0_pay2
  simp only [shapeCast_self]
  exact Rows.dropLead_apply _ _ r n

variable (c : Dev nD) (fh : HbBuf (F := Ideal) c hbM)

/-- The weights. -/
def weights : Vec Ideal S5632x2048 .bf16 := fun y => fh (ix3 0 (⟨(y 0).val, (y 0).isLt⟩ : Fin 5632) (⟨(y 1).val, (y 1).isLt⟩ : Fin 2048))

/-- A block of rows copied from the argument and cast is those rows of the weights. -/
theorem block (o : ℕ) (i3 : ∀ a, ![0, o, 0] a + S1x176x2048.size a ≤ S1x5632x2048.size a)
    (i2 : ∀ a, ![o, 0] a + S176x2048.size a ≤ S5632x2048.size a) (p) (x : S176x2048.Idx) :
    k0_pay2 (ReadAs.same.apply (View.read (Elt Ideal)
      ((Memref.whole main_arg6).slice (Rect.unit ![0, o, 0] S1x176x2048.size i3) p).view fh)) x
      = weights c fh ((Rect.unit (s := S5632x2048) ![o, 0] S176x2048.size i2).emb x) := by
  obtain ⟨r, n, rfl⟩ : ∃ (r : Fin 176) (n : Fin 2048), x = ix2 r n := ⟨x 0, x 1, eq_ix2 x⟩
  refine (cast_apply _ r n).trans ?_
  show fh _ = fh _
  congr 1
  funext a; apply Fin.ext
  match a with
  | ⟨0, _⟩ => rfl
  | ⟨1, _⟩ => rfl
  | ⟨2, _⟩ => rfl

/-- The staging buffer read where the last copy landed. -/
theorem staged_last {S : Shape} {e : EltTy} (v : View sig .tc .vmem S e) (r : Rect S) (w : r.shape.Idx → Elt Ideal e) (L : List (View.Piece (Elt Ideal) S e)) :
    v.readCov (⟨r, w⟩ :: L) r.toLoadRect = w := View.readCov_cons_toLoadRect v r w L

/-- The staging buffer read where the copy before the last landed, the last having landed in the other half. -/
theorem staged_before {S : Shape} {e : EltTy} (v : View sig .tc .vmem S e) (q : Rect S) (u : q.shape.Idx → Elt Ideal e) (r : Rect S)
    (w : r.shape.Idx → Elt Ideal e) (L : List (View.Piece (Elt Ideal) S e)) (h : LoadRect.disj q r.toLoadRect = true) :
    v.readCov (⟨q, u⟩ :: ⟨r, w⟩ :: L) r.toLoadRect = w :=
  (View.readCov_skip v q u _ _ h).trans (View.readCov_cons_toLoadRect v r w L)

theorem hz : (![0, 0] : Fin 2 → Nat) = fun _ => 0 := funext fun a => by fin_cases a <;> rfl

/-- The row of the prompts' gates a point reads. -/
def gateRow (i : grid0.Coords) (x2 : Vec Ideal S4x2048 .f32) : Vec Ideal S1x2048 .f32 :=
  View.ld x2 (Rect.unit (s := S4x2048) (k0_off1 i) S1x2048.size (k0_off1_inb i))

/-- The block a point stores, of what it reads. -/
def stored (i : grid0.Coords) (x0 : Vec Ideal S256x5632 .bf16) (x1 : Vec Ideal S256x2048 .f32) (x2 : Vec Ideal S4x2048 .f32) (x3 : Vec Ideal S128x2048 .f32)
    (x4 : Vec Ideal S1x2048 .f32) (w : Vec Ideal S5632x2048 .bf16) : Vec Ideal S256x2048 .f32 :=
  k0_pay1 (k0_pay34 x1) (k0_pay35 i x3 (gateRow i x2)) (k0_pay36 x0) w (constant (F := Ideal) S256x2048 .f32 0x00000000#32) x4

section Cases
variable (i : grid0.Coords)
  (arg1 : Memref sig .tc .vmem S256x5632 .bf16) (harg1 : arg1.IsWhole)
  (arg3 : Memref sig .tc .vmem S256x2048 .f32) (harg3 : arg3.IsWhole)
  (arg4 : Memref sig .tc .vmem S4x2048 .f32) (harg4 : arg4.IsWhole)
  (arg5 : Memref sig .tc .vmem S128x2048 .f32) (harg5 : arg5.IsWhole)
  (arg6 : Memref sig .tc .vmem S1x2048 .f32) (harg6 : arg6.IsWhole)
  (arg7 : Memref sig .tc .vmem S256x2048 .f32) (harg7 : arg7.IsWhole)
  (arg8 : Memref sig .tc .vmem S256x2048 .f32) (harg8 : arg8.IsWhole)
  (arg9 : Memref sig .tc .vmem S5632x2048 .bf16) (harg9 : arg9.IsWhole)
  (arg10 : Memref sig .tc .vmem S2x176x2048 .f32) (harg10 : arg10.IsWhole)
  (x0 : Vec Ideal S256x5632 .bf16) (x1 : Vec Ideal S256x2048 .f32) (x2 : Vec Ideal S4x2048 .f32) (x3 : Vec Ideal S128x2048 .f32) (x4 : Vec Ideal S1x2048 .f32)
  (xs : Vec Ideal S5632x2048 .bf16)

set_option maxHeartbeats 4000000 in
/-- The blocks the first point stores are the weights. -/
theorem canon (h1 : cond1 i) (h2 : cond2 i) (h3 : ¬cond3 i) : View.canon (runA c i arg1 harg1 arg3 harg3 arg4 harg4 arg5 harg5 arg6 harg6 arg7 harg7 arg8 harg8 arg9 harg9 arg10 harg10 h1 h2 h3 x0 x1 x2 x3 x4 fh).2.1 = weights c fh := by
  funext y
  refine View.canon_apply_of_pieces (weights c fh) _ (View.PiecesOf.mem ?_) y (scover c i arg1 harg1 arg3 harg3 arg4 harg4 arg5 harg5 arg6 harg6 arg7 harg7 arg8 harg8 arg9 harg9 arg10 harg10 h1 h2 h3 x0 x1 x2 x3 x4 fh y)
  unfold runA
  dsimp only
  sl_unfold_words
  exact ⟨fun x => (congrArg (fun v => k0_pay33 v x) (staged_last _ _ _ _)).trans (block c fh 5456 inb_S1x5632x2048_S1x176x2048_0_5456_0 inb_S5632x2048_S176x2048_5456_0 _ x),
    fun x => (congrArg (fun v => k0_pay32 v x) (staged_before _ _ _ _ _ _ (by decide))).trans (block c fh 5280 inb_S1x5632x2048_S1x176x2048_0_5280_0 inb_S5632x2048_S176x2048_5280_0 _ x),
    fun x => (congrArg (fun v => k0_pay31 v x) (staged_before _ _ _ _ _ _ (by decide))).trans (block c fh 5104 inb_S1x5632x2048_S1x176x2048_0_5104_0 inb_S5632x2048_S176x2048_5104_0 _ x),
    fun x => (congrArg (fun v => k0_pay30 v x) (staged_before _ _ _ _ _ _ (by decide))).trans (block c fh 4928 inb_S1x5632x2048_S1x176x2048_0_4928_0 inb_S5632x2048_S176x2048_4928_0 _ x),
    fun x => (congrArg (fun v => k0_pay29 v x) (staged_before _ _ _ _ _ _ (by decide))).trans (block c fh 4752 inb_S1x5632x2048_S1x176x2048_0_4752_0 inb_S5632x2048_S176x2048_4752_0 _ x),
    fun x => (congrArg (fun v => k0_pay28 v x) (staged_before _ _ _ _ _ _ (by decide))).trans (block c fh 4576 inb_S1x5632x2048_S1x176x2048_0_4576_0 inb_S5632x2048_S176x2048_4576_0 _ x),
    fun x => (congrArg (fun v => k0_pay27 v x) (staged_before _ _ _ _ _ _ (by decide))).trans (block c fh 4400 inb_S1x5632x2048_S1x176x2048_0_4400_0 inb_S5632x2048_S176x2048_4400_0 _ x),
    fun x => (congrArg (fun v => k0_pay26 v x) (staged_before _ _ _ _ _ _ (by decide))).trans (block c fh 4224 inb_S1x5632x2048_S1x176x2048_0_4224_0 inb_S5632x2048_S176x2048_4224_0 _ x),
    fun x => (congrArg (fun v => k0_pay25 v x) (staged_before _ _ _ _ _ _ (by decide))).trans (block c fh 4048 inb_S1x5632x2048_S1x176x2048_0_4048_0 inb_S5632x2048_S176x2048_4048_0 _ x),
    fun x => (congrArg (fun v => k0_pay24 v x) (staged_before _ _ _ _ _ _ (by decide))).trans (block c fh 3872 inb_S1x5632x2048_S1x176x2048_0_3872_0 inb_S5632x2048_S176x2048_3872_0 _ x),
    fun x => (congrArg (fun v => k0_pay23 v x) (staged_before _ _ _ _ _ _ (by decide))).trans (block c fh 3696 inb_S1x5632x2048_S1x176x2048_0_3696_0 inb_S5632x2048_S176x2048_3696_0 _ x),
    fun x => (congrArg (fun v => k0_pay22 v x) (staged_before _ _ _ _ _ _ (by decide))).trans (block c fh 3520 inb_S1x5632x2048_S1x176x2048_0_3520_0 inb_S5632x2048_S176x2048_3520_0 _ x),
    fun x => (congrArg (fun v => k0_pay21 v x) (staged_before _ _ _ _ _ _ (by decide))).trans (block c fh 3344 inb_S1x5632x2048_S1x176x2048_0_3344_0 inb_S5632x2048_S176x2048_3344_0 _ x),
    fun x => (congrArg (fun v => k0_pay20 v x) (staged_before _ _ _ _ _ _ (by decide))).trans (block c fh 3168 inb_S1x5632x2048_S1x176x2048_0_3168_0 inb_S5632x2048_S176x2048_3168_0 _ x),
    fun x => (congrArg (fun v => k0_pay19 v x) (staged_before _ _ _ _ _ _ (by decide))).trans (block c fh 2992 inb_S1x5632x2048_S1x176x2048_0_2992_0 inb_S5632x2048_S176x2048_2992_0 _ x),
    fun x => (congrArg (fun v => k0_pay18 v x) (staged_before _ _ _ _ _ _ (by decide))).trans (block c fh 2816 inb_S1x5632x2048_S1x176x2048_0_2816_0 inb_S5632x2048_S176x2048_2816_0 _ x),
    fun x => (congrArg (fun v => k0_pay17 v x) (staged_before _ _ _ _ _ _ (by decide))).trans (block c fh 2640 inb_S1x5632x2048_S1x176x2048_0_2640_0 inb_S5632x2048_S176x2048_2640_0 _ x),
    fun x => (congrArg (fun v => k0_pay16 v x) (staged_before _ _ _ _ _ _ (by decide))).trans (block c fh 2464 inb_S1x5632x2048_S1x176x2048_0_2464_0 inb_S5632x2048_S176x2048_2464_0 _ x),
    fun x => (congrArg (fun v => k0_pay15 v x) (staged_before _ _ _ _ _ _ (by decide))).trans (block c fh 2288 inb_S1x5632x2048_S1x176x2048_0_2288_0 inb_S5632x2048_S176x2048_2288_0 _ x),
    fun x => (congrArg (fun v => k0_pay14 v x) (staged_before _ _ _ _ _ _ (by decide))).trans (block c fh 2112 inb_S1x5632x2048_S1x176x2048_0_2112_0 inb_S5632x2048_S176x2048_2112_0 _ x),
    fun x => (congrArg (fun v => k0_pay13 v x) (staged_before _ _ _ _ _ _ (by decide))).trans (block c fh 1936 inb_S1x5632x2048_S1x176x2048_0_1936_0 inb_S5632x2048_S176x2048_1936_0 _ x),
    fun x => (congrArg (fun v => k0_pay12 v x) (staged_before _ _ _ _ _ _ (by decide))).trans (block c fh 1760 inb_S1x5632x2048_S1x176x2048_0_1760_0 inb_S5632x2048_S176x2048_1760_0 _ x),
    fun x => (congrArg (fun v => k0_pay11 v x) (staged_before _ _ _ _ _ _ (by decide))).trans (block c fh 1584 inb_S1x5632x2048_S1x176x2048_0_1584_0 inb_S5632x2048_S176x2048_1584_0 _ x),
    fun x => (congrArg (fun v => k0_pay10 v x) (staged_before _ _ _ _ _ _ (by decide))).trans (block c fh 1408 inb_S1x5632x2048_S1x176x2048_0_1408_0 inb_S5632x2048_S176x2048_1408_0 _ x),
    fun x => (congrArg (fun v => k0_pay9 v x) (staged_before _ _ _ _ _ _ (by decide))).trans (block c fh 1232 inb_S1x5632x2048_S1x176x2048_0_1232_0 inb_S5632x2048_S176x2048_1232_0 _ x),
    fun x => (congrArg (fun v => k0_pay8 v x) (staged_before _ _ _ _ _ _ (by decide))).trans (block c fh 1056 inb_S1x5632x2048_S1x176x2048_0_1056_0 inb_S5632x2048_S176x2048_1056_0 _ x),
    fun x => (congrArg (fun v => k0_pay7 v x) (staged_before _ _ _ _ _ _ (by decide))).trans (block c fh 880 inb_S1x5632x2048_S1x176x2048_0_880_0 inb_S5632x2048_S176x2048_880_0 _ x),
    fun x => (congrArg (fun v => k0_pay6 v x) (staged_before _ _ _ _ _ _ (by decide))).trans (block c fh 704 inb_S1x5632x2048_S1x176x2048_0_704_0 inb_S5632x2048_S176x2048_704_0 _ x),
    fun x => (congrArg (fun v => k0_pay5 v x) (staged_before _ _ _ _ _ _ (by decide))).trans (block c fh 528 inb_S1x5632x2048_S1x176x2048_0_528_0 inb_S5632x2048_S176x2048_528_0 _ x),
    fun x => (congrArg (fun v => k0_pay4 v x) (staged_before _ _ _ _ _ _ (by decide))).trans (block c fh 352 inb_S1x5632x2048_S1x176x2048_0_352_0 inb_S5632x2048_S176x2048_352_0 _ x),
    fun x => (congrArg (fun v => k0_pay3 v x) (staged_before _ _ _ _ _ _ (by decide))).trans (block c fh 176 inb_S1x5632x2048_S1x176x2048_0_176_0 inb_S5632x2048_S176x2048_176_0 _ x),
    fun x => (congrArg (fun v => k0_pay2 v x) (staged_before _ _ _ _ _ _ (by decide))).trans (block c fh 0 inb_S1x5632x2048_S1x176x2048_0_0_0 inb_S5632x2048_S176x2048_0_0 _ x), trivial⟩

theorem sout_eq (h1 : cond1 i) (h2 : cond2 i) (h3 : ¬cond3 i) : sout c i arg1 harg1 arg3 harg3 arg4 harg4 arg5 harg5 arg6 harg6 arg7 harg7 arg8 harg8 arg9 harg9 arg10 harg10 h1 h2 h3 x0 x1 x2 x3 x4 fh = weights c fh := by
  unfold sout
  rw [View.read_writes_eq_canon _ _ _ (scover c i arg1 harg1 arg3 harg3 arg4 harg4 arg5 harg5 arg6 harg6 arg7 harg7 arg8 harg8 arg9 harg9 arg10 harg10 h1 h2 h3 x0 x1 x2 x3 x4 fh)]
  exact canon c fh i arg1 harg1 arg3 harg3 arg4 harg4 arg5 harg5 arg6 harg6 arg7 harg7 arg8 harg8 arg9 harg9 arg10 harg10 x0 x1 x2 x3 x4 h1 h2 h3

theorem outB_eq (h1 : ¬cond1 i) (h2 : cond2 i) (h3 : ¬cond3 i) : outB c i arg1 harg1 arg3 harg3 arg4 harg4 arg5 harg5 arg6 harg6 arg7 harg7 arg8 harg8 arg9 harg9 arg10 harg10 h1 h2 h3 x0 x1 x2 x3 x4 xs = stored i x0 x1 x2 x3 x4 xs := by
  unfold outB
  rw [View.read_writes_eq_canon _ _ _ (coverB c i arg1 harg1 arg3 harg3 arg4 harg4 arg5 harg5 arg6 harg6 arg7 harg7 arg8 harg8 arg9 harg9 arg10 harg10 h1 h2 h3 x0 x1 x2 x3 x4 xs)]
  unfold runB
  dsimp only
  sl_unfold_words
  rw [View.canon_unit_zero hz]
  simp only [View.readAt_eq_ld, harg1.read_unread, harg3.read_unread, harg4.read_unread, harg5.read_unread, harg6.read_unread, harg9.read_unread,
    View.ld_unit_zero (S := S256x2048) hz, View.ld_unit_zero (S := S256x5632) hz, View.ld_unit_zero (S := S128x2048) hz, View.ld_unit_zero (S := S1x2048) hz, View.ld_unit_zero (S := S5632x2048) hz]
  rfl

theorem outC_eq (h1 : ¬cond1 i) (h2 : ¬cond2 i) (h3 : cond3 i) : outC c i arg1 harg1 arg3 harg3 arg4 harg4 arg5 harg5 arg6 harg6 arg7 harg7 arg8 harg8 arg9 harg9 arg10 harg10 h1 h2 h3 x0 x1 x2 x3 x4 xs = stored i x0 x1 x2 x3 x4 xs := by
  unfold outC
  rw [View.read_writes_eq_canon _ _ _ (coverC c i arg1 harg1 arg3 harg3 arg4 harg4 arg5 harg5 arg6 harg6 arg7 harg7 arg8 harg8 arg9 harg9 arg10 harg10 h1 h2 h3 x0 x1 x2 x3 x4 xs)]
  unfold runC
  dsimp only
  sl_unfold_words
  rw [View.canon_unit_zero hz]
  simp only [View.readAt_eq_ld, harg1.read_unread, harg3.read_unread, harg4.read_unread, harg5.read_unread, harg6.read_unread, harg9.read_unread,
    View.ld_unit_zero (S := S256x2048) hz, View.ld_unit_zero (S := S256x5632) hz, View.ld_unit_zero (S := S128x2048) hz, View.ld_unit_zero (S := S1x2048) hz, View.ld_unit_zero (S := S5632x2048) hz]
  rfl

theorem outA_eq (h1 : cond1 i) (h2 : cond2 i) (h3 : ¬cond3 i) : outA c i arg1 harg1 arg3 harg3 arg4 harg4 arg5 harg5 arg6 harg6 arg7 harg7 arg8 harg8 arg9 harg9 arg10 harg10 h1 h2 h3 x0 x1 x2 x3 x4 fh = stored i x0 x1 x2 x3 x4 (weights c fh) := by
  have e0 : arg9.view.readCov (runA c i arg1 harg1 arg3 harg3 arg4 harg4 arg5 harg5 arg6 harg6 arg7 harg7 arg8 harg8 arg9 harg9 arg10 harg10 h1 h2 h3 x0 x1 x2 x3 x4 fh).2.1 (Rect.unit ![0, 0] S5632x2048.size inb_S5632x2048_S5632x2048_0_0).toLoadRect = weights c fh := by
    rw [View.readCov_eq_canon_ld _ _ _ (scover c i arg1 harg1 arg3 harg3 arg4 harg4 arg5 harg5 arg6 harg6 arg7 harg7 arg8 harg8 arg9 harg9 arg10 harg10 h1 h2 h3 x0 x1 x2 x3 x4 fh), canon, View.ld_unit_zero (S := S5632x2048) hz]
  rw [← e0]
  unfold outA
  rw [View.read_writes_eq_canon _ _ _ (coverA c i arg1 harg1 arg3 harg3 arg4 harg4 arg5 harg5 arg6 harg6 arg7 harg7 arg8 harg8 arg9 harg9 arg10 harg10 h1 h2 h3 x0 x1 x2 x3 x4 fh)]
  unfold runA
  dsimp only
  sl_unfold_words
  rw [View.canon_unit_zero hz]
  simp only [View.readAt_eq_ld, harg1.read_unread, harg3.read_unread, harg4.read_unread, harg5.read_unread, harg6.read_unread, harg9.read_unread,
    View.ld_unit_zero (S := S256x2048) hz, View.ld_unit_zero (S := S256x5632) hz, View.ld_unit_zero (S := S128x2048) hz, View.ld_unit_zero (S := S1x2048) hz, View.ld_unit_zero (S := S5632x2048) hz]
  rfl

end Cases

variable (m : (ℓ : Loc nD τ sig) → Buf (Elt Ideal) ℓ)

/-- The block every point stores. -/
theorem yAt_eq (c : Dev nD) (t : Fin cfg0.N) : yAt m c t
    = stored (grid0.coords t) (iblk m c 0 t) (iblk m c 1 t) (iblk m c 2 t) (iblk m c 3 t) (iblk m c 4 t) (weights c (V m c main_arg6)) := by
  have hw : wAt m c = weights c (V m c main_arg6) := by
    unfold wAt
    exact sout_eq c _ _ _ _ _ _ _ _ _ _ _ _ _ _ _ _ _ _ _ _ _ _ _ _ _ _ _ _
  by_cases h : t.val = 0
  · rw [yAt_A m c t h]
    exact outA_eq c _ _ _ _ _ _ _ _ _ _ _ _ _ _ _ _ _ _ _ _ _ _ _ _ _ _ _ _
  · by_cases h2 : t.val < 32
    · rw [yAt_B m c t h h2, hw]
      exact outB_eq c _ _ _ _ _ _ _ _ _ _ _ _ _ _ _ _ _ _ _ _ _ _ _ _ _ _ _ _
    · rw [yAt_C m c t h h2, hw]
      exact outC_eq c _ _ _ _ _ _ _ _ _ _ _ _ _ _ _ _ _ _ _ _ _ _ _ _ _ _ _ _

end Cert.Final

end
-- ==== Proof.FinalSum.lean ====
/- A sum along the columns of a block, as a sum over them. -/
module

public import proofs.«01_k».proof.Proof.Rows
import Idealize.ShloMosaic.Lib.Pointwise.Reduce

@[expose] public section

noncomputable section

namespace Cert.Final

open Idealize.ShloMosaic

/-- The reduction at a row is the sum of the row. -/
theorem rowSum {M N : ℕ} {t : Shape} (h : (⟨2, ![M, N]⟩ : Shape).Reduces [1] t) (v : (⟨2, ![M, N]⟩ : Shape).Idx → EReal) (j : t.Idx) (r : Fin M)
    (a : Fin t.rank) (ha : a.val = 0) (hr : (j a).val = r.val) : Ideal.reduceAdd h v j = ∑ k : Fin N, v (ValueIdx.ix2 r k) := by
  refine (Ideal.reduceAdd_r2_a1 h v j).trans (Finset.sum_congr rfl fun k _ => congrArg v ?_)
  obtain ⟨a, _⟩ := a
  obtain rfl : a = 0 := ha
  funext b; apply Fin.ext
  match b with
  | ⟨0, _⟩ => exact hr
  | ⟨1, _⟩ => rfl

end Cert.Final

end
-- ==== Proof.Final.lean ====
/- The final residual block: the rows it adds the gated product to, their norm, and what the kernel leaves in its two results. -/
module

public import proofs.«01_k».proof.Proof.FinalWeights
public import proofs.«01_k».proof.Proof.FinalSum

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.Final

open Cert.FinalKernelIdeal Cert.FinalKernelIdeal.Gen Cert.FinalKernelIdeal.Run
open Cert.Rows (dot)

/-! ## The stored block -/

/-- A residual entry: half the gated product, added. -/
def res (h g a : EReal) : EReal := h + Ideal.ofBits .f32 0x3F000000#32 * g * a

/-- A row over the root of its mean square, scaled. -/
def normed (x w : Fin 2048 → EReal) (n : Fin 2048) : EReal :=
  x n * Ideal.rsqrt (Ideal.div (∑ k, x k * x k) (Ideal.ofBits .f32 0x45000000#32) + Ideal.ofBits .f32 0x358637BD#32) * w n

/-- The kernel's norm of a block's rows. -/
theorem norm_apply (x : FVec Ideal S256x2048 .f32) (g : Vec Ideal S1x2048 .f32) (r : Fin 256) (n : Fin 2048) :
    mulf (mulf x (broadcastTo S256x2048 (rsqrt (addf (divf (shapeCast S256x1 (multiReduction .add [1] S256 (mulf x x) 0x00000000#32
      reduces_S256x2048_S256 (.inl rfl) rfl) shapeCasts_S256_S256x1) (broadcast S256x1 (Scalar.ofBits (F := Ideal) .f32 0x45000000#32)))
      (broadcast S256x1 (Scalar.ofBits (F := Ideal) .f32 0x358637BD#32)))) broadcasts_S256x1_S256x2048))
      (broadcastTo S256x2048 g broadcasts_S1x2048_S256x2048) (ix2 r n) = normed (fun k => x (ix2 r k)) (fun k => g (ix2 0 k)) n := by
  have e1 : ∀ y : FVec Ideal S256x1 .f32, broadcastTo S256x2048 y broadcasts_S256x1_S256x2048 (ix2 r n) = y (ix2 r 0) := fun y =>
    broadcastTo_apply y _ _ _ (fun a => by match a with | ⟨0, _⟩ => rfl | ⟨1, _⟩ => rfl)
  have e2 : broadcastTo S256x2048 g broadcasts_S1x2048_S256x2048 (ix2 r n) = g (ix2 0 n) :=
    broadcastTo_apply g _ _ _ (fun a => by match a with | ⟨0, _⟩ => rfl | ⟨1, _⟩ => rfl)
  have e3 : ∀ y : FVec Ideal S256 .f32, shapeCast S256x1 y shapeCasts_S256_S256x1 (ix2 r 0) = y (ix1 r) := fun y => by
    refine shapeCast_apply y _ _ _ ?_
    rw [Shape.rowMajor_val_one, Shape.rowMajor_val_two]
    show r.val = r.val * 1 + 0
    omega
  have e4 : multiReduction .add [1] S256 (mulf x x) 0x00000000#32 reduces_S256x2048_S256 (.inl rfl) rfl (ix1 r) = ∑ k : Fin 2048, x (ix2 r k) * x (ix2 r k) :=
    rowSum (M := 256) (N := 2048) reduces_S256x2048_S256 (mulf x x) (ix1 r) r 0 rfl rfl
  show x (ix2 r n) * broadcastTo S256x2048 _ broadcasts_S256x1_S256x2048 (ix2 r n) * broadcastTo S256x2048 g broadcasts_S1x2048_S256x2048 (ix2 r n) = _
  rw [e1, e2]
  show x (ix2 r n) * Ideal.rsqrt (Ideal.div (shapeCast S256x1 _ shapeCasts_S256_S256x1 (ix2 r 0)) _ + _) * _ = _
  rw [e3, e4]
  rfl

/-- Points below 32 take the prompts' gates, the others the samples'. -/
theorem picks (i : grid0.Coords) : Scalar.cmpi .sge (BitVec.ofNat 32 (i 0).val) 32#32 = if (i 0).val < 32 then 0#1 else 1#1 :=
  (by decide +kernel : ∀ n : Fin 34, Scalar.cmpi .sge (BitVec.ofNat 32 n.val) 32#32 = if n.val < 32 then 0#1 else 1#1) (i 0)

theorem coord : ∀ t : Fin cfg0.N, ((grid0.coords t) 0).val = t.val := (by decide +kernel : ∀ t : Fin grid0.N, _)

/-- Eight points to a sequence. -/
theorem gateIdx : ∀ t : Fin cfg0.N, k0_off1 (grid0.coords t) (0 : Fin 2) = min (t.val / 8) 3 ∧ k0_off1 (grid0.coords t) (1 : Fin 2) = 0 :=
  (by decide +kernel : ∀ t : Fin grid0.N, _)

theorem gateRow_apply (t : Fin cfg0.N) (x2 : Vec Ideal S4x2048 .f32) (n : Fin 2048) :
    gateRow (grid0.coords t) x2 (ix2 0 n) = x2 (ix2 (⟨min (t.val / 8) 3, by omega⟩ : Fin 4) n) := by
  obtain ⟨e0, e1⟩ := gateIdx t
  unfold gateRow
  show x2 _ = x2 _
  congr 1
  funext a; apply Fin.ext
  match a with
  | ⟨0, _⟩ => show k0_off1 (grid0.coords t) (0 : Fin 2) + 1 * 0 = min (t.val / 8) 3; omega
  | ⟨1, _⟩ => show k0_off1 (grid0.coords t) (1 : Fin 2) + 1 * n.val = n.val; omega

/-- The samples' gates, one copy over another: row `r` is sequence `r % 128`. -/
theorem twice_apply (x3 : Vec Ideal S128x2048 .f32) (r : Fin 256) (n : Fin 2048) :
    concatenate S256x2048 0 [⟨S128x2048, x3⟩, ⟨S128x2048, x3⟩] concatenates_S128x2048_S128x2048_S256x2048_d0 (ix2 r n)
      = x3 (ix2 (⟨r.val % 128, by omega⟩ : Fin 128) n) := by
  by_cases h : r.val < 128
  · exact concatenate_pair_apply_left (t := S256x2048) (s₁ := S128x2048) (s₂ := S128x2048) 0 _ _
      concatenates_S128x2048_S128x2048_S256x2048_d0 (ix2 r n) rfl (ix2 (⟨r.val % 128, by omega⟩ : Fin 128) n)
      (fun b => match b with | ⟨0, _⟩ => show r.val % 128 = r.val by omega | ⟨1, _⟩ => rfl)
  · exact concatenate_pair_apply_right (t := S256x2048) (s₁ := S128x2048) (s₂ := S128x2048) 0 _ _
      concatenates_S128x2048_S128x2048_S256x2048_d0 (ix2 r n) rfl rfl (ix2 (⟨r.val % 128, by omega⟩ : Fin 128) n)
      (fun b => match b with | ⟨0, _⟩ => fun hb => absurd rfl hb | ⟨1, _⟩ => fun _ => rfl) (show r.val % 128 + 128 = r.val by omega)

/-- The gate of a block's entry at a point. -/
def gateAt (t : ℕ) (x2 : Vec Ideal S4x2048 .f32) (x3 : Vec Ideal S128x2048 .f32) (r : Fin 256) (n : Fin 2048) : EReal :=
  if t < 32 then x2 (ix2 (⟨min (t / 8) 3, by omega⟩ : Fin 4) n) else x3 (ix2 (⟨r.val % 128, by omega⟩ : Fin 128) n)

theorem gate_apply (t : Fin cfg0.N) (x2 : Vec Ideal S4x2048 .f32) (x3 : Vec Ideal S128x2048 .f32) (r : Fin 256) (n : Fin 2048) :
    k0_pay35 (F := Ideal) (grid0.coords t) x3 (gateRow (grid0.coords t) x2) (ix2 r n) = Ideal.ofBits .f32 0x3F000000#32 * gateAt t.val x2 x3 r n := by
  have e2 : ∀ g : Vec Ideal S1x2048 .f32, broadcastTo S256x2048 g broadcasts_S1x2048_S256x2048 (ix2 r n) = g (ix2 0 n) := fun g =>
    broadcastTo_apply g _ _ _ (fun a => by match a with | ⟨0, _⟩ => rfl | ⟨1, _⟩ => rfl)
  have hc := coord t
  have hp := picks (grid0.coords t)
  rw [hc] at hp
  unfold k0_pay35 gateAt
  simp only [shapeCast_self, hc, hp]
  by_cases c : t.val < 32
  · simp only [if_pos c]
    show (Ideal.ofBits .f32 0x3F000000#32 : EReal) * (broadcastTo S256x2048 (gateRow (grid0.coords t) x2) broadcasts_S1x2048_S256x2048 (ix2 r n) : EReal) = _
    rw [e2, gateRow_apply]
  · simp only [if_neg c]
    show (Ideal.ofBits .f32 0x3F000000#32 : EReal)
      * (concatenate S256x2048 0 [⟨S128x2048, x3⟩, ⟨S128x2048, x3⟩] concatenates_S128x2048_S128x2048_S256x2048_d0 (ix2 r n) : EReal) = _
    rw [twice_apply]

/-- A stored block's entry. -/
theorem stored_apply (t : Fin cfg0.N) (x0 : Vec Ideal S256x5632 .bf16) (x1 : Vec Ideal S256x2048 .f32) (x2 : Vec Ideal S4x2048 .f32) (x3 : Vec Ideal S128x2048 .f32)
    (x4 : Vec Ideal S1x2048 .f32) (w : Vec Ideal S5632x2048 .bf16) (r : Fin 256) (n : Fin 2048) :
    stored (grid0.coords t) x0 x1 x2 x3 x4 w (ix2 r n)
      = normed (fun k => res (x1 (ix2 r k)) (gateAt t.val x2 x3 r k) (dot x0 w r k)) (fun k => x4 (ix2 0 k)) n := by
  have hp : ∀ k : Fin 2048, matmul dot_S256x5632_S5632x2048_S256x2048_1_0_0_1_n_n none (k0_pay36 x0) w (constant (F := Ideal) S256x2048 .f32 0x00000000#32) (ix2 r k)
      = dot x0 w r k := fun k => by
    unfold k0_pay36
    simp only [shapeCast_self]
    refine (Ideal.matmul_plain_apply (φ₁ := .bf16) (φ₂ := .bf16) (M := 256) (K := 5632) (N := 2048) none x0 w _ r k).trans ?_
    show Ideal.ofBits .f32 0x00000000#32 + _ = _
    rw [Ideal.ofBits_zero_f32, zero_add]
    rfl
  have hx : ∀ k : Fin 2048, addf (k0_pay34 x1) (mulf (k0_pay35 (F := Ideal) (grid0.coords t) x3 (gateRow (grid0.coords t) x2))
      (matmul dot_S256x5632_S5632x2048_S256x2048_1_0_0_1_n_n none (k0_pay36 x0) w (constant (F := Ideal) S256x2048 .f32 0x00000000#32))) (ix2 r k)
      = res (x1 (ix2 r k)) (gateAt t.val x2 x3 r k) (dot x0 w r k) := fun k => by
    have h34 : k0_pay34 (F := Ideal) x1 = x1 := by unfold k0_pay34; simp only [shapeCast_self]
    rw [h34]
    show x1 (ix2 r k) + k0_pay35 (F := Ideal) (grid0.coords t) x3 (gateRow (grid0.coords t) x2) (ix2 r k)
      * matmul dot_S256x5632_S5632x2048_S256x2048_1_0_0_1_n_n none (k0_pay36 x0) w (constant (F := Ideal) S256x2048 .f32 0x00000000#32) (ix2 r k) = _
    rw [gate_apply, hp]
    rfl
  unfold stored k0_pay1
  simp only [shapeCast_self]
  refine (norm_apply _ _ r n).trans ?_
  simp only [hx]

/-! ## The region -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 8 :=
  (by decide +kernel : ∀ t : Fin grid0.N, _)
theorem idx3 : ∀ t : Fin cfg0.N, win0_3.index t (0 : Fin 2) = 0 ∧ win0_3.index t (1 : Fin 2) = 8 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = min t.val 31 ∧ win0_5.index t (1 : Fin 2) = 0 :=
  (by decide +kernel : ∀ t : Fin grid0.N, _)
theorem idx6 : ∀ t : Fin cfg0.N, win0_6.index t (0 : Fin 2) = t.val - 32 ∧ win0_6.index t (1 : Fin 2) = 0 :=
  (by decide +kernel : ∀ t : Fin grid0.N, _)

/-- The packed hidden rows. -/
theorem V4_apply (c : Dev nD) (R : Fin 8704) (k : Fin 5632) :
    V m c main_v4 (ix2 R k) = Rows.packed (m ((c : Thread nD τ).loc main_arg0)) (m ((c : Thread nD τ).loc main_arg1)) R k := by
  have e : V m c main_v4 = truncf (F := Ideal) .bf16 (concatenate S8704x5632 0 [⟨S8192x5632, shapeCast _ (m ((c : Thread nD τ).loc main_arg0)) shapeCasts_S4x2048x5632_S8192x5632⟩,
        ⟨S512x5632, shapeCast _ (transpose S4x128x5632 [1, 0, 2] (m ((c : Thread nD τ).loc main_arg1)) transposes_S128x4x5632_S4x128x5632_1_0_2)
          shapeCasts_S4x128x5632_S512x5632⟩] concatenates_S8192x5632_S512x5632_S8704x5632_d0) bitsLt_bf16_f32 := by
    show StableHlo.after hostOps0 _ _ = _
    after_results <;> rfl
  rw [e]
  exact Rows.pack_apply _ _ _ _ _ concatenates_S8192x5632_S512x5632_S8704x5632_d0 R k

/-- The packed residual rows. -/
theorem V8_apply (c : Dev nD) (R : Fin 8704) (k : Fin 2048) :
    V m c main_v8 (ix2 R k) = Rows.packed (m ((c : Thread nD τ).loc main_arg2)) (m ((c : Thread nD τ).loc main_arg3)) R k := by
  have e : V m c main_v8 = concatenate S8704x2048 0 [⟨S8192x2048, shapeCast _ (m ((c : Thread nD τ).loc main_arg2)) shapeCasts_S4x2048x2048_S8192x2048⟩,
        ⟨S512x2048, shapeCast _ (transpose S4x128x2048 [1, 0, 2] (m ((c : Thread nD τ).loc main_arg3)) transposes_S128x4x2048_S4x128x2048_1_0_2)
          shapeCasts_S4x128x2048_S512x2048⟩] concatenates_S8192x2048_S512x2048_S8704x2048_d0 := by
    show StableHlo.after hostOps0 _ _ = _
    after_results <;> rfl
  rw [e]
  exact Rows.pack_apply _ _ _ _ _ concatenates_S8192x2048_S512x2048_S8704x2048_d0 R k

/-- A vector as a row. -/
theorem row_apply (x : (⟨1, ![2048]⟩ : Shape).Idx → EReal) (h : (⟨1, ![2048]⟩ : Shape).ShapeCasts ⟨2, ![1, 2048]⟩) (k : Fin 2048) :
    shapeCast ⟨2, ![1, 2048]⟩ x h (ix2 0 k) = x (ix1 k) := by
  refine shapeCast_apply x h _ _ ?_
  rw [Shape.rowMajor_val_one, Shape.rowMajor_val_two]
  show k.val = 0 * 2048 + k.val
  omega

/-- The norm's scale. -/
theorem V9_apply (c : Dev nD) (k : Fin 2048) : V m c main_v9 (ix2 0 k) = m ((c : Thread nD τ).loc main_arg7) (ix1 k) := by
  have e : V m c main_v9 = shapeCast S1x2048 (m ((c : Thread nD τ).loc main_arg7)) shapeCasts_S2048_S1x2048 := by
    show StableHlo.after hostOps0 _ _ = _
    after_results <;> rfl
  rw [e]
  exact row_apply _ _ k

/-! ## The blocks of a point -/

theorem iblk0_apply (c : Dev nD) (t : Fin cfg0.N) (r : Fin 256) (k : Fin 5632) (R : Fin 8704) (hR : R.val = 256 * t.val + r.val) :
    iblk m c 0 t (ix2 r k) = Rows.packed (m ((c : Thread nD τ).loc main_arg0)) (m ((c : Thread nD τ).loc main_arg1)) R k := by
  obtain ⟨e0, e1⟩ := idx0 t
  rw [← V4_apply m c R k]
  show V m c main_v4 _ = _
  congr 1
  funext a; apply Fin.ext
  match a with
  | ⟨0, _⟩ => show win0_0.index t (0 : Fin 2) * 256 + 1 * r.val = R.val; omega
  | ⟨1, _⟩ => show win0_0.index t (1 : Fin 2) * 5632 + 1 * k.val = k.val; omega

theorem iblk1_apply (c : Dev nD) (t : Fin cfg0.N) (r : Fin 256) (k : Fin 2048) (R : Fin 8704) (hR : R.val = 256 * t.val + r.val) :
    iblk m c 1 t (ix2 r k) = Rows.packed (m ((c : Thread nD τ).loc main_arg2)) (m ((c : Thread nD τ).loc main_arg3)) R k := by
  obtain ⟨e0, e1⟩ := idx1 t
  rw [← V8_apply m c R k]
  show V m c main_v8 _ = _
  congr 1
  funext a; apply Fin.ext
  match a with
  | ⟨0, _⟩ => show win0_1.index t (0 : Fin 2) * 256 + 1 * r.val = R.val; omega
  | ⟨1, _⟩ => show win0_1.index t (1 : Fin 2) * 2048 + 1 * k.val = k.val; omega

theorem iblk2_apply (c : Dev nD) (t : Fin cfg0.N) (b : Fin 4) (k : Fin 2048) :
    iblk m c 2 t (ix2 b k) = m ((c : Thread nD τ).loc main_arg4) (ix2 b (⟨16384 + k.val, by omega⟩ : Fin 18432)) := by
  obtain ⟨e0, e1⟩ := idx2 t
  rw [← V_main_arg4 m c]
  show V m c main_arg4 _ = _
  congr 1
  funext a; apply Fin.ext
  match a with
  | ⟨0, _⟩ => show win0_2.index t (0 : Fin 2) * 4 + 1 * b.val = b.val; omega
  | ⟨1, _⟩ => show win0_2.index t (1 : Fin 2) * 2048 + 1 * k.val = 16384 + k.val; omega

theorem iblk3_apply (c : Dev nD) (t : Fin cfg0.N) (b : Fin 128) (k : Fin 2048) :
    iblk m c 3 t (ix2 b k) = m ((c : Thread nD τ).loc main_arg5) (ix2 b (⟨16384 + k.val, by omega⟩ : Fin 18432)) := by
  obtain ⟨e0, e1⟩ := idx3 t
  rw [← V_main_arg5 m c]
  show V m c main_arg5 _ = _
  congr 1
  funext a; apply Fin.ext
  match a with
  | ⟨0, _⟩ => show win0_3.index t (0 : Fin 2) * 128 + 1 * b.val = b.val; omega
  | ⟨1, _⟩ => show win0_3.index t (1 : Fin 2) * 2048 + 1 * k.val = 16384 + k.val; omega

theorem iblk4_apply (c : Dev nD) (t : Fin cfg0.N) (k : Fin 2048) :
    iblk m c 4 t (ix2 0 k) = m ((c : Thread nD τ).loc main_arg7) (ix1 k) := by
  obtain ⟨e0, e1⟩ := idx4 t
  rw [← V9_apply m c k]
  show V m c main_v9 _ = _
  congr 1
  funext a; apply Fin.ext
  match a with
  | ⟨0, _⟩ => show win0_4.index t (0 : Fin 2) * 1 + 1 * 0 = 0; omega
  | ⟨1, _⟩ => show win0_4.index t (1 : Fin 2) * 2048 + 1 * k.val = k.val; omega

/-- The gate of a packed row. -/
def gate (mp : S4x18432.Idx → EReal) (ms : S128x18432.Idx → EReal) (R : Fin 8704) (k : Fin 2048) : EReal :=
  if h : R.val < 8192 then mp (ix2 (⟨R.val / 2048, by omega⟩ : Fin 4) (⟨16384 + k.val, by omega⟩ : Fin 18432))
  else ms (ix2 (⟨(R.val - 8192) % 128, by omega⟩ : Fin 128) (⟨16384 + k.val, by omega⟩ : Fin 18432))

/-- The down projection of a packed row. -/
def proj (p : S4x2048x5632.Idx → EReal) (s : S128x4x5632.Idx → EReal) (w : S1x5632x2048.Idx → EReal) (R : Fin 8704) (k : Fin 2048) : EReal :=
  ∑ j : Fin 5632, Rows.packed p s R j * w (ix3 0 j k)

/-- The final block's packed rows. -/
def final (p : S4x2048x5632.Idx → EReal) (s : S128x4x5632.Idx → EReal) (hp : S4x2048x2048.Idx → EReal) (hs : S128x4x2048.Idx → EReal)
    (mp : S4x18432.Idx → EReal) (ms : S128x18432.Idx → EReal) (w : S1x5632x2048.Idx → EReal) (g : S2048.Idx → EReal) (R : Fin 8704) (n : Fin 2048) : EReal :=
  normed (fun k => res (Rows.packed hp hs R k) (gate mp ms R k) (proj p s w R k)) (fun k => g (ix1 k)) n

/-- The rows of the arguments the launch was given. -/
def rows (c : Dev nD) (R : Fin 8704) (n : Fin 2048) : EReal :=
  final (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) R n

/-- The block a point stores. -/
theorem yAt_apply (c : Dev nD) (t : Fin cfg0.N) (r : Fin 256) (n : Fin 2048) (R : Fin 8704) (hR : R.val = 256 * t.val + r.val) :
    yAt m c t (ix2 r n) = rows m c R n := by
  have hN : cfg0.N = 34 := N_0
  have ht : t.val < 34 := hN ▸ t.isLt
  rw [yAt_eq, stored_apply]
  unfold rows final
  have hx : (fun k => res (iblk m c 1 t (ix2 r k)) (gateAt t.val (iblk m c 2 t) (iblk m c 3 t) r k) (dot (iblk m c 0 t) (weights c (V m c main_arg6)) r k))
      = fun k => res (Rows.packed (m ((c : Thread nD τ).loc main_arg2)) (m ((c : Thread nD τ).loc main_arg3)) R k)
        (gate (m ((c : Thread nD τ).loc main_arg4)) (m ((c : Thread nD τ).loc main_arg5)) R k)
        (proj (m ((c : Thread nD τ).loc main_arg0)) (m ((c : Thread nD τ).loc main_arg1)) (m ((c : Thread nD τ).loc main_arg6)) R k) := by
    funext k
    have eg : gateAt t.val (iblk m c 2 t) (iblk m c 3 t) r k = gate (m ((c : Thread nD τ).loc main_arg4)) (m ((c : Thread nD τ).loc main_arg5)) R k := by
      unfold gateAt gate
      by_cases h : t.val < 32
      · have e : (⟨min (t.val / 8) 3, by omega⟩ : Fin 4) = ⟨R.val / 2048, by omega⟩ := Fin.ext (by show min (t.val / 8) 3 = R.val / 2048; omega)
        rw [if_pos h, dif_pos (by omega : R.val < 8192), e]
        exact iblk2_apply m c t _ k
      · have e : (⟨r.val % 128, by omega⟩ : Fin 128) = ⟨(R.val - 8192) % 128, by omega⟩ := Fin.ext (by show r.val % 128 = (R.val - 8192) % 128; omega)
        rw [if_neg h, dif_neg (by omega : ¬R.val < 8192), e]
        exact iblk3_apply m c t _ k
    have ed : dot (iblk m c 0 t) (weights c (V m c main_arg6)) r k
        = proj (m ((c : Thread nD τ).loc main_arg0)) (m ((c : Thread nD τ).loc main_arg1)) (m ((c : Thread nD τ).loc main_arg6)) R k := by
      rw [V_main_arg6]
      unfold dot proj
      exact Finset.sum_congr rfl fun j _ => congrArg₂ (fun a b : EReal => a * b) (iblk0_apply m c t r j R hR) rfl
    rw [iblk1_apply m c t r k R hR, eg, ed]
  have hg : (fun k => iblk m c 4 t (ix2 0 k)) = fun k => m ((c : Thread nD τ).loc main_arg7) (ix1 k) := funext fun k => iblk4_apply m c t k
  exact congrArg₂ (fun a b => normed a b n) hx hg

/-! ## The arrays -/

/-- The prompts' rows. -/
def G5 (c : Dev nD) : Buf (Elt Ideal) ((c : Thread nD τ).loc main_v10_0) := fun i =>
  rows m c (⟨(i 0).val, Nat.lt_trans (i 0).isLt (by decide : 8192 < 8704)⟩ : Fin 8704) (⟨(i 1).val, (i 1).isLt⟩ : Fin 2048)

/-- The samples' rows. -/
def G6 (c : Dev nD) : Buf (Elt Ideal) ((c : Thread nD τ).loc main_v10_1) := fun i =>
  rows m c (⟨8192 + (i 0).val, Nat.add_lt_add_left (i 0).isLt 8192⟩ : Fin 8704) (⟨(i 1).val, (i 1).isLt⟩ : Fin 2048)

theorem flushed5 (c : Dev nD) (t : Fin cfg0.N) : (dats m 0 c).flushed 5 t = ((cfg0.win 5).blk t).view.read (Elt Ideal) (G5 m c) := by
  show (cfg0.win 5).cut (grid0.coords t) ((dats m 0 c).after 5 t) = _
  have ea : (dats m 0 c).after 5 t = yAt m c ⟨min t.val 31, lt_of_le_of_lt (Nat.min_le_left _ _) t.isLt⟩ := by
    rw [after5]
    by_cases h : t.val < 32
    · rw [if_pos h]; congr 1; apply Fin.ext; show t.val = min t.val 31; omega
    · rw [if_neg h]; congr 1; apply Fin.ext; show 31 = min t.val 31; omega
  rw [ea]
  obtain ⟨e0, e1⟩ := idx5 t
  funext y
  have hy : (cfg0.win 5).xinj (grid0.coords t) y = ix2 (⟨(y 0).val, (y 0).isLt⟩ : Fin 256) (⟨(y 1).val, (y 1).isLt⟩ : Fin 2048) := by
    funext a; match a with | ⟨0, _⟩ => rfl | ⟨1, _⟩ => rfl
  show yAt m c _ ((cfg0.win 5).xinj (grid0.coords t) y) = G5 m c (((cfg0.win 5).blk t).view.emb y)
  rw [hy]
  have hn : (⟨((((cfg0.win 5).blk t).view.emb y) 1).val, ((((cfg0.win 5).blk t).view.emb y) 1).isLt⟩ : Fin 2048) = ⟨(y 1).val, (y 1).isLt⟩ := by
    apply Fin.ext
    show win0_5.index t (1 : Fin 2) * 2048 + 1 * (y 1).val = (y 1).val; omega
  unfold G5
  rw [hn]
  refine yAt_apply m c _ _ _ _ ?_
  show win0_5.index t (0 : Fin 2) * 256 + 1 * (y 0).val = 256 * min t.val 31 + (y 0).val; omega

theorem flushed6 (c : Dev nD) (t : Fin cfg0.N) (hf : (cfg0.win 6).flush t = true) : (dats m 0 c).flushed 6 t = ((cfg0.win 6).blk t).view.read (Elt Ideal) (G6 m c) := by
  have h32 : ¬t.val < 32 := fun h => by rw [noFlush6 t h] at hf; exact absurd hf (by decide)
  show (cfg0.win 6).cut (grid0.coords t) ((dats m 0 c).after 6 t) = _
  rw [after6]
  obtain ⟨e0, e1⟩ := idx6 t
  funext y
  have hy : (cfg0.win 6).xinj (grid0.coords t) y = ix2 (⟨(y 0).val, (y 0).isLt⟩ : Fin 256) (⟨(y 1).val, (y 1).isLt⟩ : Fin 2048) := by
    funext a; match a with | ⟨0, _⟩ => rfl | ⟨1, _⟩ => rfl
  show yAt m c t ((cfg0.win 6).xinj (grid0.coords t) y) = G6 m c (((cfg0.win 6).blk t).view.emb y)
  rw [hy]
  have hn : (⟨((((cfg0.win 6).blk t).view.emb y) 1).val, ((((cfg0.win 6).blk t).view.emb y) 1).isLt⟩ : Fin 2048) = ⟨(y 1).val, (y 1).isLt⟩ := by
    apply Fin.ext
    show win0_6.index t (1 : Fin 2) * 2048 + 1 * (y 1).val = (y 1).val; omega
  unfold G6
  rw [hn]
  refine yAt_apply m c t _ _ _ ?_
  show 8192 + (win0_6.index t (0 : Fin 2) * 256 + 1 * (y 0).val) = 256 * t.val + (y 0).val; omega

theorem covered5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 34 := N_0
  obtain ⟨t, ht, hf⟩ : ∃ t : Fin cfg0.N, min t.val 31 = (i 0).val / 256 ∧ (cfg0.win 5).flush t = true := by
    by_cases h : (i 0).val / 256 < 31
    · obtain ⟨u, hu⟩ : ∃ u : Fin cfg0.N, u.val = (i 0).val / 256 := ⟨⟨(i 0).val / 256, by omega⟩, rfl⟩
      exact ⟨u, by omega, (by decide +kernel : ∀ t : Fin grid0.N, t.val < 31 → win0_5.flush t = true) u (by omega)⟩
    · exact ⟨⟨33, by omega⟩, by show min 33 31 = _; omega, flush5 ⟨33, by omega⟩ rfl⟩
  obtain ⟨e0, e1⟩ := idx5 t
  refine ⟨t, hf, ?_⟩
  show i ∈ ((View.whole main_v10_0).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

theorem covered6 (i : S512x2048.Idx) : ∃ t : Fin cfg0.N, (cfg0.win 6).flush t = true ∧ i ∈ ((cfg0.win 6).blk t).view.set := by
  have hi0 : (i 0).val < 512 := (i 0).isLt
  have hi1 : (i 1).val < 2048 := (i 1).isLt
  have hN : cfg0.N = 34 := N_0
  obtain ⟨t, ht⟩ : ∃ t : Fin cfg0.N, t.val = 32 + (i 0).val / 256 := ⟨⟨32 + (i 0).val / 256, by omega⟩, rfl⟩
  obtain ⟨e0, e1⟩ := idx6 t
  refine ⟨t, (by decide +kernel : ∀ t : Fin grid0.N, 32 ≤ t.val → win0_6.flush t = true) t (by omega), ?_⟩
  show i ∈ ((View.whole main_v10_1).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

theorem final5 (c : Dev nD) : (dats m 0 c).arrAt 5 cfg0.N = G5 m c :=
  (dats m 0 c).arrAt_eq_of_cover 5 _ (fun t _ => flushed5 m c t) covered5
theorem final6 (c : Dev nD) : (dats m 0 c).arrAt 6 cfg0.N = G6 m c :=
  (dats m 0 c).arrAt_eq_of_cover 6 _ (fun t hf => flushed6 m c t hf) covered6

/-! ## The results -/

/-- The prompts' result. -/
def promptOut (c : Dev nD) : Buf (Elt Ideal) ((c : Thread nD τ).loc main_v11) :=
  shapeCast S4x2048x2048 (G5 m c) shapeCasts_S8192x2048_S4x2048x2048

/-- The samples' result. -/
def sampleOut (c : Dev nD) : Buf (Elt Ideal) ((c : Thread nD τ).loc main_v13) :=
  transpose S128x4x2048 [1, 0, 2] (shapeCast S4x128x2048 (G6 m c) shapeCasts_S512x2048_S4x128x2048) transposes_S4x128x2048_S128x4x2048_1_0_2

/-- Rows split into groups. -/
theorem split_apply {A B M : ℕ} (x : (⟨2, ![M, 2048]⟩ : Shape).Idx → EReal) (h : (⟨2, ![M, 2048]⟩ : Shape).ShapeCasts ⟨3, ![A, B, 2048]⟩)
    (a : Fin A) (b : Fin B) (n : Fin 2048) (q : Fin M) (hq : q.val = a.val * B + b.val) :
    shapeCast ⟨3, ![A, B, 2048]⟩ x h (ix3 a b n) = x (ix2 q n) := by
  refine shapeCast_apply x h _ _ ?_
  rw [Shape.rowMajor_val_three, Shape.rowMajor_val_two]
  show q.val * 2048 + n.val = (a.val * B + b.val) * 2048 + n.val
  rw [hq]

theorem promptOut_apply (c : Dev nD) (b : Fin 4) (t : Fin 2048) (n : Fin 2048) :
    promptOut m c (ix3 b t n) = rows m c (⟨b.val * 2048 + t.val, by omega⟩ : Fin 8704) n := by
  exact (split_apply (G5 m c) shapeCasts_S8192x2048_S4x2048x2048 b t n (⟨b.val * 2048 + t.val, by omega⟩ : Fin 8192) rfl).trans rfl

theorem sampleOut_apply (c : Dev nD) (b : Fin 128) (t : Fin 4) (n : Fin 2048) :
    sampleOut m c (ix3 b t n) = rows m c (⟨8192 + (t.val * 128 + b.val), by omega⟩ : Fin 8704) n := by
  refine (transpose_apply [1, 0, 2] (shapeCast S4x128x2048 (G6 m c) shapeCasts_S512x2048_S4x128x2048) transposes_S4x128x2048_S128x4x2048_1_0_2 (ix3 b t n)
    (ix3 t b n) (fun a => match a with | ⟨0, _⟩ => rfl | ⟨1, _⟩ => rfl | ⟨2, _⟩ => rfl)).trans ?_
  exact (split_apply (G6 m c) shapeCasts_S512x2048_S4x128x2048 t b n (⟨t.val * 128 + b.val, by omega⟩ : Fin 512) rfl).trans rfl

theorem tail_prompt (W : Valuation τ sig (Elt Ideal)) :
    StableHlo.after hostOps1 W (Proc.devRef .tc main_v11) = shapeCast S4x2048x2048 (W (Proc.devRef .tc main_v10_0)) shapeCasts_S8192x2048_S4x2048x2048 := by
  after_results <;> rfl

theorem tail_sample (W : Valuation τ sig (Elt Ideal)) :
    StableHlo.after hostOps1 W (Proc.devRef .tc main_v13) = transpose S128x4x2048 [1, 0, 2]
      (shapeCast S4x128x2048 (W (Proc.devRef .tc main_v10_1)) shapeCasts_S512x2048_S4x128x2048) transposes_S4x128x2048_S128x4x2048_1_0_2 := by
  after_results <;> rfl

/-- What the program leaves. -/
theorem run (ρ : Dev nD → PrngReg) : θ_run defs (onTc (τ := τ) (main (F := Ideal))) ⟨m, fun _ => 0, ρ⟩ fun r => ∀ c : Dev nD,
      r.2.mem ((c : Thread nD τ).loc main_v11) = promptOut m c ∧ r.2.mem ((c : Thread nD τ).loc main_v13) = sampleOut m c := by
  refine (θ_run defs _ _).mono (fun r h c => ?_) (run_main m ρ)
  have h5 : Pipeline.withArrays spec0 c (V0 m c) (fun w => (dats m 0 c).arrAt w cfg0.N) (Proc.devRef .tc main_v10_0) = G5 m c :=
    (Pipeline.withArrays_arr spec0 (by decide : Function.Injective (Pipeline.arrRef spec0)) c (V0 m c) _ 5).trans (final5 m c)
  have h6 : Pipeline.withArrays spec0 c (V0 m c) (fun w => (dats m 0 c).arrAt w cfg0.N) (Proc.devRef .tc main_v10_1) = G6 m c :=
    (Pipeline.withArrays_arr spec0 (by decide : Function.Injective (Pipeline.arrRef spec0)) c (V0 m c) _ 6).trans (final6 m c)
  refine ⟨?_, ?_⟩
  · refine ((h c).2 main_v11 (Pipeline.mem_restRefs_of main_v11 (by decide) (by decide))).trans ?_
    unfold Pipeline.afterTail₀
    exact (tail_prompt _).trans (by rw [h5]; rfl)
  · refine ((h c).2 main_v13 (Pipeline.mem_restRefs_of main_v13 (by decide) (by decide))).trans ?_
    unfold Pipeline.afterTail₀
    exact (tail_sample _).trans (by rw [h6]; rfl)

end Cert.Final

end
-- ==== Proof.FinalRef.lean ====
/- The reference's final residual block, read at an index, and the claim. -/
module

public import proofs.«01_k».proof.Defs
public import proofs.«01_k».proof.Proof.Final
public import proofs.«01_k».proof.Proof.Gen.FinalReferenceIdeal.Run
public import proofs.«01_k».proof.Proof.Gen.FinalReferenceIdeal.Read
public import Idealize.ShloMosaic.Lib.Quiescent

@[expose] public section

set_option maxRecDepth 16384

noncomputable section

open Idealize.ShloMosaic Idealize.ShloMosaic.TcCoe Idealize.SL.Sem
open Idealize.ShloMosaic.ValueIdx

namespace Cert.Final.Ref

open Cert.FinalReferenceIdeal Cert.FinalReferenceIdeal.Gen Cert.FinalReferenceIdeal.Read

variable (x0 : (⟨S4x2048x5632, .f32⟩ : BufTy).Contents (Elt Ideal)) (x1 : (⟨S128x4x5632, .f32⟩ : BufTy).Contents (Elt Ideal))
  (x2 : (⟨S4x2048x2048, .f32⟩ : BufTy).Contents (Elt Ideal)) (x3 : (⟨S128x4x2048, .f32⟩ : BufTy).Contents (Elt Ideal))
  (x4 : (⟨S4x18432, .f32⟩ : BufTy).Contents (Elt Ideal)) (x5 : (⟨S128x18432, .f32⟩ : BufTy).Contents (Elt Ideal))
  (x6 : (⟨S1x5632x2048, .f32⟩ : BufTy).Contents (Elt Ideal)) (x7 : (⟨S2048, .f32⟩ : BufTy).Contents (Elt Ideal))

theorem prompt_proj (b : Fin 4) (t : Fin 2048) (k : Fin 2048) : val_main_v13 x0 x6 (ix3 b t k) = ∑ j, x0 (ix3 b t j) * x6 (ix3 0 j k) := by
  rw [val_main_v13_apply]
  refine Finset.sum_congr rfl fun j _ => congrArg₂ (fun a b : EReal => a * b) (congrArg x0 ?_) ?_
  · funext a; match a with | ⟨0, _⟩ => rfl | ⟨1, _⟩ => rfl | ⟨2, _⟩ => rfl
  · rw [show ridx_main_v13 (ix3 b t k) j = ix2 j k from by funext a; match a with | ⟨0, _⟩ => rfl | ⟨1, _⟩ => rfl]
    exact Rows.dropLead_apply x6 _ j k

theorem prompt_gate (b : Fin 4) (t : Fin 2048) (k : Fin 2048) : val_main_v14 x4 (ix3 b t k)
    = Ideal.ofBits .f32 0x3F000000#32 * x4 (ix2 b (⟨16384 + k.val, by omega⟩ : Fin 18432)) := by
  rw [val_main_v14_apply, val_main_v11_apply, val_main_v9_apply, val_main_v8_apply, val_main_v10_apply]
  exact congrArg (fun i => Ideal.ofBits .f32 0x3F000000#32 * x4 i) (by funext a; match a with | ⟨0, _⟩ => rfl | ⟨1, _⟩ => rfl)

/-- The residual rows. -/
theorem prompt_res (b : Fin 4) (t : Fin 2048) (k : Fin 2048) : val_main_v16 x0 x2 x4 x6 (ix3 b t k) = res (x2 (ix3 b t k)) (x4 (ix2 b (⟨16384 + k.val, by omega⟩ : Fin 18432))) (∑ j, x0 (ix3 b t j) * x6 (ix3 0 j k)) := by
  rw [val_main_v16_apply, val_main_v15_apply, prompt_gate, prompt_proj]
  rfl

theorem prompt_scale (b : Fin 4) (t : Fin 2048) (n : Fin 2048) : val_main_v25 x0 x2 x4 x6 (ix3 b t n)
    = Ideal.rsqrt (Ideal.div (∑ k : Fin 2048, res (x2 (ix3 b t k)) (x4 (ix2 b (⟨16384 + k.val, by omega⟩ : Fin 18432))) (∑ j, x0 (ix3 b t j) * x6 (ix3 0 j k)) * res (x2 (ix3 b t k)) (x4 (ix2 b (⟨16384 + k.val, by omega⟩ : Fin 18432))) (∑ j, x0 (ix3 b t j) * x6 (ix3 0 j k))) (Ideal.ofBits .f32 0x45000000#32) + Ideal.ofBits .f32 0x358637BD#32) := by
  rw [val_main_v25_apply, val_main_v24_apply, val_main_v23_apply, val_main_v21_apply, val_main_v19_apply, val_main_v18_apply, val_main_v20_apply, val_main_v22_apply]
  have e : ∀ q : Fin 2048, val_main_v17 x0 x2 x4 x6 (idx_main_v18 (idx_main_v19 (idx_main_v25 (ix3 b t n))) q) = (fun k : Fin 2048 => res (x2 (ix3 b t k)) (x4 (ix2 b (⟨16384 + k.val, by omega⟩ : Fin 18432))) (∑ j, x0 (ix3 b t j) * x6 (ix3 0 j k)) * res (x2 (ix3 b t k)) (x4 (ix2 b (⟨16384 + k.val, by omega⟩ : Fin 18432))) (∑ j, x0 (ix3 b t j) * x6 (ix3 0 j k))) q := fun k => by
    rw [show idx_main_v18 (idx_main_v19 (idx_main_v25 (ix3 b t n))) k = ix3 b t k from by funext a; match a with | ⟨0, _⟩ => rfl | ⟨1, _⟩ => rfl | ⟨2, _⟩ => rfl, val_main_v17_apply, prompt_res]
    rfl
  rw [Finset.sum_congr rfl fun k _ => e k]
  show Ideal.rsqrt (Ideal.div (Ideal.ofBits .f32 0x00000000#32 + _) _ + _) = _
  rw [Ideal.ofBits_zero_f32, zero_add]
  rfl

theorem prompt_apply (b : Fin 4) (t : Fin 2048) (n : Fin 2048) : val_main_v29 x0 x2 x4 x6 x7 (ix3 b t n) = normed (fun k => res (x2 (ix3 b t k)) (x4 (ix2 b (⟨16384 + k.val, by omega⟩ : Fin 18432))) (∑ j, x0 (ix3 b t j) * x6 (ix3 0 j k))) (fun k => x7 (ix1 k)) n := by
  rw [val_main_v29_apply, val_main_v26_apply, prompt_scale, prompt_res, val_main_v28_apply, val_main_v27_apply,
    show idx_main_v27 (idx_main_v28 (ix3 b t n)) = ix1 n from by funext a; match a with | ⟨0, _⟩ => rfl]
  rfl

/-- They are the packed rows of the same numbers. -/
theorem prompt_rows (b : Fin 4) (t : Fin 2048) (n : Fin 2048) (R : Fin 8704) (hR : R.val = b.val * 2048 + t.val) :
    val_main_v29 x0 x2 x4 x6 x7 (ix3 b t n) = final x0 x1 x2 x3 x4 x5 x6 x7 R n := by
  rw [prompt_apply]
  have e : (fun k : Fin 2048 => res (x2 (ix3 b t k)) (x4 (ix2 b (⟨16384 + k.val, by omega⟩ : Fin 18432))) (∑ j, x0 (ix3 b t j) * x6 (ix3 0 j k))) = fun k : Fin 2048 => res (Rows.packed x2 x3 R k) (gate x4 x5 R k) (proj x0 x1 x6 R k) := by
    funext k
    have e1 : Rows.packed x2 x3 R k = x2 (ix3 b t k) := Rows.packed_prompt x2 x3 b t R hR k
    have e2 : gate x4 x5 R k = x4 (ix2 b (⟨16384 + k.val, by omega⟩ : Fin 18432)) := by
      unfold gate
      rw [dif_pos (by omega : R.val < 8192)]
      exact congrArg (fun b : Fin 4 => x4 (ix2 b (⟨16384 + k.val, by omega⟩ : Fin 18432))) (Fin.ext (by show R.val / 2048 = b.val; omega))
    have e3 : proj x0 x1 x6 R k = ∑ j, x0 (ix3 b t j) * x6 (ix3 0 j k) :=
      Finset.sum_congr rfl fun j _ => congrArg₂ (fun a b : EReal => a * b) (Rows.packed_prompt x0 x1 b t R hR j) rfl
    rw [e1, e2, e3]
  exact congrArg (fun f => normed f (fun k => x7 (ix1 k)) n) e

theorem sample_proj (b : Fin 128) (t : Fin 4) (k : Fin 2048) : val_main_v43 x1 x6 (ix3 b t k) = ∑ j, x1 (ix3 b t j) * x6 (ix3 0 j k) := by
  rw [val_main_v43_apply]
  refine Finset.sum_congr rfl fun j _ => congrArg₂ (fun a b : EReal => a * b) (congrArg x1 ?_) ?_
  · funext a; match a with | ⟨0, _⟩ => rfl | ⟨1, _⟩ => rfl | ⟨2, _⟩ => rfl
  · rw [show ridx_main_v43 (ix3 b t k) j = ix2 j k from by funext a; match a with | ⟨0, _⟩ => rfl | ⟨1, _⟩ => rfl]
    exact Rows.dropLead_apply x6 _ j k

theorem sample_gate (b : Fin 128) (t : Fin 4) (k : Fin 2048) : val_main_v44 x5 (ix3 b t k)
    = Ideal.ofBits .f32 0x3F000000#32 * x5 (ix2 b (⟨16384 + k.val, by omega⟩ : Fin 18432)) := by
  rw [val_main_v44_apply, val_main_v41_apply, val_main_v39_apply, val_main_v38_apply, val_main_v40_apply]
  exact congrArg (fun i => Ideal.ofBits .f32 0x3F000000#32 * x5 i) (by funext a; match a with | ⟨0, _⟩ => rfl | ⟨1, _⟩ => rfl)

/-- The residual rows. -/
theorem sample_res (b : Fin 128) (t : Fin 4) (k : Fin 2048) : val_main_v46 x1 x3 x5 x6 (ix3 b t k) = res (x3 (ix3 b t k)) (x5 (ix2 b (⟨16384 + k.val, by omega⟩ : Fin 18432))) (∑ j, x1 (ix3 b t j) * x6 (ix3 0 j k)) := by
  rw [val_main_v46_apply, val_main_v45_apply, sample_gate, sample_proj]
  rfl

theorem sample_scale (b : Fin 128) (t : Fin 4) (n : Fin 2048) : val_main_v55 x1 x3 x5 x6 (ix3 b t n)
    = Ideal.rsqrt (Ideal.div (∑ k : Fin 2048, res (x3 (ix3 b t k)) (x5 (ix2 b (⟨16384 + k.val, by omega⟩ : Fin 18432))) (∑ j, x1 (ix3 b t j) * x6 (ix3 0 j k)) * res (x3 (ix3 b t k)) (x5 (ix2 b (⟨16384 + k.val, by omega⟩ : Fin 18432))) (∑ j, x1 (ix3 b t j) * x6 (ix3 0 j k))) (Ideal.ofBits .f32 0x45000000#32) + Ideal.ofBits .f32 0x358637BD#32) := by
  rw [val_main_v55_apply, val_main_v54_apply, val_main_v53_apply, val_main_v51_apply, val_main_v49_apply, val_main_v48_apply, val_main_v50_apply, val_main_v52_apply]
  have e : ∀ q : Fin 2048, val_main_v47 x1 x3 x5 x6 (idx_main_v48 (idx_main_v49 (idx_main_v55 (ix3 b t n))) q) = (fun k : Fin 2048 => res (x3 (ix3 b t k)) (x5 (ix2 b (⟨16384 + k.val, by omega⟩ : Fin 18432))) (∑ j, x1 (ix3 b t j) * x6 (ix3 0 j k)) * res (x3 (ix3 b t k)) (x5 (ix2 b (⟨16384 + k.val, by omega⟩ : Fin 18432))) (∑ j, x1 (ix3 b t j) * x6 (ix3 0 j k))) q := fun k => by
    rw [show idx_main_v48 (idx_main_v49 (idx_main_v55 (ix3 b t n))) k = ix3 b t k from by funext a; match a with | ⟨0, _⟩ => rfl | ⟨1, _⟩ => rfl | ⟨2, _⟩ => rfl, val_main_v47_apply, sample_res]
    rfl
  rw [Finset.sum_congr rfl fun k _ => e k]
  show Ideal.rsqrt (Ideal.div (Ideal.ofBits .f32 0x00000000#32 + _) _ + _) = _
  rw [Ideal.ofBits_zero_f32, zero_add]
  rfl

theorem sample_apply (b : Fin 128) (t : Fin 4) (n : Fin 2048) : val_main_v59 x1 x3 x5 x6 x7 (ix3 b t n) = normed (fun k => res (x3 (ix3 b t k)) (x5 (ix2 b (⟨16384 + k.val, by omega⟩ : Fin 18432))) (∑ j, x1 (ix3 b t j) * x6 (ix3 0 j k))) (fun k => x7 (ix1 k)) n := by
  rw [val_main_v59_apply, val_main_v56_apply, sample_scale, sample_res, val_main_v58_apply, val_main_v57_apply,
    show idx_main_v57 (idx_main_v58 (ix3 b t n)) = ix1 n from by funext a; match a with | ⟨0, _⟩ => rfl]
  rfl

/-- They are the packed rows of the same numbers. -/
theorem sample_rows (b : Fin 128) (t : Fin 4) (n : Fin 2048) (R : Fin 8704) (hR : R.val = 8192 + (t.val * 128 + b.val)) :
    val_main_v59 x1 x3 x5 x6 x7 (ix3 b t n) = final x0 x1 x2 x3 x4 x5 x6 x7 R n := by
  rw [sample_apply]
  have e : (fun k : Fin 2048 => res (x3 (ix3 b t k)) (x5 (ix2 b (⟨16384 + k.val, by omega⟩ : Fin 18432))) (∑ j, x1 (ix3 b t j) * x6 (ix3 0 j k))) = fun k : Fin 2048 => res (Rows.packed x2 x3 R k) (gate x4 x5 R k) (proj x0 x1 x6 R k) := by
    funext k
    have e1 : Rows.packed x2 x3 R k = x3 (ix3 b t k) := Rows.packed_sample x2 x3 b t R hR k
    have e2 : gate x4 x5 R k = x5 (ix2 b (⟨16384 + k.val, by omega⟩ : Fin 18432)) := by
      unfold gate
      rw [dif_neg (by omega : ¬R.val < 8192)]
      exact congrArg (fun b : Fin 128 => x5 (ix2 b (⟨16384 + k.val, by omega⟩ : Fin 18432))) (Fin.ext (by show (R.val - 8192) % 128 = b.val; omega))
    have e3 : proj x0 x1 x6 R k = ∑ j, x1 (ix3 b t j) * x6 (ix3 0 j k) :=
      Finset.sum_congr rfl fun j _ => congrArg₂ (fun a b : EReal => a * b) (Rows.packed_sample x0 x1 b t R hR j) rfl
    rw [e1, e2, e3]
  exact congrArg (fun f => normed f (fun k => x7 (ix1 k)) n) e

end Cert.Final.Ref

namespace Cert.Final

/-- The kernel's results are the reference's. -/
theorem algebraic : Cert.algebraic_FinalKernelIdeal_FinalReferenceIdeal := by
  intro m ρ m' ρ' _ hagree
  refine ⟨fun c => promptOut m c, fun c => sampleOut m c, ?_, ?_⟩
  · exact (θ_run Cert.FinalKernelIdeal.defs _ _).mono (fun r h c => ⟨(h.1 c).1, (h.1 c).2, h.2.1 c⟩)
      (θ_run_and (run m ρ) (Cert.FinalKernelIdeal.Run.frame m ρ))
  · refine (θ_run Cert.FinalReferenceIdeal.defs _ _).mono (fun r h c => ?_) (Cert.FinalReferenceIdeal.Value.run m' ρ')
    obtain ⟨e0, e1, e2, e3, e4, e5, e6, e7⟩ := hagree c
    obtain ⟨h0, h1, hk⟩ := h c
    rw [e0, e2, e4, e6, e7] at h0
    rw [e1, e3, e5, e6, e7] at h1
    refine ⟨h0.trans ?_, h1.trans ?_, hk⟩
    · refine (Cert.FinalReferenceIdeal.Read.val_main_v29_eq _ _ _ _ _).trans (funext fun i => ?_)
      obtain ⟨b, t, n, rfl⟩ : ∃ (b : Fin 4) (t : Fin 2048) (n : Fin 2048), i = ix3 b t n := ⟨i 0, i 1, i 2, eq_ix3 i⟩
      exact (Ref.prompt_rows _ _ _ _ _ _ _ _ b t n _ rfl).trans (promptOut_apply m c b t n).symm
    · refine (Cert.FinalReferenceIdeal.Read.val_main_v59_eq _ _ _ _ _).trans (funext fun i => ?_)
      obtain ⟨b, t, n, rfl⟩ : ∃ (b : Fin 128) (t : Fin 4) (n : Fin 2048), i = ix3 b t n := ⟨i 0, i 1, i 2, eq_ix3 i⟩
      exact (Ref.sample_rows _ _ _ _ _ _ _ _ b t n _ rfl).trans (sampleOut_apply m c b t n).symm

end Cert.Final

end
-- ==== Proof.lean ====
/- The claims of this certificate, put together from the modules under Proof/: the frames of every program, that each
   ideal kernel is the kernel over the extended reals, and the value claims of the kernels. -/
module

public import proofs.«01_k».proof.Proof.SampleRef
public import proofs.«01_k».proof.Proof.PromptClaim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SampleKernel
public import proofs.«01_k».proof.Proof.Gen.SampleKernel.Skeleton
public import proofs.«01_k».proof.Proof.Gen.SampleKernel.Launch
public import proofs.«01_k».proof.Proof.Gen.SampleKernel.Points
public import proofs.«01_k».proof.Proof.Gen.SampleKernel.Frame
public import proofs.«01_k».proof.Proof.Gen.SampleKernelIdeal
public import proofs.«01_k».proof.Proof.Gen.SampleKernelIdeal.Skeleton
public import proofs.«01_k».proof.Proof.Gen.SampleKernelIdeal.Launch
public import proofs.«01_k».proof.Proof.Gen.SampleKernelIdeal.Points
public import proofs.«01_k».proof.Proof.Gen.SampleKernelIdeal.Frame
public import proofs.«01_k».proof.Proof.Gen.SampleReferenceIdeal
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.XbcKernel
public import proofs.«01_k».proof.Proof.Gen.XbcKernel.Skeleton
public import proofs.«01_k».proof.Proof.Gen.XbcKernel.Launch
public import proofs.«01_k».proof.Proof.Gen.XbcKernel.Points
public import proofs.«01_k».proof.Proof.Gen.XbcKernel.Frame
public import proofs.«01_k».proof.Proof.Gen.XbcKernelIdeal
public import proofs.«01_k».proof.Proof.Gen.XbcKernelIdeal.Skeleton
public import proofs.«01_k».proof.Proof.Gen.XbcKernelIdeal.Launch
public import proofs.«01_k».proof.Proof.Gen.XbcKernelIdeal.Points
public import proofs.«01_k».proof.Proof.Gen.XbcKernelIdeal.Frame
public import proofs.«01_k».proof.Proof.Gen.XbcReferenceIdeal
public import proofs.«01_k».proof.Proof.Gen.PoolKernel
public import proofs.«01_k».proof.Proof.Gen.PoolKernel.Skeleton
public import proofs.«01_k».proof.Proof.Gen.PoolKernel.Launch
public import proofs.«01_k».proof.Proof.Gen.PoolKernel.Points
public import proofs.«01_k».proof.Proof.Gen.PoolKernel.Frame
public import proofs.«01_k».proof.Proof.Gen.PoolKernelIdeal
public import proofs.«01_k».proof.Proof.Gen.PoolKernelIdeal.Skeleton
public import proofs.«01_k».proof.Proof.Gen.PoolKernelIdeal.Launch
public import proofs.«01_k».proof.Proof.Gen.PoolKernelIdeal.Points
public import proofs.«01_k».proof.Proof.Gen.PoolKernelIdeal.Frame
public import proofs.«01_k».proof.Proof.Gen.PoolReferenceIdeal
public import proofs.«01_k».proof.Proof.Gen.UpKernelIdeal.Value
public import proofs.«01_k».proof.Proof.Gen.ReferenceIdeal.Run
public import proofs.«01_k».proof.Proof.Gen.SampleReferenceIdeal.Run
public import proofs.«01_k».proof.Proof.Gen.UpReferenceIdeal.Run
public import proofs.«01_k».proof.Proof.Gen.XbcReferenceIdeal.Run
public import proofs.«01_k».proof.Proof.Gen.PoolReferenceIdeal.Run
public import proofs.«01_k».proof.Proof.Gen.ReferenceIdeal.StepRun
public import proofs.«01_k».proof.Proof.Gen.GateZKernel
public import proofs.«01_k».proof.Proof.Gen.GateZKernel.Skeleton
public import proofs.«01_k».proof.Proof.Gen.GateZKernel.Launch
public import proofs.«01_k».proof.Proof.Gen.GateZKernel.Points
public import proofs.«01_k».proof.Proof.Gen.GateZKernel.Frame
public import proofs.«01_k».proof.Proof.Gen.GateZKernelIdeal
public import proofs.«01_k».proof.Proof.Gen.GateZKernelIdeal.Skeleton
public import proofs.«01_k».proof.Proof.Gen.GateZKernelIdeal.Launch
public import proofs.«01_k».proof.Proof.Gen.GateZKernelIdeal.Points
public import proofs.«01_k».proof.Proof.Gen.GateZKernelIdeal.Frame
public import proofs.«01_k».proof.Proof.Gen.GateZReferenceIdeal
public import proofs.«01_k».proof.Proof.Gen.GateZReferenceIdeal.Run
public import proofs.«01_k».proof.Proof.Gen.GatesKernel
public import proofs.«01_k».proof.Proof.Gen.GatesKernel.Skeleton
public import proofs.«01_k».proof.Proof.Gen.GatesKernel.Launch
public import proofs.«01_k».proof.Proof.Gen.GatesKernel.Points
public import proofs.«01_k».proof.Proof.Gen.GatesKernel.Frame
public import proofs.«01_k».proof.Proof.Gen.GatesKernelIdeal
public import proofs.«01_k».proof.Proof.Gen.GatesKernelIdeal.Skeleton
public import proofs.«01_k».proof.Proof.Gen.GatesKernelIdeal.Launch
public import proofs.«01_k».proof.Proof.Gen.GatesKernelIdeal.Points
public import proofs.«01_k».proof.Proof.Gen.GatesKernelIdeal.Frame
public import proofs.«01_k».proof.Proof.Gen.GatesReferenceIdeal
public import proofs.«01_k».proof.Proof.Gen.GatesReferenceIdeal.Run
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergeKernelIdeal.Value
public import proofs.«01_k».proof.Proof.UpClaim
public import proofs.«01_k».proof.Proof.XbcRef
public import proofs.«01_k».proof.Proof.PoolRef
public import proofs.«01_k».proof.Proof.GateZRef
public import proofs.«01_k».proof.Proof.GatesRef
public import proofs.«01_k».proof.Proof.MergeRef
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.FinalBitsFrame
public import proofs.«01_k».proof.Proof.FinalRef
public import Idealize.ShloMosaic.Adequacy
public import Idealize.ShloMosaic.Init
public import Idealize.ShloMosaic.Lib.Quiescent

@[expose] public section

noncomputable section

namespace Cert.Proof

open Idealize.ShloMosaic Idealize.SL.Sem

/-- A host program without semaphores ends with every counter at zero, so its frame is its run's account of the arguments. -/
theorem frame_ref : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Ideal) m ρ)

theorem frame_sample_ref : Cert.quiescent_SampleReferenceIdeal := fun m ρ _ =>
  (θ_run Cert.SampleReferenceIdeal.defs _ _).mono (fun r h => ⟨fun c => (h c).2, sem_eq_zero_of_no_sems rfl _⟩)
    (Cert.SampleReferenceIdeal.Value.run (F := Ideal) m ρ)

theorem frame_up_ref : Cert.quiescent_UpReferenceIdeal := fun m ρ _ =>
  (θ_run Cert.UpReferenceIdeal.defs _ _).mono (fun r h => ⟨fun c => (h c).2, sem_eq_zero_of_no_sems rfl _⟩)
    (Cert.UpReferenceIdeal.Value.run (F := Ideal) m ρ)

theorem frame_xbc_ref : Cert.quiescent_XbcReferenceIdeal := fun m ρ _ =>
  (θ_run Cert.XbcReferenceIdeal.defs _ _).mono (fun r h => ⟨fun c => (h c).2.2.2, sem_eq_zero_of_no_sems rfl _⟩)
    (Cert.XbcReferenceIdeal.Value.run (F := Ideal) m ρ)

theorem frame_pool_ref : Cert.quiescent_PoolReferenceIdeal := fun m ρ _ =>
  (θ_run Cert.PoolReferenceIdeal.defs _ _).mono (fun r h => ⟨fun c => (h c).2.2.2, sem_eq_zero_of_no_sems rfl _⟩)
    (Cert.PoolReferenceIdeal.Value.run (F := Ideal) m ρ)

theorem frame_gatez_ref : Cert.quiescent_GateZReferenceIdeal := fun m ρ _ =>
  (θ_run Cert.GateZReferenceIdeal.defs _ _).mono (fun r h => ⟨fun c => (h c).2, sem_eq_zero_of_no_sems rfl _⟩)
    (Cert.GateZReferenceIdeal.Value.run (F := Ideal) m ρ)

theorem frame_gates_ref : Cert.quiescent_GatesReferenceIdeal := fun m ρ _ =>
  (θ_run Cert.GatesReferenceIdeal.defs _ _).mono (fun r h => ⟨fun c => (h c).2, sem_eq_zero_of_no_sems rfl _⟩)
    (Cert.GatesReferenceIdeal.Value.run (F := Ideal) m ρ)

theorem frame_merge_ref : Cert.quiescent_MergeReferenceIdeal := fun m ρ _ =>
  (θ_run Cert.MergeReferenceIdeal.defs _ _).mono (fun r h => ⟨fun c => (h c).2, sem_eq_zero_of_no_sems rfl _⟩)
    (Cert.MergeReferenceIdeal.Value.run (F := Ideal) m ρ)

theorem frame_final_ref : Cert.quiescent_FinalReferenceIdeal := fun m ρ _ =>
  (θ_run Cert.FinalReferenceIdeal.defs _ _).mono (fun r h => ⟨fun c => (h c).2.2, sem_eq_zero_of_no_sems rfl _⟩)
    (Cert.FinalReferenceIdeal.Value.run (F := Ideal) m ρ)

/-- Every claim, in the order of its statement: first the frames, then each kernel's own claims. -/
theorem claim : Cert.Claim :=
  ⟨Cert.Kernel.Gen.facts,
    Cert.KernelIdeal.Gen.facts,
    Cert.ReferenceIdeal.Gen.facts,
    Cert.SampleKernel.Gen.facts,
    Cert.SampleKernelIdeal.Gen.facts,
    Cert.SampleReferenceIdeal.Gen.facts,
    Cert.UpKernel.Gen.facts,
    Cert.UpKernelIdeal.Gen.facts,
    Cert.UpReferenceIdeal.Gen.facts,
    Cert.XbcKernel.Gen.facts,
    Cert.XbcKernelIdeal.Gen.facts,
    Cert.XbcReferenceIdeal.Gen.facts,
    Cert.PoolKernel.Gen.facts,
    Cert.PoolKernelIdeal.Gen.facts,
    Cert.PoolReferenceIdeal.Gen.facts,
    Cert.GateZKernel.Gen.facts,
    Cert.GateZKernelIdeal.Gen.facts,
    Cert.GateZReferenceIdeal.Gen.facts,
    Cert.GatesKernel.Gen.facts,
    Cert.GatesKernelIdeal.Gen.facts,
    Cert.GatesReferenceIdeal.Gen.facts,
    Cert.MergeKernel.Gen.facts,
    Cert.MergeKernelIdeal.Gen.facts,
    Cert.MergeReferenceIdeal.Gen.facts,
    Cert.FinalKernel.Gen.facts,
    Cert.FinalKernelIdeal.Gen.facts,
    Cert.FinalReferenceIdeal.Gen.facts,
    Cert.Pre_finite_steps.Gen.facts,
    fun m ρ _ => Cert.Kernel.Gen.frame m ρ,
    fun m ρ _ => Cert.KernelIdeal.Gen.frame m ρ,
    frame_ref,
    fun m ρ _ => Cert.SampleKernel.Gen.frame m ρ,
    fun m ρ _ => Cert.SampleKernelIdeal.Gen.frame m ρ,
    fun m ρ _ => Cert.SampleKernelIdeal.Gen.frame m ρ,
    frame_sample_ref,
    fun m ρ _ => frame_sample_ref m ρ trivial,
    fun m ρ _ => Cert.UpKernel.Gen.frame m ρ,
    fun m ρ _ => Cert.UpKernelIdeal.Gen.frame m ρ,
    frame_up_ref,
    fun m ρ _ => Cert.XbcKernel.Gen.frame m ρ,
    fun m ρ _ => Cert.XbcKernelIdeal.Gen.frame m ρ,
    frame_xbc_ref,
    fun m ρ _ => Cert.PoolKernel.Gen.frame m ρ,
    fun m ρ _ => Cert.PoolKernelIdeal.Gen.frame m ρ,
    frame_pool_ref,
    fun m ρ _ => Cert.GateZKernel.Gen.frame m ρ,
    fun m ρ _ => Cert.GateZKernelIdeal.Gen.frame m ρ,
    frame_gatez_ref,
    fun m ρ _ => Cert.GatesKernel.Gen.frame m ρ,
    fun m ρ _ => Cert.GatesKernelIdeal.Gen.frame m ρ,
    frame_gates_ref,
    fun m ρ _ => Cert.MergeKernel.Gen.frame m ρ,
    fun m ρ _ => Cert.MergeKernelIdeal.Gen.frame m ρ,
    frame_merge_ref,
    fun m ρ _ => Cert.FinalKernel.Run.frame m ρ,
    fun m ρ _ => Cert.FinalKernelIdeal.Run.frame m ρ,
    frame_final_ref,
    trivial,
    Cert.Prompt.algebraic,
    trivial,
    Cert.Sample.algebraic,
    trivial,
    Cert.Up.algebraic,
    trivial,
    Cert.Xbc.algebraic,
    trivial,
    Cert.Pool.algebraic,
    trivial,
    Cert.GateZ.algebraic,
    trivial,
    Cert.Gates.algebraic,
    trivial,
    Cert.Merge.algebraic,
    trivial,
    Cert.Final.algebraic⟩

end Cert.Proof

end
